-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  IdealRules.named_const.Statement Cert.KernelIdeal.κ "stop" .f32 0xC2D20000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v33)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v48_0)) (v1 : (c : Dev Cert.Kernel3Ideal.nD) → Buf (Elt Ideal) ((c.tc : Thread Cert.Kernel3Ideal.nD Cert.Kernel3Ideal.τ).loc Cert.Kernel3Ideal.main_v48_1)) (v2 : (c : Dev Cert.Kernel3Ideal.nD) → Buf (Elt Ideal) ((c.tc : Thread Cert.Kernel3Ideal.nD Cert.Kernel3Ideal.τ).loc Cert.Kernel3Ideal.main_v48_2)) (v3 : (c : Dev Cert.Kernel3Ideal.nD) → Buf (Elt Ideal) ((c.tc : Thread Cert.Kernel3Ideal.nD Cert.Kernel3Ideal.τ).loc Cert.Kernel3Ideal.main_v48_3)) (v4 : (c : Dev Cert.Kernel3Ideal.nD) → Buf (Elt Ideal) ((c.tc : Thread Cert.Kernel3Ideal.nD Cert.Kernel3Ideal.τ).loc Cert.Kernel3Ideal.main_v48_4)) (v5 : (c : Dev Cert.Kernel3Ideal.nD) → Buf (Elt Ideal) ((c.tc : Thread Cert.Kernel3Ideal.nD Cert.Kernel3Ideal.τ).loc Cert.Kernel3Ideal.main_v48_5)) (v6 : (c : Dev Cert.Kernel3Ideal.nD) → Buf (Elt Ideal) ((c.tc : Thread Cert.Kernel3Ideal.nD Cert.Kernel3Ideal.τ).loc Cert.Kernel3Ideal.main_v48_6)) (v7 : (c : Dev Cert.Kernel3Ideal.nD) → Buf (Elt Ideal) ((c.tc : Thread Cert.Kernel3Ideal.nD Cert.Kernel3Ideal.τ).loc Cert.Kernel3Ideal.main_v48_7)) (v8 : (c : Dev Cert.Kernel3Ideal.nD) → Buf (Elt Ideal) ((c.tc : Thread Cert.Kernel3Ideal.nD Cert.Kernel3Ideal.τ).loc Cert.Kernel3Ideal.main_v48_8)) (v9 : (c : Dev Cert.Kernel3Ideal.nD) → Buf (Elt Ideal) ((c.tc : Thread Cert.Kernel3Ideal.nD Cert.Kernel3Ideal.τ).loc Cert.Kernel3Ideal.main_v48_9)) (v10 : (c : Dev Cert.Kernel3Ideal.nD) → Buf (Elt Ideal) ((c.tc : Thread Cert.Kernel3Ideal.nD Cert.Kernel3Ideal.τ).loc Cert.Kernel3Ideal.main_v48_10)) (v11 : (c : Dev Cert.Kernel3Ideal.nD) → Buf (Elt Ideal) ((c.tc : Thread Cert.Kernel3Ideal.nD Cert.Kernel3Ideal.τ).loc Cert.Kernel3Ideal.main_v48_11)) (v12 : (c : Dev Cert.Kernel3Ideal.nD) → Buf (Elt Ideal) ((c.tc : Thread Cert.Kernel3Ideal.nD Cert.Kernel3Ideal.τ).loc Cert.Kernel3Ideal.main_v48_12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v48_0) = v0 c
          ∧ r.2.mem ((c.tc : Thread Cert.Kernel3Ideal.nD Cert.Kernel3Ideal.τ).loc Cert.Kernel3Ideal.main_v48_1) = v1 c
          ∧ r.2.mem ((c.tc : Thread Cert.Kernel3Ideal.nD Cert.Kernel3Ideal.τ).loc Cert.Kernel3Ideal.main_v48_2) = v2 c
          ∧ r.2.mem ((c.tc : Thread Cert.Kernel3Ideal.nD Cert.Kernel3Ideal.τ).loc Cert.Kernel3Ideal.main_v48_3) = v3 c
          ∧ r.2.mem ((c.tc : Thread Cert.Kernel3Ideal.nD Cert.Kernel3Ideal.τ).loc Cert.Kernel3Ideal.main_v48_4) = v4 c
          ∧ r.2.mem ((c.tc : Thread Cert.Kernel3Ideal.nD Cert.Kernel3Ideal.τ).loc Cert.Kernel3Ideal.main_v48_5) = v5 c
          ∧ r.2.mem ((c.tc : Thread Cert.Kernel3Ideal.nD Cert.Kernel3Ideal.τ).loc Cert.Kernel3Ideal.main_v48_6) = v6 c
          ∧ r.2.mem ((c.tc : Thread Cert.Kernel3Ideal.nD Cert.Kernel3Ideal.τ).loc Cert.Kernel3Ideal.main_v48_7) = v7 c
          ∧ r.2.mem ((c.tc : Thread Cert.Kernel3Ideal.nD Cert.Kernel3Ideal.τ).loc Cert.Kernel3Ideal.main_v48_8) = v8 c
          ∧ r.2.mem ((c.tc : Thread Cert.Kernel3Ideal.nD Cert.Kernel3Ideal.τ).loc Cert.Kernel3Ideal.main_v48_9) = v9 c
          ∧ r.2.mem ((c.tc : Thread Cert.Kernel3Ideal.nD Cert.Kernel3Ideal.τ).loc Cert.Kernel3Ideal.main_v48_10) = v10 c
          ∧ r.2.mem ((c.tc : Thread Cert.Kernel3Ideal.nD Cert.Kernel3Ideal.τ).loc Cert.Kernel3Ideal.main_v48_11) = v11 c
          ∧ r.2.mem ((c.tc : Thread Cert.Kernel3Ideal.nD Cert.Kernel3Ideal.τ).loc Cert.Kernel3Ideal.main_v48_12) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v183) = v0 c
          ∧ r.2.mem ((c.tc : Thread Cert.Reference3Ideal.nD Cert.Reference3Ideal.τ).loc Cert.Reference3Ideal.main_v184) = v1 c
          ∧ r.2.mem ((c.tc : Thread Cert.Reference3Ideal.nD Cert.Reference3Ideal.τ).loc Cert.Reference3Ideal.main_v185) = v2 c
          ∧ r.2.mem ((c.tc : Thread Cert.Reference3Ideal.nD Cert.Reference3Ideal.τ).loc Cert.Reference3Ideal.main_v191) = v3 c
          ∧ r.2.mem ((c.tc : Thread Cert.Reference3Ideal.nD Cert.Reference3Ideal.τ).loc Cert.Reference3Ideal.main_v193) = v4 c
          ∧ r.2.mem ((c.tc : Thread Cert.Reference3Ideal.nD Cert.Reference3Ideal.τ).loc Cert.Reference3Ideal.main_v196) = v5 c
          ∧ r.2.mem ((c.tc : Thread Cert.Reference3Ideal.nD Cert.Reference3Ideal.τ).loc Cert.Reference3Ideal.main_v200) = v6 c
          ∧ r.2.mem ((c.tc : Thread Cert.Reference3Ideal.nD Cert.Reference3Ideal.τ).loc Cert.Reference3Ideal.main_v202) = v7 c
          ∧ r.2.mem ((c.tc : Thread Cert.Reference3Ideal.nD Cert.Reference3Ideal.τ).loc Cert.Reference3Ideal.main_v204) = v8 c
          ∧ r.2.mem ((c.tc : Thread Cert.Reference3Ideal.nD Cert.Reference3Ideal.τ).loc Cert.Reference3Ideal.main_v207) = v9 c
          ∧ r.2.mem ((c.tc : Thread Cert.Reference3Ideal.nD Cert.Reference3Ideal.τ).loc Cert.Reference3Ideal.main_v209) = v10 c
          ∧ r.2.mem ((c.tc : Thread Cert.Reference3Ideal.nD Cert.Reference3Ideal.τ).loc Cert.Reference3Ideal.main_v212) = v11 c
          ∧ r.2.mem ((c.tc : Thread Cert.Reference3Ideal.nD Cert.Reference3Ideal.τ).loc Cert.Reference3Ideal.main_v215) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v62_0)) (v1 : (c : Dev Cert.Kernel4Ideal.nD) → Buf (Elt Ideal) ((c.tc : Thread Cert.Kernel4Ideal.nD Cert.Kernel4Ideal.τ).loc Cert.Kernel4Ideal.main_v62_1)) (v2 : (c : Dev Cert.Kernel4Ideal.nD) → Buf (Elt Ideal) ((c.tc : Thread Cert.Kernel4Ideal.nD Cert.Kernel4Ideal.τ).loc Cert.Kernel4Ideal.main_v62_2)) (v3 : (c : Dev Cert.Kernel4Ideal.nD) → Buf (Elt Ideal) ((c.tc : Thread Cert.Kernel4Ideal.nD Cert.Kernel4Ideal.τ).loc Cert.Kernel4Ideal.main_v62_3)) (v4 : (c : Dev Cert.Kernel4Ideal.nD) → Buf (Elt Ideal) ((c.tc : Thread Cert.Kernel4Ideal.nD Cert.Kernel4Ideal.τ).loc Cert.Kernel4Ideal.main_v62_4)) (v5 : (c : Dev Cert.Kernel4Ideal.nD) → Buf (Elt Ideal) ((c.tc : Thread Cert.Kernel4Ideal.nD Cert.Kernel4Ideal.τ).loc Cert.Kernel4Ideal.main_v62_5)) (v6 : (c : Dev Cert.Kernel4Ideal.nD) → Buf (Elt Ideal) ((c.tc : Thread Cert.Kernel4Ideal.nD Cert.Kernel4Ideal.τ).loc Cert.Kernel4Ideal.main_v62_6)) (v7 : (c : Dev Cert.Kernel4Ideal.nD) → Buf (Elt Ideal) ((c.tc : Thread Cert.Kernel4Ideal.nD Cert.Kernel4Ideal.τ).loc Cert.Kernel4Ideal.main_v62_7)) (v8 : (c : Dev Cert.Kernel4Ideal.nD) → Buf (Elt Ideal) ((c.tc : Thread Cert.Kernel4Ideal.nD Cert.Kernel4Ideal.τ).loc Cert.Kernel4Ideal.main_v62_8)) (v9 : (c : Dev Cert.Kernel4Ideal.nD) → Buf (Elt Ideal) ((c.tc : Thread Cert.Kernel4Ideal.nD Cert.Kernel4Ideal.τ).loc Cert.Kernel4Ideal.main_v62_9)) (v10 : (c : Dev Cert.Kernel4Ideal.nD) → Buf (Elt Ideal) ((c.tc : Thread Cert.Kernel4Ideal.nD Cert.Kernel4Ideal.τ).loc Cert.Kernel4Ideal.main_v62_10)) (v11 : (c : Dev Cert.Kernel4Ideal.nD) → Buf (Elt Ideal) ((c.tc : Thread Cert.Kernel4Ideal.nD Cert.Kernel4Ideal.τ).loc Cert.Kernel4Ideal.main_v62_11)) (v12 : (c : Dev Cert.Kernel4Ideal.nD) → Buf (Elt Ideal) ((c.tc : Thread Cert.Kernel4Ideal.nD Cert.Kernel4Ideal.τ).loc Cert.Kernel4Ideal.main_v62_12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v62_0) = v0 c
          ∧ r.2.mem ((c.tc : Thread Cert.Kernel4Ideal.nD Cert.Kernel4Ideal.τ).loc Cert.Kernel4Ideal.main_v62_1) = v1 c
          ∧ r.2.mem ((c.tc : Thread Cert.Kernel4Ideal.nD Cert.Kernel4Ideal.τ).loc Cert.Kernel4Ideal.main_v62_2) = v2 c
          ∧ r.2.mem ((c.tc : Thread Cert.Kernel4Ideal.nD Cert.Kernel4Ideal.τ).loc Cert.Kernel4Ideal.main_v62_3) = v3 c
          ∧ r.2.mem ((c.tc : Thread Cert.Kernel4Ideal.nD Cert.Kernel4Ideal.τ).loc Cert.Kernel4Ideal.main_v62_4) = v4 c
          ∧ r.2.mem ((c.tc : Thread Cert.Kernel4Ideal.nD Cert.Kernel4Ideal.τ).loc Cert.Kernel4Ideal.main_v62_5) = v5 c
          ∧ r.2.mem ((c.tc : Thread Cert.Kernel4Ideal.nD Cert.Kernel4Ideal.τ).loc Cert.Kernel4Ideal.main_v62_6) = v6 c
          ∧ r.2.mem ((c.tc : Thread Cert.Kernel4Ideal.nD Cert.Kernel4Ideal.τ).loc Cert.Kernel4Ideal.main_v62_7) = v7 c
          ∧ r.2.mem ((c.tc : Thread Cert.Kernel4Ideal.nD Cert.Kernel4Ideal.τ).loc Cert.Kernel4Ideal.main_v62_8) = v8 c
          ∧ r.2.mem ((c.tc : Thread Cert.Kernel4Ideal.nD Cert.Kernel4Ideal.τ).loc Cert.Kernel4Ideal.main_v62_9) = v9 c
          ∧ r.2.mem ((c.tc : Thread Cert.Kernel4Ideal.nD Cert.Kernel4Ideal.τ).loc Cert.Kernel4Ideal.main_v62_10) = v10 c
          ∧ r.2.mem ((c.tc : Thread Cert.Kernel4Ideal.nD Cert.Kernel4Ideal.τ).loc Cert.Kernel4Ideal.main_v62_11) = v11 c
          ∧ r.2.mem ((c.tc : Thread Cert.Kernel4Ideal.nD Cert.Kernel4Ideal.τ).loc Cert.Kernel4Ideal.main_v62_12) = v12 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v184) = v0 c
          ∧ r.2.mem ((c.tc : Thread Cert.Reference4Ideal.nD Cert.Reference4Ideal.τ).loc Cert.Reference4Ideal.main_v186) = v1 c
          ∧ r.2.mem ((c.tc : Thread Cert.Reference4Ideal.nD Cert.Reference4Ideal.τ).loc Cert.Reference4Ideal.main_v188) = v2 c
          ∧ r.2.mem ((c.tc : Thread Cert.Reference4Ideal.nD Cert.Reference4Ideal.τ).loc Cert.Reference4Ideal.main_v190) = v3 c
          ∧ r.2.mem ((c.tc : Thread Cert.Reference4Ideal.nD Cert.Reference4Ideal.τ).loc Cert.Reference4Ideal.main_v192) = v4 c
          ∧ r.2.mem ((c.tc : Thread Cert.Reference4Ideal.nD Cert.Reference4Ideal.τ).loc Cert.Reference4Ideal.main_v196) = v5 c
          ∧ r.2.mem ((c.tc : Thread Cert.Reference4Ideal.nD Cert.Reference4Ideal.τ).loc Cert.Reference4Ideal.main_v200) = v6 c
          ∧ r.2.mem ((c.tc : Thread Cert.Reference4Ideal.nD Cert.Reference4Ideal.τ).loc Cert.Reference4Ideal.main_v202) = v7 c
          ∧ r.2.mem ((c.tc : Thread Cert.Reference4Ideal.nD Cert.Reference4Ideal.τ).loc Cert.Reference4Ideal.main_v209) = v8 c
          ∧ r.2.mem ((c.tc : Thread Cert.Reference4Ideal.nD Cert.Reference4Ideal.τ).loc Cert.Reference4Ideal.main_v212) = v9 c
          ∧ r.2.mem ((c.tc : Thread Cert.Reference4Ideal.nD Cert.Reference4Ideal.τ).loc Cert.Reference4Ideal.main_v214) = v10 c
          ∧ r.2.mem ((c.tc : Thread Cert.Reference4Ideal.nD Cert.Reference4Ideal.τ).loc Cert.Reference4Ideal.main_v217) = v11 c
          ∧ r.2.mem ((c.tc : Thread Cert.Reference4Ideal.nD Cert.Reference4Ideal.τ).loc Cert.Reference4Ideal.main_v220) = v12 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x4096x8x64 : Shape := ⟨4, ![4, 4096, 8, 64]⟩
abbrev S4x4096x2x8x64 : Shape := ⟨5, ![4, 4096, 2, 8, 64]⟩
abbrev S_ : Shape := ⟨0, ![]⟩
abbrev S4x4096x1x8x64 : Shape := ⟨5, ![4, 4096, 1, 8, 64]⟩

class Facts : Prop where
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_
  h_S_ : 0 < S_.numel
  slices_S4x4096x2x8x64_S4x4096x1x8x64_0_0_0_0_0 : S4x4096x2x8x64.Slices ![0, 0, 0, 0, 0] S4x4096x1x8x64
  shapeCasts_S4x4096x1x8x64_S4x4096x8x64 : S4x4096x1x8x64.ShapeCasts S4x4096x8x64

variable [Facts]

def fn {F : FTy → Type} [FloatOps F] (main_arg0 : FVec F S4x4096x8x64 .f32) (main_arg1 : FVec F S4x4096x2x8x64 .f32) : IVec S_ 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_c : IVec S_ 1 := constantI S_ 1 1#1
  let main_v3 : IVec S_ 1 := (fun x v => Host.reduce IntOp.andi x v reducesTo_S4x4096x8x64_S_d0_1_2_3 h_S_) main_v2 main_c
  let main_v4 : FVec F S4x4096x1x8x64 .f32 := (extractStridedSlice S4x4096x1x8x64 ![0, 0, 0, 0, 0] · slices_S4x4096x2x8x64_S4x4096x1x8x64_0_0_0_0_0) main_arg1
  let main_v5 : FVec F S4x4096x8x64 .f32 := shapeCast S4x4096x8x64 main_v4 shapeCasts_S4x4096x1x8x64_S4x4096x8x64
  let main_v6 : FVec F S4x4096x8x64 .f32 := Host.absf main_v5
  let main_cst_0 : FVec F S_ .f32 := constant S_ .f32 0x7F800000#32
  let main_v7 : FVec F S4x4096x8x64 .f32 := broadcastInDim S4x4096x8x64 ![] bcast_S_S4x4096x8x64 main_cst_0
  let main_v8 : IVec S4x4096x8x64 1 := cmpf .olt main_v6 main_v7
  let main_c_1 : IVec S_ 1 := constantI S_ 1 1#1
  let main_v9 : IVec S_ 1 := (fun x v => Host.reduce IntOp.andi x v reducesTo_S4x4096x8x64_S_d0_1_2_3 h_S_) main_v8 main_c_1
  let main_v10 : IVec S_ 1 := andi main_v3 main_v9
  main_v10
-- ==== Kernel.lean ====
abbrev S4x4096x8x64 : Shape := ⟨4, ![4, 4096, 8, 64]⟩
abbrev S4x4096x2x8x64 : Shape := ⟨5, ![4, 4096, 2, 8, 64]⟩
abbrev S16384x512 : Shape := ⟨2, ![16384, 512]⟩
abbrev S_ : Shape := ⟨0, ![]⟩
abbrev S4x4096x1x8x64 : Shape := ⟨5, ![4, 4096, 1, 8, 64]⟩
abbrev S4x32x128x512 : Shape := ⟨4, ![4, 32, 128, 512]⟩
abbrev S4x32x512x128 : Shape := ⟨4, ![4, 32, 512, 128]⟩
abbrev S128x512 : Shape := ⟨2, ![128, 512]⟩
abbrev S4096x512 : Shape := ⟨2, ![4096, 512]⟩
abbrev S1x32x512x128 : Shape := ⟨4, ![1, 32, 512, 128]⟩
abbrev S4x128x256 : Shape := ⟨3, ![4, 128, 256]⟩
abbrev S8x1024 : Shape := ⟨2, ![8, 1024]⟩
abbrev S128x1024 : Shape := ⟨2, ![128, 1024]⟩
abbrev S128x128 : Shape := ⟨2, ![128, 128]⟩
abbrev S256x128 : Shape := ⟨2, ![256, 128]⟩
abbrev S128x256 : Shape := ⟨2, ![128, 256]⟩
abbrev S1x1024 : Shape := ⟨2, ![1, 1024]⟩
abbrev S1x128x256 : Shape := ⟨3, ![1, 128, 256]⟩
abbrev S1x1x128x128 : Shape := ⟨4, ![1, 1, 128, 128]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 17
  | .vmem => 11
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x2x8x64, .f32⟩
  | .hbm, ⟨2, _⟩ => ⟨S16384x512, .f32⟩
  | .hbm, ⟨3, _⟩ => ⟨S_, .f32⟩
  | .hbm, ⟨4, _⟩ => ⟨S16384x512, .f32⟩
  | .hbm, ⟨5, _⟩ => ⟨S16384x512, .f32⟩
  | .hbm, ⟨6, _⟩ => ⟨S16384x512, .bf16⟩
  | .hbm, ⟨7, _⟩ => ⟨S4x4096x1x8x64, .f32⟩
  | .hbm, ⟨8, _⟩ => ⟨S4x4096x8x64, .f32⟩
  | .hbm, ⟨9, _⟩ => ⟨S16384x512, .f32⟩
  | .hbm, ⟨10, _⟩ => ⟨S16384x512, .bf16⟩
  | .hbm, ⟨11, _⟩ => ⟨S4x4096x1x8x64, .f32⟩
  | .hbm, ⟨12, _⟩ => ⟨S4x4096x8x64, .f32⟩
  | .hbm, ⟨13, _⟩ => ⟨S4x32x128x512, .f32⟩
  | .hbm, ⟨14, _⟩ => ⟨S4x32x512x128, .f32⟩
  | .hbm, ⟨15, _⟩ => ⟨S4x32x512x128, .bf16⟩
  | .hbm, ⟨16, _⟩ => ⟨S16384x512, .f32⟩
  | .local _ .vmem, ⟨0, _⟩ => ⟨S128x512, .bf16⟩
  | .local _ .vmem, ⟨1, _⟩ => ⟨S128x512, .bf16⟩
  | .local _ .vmem, ⟨2, _⟩ => ⟨S4096x512, .bf16⟩
  | .local _ .vmem, ⟨3, _⟩ => ⟨S4096x512, .bf16⟩
  | .local _ .vmem, ⟨4, _⟩ => ⟨S1x32x512x128, .bf16⟩
  | .local _ .vmem, ⟨5, _⟩ => ⟨S1x32x512x128, .bf16⟩
  | .local _ .vmem, ⟨6, _⟩ => ⟨S128x512, .f32⟩
  | .local _ .vmem, ⟨7, _⟩ => ⟨S128x512, .f32⟩
  | .local _ .vmem, ⟨8, _⟩ => ⟨S4x128x256, .f32⟩
  | .local _ .vmem, ⟨9, _⟩ => ⟨S8x1024, .f32⟩
  | .local _ .vmem, ⟨10, _⟩ => ⟨S128x1024, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c128_i32_14 : BitVec 32 := 128#32
  let v49 : BitVec 32 := Scalar.muli arg1 c128_i32_14
  let c128_i32_15 : BitVec 32 := 128#32
  let v50 : BitVec 32 := Scalar.addi v49 c128_i32_15
  let c0_i32 : BitVec 32 := 0#32
  let v52 : BitVec 1 := Scalar.cmpi .sgt v50 c0_i32
  let v53 : BitVec 32 := Scalar.extui v52
  let c0_i32_17 : BitVec 32 := 0#32
  let v54 : BitVec 1 := Scalar.cmpi .slt v50 c0_i32_17
  let v55 : BitVec 32 := Scalar.extui v54
  let v56 : BitVec 32 := Scalar.subi v53 v55
  let c128_i32_16 : BitVec 32 := 128#32
  let c0_i32_18 : BitVec 32 := 0#32
  let v57 : BitVec 1 := Scalar.cmpi .sgt c128_i32_16 c0_i32_18
  let v58 : BitVec 32 := Scalar.extui v57
  let c0_i32_19 : BitVec 32 := 0#32
  let v59 : BitVec 1 := Scalar.cmpi .slt c128_i32_16 c0_i32_19
  let v60 : BitVec 32 := Scalar.extui v59
  let v61 : BitVec 32 := Scalar.subi v58 v60
  let v62 : BitVec 1 := Scalar.cmpi .ne v56 v61
  let v63 : BitVec 32 := Scalar.remsi v50 c128_i32_16
  let c0_i32_20 : BitVec 32 := 0#32
  let v64 : BitVec 1 := Scalar.cmpi .ne v63 c0_i32_20
  let v65 : BitVec 1 := Scalar.andi v62 v64
  let v51 : BitVec 32 := Scalar.divsi v50 c128_i32_16
  let c1_i32 : BitVec 32 := 1#32
  let v66 : BitVec 32 := Scalar.subi v51 c1_i32
  let v67 : BitVec 32 := Scalar.select v65 v66 v51
  let c1_i32_21 : BitVec 32 := 1#32
  let v68 : BitVec 32 := Scalar.subi v67 c1_i32_21
  let c0_i32_22 : BitVec 32 := 0#32
  let v69 : BitVec 32 := Scalar.maxsi v68 c0_i32_22
  let c128_i32_23 : BitVec 32 := 128#32
  let v70 : BitVec 32 := Scalar.muli v69 c128_i32_23
  v70
def k0_off1 (i : grid0.Coords) : Fin 2 → Nat :=
  let arg1 : BitVec 32 := BitVec.ofNat 32 (i 1).val
  let c128_i32_14 : BitVec 32 := 128#32
  let v49 : BitVec 32 := Scalar.muli arg1 c128_i32_14
  let c128_i32_15 : BitVec 32 := 128#32
  let v50 : BitVec 32 := Scalar.addi v49 c128_i32_15
  let c0_i32 : BitVec 32 := 0#32
  let v52 : BitVec 1 := Scalar.cmpi .sgt v50 c0_i32
  let v53 : BitVec 32 := Scalar.extui v52
  let c0_i32_17 : BitVec 32 := 0#32
  let v54 : BitVec 1 := Scalar.cmpi .slt v50 c0_i32_17
  let v55 : BitVec 32 := Scalar.extui v54
  let v56 : BitVec 32 := Scalar.subi v53 v55
  let c128_i32_16 : BitVec 32 := 128#32
  let c0_i32_18 : BitVec 32 := 0#32
  let v57 : BitVec 1 := Scalar.cmpi .sgt c128_i32_16 c0_i32_18
  let v58 : BitVec 32 := Scalar.extui v57
  let c0_i32_19 : BitVec 32 := 0#32
  let v59 : BitVec 1 := Scalar.cmpi .slt c128_i32_16 c0_i32_19
  let v60 : BitVec 32 := Scalar.extui v59
  let v61 : BitVec 32 := Scalar.subi v58 v60
  let v62 : BitVec 1 := Scalar.cmpi .ne v56 v61
  let v63 : BitVec 32 := Scalar.remsi v50 c128_i32_16
  let c0_i32_20 : BitVec 32 := 0#32
  let v64 : BitVec 1 := Scalar.cmpi .ne v63 c0_i32_20
  let v65 : BitVec 1 := Scalar.andi v62 v64
  let v51 : BitVec 32 := Scalar.divsi v50 c128_i32_16
  let c1_i32 : BitVec 32 := 1#32
  let v66 : BitVec 32 := Scalar.subi v51 c1_i32
  let v67 : BitVec 32 := Scalar.select v65 v66 v51
  let c1_i32_21 : BitVec 32 := 1#32
  let v68 : BitVec 32 := Scalar.subi v67 c1_i32_21
  let c0_i32_22 : BitVec 32 := 0#32
  let v69 : BitVec 32 := Scalar.maxsi v68 c0_i32_22
  let c128_i32_23 : BitVec 32 := 128#32
  let v70 : BitVec 32 := Scalar.muli v69 c128_i32_23
  let v71 : BitVec 32 := v70
  let v72 : Index := Scalar.indexCast v71
  let c0_24 : Index := 0#32
  ![v72.toNat, 0]
def k0_off2 (i : grid0.Coords) : Fin 2 → Nat :=
  let arg1 : BitVec 32 := BitVec.ofNat 32 (i 1).val
  let c128_i32_14 : BitVec 32 := 128#32
  let v49 : BitVec 32 := Scalar.muli arg1 c128_i32_14
  let c128_i32_15 : BitVec 32 := 128#32
  let v50 : BitVec 32 := Scalar.addi v49 c128_i32_15
  let c0_i32 : BitVec 32 := 0#32
  let v52 : BitVec 1 := Scalar.cmpi .sgt v50 c0_i32
  let v53 : BitVec 32 := Scalar.extui v52
  let c0_i32_17 : BitVec 32 := 0#32
  let v54 : BitVec 1 := Scalar.cmpi .slt v50 c0_i32_17
  let v55 : BitVec 32 := Scalar.extui v54
  let v56 : BitVec 32 := Scalar.subi v53 v55
  let c128_i32_16 : BitVec 32 := 128#32
  let c0_i32_18 : BitVec 32 := 0#32
  let v57 : BitVec 1 := Scalar.cmpi .sgt c128_i32_16 c0_i32_18
  let v58 : BitVec 32 := Scalar.extui v57
  let c0_i32_19 : BitVec 32 := 0#32
  let v59 : BitVec 1 := Scalar.cmpi .slt c128_i32_16 c0_i32_19
  let v60 : BitVec 32 := Scalar.extui v59
  let v61 : BitVec 32 := Scalar.subi v58 v60
  let v62 : BitVec 1 := Scalar.cmpi .ne v56 v61
  let v63 : BitVec 32 := Scalar.remsi v50 c128_i32_16
  let c0_i32_20 : BitVec 32 := 0#32
  let v64 : BitVec 1 := Scalar.cmpi .ne v63 c0_i32_20
  let v65 : BitVec 1 := Scalar.andi v62 v64
  let v51 : BitVec 32 := Scalar.divsi v50 c128_i32_16
  let c1_i32 : BitVec 32 := 1#32
  let v66 : BitVec 32 := Scalar.subi v51 c1_i32
  let v67 : BitVec 32 := Scalar.select v65 v66 v51
  let c1_i32_21 : BitVec 32 := 1#32
  let v68 : BitVec 32 := Scalar.subi v67 c1_i32_21
  let c0_i32_22 : BitVec 32 := 0#32
  let v69 : BitVec 32 := Scalar.maxsi v68 c0_i32_22
  let c128_i32_23 : BitVec 32 := 128#32
  let v70 : BitVec 32 := Scalar.muli v69 c128_i32_23
  let v71 : BitVec 32 := v70
  let v76 : Index := Scalar.indexCast v71
  let c128_26 : Index := 128#32
  ![v76.toNat, 128]
def k0_off3 (i : grid0.Coords) : Fin 2 → Nat :=
  let arg1 : BitVec 32 := BitVec.ofNat 32 (i 1).val
  let c128_i32_14 : BitVec 32 := 128#32
  let v49 : BitVec 32 := Scalar.muli arg1 c128_i32_14
  let c128_i32_15 : BitVec 32 := 128#32
  let v50 : BitVec 32 := Scalar.addi v49 c128_i32_15
  let c0_i32 : BitVec 32 := 0#32
  let v52 : BitVec 1 := Scalar.cmpi .sgt v50 c0_i32
  let v53 : BitVec 32 := Scalar.extui v52
  let c0_i32_17 : BitVec 32 := 0#32
  let v54 : BitVec 1 := Scalar.cmpi .slt v50 c0_i32_17
  let v55 : BitVec 32 := Scalar.extui v54
  let v56 : BitVec 32 := Scalar.subi v53 v55
  let c128_i32_16 : BitVec 32 := 128#32
  let c0_i32_18 : BitVec 32 := 0#32
  let v57 : BitVec 1 := Scalar.cmpi .sgt c128_i32_16 c0_i32_18
  let v58 : BitVec 32 := Scalar.extui v57
  let c0_i32_19 : BitVec 32 := 0#32
  let v59 : BitVec 1 := Scalar.cmpi .slt c128_i32_16 c0_i32_19
  let v60 : BitVec 32 := Scalar.extui v59
  let v61 : BitVec 32 := Scalar.subi v58 v60
  let v62 : BitVec 1 := Scalar.cmpi .ne v56 v61
  let v63 : BitVec 32 := Scalar.remsi v50 c128_i32_16
  let c0_i32_20 : BitVec 32 := 0#32
  let v64 : BitVec 1 := Scalar.cmpi .ne v63 c0_i32_20
  let v65 : BitVec 1 := Scalar.andi v62 v64
  let v51 : BitVec 32 := Scalar.divsi v50 c128_i32_16
  let c1_i32 : BitVec 32 := 1#32
  let v66 : BitVec 32 := Scalar.subi v51 c1_i32
  let v67 : BitVec 32 := Scalar.select v65 v66 v51
  let c1_i32_21 : BitVec 32 := 1#32
  let v68 : BitVec 32 := Scalar.subi v67 c1_i32_21
  let c0_i32_22 : BitVec 32 := 0#32
  let v69 : BitVec 32 := Scalar.maxsi v68 c0_i32_22
  let c128_i32_23 : BitVec 32 := 128#32
  let v70 : BitVec 32 := Scalar.muli v69 c128_i32_23
  let v71 : BitVec 32 := v70
  let v80 : Index := Scalar.indexCast v71
  let c256_28 : Index := 256#32
  ![v80.toNat, 256]
def k0_off4 (i : grid0.Coords) : Fin 2 → Nat :=
  let arg1 : BitVec 32 := BitVec.ofNat 32 (i 1).val
  let c128_i32_14 : BitVec 32 := 128#32
  let v49 : BitVec 32 := Scalar.muli arg1 c128_i32_14
  let c128_i32_15 : BitVec 32 := 128#32
  let v50 : BitVec 32 := Scalar.addi v49 c128_i32_15
  let c0_i32 : BitVec 32 := 0#32
  let v52 : BitVec 1 := Scalar.cmpi .sgt v50 c0_i32
  let v53 : BitVec 32 := Scalar.extui v52
  let c0_i32_17 : BitVec 32 := 0#32
  let v54 : BitVec 1 := Scalar.cmpi .slt v50 c0_i32_17
  let v55 : BitVec 32 := Scalar.extui v54
  let v56 : BitVec 32 := Scalar.subi v53 v55
  let c128_i32_16 : BitVec 32 := 128#32
  let c0_i32_18 : BitVec 32 := 0#32
  let v57 : BitVec 1 := Scalar.cmpi .sgt c128_i32_16 c0_i32_18
  let v58 : BitVec 32 := Scalar.extui v57
  let c0_i32_19 : BitVec 32 := 0#32
  let v59 : BitVec 1 := Scalar.cmpi .slt c128_i32_16 c0_i32_19
  let v60 : BitVec 32 := Scalar.extui v59
  let v61 : BitVec 32 := Scalar.subi v58 v60
  let v62 : BitVec 1 := Scalar.cmpi .ne v56 v61
  let v63 : BitVec 32 := Scalar.remsi v50 c128_i32_16
  let c0_i32_20 : BitVec 32 := 0#32
  let v64 : BitVec 1 := Scalar.cmpi .ne v63 c0_i32_20
  let v65 : BitVec 1 := Scalar.andi v62 v64
  let v51 : BitVec 32 := Scalar.divsi v50 c128_i32_16
  let c1_i32 : BitVec 32 := 1#32
  let v66 : BitVec 32 := Scalar.subi v51 c1_i32
  let v67 : BitVec 32 := Scalar.select v65 v66 v51
  let c1_i32_21 : BitVec 32 := 1#32
  let v68 : BitVec 32 := Scalar.subi v67 c1_i32_21
  let c0_i32_22 : BitVec 32 := 0#32
  let v69 : BitVec 32 := Scalar.maxsi v68 c0_i32_22
  let c128_i32_23 : BitVec 32 := 128#32
  let v70 : BitVec 32 := Scalar.muli v69 c128_i32_23
  let v71 : BitVec 32 := v70
  let v84 : Index := Scalar.indexCast v71
  let c384_30 : Index := 384#32
  ![v84.toNat, 384]
def k0_mult2 (arg9 : BitVec 32) : BitVec 32 :=
  let c1_i32_53 : BitVec 32 := 1#32
  let v122 : BitVec 32 := Scalar.subi arg9 c1_i32_53
  let c0_i32_54 : BitVec 32 := 0#32
  let v123 : BitVec 32 := Scalar.maxsi v122 c0_i32_54
  let c128_i32_55 : BitVec 32 := 128#32
  let v124 : BitVec 32 := Scalar.muli v123 c128_i32_55
  v124

def k0_off5 (arg9 : BitVec 32) : Fin 2 → Nat :=
  let c1_i32_53 : BitVec 32 := 1#32
  let v122 : BitVec 32 := Scalar.subi arg9 c1_i32_53
  let c0_i32_54 : BitVec 32 := 0#32
  let v123 : BitVec 32 := Scalar.maxsi v122 c0_i32_54
  let c128_i32_55 : BitVec 32 := 128#32
  let v124 : BitVec 32 := Scalar.muli v123 c128_i32_55
  let v125 : BitVec 32 := v124
  let v126 : Index := Scalar.indexCast v125
  let c0_56 : Index := 0#32
  ![v126.toNat, 0]
def k0_off6 (arg9 : BitVec 32) : Fin 2 → Nat :=
  let c1_i32_53 : BitVec 32 := 1#32
  let v122 : BitVec 32 := Scalar.subi arg9 c1_i32_53
  let c0_i32_54 : BitVec 32 := 0#32
  let v123 : BitVec 32 := Scalar.maxsi v122 c0_i32_54
  let c128_i32_55 : BitVec 32 := 128#32
  let v124 : BitVec 32 := Scalar.muli v123 c128_i32_55
  let v125 : BitVec 32 := v124
  let v130 : Index := Scalar.indexCast v125
  let c128_58 : Index := 128#32
  ![v130.toNat, 128]
def k0_off7 (arg9 : BitVec 32) : Fin 2 → Nat :=
  let c1_i32_53 : BitVec 32 := 1#32
  let v122 : BitVec 32 := Scalar.subi arg9 c1_i32_53
  let c0_i32_54 : BitVec 32 := 0#32
  let v123 : BitVec 32 := Scalar.maxsi v122 c0_i32_54
  let c128_i32_55 : BitVec 32 := 128#32
  let v124 : BitVec 32 := Scalar.muli v123 c128_i32_55
  let v125 : BitVec 32 := v124
  let v134 : Index := Scalar.indexCast v125
  let c256_60 : Index := 256#32
  ![v134.toNat, 256]
def k0_off8 (arg9 : BitVec 32) : Fin 2 → Nat :=
  let c1_i32_53 : BitVec 32 := 1#32
  let v122 : BitVec 32 := Scalar.subi arg9 c1_i32_53
  let c0_i32_54 : BitVec 32 := 0#32
  let v123 : BitVec 32 := Scalar.maxsi v122 c0_i32_54
  let c128_i32_55 : BitVec 32 := 128#32
  let v124 : BitVec 32 := Scalar.muli v123 c128_i32_55
  let v125 : BitVec 32 := v124
  let v138 : Index := Scalar.indexCast v125
  let c384_62 : Index := 384#32
  ![v138.toNat, 384]
def k0_off9 (arg9 : BitVec 32) : Fin 4 → Nat :=
  let c0_77 : Index := 0#32
  let v181 : Index := Scalar.indexCast arg9
  let c0_78 : Index := 0#32
  let c0_79 : Index := 0#32
  ![0, v181.toNat, 0, 0]
def k0_off10 (arg9 : BitVec 32) : Fin 4 → Nat :=
  let c0_87 : Index := 0#32
  let v192 : Index := Scalar.indexCast arg9
  let c128_88 : Index := 128#32
  let c0_89 : Index := 0#32
  ![0, v192.toNat, 128, 0]
def k0_off11 (arg9 : BitVec 32) : Fin 4 → Nat :=
  let c0_97 : Index := 0#32
  let v203 : Index := Scalar.indexCast arg9
  let c256_98 : Index := 256#32
  let c0_99 : Index := 0#32
  ![0, v203.toNat, 256, 0]
def k0_off12 (arg9 : BitVec 32) : Fin 4 → Nat :=
  let c0_107 : Index := 0#32
  let v214 : Index := Scalar.indexCast arg9
  let c384_108 : Index := 384#32
  let c0_109 : Index := 0#32
  ![0, v214.toNat, 384, 0]

def k0_chk1 (arg9 : BitVec 32) : Prop :=
  (128 ∣ (k0_mult2 arg9).toNat) ∧
  (∀ a, (k0_off5 arg9) a + S128x128.size a ≤ S4096x512.size a) ∧
  (∀ a, (k0_off6 arg9) a + S128x128.size a ≤ S4096x512.size a) ∧
  (∀ a, (k0_off7 arg9) a + S128x128.size a ≤ S4096x512.size a) ∧
  (∀ a, (k0_off8 arg9) a + S128x128.size a ≤ S4096x512.size a) ∧
  (∀ a, (k0_off9 arg9) a + S1x1x128x128.size a ≤ S1x32x512x128.size a) ∧
  (∀ a, (k0_off10 arg9) a + S1x1x128x128.size a ≤ S1x32x512x128.size a) ∧
  (∀ a, (k0_off11 arg9) a + S1x1x128x128.size a ≤ S1x32x512x128.size a) ∧
  (∀ a, (k0_off12 arg9) a + S1x1x128x128.size a ≤ S1x32x512x128.size a)
theorem k0_mult2_dvd : ∀ (arg9 : BitVec 32) (k0_hw1 : k0_chk1 arg9), 128 ∣ (k0_mult2 arg9).toNat := fun arg9 k0_hw1 => k0_hw1.1
theorem k0_off5_inb : ∀ (arg9 : BitVec 32) (k0_hw1 : k0_chk1 arg9), ∀ a, (k0_off5 arg9) a + S128x128.size a ≤ S4096x512.size a := fun arg9 k0_hw1 => k0_hw1.2.1
theorem k0_off6_inb : ∀ (arg9 : BitVec 32) (k0_hw1 : k0_chk1 arg9), ∀ a, (k0_off6 arg9) a + S128x128.size a ≤ S4096x512.size a := fun arg9 k0_hw1 => k0_hw1.2.2.1
theorem k0_off7_inb : ∀ (arg9 : BitVec 32) (k0_hw1 : k0_chk1 arg9), ∀ a, (k0_off7 arg9) a + S128x128.size a ≤ S4096x512.size a := fun arg9 k0_hw1 => k0_hw1.2.2.2.1
theorem k0_off8_inb : ∀ (arg9 : BitVec 32) (k0_hw1 : k0_chk1 arg9), ∀ a, (k0_off8 arg9) a + S128x128.size a ≤ S4096x512.size a := fun arg9 k0_hw1 => k0_hw1.2.2.2.2.1
theorem k0_off9_inb : ∀ (arg9 : BitVec 32) (k0_hw1 : k0_chk1 arg9), ∀ a, (k0_off9 arg9) a + S1x1x128x128.size a ≤ S1x32x512x128.size a := fun arg9 k0_hw1 => k0_hw1.2.2.2.2.2.1
theorem k0_off10_inb : ∀ (arg9 : BitVec 32) (k0_hw1 : k0_chk1 arg9), ∀ a, (k0_off10 arg9) a + S1x1x128x128.size a ≤ S1x32x512x128.size a := fun arg9 k0_hw1 => k0_hw1.2.2.2.2.2.2.1
theorem k0_off11_inb : ∀ (arg9 : BitVec 32) (k0_hw1 : k0_chk1 arg9), ∀ a, (k0_off11 arg9) a + S1x1x128x128.size a ≤ S1x32x512x128.size a := fun arg9 k0_hw1 => k0_hw1.2.2.2.2.2.2.2.1
theorem k0_off12_inb : ∀ (arg9 : BitVec 32) (k0_hw1 : k0_chk1 arg9), ∀ a, (k0_off12 arg9) a + S1x1x128x128.size a ≤ S1x32x512x128.size a := fun arg9 k0_hw1 => k0_hw1.2.2.2.2.2.2.2.2

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "stop" => some ⊥
  | _ => none
-- ==== ReferenceIdeal.lean ====
abbrev S4x4096x8x64 : Shape := ⟨4, ![4, 4096, 8, 64]⟩
abbrev S4x4096x2x8x64 : Shape := ⟨5, ![4, 4096, 2, 8, 64]⟩
abbrev S4096 : Shape := ⟨1, ![4096]⟩
abbrev S4x4096x1x8x64 : Shape := ⟨5, ![4, 4096, 1, 8, 64]⟩
abbrev S4x8x4096x4096 : Shape := ⟨4, ![4, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x8x64x4096 : Shape := ⟨4, ![4, 8, 64, 4096]⟩
abbrev S16384x512 : Shape := ⟨2, ![16384, 512]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x2x8x64, .f32⟩
  | .hbm, ⟨2, _⟩ => ⟨S4096, .i32⟩
  | .hbm, ⟨3, _⟩ => ⟨S4x4096x1x8x64, .f32⟩
  | .hbm, ⟨4, _⟩ => ⟨S4x4096x8x64, .f32⟩
  | .hbm, ⟨5, _⟩ => ⟨S4x8x4096x4096, .f32⟩
  | .hbm, ⟨6, _⟩ => ⟨S_, .f32⟩
  | .hbm, ⟨7, _⟩ => ⟨S4x8x4096x4096, .f32⟩
  | .hbm, ⟨8, _⟩ => ⟨S4x8x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S1x1x4096x4096, .i1⟩
  | .hbm, ⟨16, _⟩ => ⟨S4x8x4096x4096, .f32⟩
  | .hbm, ⟨17, _⟩ => ⟨S_, .f32⟩
  | .hbm, ⟨18, _⟩ => ⟨S4x8x4096x4096, .f32⟩
  | .hbm, ⟨19, _⟩ => ⟨S4x8x4096x4096, .f32⟩
  | .hbm, ⟨20, _⟩ => ⟨S4x8x4096x4096, .f32⟩
  | .hbm, ⟨21, _⟩ => ⟨S4x8x4096x4096, .f32⟩
  | .hbm, ⟨22, _⟩ => ⟨S4x8x4096x4096, .i1⟩
  | .hbm, ⟨23, _⟩ => ⟨S4x8x4096x4096, .f32⟩
  | .hbm, ⟨24, _⟩ => ⟨S4x8x4096x4096, .f32⟩
  | .hbm, ⟨25, _⟩ => ⟨S4x8x4096x4096, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S_, .f32⟩
  | .hbm, ⟨34, _⟩ => ⟨S_, .f32⟩
  | .hbm, ⟨35, _⟩ => ⟨S4x8x4096x4096, .i1⟩
  | .hbm, ⟨36, _⟩ => ⟨S4x8x4096x4096, .f32⟩
  | .hbm, ⟨37, _⟩ => ⟨S4x8x4096x4096, .f32⟩
  | .hbm, ⟨38, _⟩ => ⟨S_, .f32⟩
  | .hbm, ⟨39, _⟩ => ⟨S_, .f32⟩
  | .hbm, ⟨40, _⟩ => ⟨S4x8x4096x4096, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S_, .f32⟩
  | .hbm, ⟨45, _⟩ => ⟨S_, .f32⟩
  | .hbm, ⟨46, _⟩ => ⟨S4x8x4096x4096, .i1⟩
  | .hbm, ⟨47, _⟩ => ⟨S4x8x4096x4096, .f32⟩
  | .hbm, ⟨48, _⟩ => ⟨S4x8x4096x4096, .f32⟩
  | .hbm, ⟨49, _⟩ => ⟨S4x4096x1x8x64, .f32⟩
  | .hbm, ⟨50, _⟩ => ⟨S4x4096x8x64, .f32⟩
  | .hbm, ⟨51, _⟩ => ⟨S4x8x64x4096, .f32⟩
  | .hbm, ⟨52, _⟩ => ⟨S4x4096x8x64, .f32⟩
  | .hbm, ⟨53, _⟩ => ⟨S16384x512, .f32⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v15 : Ref sig .tc := ⟨.hbm, 37, rfl⟩
abbrev main_call2_cst : Ref sig .tc := ⟨.hbm, 38, rfl⟩
abbrev main_call2_v0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_1 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩

abbrev nD : Nat := 1
abbrev τ : Topo := Topo.v7x

variable {F : FTy → Type} [FloatOps F]
-- ==== Kernel2.lean ====
abbrev S4x4096x512 : Shape := ⟨3, ![4, 4096, 512]⟩
abbrev S4x4096x2x1024 : Shape := ⟨4, ![4, 4096, 2, 1024]⟩
abbrev S4x4096x1024 : Shape := ⟨3, ![4, 4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S8 : Shape := ⟨1, ![8]⟩
abbrev S16384x8x64 : Shape := ⟨3, ![16384, 8, 64]⟩
abbrev S_ : Shape := ⟨0, ![]⟩
abbrev S8x1 : Shape := ⟨2, ![8, 1]⟩
abbrev S16384x512 : Shape := ⟨2, ![16384, 512]⟩
abbrev S16384x2048 : Shape := ⟨2, ![16384, 2048]⟩
abbrev S512x1024 : Shape := ⟨2, ![512, 1024]⟩
abbrev S8x64x1024 : Shape := ⟨3, ![8, 64, 1024]⟩
abbrev S1024x1024 : Shape := ⟨2, ![1024, 1024]⟩
abbrev S1024x2816 : Shape := ⟨2, ![1024, 2816]⟩
abbrev S2816x1024 : Shape := ⟨2, ![2816, 1024]⟩
abbrev S16384x1024 : Shape := ⟨2, ![16384, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 52
  | .vmem => 18
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x2x1024, .f32⟩
  | .hbm, ⟨3, _⟩ => ⟨S4x4096x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S8, .i32⟩
  | .hbm, ⟨13, _⟩ => ⟨S8, .i1⟩
  | .hbm, ⟨14, _⟩ => ⟨S8, .i32⟩
  | .hbm, ⟨15, _⟩ => ⟨S8, .i1⟩
  | .hbm, ⟨16, _⟩ => ⟨S16384x8x64, .f32⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S8, .i32⟩
  | .hbm, ⟨21, _⟩ => ⟨S8x1, .i32⟩
  | .hbm, ⟨22, _⟩ => ⟨S16384x8x64, .f32⟩
  | .hbm, ⟨23, _⟩ => ⟨S16384x512, .f32⟩
  | .hbm, ⟨24, _⟩ => ⟨S16384x512, .f32⟩
  | .hbm, ⟨25, _⟩ => ⟨S16384x2048, .f32⟩
  | .hbm, ⟨26, _⟩ => ⟨S16384x2048, .bf16⟩
  | .hbm, ⟨27, _⟩ => ⟨S512x1024, .f32⟩
  | .hbm, ⟨28, _⟩ => ⟨S8x64x1024, .f32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S8, .i32⟩
  | .hbm, ⟨33, _⟩ => ⟨S8x1, .i32⟩
  | .hbm, ⟨34, _⟩ => ⟨S8x64x1024, .f32⟩
  | .hbm, ⟨35, _⟩ => ⟨S512x1024, .f32⟩
  | .hbm, ⟨36, _⟩ => ⟨S512x1024, .bf16⟩
  | .hbm, ⟨37, _⟩ => ⟨S512x1024, .f32⟩
  | .hbm, ⟨38, _⟩ => ⟨S512x1024, .bf16⟩
  | .hbm, ⟨39, _⟩ => ⟨S1024x1024, .f32⟩
  | .hbm, ⟨40, _⟩ => ⟨S1024x1024, .bf16⟩
  | .hbm, ⟨41, _⟩ => ⟨S1024, .f32⟩
  | .hbm, ⟨42, _⟩ => ⟨S1x1024, .f32⟩
  | .hbm, ⟨43, _⟩ => ⟨S1024x2816, .f32⟩
  | .hbm, ⟨44, _⟩ => ⟨S1024x2816, .bf16⟩
  | .hbm, ⟨45, _⟩ => ⟨S1024x2816, .f32⟩
  | .hbm, ⟨46, _⟩ => ⟨S1024x2816, .bf16⟩
  | .hbm, ⟨47, _⟩ => ⟨S2816x1024, .f32⟩
  | .hbm, ⟨48, _⟩ => ⟨S2816x1024, .bf16⟩
  | .hbm, ⟨49, _⟩ => ⟨S1x1024, .f32⟩
  | .hbm, ⟨50, _⟩ => ⟨S16384x1024, .f32⟩
  | .hbm, ⟨51, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_c_2 : Ref sig .tc := ⟨.hbm, 15, rfl⟩
abbrev main_v0 : Ref sig .tc := ⟨.hbm, 16, rfl⟩
abbrev main_c_3 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S4x4096x512 : Shape := ⟨3, ![4, 4096, 512]⟩
abbrev S4x4096x2x1024 : Shape := ⟨4, ![4, 4096, 2, 1024]⟩
abbrev S4x4096x1024 : Shape := ⟨3, ![4, 4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S4x4096x1x1024 : Shape := ⟨4, ![4, 4096, 1, 1024]⟩
abbrev S512x1024 : Shape := ⟨2, ![512, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x2816 : Shape := ⟨2, ![1024, 2816]⟩
abbrev S4x4096x2816 : Shape := ⟨3, ![4, 4096, 2816]⟩
abbrev S2816x1024 : Shape := ⟨2, ![2816, 1024]⟩
abbrev S16384x1024 : Shape := ⟨2, ![16384, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x2x1024, .f32⟩
  | .hbm, ⟨3, _⟩ => ⟨S4x4096x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S4x4096x1x1024, .f32⟩
  | .hbm, ⟨13, _⟩ => ⟨S4x4096x1024, .f32⟩
  | .hbm, ⟨14, _⟩ => ⟨S512x1024, .f32⟩
  | .hbm, ⟨15, _⟩ => ⟨S4x4096x1024, .f32⟩
  | .hbm, ⟨16, _⟩ => ⟨S4x4096x1024, .f32⟩
  | .hbm, ⟨17, _⟩ => ⟨S4x4096x1x1024, .f32⟩
  | .hbm, ⟨18, _⟩ => ⟨S4x4096x1024, .f32⟩
  | .hbm, ⟨19, _⟩ => ⟨S512x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S1024x1024, .f32⟩
  | .hbm, ⟨24, _⟩ => ⟨S4x4096x1024, .f32⟩
  | .hbm, ⟨25, _⟩ => ⟨S4x4096x1024, .f32⟩
  | .hbm, ⟨26, _⟩ => ⟨S1024, .f32⟩
  | .hbm, ⟨27, _⟩ => ⟨S4x4096x1024, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1, .f32⟩
  | .hbm, ⟨38, _⟩ => ⟨S4x4096x1024, .f32⟩
  | .hbm, ⟨39, _⟩ => ⟨S4x4096x1024, .f32⟩
  | .hbm, ⟨40, _⟩ => ⟨S1x1x1024, .f32⟩
  | .hbm, ⟨41, _⟩ => ⟨S4x4096x1024, .f32⟩
  | .hbm, ⟨42, _⟩ => ⟨S4x4096x1024, .f32⟩
  | .hbm, ⟨43, _⟩ => ⟨S1024x2816, .f32⟩
  | .hbm, ⟨44, _⟩ => ⟨S4x4096x2816, .f32⟩
  | .hbm, ⟨45, _⟩ => ⟨S4x4096x2816, .f32⟩
  | .hbm, ⟨46, _⟩ => ⟨S4x4096x2816, .f32⟩
  | .hbm, ⟨47, _⟩ => ⟨S_, .f32⟩
  | .hbm, ⟨48, _⟩ => ⟨S4x4096x2816, .f32⟩
  | .hbm, ⟨49, _⟩ => ⟨S4x4096x2816, .f32⟩
  | .hbm, ⟨50, _⟩ => ⟨S_, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S1024x2816, .f32⟩
  | .hbm, ⟨55, _⟩ => ⟨S4x4096x2816, .f32⟩
  | .hbm, ⟨56, _⟩ => ⟨S4x4096x2816, .f32⟩
  | .hbm, ⟨57, _⟩ => ⟨S2816x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1, .f32⟩
  | .hbm, ⟨71, _⟩ => ⟨S4x4096x1024, .f32⟩
  | .hbm, ⟨72, _⟩ => ⟨S4x4096x1024, .f32⟩
  | .hbm, ⟨73, _⟩ => ⟨S1x1x1024, .f32⟩
  | .hbm, ⟨74, _⟩ => ⟨S4x4096x1024, .f32⟩
  | .hbm, ⟨75, _⟩ => ⟨S4x4096x1024, .f32⟩
  | .hbm, ⟨76, _⟩ => ⟨S16384x1024, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== Kernel3.lean ====
abbrev S4x4096x1024 : Shape := ⟨3, ![4, 4096, 1024]⟩
abbrev S1x1024 : Shape := ⟨2, ![1, 1024]⟩
abbrev S1x1024x4936 : Shape := ⟨3, ![1, 1024, 4936]⟩
abbrev S8 : Shape := ⟨1, ![8]⟩
abbrev S1024x4936 : Shape := ⟨2, ![1024, 4936]⟩
abbrev S1024x512 : Shape := ⟨2, ![1024, 512]⟩
abbrev S1024x8x64 : Shape := ⟨3, ![1024, 8, 64]⟩
abbrev S_ : Shape := ⟨0, ![]⟩
abbrev S8x1 : Shape := ⟨2, ![8, 1]⟩
abbrev S1024x128 : Shape := ⟨2, ![1024, 128]⟩
abbrev S1024x64 : Shape := ⟨2, ![1024, 64]⟩
abbrev S1024x8 : Shape := ⟨2, ![1024, 8]⟩
abbrev S1024x2048 : Shape := ⟨2, ![1024, 2048]⟩
abbrev S1024x3584 : Shape := ⟨2, ![1024, 3584]⟩
abbrev S1024x1408 : Shape := ⟨2, ![1024, 1408]⟩
abbrev S1408x1024 : Shape := ⟨2, ![1408, 1024]⟩
abbrev S1024 : Shape := ⟨1, ![1024]⟩
abbrev S16384x1024 : Shape := ⟨2, ![16384, 1024]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S32x4096 : Shape := ⟨2, ![32, 4096]⟩
abbrev S4x256x4096 : Shape := ⟨3, ![4, 256, 4096]⟩
abbrev S4x64x4096 : Shape := ⟨3, ![4, 64, 4096]⟩
abbrev S4x1024x4096 : Shape := ⟨3, ![4, 1024, 4096]⟩
abbrev S16384x512 : Shape := ⟨2, ![16384, 512]⟩
abbrev S4x8x4096 : Shape := ⟨3, ![4, 8, 4096]⟩
abbrev S16384x2048 : Shape := ⟨2, ![16384, 2048]⟩
abbrev S16384x128 : Shape := ⟨2, ![16384, 128]⟩
abbrev S4x32x128x128 : Shape := ⟨4, ![4, 32, 128, 128]⟩
abbrev S4x32x512x128 : Shape := ⟨4, ![4, 32, 512, 128]⟩
abbrev S512x1024 : Shape := ⟨2, ![512, 1024]⟩
abbrev S512x128 : Shape := ⟨2, ![512, 128]⟩
abbrev S32x512 : Shape := ⟨2, ![32, 512]⟩
abbrev S1x256x512 : Shape := ⟨3, ![1, 256, 512]⟩
abbrev S1x64x512 : Shape := ⟨3, ![1, 64, 512]⟩
abbrev S1x1024x512 : Shape := ⟨3, ![1, 1024, 512]⟩
abbrev S512x512 : Shape := ⟨2, ![512, 512]⟩
abbrev S1x8x512 : Shape := ⟨3, ![1, 8, 512]⟩
abbrev S512x2048 : Shape := ⟨2, ![512, 2048]⟩
abbrev S1x4x128x128 : Shape := ⟨4, ![1, 4, 128, 128]⟩
abbrev S1x4x512x128 : Shape := ⟨4, ![1, 4, 512, 128]⟩
abbrev S512 : Shape := ⟨1, ![512]⟩
abbrev S512x1 : Shape := ⟨2, ![512, 1]⟩
abbrev S128x1024 : Shape := ⟨2, ![128, 1024]⟩
abbrev S128x512 : Shape := ⟨2, ![128, 512]⟩
abbrev S64x512 : Shape := ⟨2, ![64, 512]⟩
abbrev S1x128x512 : Shape := ⟨3, ![1, 128, 512]⟩
abbrev S64x1024 : Shape := ⟨2, ![64, 1024]⟩
abbrev S8x512 : Shape := ⟨2, ![8, 512]⟩
abbrev S1x512x512 : Shape := ⟨3, ![1, 512, 512]⟩
abbrev S128x128 : Shape := ⟨2, ![128, 128]⟩
abbrev S1x1x128x128 : Shape := ⟨4, ![1, 1, 128, 128]⟩
abbrev S1x1x512x128 : Shape := ⟨4, ![1, 1, 512, 128]⟩

abbrev nBuf : Space → Nat
  | .hbm => 71
  | .vmem => 39
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x4936, .f32⟩
  | .hbm, ⟨3, _⟩ => ⟨S8, .i32⟩
  | .hbm, ⟨4, _⟩ => ⟨S8, .i1⟩
  | .hbm, ⟨5, _⟩ => ⟨S1024x4936, .f32⟩
  | .hbm, ⟨6, _⟩ => ⟨S1024x512, .f32⟩
  | .hbm, ⟨7, _⟩ => ⟨S1024x8x64, .f32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S1024x8x64, .f32⟩
  | .hbm, ⟨14, _⟩ => ⟨S1024x512, .f32⟩
  | .hbm, ⟨15, _⟩ => ⟨S1024x128, .f32⟩
  | .hbm, ⟨16, _⟩ => ⟨S1024x128, .f32⟩
  | .hbm, ⟨17, _⟩ => ⟨S1024x512, .f32⟩
  | .hbm, ⟨18, _⟩ => ⟨S1024x64, .f32⟩
  | .hbm, ⟨19, _⟩ => ⟨S1024x8, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x2048, .f32⟩
  | .hbm, ⟨24, _⟩ => ⟨S1024x3584, .f32⟩
  | .hbm, ⟨25, _⟩ => ⟨S1024x3584, .bf16⟩
  | .hbm, ⟨26, _⟩ => ⟨S_, .i32⟩
  | .hbm, ⟨27, _⟩ => ⟨S_, .f32⟩
  | .hbm, ⟨28, _⟩ => ⟨S1024x64, .f32⟩
  | .hbm, ⟨29, _⟩ => ⟨S1024x1408, .f32⟩
  | .hbm, ⟨30, _⟩ => ⟨S1408x1024, .f32⟩
  | .hbm, ⟨31, _⟩ => ⟨S1408x1024, .bf16⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S4096, .i32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S4096, .f32⟩
  | .hbm, ⟨45, _⟩ => ⟨S4096x1, .f32⟩
  | .hbm, ⟨46, _⟩ => ⟨S1x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S4096x128, .f32⟩
  | .hbm, ⟨53, _⟩ => ⟨S4096x32, .f32⟩
  | .hbm, ⟨54, _⟩ => ⟨S4096x32, .f32⟩
  | .hbm, ⟨55, _⟩ => ⟨S4096x128, .f32⟩
  | .hbm, ⟨56, _⟩ => ⟨S32x4096, .f32⟩
  | .hbm, ⟨57, _⟩ => ⟨S32x4096, .f32⟩
  | .hbm, ⟨58, _⟩ => ⟨S4x256x4096, .f32⟩
  | .hbm, ⟨59, _⟩ => ⟨S4x64x4096, .f32⟩
  | .hbm, ⟨60, _⟩ => ⟨S4x1024x4096, .f32⟩
  | .hbm, ⟨61, _⟩ => ⟨S16384x512, .bf16⟩
  | .hbm, ⟨62, _⟩ => ⟨S16384x512, .bf16⟩
  | .hbm, ⟨63, _⟩ => ⟨S4x8x4096, .f32⟩
  | .hbm, ⟨64, _⟩ => ⟨S16384x512, .bf16⟩
  | .hbm, ⟨65, _⟩ => ⟨S16384x2048, .bf16⟩
  | .hbm, ⟨66, _⟩ => ⟨S16384x128, .bf16⟩
  | .hbm, ⟨67, _⟩ => ⟨S16384x128, .bf16⟩
  | .hbm, ⟨68, _⟩ => ⟨S16384x512, .bf16⟩
  | .hbm, ⟨69, _⟩ => ⟨S4x32x128x128, .bf16⟩
  | .hbm, ⟨70, _⟩ => ⟨S4x32x512x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1408x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S1x256x512, .f32⟩
  | .local _ .vmem, ⟨14, _⟩ => ⟨S1x256x512, .f32⟩
  | .local _ .vmem, ⟨15, _⟩ => ⟨S1x64x512, .f32⟩
  | .local _ .vmem, ⟨16, _⟩ => ⟨S1x64x512, .f32⟩
  | .local _ .vmem, ⟨17, _⟩ => ⟨S1x1024x512, .f32⟩
  | .local _ .vmem, ⟨18, _⟩ => ⟨S1x1024x512, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S1x8x512, .f32⟩
  | .local _ .vmem, ⟨24, _⟩ => ⟨S1x8x512, .f32⟩
  | .local _ .vmem, ⟨25, _⟩ => ⟨S512x512, .bf16⟩
  | .local _ .vmem, ⟨26, _⟩ => ⟨S512x512, .bf16⟩
  | .local _ .vmem, ⟨27, _⟩ => ⟨S512x2048, .bf16⟩
  | .local _ .vmem, ⟨28, _⟩ => ⟨S512x2048, .bf16⟩
  | .local _ .vmem, ⟨29, _⟩ => ⟨S512x128, .bf16⟩
  | .local _ .vmem, ⟨30, _⟩ => ⟨S512x128, .bf16⟩
  | .local _ .vmem, ⟨31, _⟩ => ⟨S512x128, .bf16⟩
  | .local _ .vmem, ⟨32, _⟩ => ⟨S512x128, .bf16⟩
  | .local _ .vmem, ⟨33, _⟩ => ⟨S512x512, .bf16⟩
  | .local _ .vmem, ⟨34, _⟩ => ⟨S512x512, .bf16⟩
  | .local _ .vmem, ⟨35, _⟩ => ⟨S1x4x128x128, .bf16⟩
  | .local _ .vmem, ⟨36, _⟩ => ⟨S1x4x128x128, .bf16⟩
  | .local _ .vmem, ⟨37, _⟩ => ⟨S1x4x512x128, .bf16⟩
  | .local _ .vmem, ⟨38, _⟩ => ⟨S1x4x512x128, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48_0 : Ref sig .tc := ⟨.hbm, 58, rfl⟩
abbrev main_v48_1 : Ref sig .tc := ⟨.hbm, 59, rfl⟩
abbrev main_v48_2 : Ref sig .tc := ⟨.hbm, 60, rfl⟩
abbrev main_v48_3 : Ref sig .tc := ⟨.hbm, 61, rfl⟩
abbrev main_v48_4 : Ref sig .tc := ⟨.hbm, 62, rfl⟩
abbrev main_v48_5 : Ref sig .tc := ⟨.hbm, 63, rfl⟩
abbrev main_v48_6 : Ref sig .tc := ⟨.hbm, 64, rfl⟩
abbrev main_v48_7 : Ref sig .tc := ⟨.hbm, 65, rfl⟩
abbrev main_v48_8 : Ref sig .tc := ⟨.hbm, 66, rfl⟩
abbrev main_v48_9 : Ref sig .tc := ⟨.hbm, 67, rfl⟩
abbrev main_v48_10 : Ref sig .tc := ⟨.hbm, 68, rfl⟩
abbrev main_v48_11 : Ref sig .tc := ⟨.hbm, 69, rfl⟩
abbrev main_v48_12 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_20 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x128x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x4x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference3Ideal.lean ====
abbrev S4x4096x1024 : Shape := ⟨3, ![4, 4096, 1024]⟩
abbrev S1x1024 : Shape := ⟨2, ![1, 1024]⟩
abbrev S1x1024x4936 : Shape := ⟨3, ![1, 1024, 4936]⟩
abbrev S4096 : Shape := ⟨1, ![4096]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4936 : Shape := ⟨2, ![1024, 4936]⟩
abbrev S4x4096x4936 : Shape := ⟨3, ![4, 4096, 4936]⟩
abbrev S4x4096x512 : Shape := ⟨3, ![4, 4096, 512]⟩
abbrev S4x4096x256 : Shape := ⟨3, ![4, 4096, 256]⟩
abbrev S4x4096x64 : Shape := ⟨3, ![4, 4096, 64]⟩
abbrev S4x4096x8 : Shape := ⟨3, ![4, 4096, 8]⟩
abbrev S4x4096x2048 : Shape := ⟨3, ![4, 4096, 2048]⟩
abbrev S4x4096x8x64 : Shape := ⟨4, ![4, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x8x32 : Shape := ⟨4, ![4, 4096, 8, 32]⟩
abbrev S1x4096x1x32 : Shape := ⟨4, ![1, 4096, 1, 32]⟩
abbrev S4x4096x2x2x64 : Shape := ⟨5, ![4, 4096, 2, 2, 64]⟩
abbrev S4x4096x1x2x64 : Shape := ⟨5, ![4, 4096, 1, 2, 64]⟩
abbrev S4x4096x2x64 : Shape := ⟨4, ![4, 4096, 2, 64]⟩
abbrev S4x4096x2x32 : Shape := ⟨4, ![4, 4096, 2, 32]⟩
abbrev S4x4096x1x64 : Shape := ⟨4, ![4, 4096, 1, 64]⟩
abbrev S4x4096x1x32 : Shape := ⟨4, ![4, 4096, 1, 32]⟩
abbrev S4x4096x2x512 : Shape := ⟨4, ![4, 4096, 2, 512]⟩
abbrev S4x4096x1x512 : Shape := ⟨4, ![4, 4096, 1, 512]⟩
abbrev S4x256x4096 : Shape := ⟨3, ![4, 256, 4096]⟩
abbrev S4x64x4096 : Shape := ⟨3, ![4, 64, 4096]⟩
abbrev S4x1024x4096 : Shape := ⟨3, ![4, 1024, 4096]⟩
abbrev S4x4096x2x4x64 : Shape := ⟨5, ![4, 4096, 2, 4, 64]⟩
abbrev S4x4096x4x2x64 : Shape := ⟨5, ![4, 4096, 4, 2, 64]⟩
abbrev S16384x512 : Shape := ⟨2, ![16384, 512]⟩
abbrev S4x8x4096 : Shape := ⟨3, ![4, 8, 4096]⟩
abbrev S16384x2048 : Shape := ⟨2, ![16384, 2048]⟩
abbrev S16384x128 : Shape := ⟨2, ![16384, 128]⟩
abbrev S4x4096x128 : Shape := ⟨3, ![4, 4096, 128]⟩
abbrev S4x32x128x128 : Shape := ⟨4, ![4, 32, 128, 128]⟩
abbrev S4x32x128x512 : Shape := ⟨4, ![4, 32, 128, 512]⟩
abbrev S4x32x512x128 : Shape := ⟨4, ![4, 32, 512, 128]⟩

abbrev nBuf : Space → Nat
  | .hbm => 236
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x4936, .f32⟩
  | 3 => ⟨S4096, .i32⟩
  | 4 => ⟨S1024, .f32⟩
  | 5 => ⟨S4x4096x1024, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S1024x4936, .f32⟩
  | 22 => ⟨S4x4096x4936, .f32⟩
  | 23 => ⟨S4x4096x512, .f32⟩
  | 24 => ⟨S4x4096x256, .f32⟩
  | 25 => ⟨S4x4096x512, .f32⟩
  | 26 => ⟨S4x4096x64, .f32⟩
  | 27 => ⟨S4x4096x8, .f32⟩
  | 28 => ⟨S4x4096x512, .f32⟩
  | 29 => ⟨S4x4096x1024, .f32⟩
  | 30 => ⟨S4x4096x2048, .f32⟩
  | 31 => ⟨S4x4096x8x64, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S4096, .f32⟩
  | 41 => ⟨S4096x1, .f32⟩
  | 42 => ⟨S1x32, .f32⟩
  | 43 => ⟨S4096x32, .f32⟩
  | 44 => ⟨S4096x32, .f32⟩
  | 45 => ⟨S4096x32, .f32⟩
  | 46 => ⟨S4096x32, .f32⟩
  | 47 => ⟨S4096x1x32, .f32⟩
  | 48 => ⟨S4096x32, .f32⟩
  | 49 => ⟨S4096x1x32, .f32⟩
  | 50 => ⟨S4x4096x8x32, .f32⟩
  | 51 => ⟨S4x4096x8x32, .f32⟩
  | 52 => ⟨S1x4096x1x32, .f32⟩
  | 53 => ⟨S4x4096x8x32, .f32⟩
  | 54 => ⟨S4x4096x8x32, .f32⟩
  | 55 => ⟨S1x4096x1x32, .f32⟩
  | 56 => ⟨S4x4096x8x32, .f32⟩
  | 57 => ⟨S4x4096x8x32, .f32⟩
  | 58 => ⟨S4x4096x8x32, .f32⟩
  | 59 => ⟨S1x4096x1x32, .f32⟩
  | 60 => ⟨S4x4096x8x32, .f32⟩
  | 61 => ⟨S4x4096x8x32, .f32⟩
  | 62 => ⟨S1x4096x1x32, .f32⟩
  | 63 => ⟨S4x4096x8x32, .f32⟩
  | 64 => ⟨S4x4096x8x32, .f32⟩
  | 65 => ⟨S4x4096x8x32, .f32⟩
  | 66 => ⟨S4x4096x8x64, .f32⟩
  | 67 => ⟨S4x4096x2x2x64, .f32⟩
  | 68 => ⟨S4x4096x1x2x64, .f32⟩
  | 69 => ⟨S4x4096x2x64, .f32⟩
  | 70 => ⟨S32, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S4096, .f32⟩
  | 79 => ⟨S4096x1, .f32⟩
  | 80 => ⟨S1x32, .f32⟩
  | 81 => ⟨S4096x32, .f32⟩
  | 82 => ⟨S4096x32, .f32⟩
  | 83 => ⟨S4096x32, .f32⟩
  | 84 => ⟨S4096x32, .f32⟩
  | 85 => ⟨S4096x1x32, .f32⟩
  | 86 => ⟨S4096x32, .f32⟩
  | 87 => ⟨S4096x1x32, .f32⟩
  | 88 => ⟨S4x4096x2x32, .f32⟩
  | 89 => ⟨S4x4096x2x32, .f32⟩
  | 90 => ⟨S1x4096x1x32, .f32⟩
  | 91 => ⟨S4x4096x2x32, .f32⟩
  | 92 => ⟨S4x4096x2x32, .f32⟩
  | 93 => ⟨S1x4096x1x32, .f32⟩
  | 94 => ⟨S4x4096x2x32, .f32⟩
  | 95 => ⟨S4x4096x2x32, .f32⟩
  | 96 => ⟨S4x4096x2x32, .f32⟩
  | 97 => ⟨S1x4096x1x32, .f32⟩
  | 98 => ⟨S4x4096x2x32, .f32⟩
  | 99 => ⟨S4x4096x2x32, .f32⟩
  | 100 => ⟨S1x4096x1x32, .f32⟩
  | 101 => ⟨S4x4096x2x32, .f32⟩
  | 102 => ⟨S4x4096x2x32, .f32⟩
  | 103 => ⟨S4x4096x2x32, .f32⟩
  | 104 => ⟨S4x4096x2x64, .f32⟩
  | 105 => ⟨S4x4096x1x2x64, .f32⟩
  | 106 => ⟨S4x4096x2x64, .f32⟩
  | 107 => ⟨S4x4096x8x64, .f32⟩
  | 108 => ⟨S32, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S4096, .f32⟩
  | 117 => ⟨S4096x1, .f32⟩
  | 118 => ⟨S1x32, .f32⟩
  | 119 => ⟨S4096x32, .f32⟩
  | 120 => ⟨S4096x32, .f32⟩
  | 121 => ⟨S4096x32, .f32⟩
  | 122 => ⟨S4096x32, .f32⟩
  | 123 => ⟨S4096x1x32, .f32⟩
  | 124 => ⟨S4096x32, .f32⟩
  | 125 => ⟨S4096x1x32, .f32⟩
  | 126 => ⟨S4x4096x8x32, .f32⟩
  | 127 => ⟨S4x4096x8x32, .f32⟩
  | _ => ⟨S4x4096x1024, .f32⟩

abbrev hbmTy0_1 (i : Nat) : BufTy := match i % 128 with
  | 0 => ⟨S1x4096x1x32, .f32⟩
  | 1 => ⟨S4x4096x8x32, .f32⟩
  | 2 => ⟨S4x4096x8x32, .f32⟩
  | 3 => ⟨S1x4096x1x32, .f32⟩
  | 4 => ⟨S4x4096x8x32, .f32⟩
  | 5 => ⟨S4x4096x8x32, .f32⟩
  | 6 => ⟨S4x4096x8x32, .f32⟩
  | 7 => ⟨S1x4096x1x32, .f32⟩
  | 8 => ⟨S4x4096x8x32, .f32⟩
  | 9 => ⟨S4x4096x8x32, .f32⟩
  | 10 => ⟨S1x4096x1x32, .f32⟩
  | 11 => ⟨S4x4096x8x32, .f32⟩
  | 12 => ⟨S4x4096x8x32, .f32⟩
  | 13 => ⟨S4x4096x8x32, .f32⟩
  | 14 => ⟨S4x4096x8x64, .f32⟩
  | 15 => ⟨S4x4096x1x64, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S4096, .f32⟩
  | 25 => ⟨S4096x1, .f32⟩
  | 26 => ⟨S1x32, .f32⟩
  | 27 => ⟨S4096x32, .f32⟩
  | 28 => ⟨S4096x32, .f32⟩
  | 29 => ⟨S4096x32, .f32⟩
  | 30 => ⟨S4096x32, .f32⟩
  | 31 => ⟨S4096x1x32, .f32⟩
  | 32 => ⟨S4096x32, .f32⟩
  | 33 => ⟨S4096x1x32, .f32⟩
  | 34 => ⟨S4x4096x1x32, .f32⟩
  | 35 => ⟨S4x4096x1x32, .f32⟩
  | 36 => ⟨S1x4096x1x32, .f32⟩
  | 37 => ⟨S4x4096x1x32, .f32⟩
  | 38 => ⟨S4x4096x1x32, .f32⟩
  | 39 => ⟨S1x4096x1x32, .f32⟩
  | 40 => ⟨S4x4096x1x32, .f32⟩
  | 41 => ⟨S4x4096x1x32, .f32⟩
  | 42 => ⟨S4x4096x1x32, .f32⟩
  | 43 => ⟨S1x4096x1x32, .f32⟩
  | 44 => ⟨S4x4096x1x32, .f32⟩
  | 45 => ⟨S4x4096x1x32, .f32⟩
  | 46 => ⟨S1x4096x1x32, .f32⟩
  | 47 => ⟨S4x4096x1x32, .f32⟩
  | 48 => ⟨S4x4096x1x32, .f32⟩
  | 49 => ⟨S4x4096x1x32, .f32⟩
  | 50 => ⟨S4x4096x1x64, .f32⟩
  | 51 => ⟨S4x4096x64, .f32⟩
  | 52 => ⟨S_, .f32⟩
  | 53 => ⟨S4x4096x8, .f32⟩
  | 54 => ⟨S4x4096x8, .f32⟩
  | 55 => ⟨S4x4096x2x512, .f32⟩
  | 56 => ⟨S4x4096x1x512, .f32⟩
  | 57 => ⟨S4x4096x512, .f32⟩
  | 58 => ⟨S4x4096x1x512, .f32⟩
  | 59 => ⟨S4x4096x512, .f32⟩
  | 60 => ⟨S4x4096x2048, .f32⟩
  | 61 => ⟨S4x4096x2048, .f32⟩
  | 62 => ⟨S_, .f32⟩
  | 63 => ⟨S4x4096x2048, .f32⟩
  | 64 => ⟨S4x4096x2048, .f32⟩
  | 65 => ⟨S_, .f32⟩
  | 66 => ⟨S4x4096x2048, .f32⟩
  | 67 => ⟨S4x4096x2048, .f32⟩
  | 68 => ⟨S4x4096x1x2x64, .f32⟩
  | 69 => ⟨S4x4096x1x2x64, .f32⟩
  | 70 => ⟨S4x4096x2x2x64, .f32⟩
  | 71 => ⟨S4x4096x256, .f32⟩
  | 72 => ⟨S4x256x4096, .f32⟩
  | 73 => ⟨S4x64x4096, .f32⟩
  | 74 => ⟨S4x1024x4096, .f32⟩
  | 75 => ⟨S4x4096x2x4x64, .f32⟩
  | 76 => ⟨S4x4096x4x2x64, .f32⟩
  | 77 => ⟨S_, .f32⟩
  | 78 => ⟨S4x4096x4x2x64, .f32⟩
  | 79 => ⟨S4x4096x4x2x64, .f32⟩
  | 80 => ⟨S16384x512, .f32⟩
  | 81 => ⟨S16384x512, .bf16⟩
  | 82 => ⟨S16384x512, .f32⟩
  | 83 => ⟨S16384x512, .bf16⟩
  | 84 => ⟨S_, .f32⟩
  | 85 => ⟨S4x4096x8, .f32⟩
  | 86 => ⟨S4x4096x8, .f32⟩
  | 87 => ⟨S4x8x4096, .f32⟩
  | 88 => ⟨S_, .f32⟩
  | 89 => ⟨S4x4096x512, .f32⟩
  | 90 => ⟨S4x4096x512, .f32⟩
  | 91 => ⟨S16384x512, .f32⟩
  | 92 => ⟨S16384x512, .bf16⟩
  | 93 => ⟨S16384x2048, .f32⟩
  | 94 => ⟨S16384x2048, .bf16⟩
  | 95 => ⟨S16384x128, .f32⟩
  | 96 => ⟨S16384x128, .bf16⟩
  | 97 => ⟨S4x4096x128, .f32⟩
  | 98 => ⟨S16384x128, .f32⟩
  | 99 => ⟨S16384x128, .bf16⟩
  | 100 => ⟨S16384x512, .f32⟩
  | 101 => ⟨S16384x512, .bf16⟩
  | 102 => ⟨S4x32x128x128, .f32⟩
  | 103 => ⟨S4x32x128x128, .f32⟩
  | 104 => ⟨S4x32x128x128, .bf16⟩
  | 105 => ⟨S4x32x128x512, .f32⟩
  | 106 => ⟨S4x32x512x128, .f32⟩
  | 107 => ⟨S4x32x512x128, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_4 : Ref sig .tc := ⟨.hbm, 72, rfl⟩
abbrev main_v64 : Ref sig .tc := ⟨.hbm, 73, rfl⟩
abbrev main_v65 : Ref sig .tc := ⟨.hbm, 74, rfl⟩
abbrev main_cst_5 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_cst_6 : Ref sig .tc := ⟨.hbm, 110, rfl⟩
abbrev main_v100 : Ref sig .tc := ⟨.hbm, 111, rfl⟩
abbrev main_v101 : Ref sig .tc := ⟨.hbm, 112, rfl⟩
abbrev main_cst_7 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_cst_8 : Ref sig .tc := ⟨.hbm, 146, rfl⟩
abbrev main_v134 : Ref sig .tc := ⟨.hbm, 147, rfl⟩
abbrev main_v135 : Ref sig .tc := ⟨.hbm, 148, rfl⟩
abbrev main_cst_9 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_cst_10 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_cst_11 : Ref sig .tc := ⟨.hbm, 190, rfl⟩
abbrev main_v175 : Ref sig .tc := ⟨.hbm, 191, rfl⟩
abbrev main_v176 : Ref sig .tc := ⟨.hbm, 192, rfl⟩
abbrev main_cst_12 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_cst_13 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_cst_14 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_cst_15 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩

abbrev nD : Nat := 1
abbrev τ : Topo := Topo.v7x

variable {F : FTy → Type} [FloatOps F]
-- ==== Kernel4.lean ====
abbrev S32x4x1024 : Shape := ⟨3, ![32, 4, 1024]⟩
abbrev S1x1024 : Shape := ⟨2, ![1, 1024]⟩
abbrev S1x1024x4936 : Shape := ⟨3, ![1, 1024, 4936]⟩
abbrev S8 : Shape := ⟨1, ![8]⟩
abbrev S1024x4936 : Shape := ⟨2, ![1024, 4936]⟩
abbrev S1024x512 : Shape := ⟨2, ![1024, 512]⟩
abbrev S1024x8x64 : Shape := ⟨3, ![1024, 8, 64]⟩
abbrev S_ : Shape := ⟨0, ![]⟩
abbrev S8x1 : Shape := ⟨2, ![8, 1]⟩
abbrev S1024x128 : Shape := ⟨2, ![1024, 128]⟩
abbrev S1024x64 : Shape := ⟨2, ![1024, 64]⟩
abbrev S1024x8 : Shape := ⟨2, ![1024, 8]⟩
abbrev S1024x2048 : Shape := ⟨2, ![1024, 2048]⟩
abbrev S1024x3584 : Shape := ⟨2, ![1024, 3584]⟩
abbrev S1024x1408 : Shape := ⟨2, ![1024, 1408]⟩
abbrev S1408x1024 : Shape := ⟨2, ![1408, 1024]⟩
abbrev S1024 : Shape := ⟨1, ![1024]⟩
abbrev S128x1024 : Shape := ⟨2, ![128, 1024]⟩
abbrev S4 : Shape := ⟨1, ![4]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x128 : Shape := ⟨2, ![4, 128]⟩
abbrev S32x4 : Shape := ⟨2, ![32, 4]⟩
abbrev S1x4x1x128 : Shape := ⟨4, ![1, 4, 1, 128]⟩
abbrev S32x4x1x128 : Shape := ⟨4, ![32, 4, 1, 128]⟩
abbrev S128x128 : Shape := ⟨2, ![128, 128]⟩
abbrev S1x32x1x4 : Shape := ⟨4, ![1, 32, 1, 4]⟩
abbrev S1x32x32x4 : Shape := ⟨4, ![1, 32, 32, 4]⟩
abbrev S32x128 : Shape := ⟨2, ![32, 128]⟩
abbrev S1x256x128 : Shape := ⟨3, ![1, 256, 128]⟩
abbrev S1x64x128 : Shape := ⟨3, ![1, 64, 128]⟩
abbrev S1x1024x128 : Shape := ⟨3, ![1, 1024, 128]⟩
abbrev S128x512 : Shape := ⟨2, ![128, 512]⟩
abbrev S1x8x128 : Shape := ⟨3, ![1, 8, 128]⟩
abbrev S128x2048 : Shape := ⟨2, ![128, 2048]⟩
abbrev S1x1x128x128 : Shape := ⟨4, ![1, 1, 128, 128]⟩
abbrev S1x1x512x128 : Shape := ⟨4, ![1, 1, 512, 128]⟩
abbrev S128 : Shape := ⟨1, ![128]⟩
abbrev S128x1 : Shape := ⟨2, ![128, 1]⟩
abbrev S64x128 : Shape := ⟨2, ![64, 128]⟩
abbrev S1x128x128 : Shape := ⟨3, ![1, 128, 128]⟩
abbrev S64x1024 : Shape := ⟨2, ![64, 1024]⟩
abbrev S8x128 : Shape := ⟨2, ![8, 128]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 86
  | .vmem => 21
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x4936, .f32⟩
  | .hbm, ⟨3, _⟩ => ⟨S8, .i32⟩
  | .hbm, ⟨4, _⟩ => ⟨S8, .i1⟩
  | .hbm, ⟨5, _⟩ => ⟨S1024x4936, .f32⟩
  | .hbm, ⟨6, _⟩ => ⟨S1024x512, .f32⟩
  | .hbm, ⟨7, _⟩ => ⟨S1024x8x64, .f32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S1024x8x64, .f32⟩
  | .hbm, ⟨14, _⟩ => ⟨S1024x512, .f32⟩
  | .hbm, ⟨15, _⟩ => ⟨S1024x128, .f32⟩
  | .hbm, ⟨16, _⟩ => ⟨S1024x128, .f32⟩
  | .hbm, ⟨17, _⟩ => ⟨S1024x512, .f32⟩
  | .hbm, ⟨18, _⟩ => ⟨S1024x64, .f32⟩
  | .hbm, ⟨19, _⟩ => ⟨S1024x8, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x2048, .f32⟩
  | .hbm, ⟨24, _⟩ => ⟨S1024x3584, .f32⟩
  | .hbm, ⟨25, _⟩ => ⟨S1024x3584, .bf16⟩
  | .hbm, ⟨26, _⟩ => ⟨S_, .i32⟩
  | .hbm, ⟨27, _⟩ => ⟨S_, .f32⟩
  | .hbm, ⟨28, _⟩ => ⟨S1024x64, .f32⟩
  | .hbm, ⟨29, _⟩ => ⟨S1024x1408, .f32⟩
  | .hbm, ⟨30, _⟩ => ⟨S1408x1024, .f32⟩
  | .hbm, ⟨31, _⟩ => ⟨S1408x1024, .bf16⟩
  | .hbm, ⟨32, _⟩ => ⟨S1024, .f32⟩
  | .hbm, ⟨33, _⟩ => ⟨S1x1024, .f32⟩
  | .hbm, ⟨34, _⟩ => ⟨S128x1024, .f32⟩
  | .hbm, ⟨35, _⟩ => ⟨S4, .i32⟩
  | .hbm, ⟨36, _⟩ => ⟨S_, .i32⟩
  | .hbm, ⟨37, _⟩ => ⟨S4, .i32⟩
  | .hbm, ⟨38, _⟩ => ⟨S4, .i32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S4, .f32⟩
  | .hbm, ⟨48, _⟩ => ⟨S4x1, .f32⟩
  | .hbm, ⟨49, _⟩ => ⟨S1x32, .f32⟩
  | .hbm, ⟨50, _⟩ => ⟨S4x32, .f32⟩
  | .hbm, ⟨51, _⟩ => ⟨S4x32, .f32⟩
  | .hbm, ⟨52, _⟩ => ⟨S4x32, .f32⟩
  | .hbm, ⟨53, _⟩ => ⟨S4x32, .f32⟩
  | .hbm, ⟨54, _⟩ => ⟨S4x32, .f32⟩
  | .hbm, ⟨55, _⟩ => ⟨S4x128, .f32⟩
  | .hbm, ⟨56, _⟩ => ⟨S4x32, .f32⟩
  | .hbm, ⟨57, _⟩ => ⟨S4x32, .f32⟩
  | .hbm, ⟨58, _⟩ => ⟨S4x128, .f32⟩
  | .hbm, ⟨59, _⟩ => ⟨S32x4, .f32⟩
  | .hbm, ⟨60, _⟩ => ⟨S32x4, .f32⟩
  | .hbm, ⟨61, _⟩ => ⟨S1x4x1x128, .f32⟩
  | .hbm, ⟨62, _⟩ => ⟨S32x4x1x128, .f32⟩
  | .hbm, ⟨63, _⟩ => ⟨S128x128, .f32⟩
  | .hbm, ⟨64, _⟩ => ⟨S1x4x1x128, .f32⟩
  | .hbm, ⟨65, _⟩ => ⟨S32x4x1x128, .f32⟩
  | .hbm, ⟨66, _⟩ => ⟨S128x128, .f32⟩
  | .hbm, ⟨67, _⟩ => ⟨S1x32x1x4, .f32⟩
  | .hbm, ⟨68, _⟩ => ⟨S1x32x32x4, .f32⟩
  | .hbm, ⟨69, _⟩ => ⟨S32x128, .f32⟩
  | .hbm, ⟨70, _⟩ => ⟨S1x32x1x4, .f32⟩
  | .hbm, ⟨71, _⟩ => ⟨S1x32x32x4, .f32⟩
  | .hbm, ⟨72, _⟩ => ⟨S32x128, .f32⟩
  | .hbm, ⟨73, _⟩ => ⟨S1x256x128, .f32⟩
  | .hbm, ⟨74, _⟩ => ⟨S1x64x128, .f32⟩
  | .hbm, ⟨75, _⟩ => ⟨S1x1024x128, .f32⟩
  | .hbm, ⟨76, _⟩ => ⟨S128x512, .bf16⟩
  | .hbm, ⟨77, _⟩ => ⟨S128x512, .bf16⟩
  | .hbm, ⟨78, _⟩ => ⟨S1x8x128, .f32⟩
  | .hbm, ⟨79, _⟩ => ⟨S128x512, .bf16⟩
  | .hbm, ⟨80, _⟩ => ⟨S128x2048, .bf16⟩
  | .hbm, ⟨81, _⟩ => ⟨S128x128, .bf16⟩
  | .hbm, ⟨82, _⟩ => ⟨S128x128, .bf16⟩
  | .hbm, ⟨83, _⟩ => ⟨S128x512, .bf16⟩
  | .hbm, ⟨84, _⟩ => ⟨S1x1x128x128, .bf16⟩
  | .hbm, ⟨85, _⟩ => ⟨S1x1x512x128, .bf16⟩
  | .local _ .vmem, ⟨0, _⟩ => ⟨S128x1024, .f32⟩
  | .local _ .vmem, ⟨1, _⟩ => ⟨S1x1024, .f32⟩
  | .local _ .vmem, ⟨2, _⟩ => ⟨S1024x3584, .bf16⟩
  | .local _ .vmem, ⟨3, _⟩ => ⟨S1408x1024, .bf16⟩
  | .local _ .vmem, ⟨4, _⟩ => ⟨S128x128, .f32⟩
  | .local _ .vmem, ⟨5, _⟩ => ⟨S128x128, .f32⟩
  | .local _ .vmem, ⟨6, _⟩ => ⟨S32x128, .f32⟩
  | .local _ .vmem, ⟨7, _⟩ => ⟨S32x128, .f32⟩
  | .local _ .vmem, ⟨8, _⟩ => ⟨S1x256x128, .f32⟩
  | .local _ .vmem, ⟨9, _⟩ => ⟨S1x64x128, .f32⟩
  | .local _ .vmem, ⟨10, _⟩ => ⟨S1x1024x128, .f32⟩
  | .local _ .vmem, ⟨11, _⟩ => ⟨S128x512, .bf16⟩
  | .local _ .vmem, ⟨12, _⟩ => ⟨S128x512, .bf16⟩
  | .local _ .vmem, ⟨13, _⟩ => ⟨S1x8x128, .f32⟩
  | .local _ .vmem, ⟨14, _⟩ => ⟨S128x512, .bf16⟩
  | .local _ .vmem, ⟨15, _⟩ => ⟨S128x2048, .bf16⟩
  | .local _ .vmem, ⟨16, _⟩ => ⟨S128x128, .bf16⟩
  | .local _ .vmem, ⟨17, _⟩ => ⟨S128x128, .bf16⟩
  | .local _ .vmem, ⟨18, _⟩ => ⟨S128x512, .bf16⟩
  | .local _ .vmem, ⟨19, _⟩ => ⟨S1x1x128x128, .bf16⟩
  | .local _ .vmem, ⟨20, _⟩ => ⟨S1x1x512x128, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62_0 : Ref sig .tc := ⟨.hbm, 73, rfl⟩
abbrev main_v62_1 : Ref sig .tc := ⟨.hbm, 74, rfl⟩
abbrev main_v62_2 : Ref sig .tc := ⟨.hbm, 75, rfl⟩
abbrev main_v62_3 : Ref sig .tc := ⟨.hbm, 76, rfl⟩
abbrev main_v62_4 : Ref sig .tc := ⟨.hbm, 77, rfl⟩
abbrev main_v62_5 : Ref sig .tc := ⟨.hbm, 78, rfl⟩
abbrev main_v62_6 : Ref sig .tc := ⟨.hbm, 79, rfl⟩
abbrev main_v62_7 : Ref sig .tc := ⟨.hbm, 80, rfl⟩
abbrev main_v62_8 : Ref sig .tc := ⟨.hbm, 81, rfl⟩
abbrev main_v62_9 : Ref sig .tc := ⟨.hbm, 82, rfl⟩
abbrev main_v62_10 : Ref sig .tc := ⟨.hbm, 83, rfl⟩
abbrev main_v62_11 : Ref sig .tc := ⟨.hbm, 84, rfl⟩
abbrev main_v62_12 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_20 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S1x1x128x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S1x1x512x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]
-- ==== Reference4Ideal.lean ====
abbrev S32x4x1024 : Shape := ⟨3, ![32, 4, 1024]⟩
abbrev S1x1024 : Shape := ⟨2, ![1, 1024]⟩
abbrev S1x1024x4936 : Shape := ⟨3, ![1, 1024, 4936]⟩
abbrev S4 : Shape := ⟨1, ![4]⟩
abbrev S_ : Shape := ⟨0, ![]⟩
abbrev S1024 : Shape := ⟨1, ![1024]⟩
abbrev S32x4 : Shape := ⟨2, ![32, 4]⟩
abbrev S32x4x1 : Shape := ⟨3, ![32, 4, 1]⟩
abbrev S1x1x1024 : Shape := ⟨3, ![1, 1, 1024]⟩
abbrev S1024x4936 : Shape := ⟨2, ![1024, 4936]⟩
abbrev S32x4x4936 : Shape := ⟨3, ![32, 4, 4936]⟩
abbrev S32x4x512 : Shape := ⟨3, ![32, 4, 512]⟩
abbrev S32x4x256 : Shape := ⟨3, ![32, 4, 256]⟩
abbrev S32x4x64 : Shape := ⟨3, ![32, 4, 64]⟩
abbrev S32x4x8 : Shape := ⟨3, ![32, 4, 8]⟩
abbrev S32x4x2048 : Shape := ⟨3, ![32, 4, 2048]⟩
abbrev S32x4x8x64 : Shape := ⟨4, ![32, 4, 8, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x32 : Shape := ⟨3, ![4, 1, 32]⟩
abbrev S32x4x8x32 : Shape := ⟨4, ![32, 4, 8, 32]⟩
abbrev S1x4x1x32 : Shape := ⟨4, ![1, 4, 1, 32]⟩
abbrev S32x4x2x2x64 : Shape := ⟨5, ![32, 4, 2, 2, 64]⟩
abbrev S32x4x1x2x64 : Shape := ⟨5, ![32, 4, 1, 2, 64]⟩
abbrev S32x4x2x64 : Shape := ⟨4, ![32, 4, 2, 64]⟩
abbrev S32x4x2x32 : Shape := ⟨4, ![32, 4, 2, 32]⟩
abbrev S32x4x1x64 : Shape := ⟨4, ![32, 4, 1, 64]⟩
abbrev S32x4x1x32 : Shape := ⟨4, ![32, 4, 1, 32]⟩
abbrev S32x4x2x4x64 : Shape := ⟨5, ![32, 4, 2, 4, 64]⟩
abbrev S32x4x4x2x64 : Shape := ⟨5, ![32, 4, 4, 2, 64]⟩
abbrev S1x128x256 : Shape := ⟨3, ![1, 128, 256]⟩
abbrev S1x256x128 : Shape := ⟨3, ![1, 256, 128]⟩
abbrev S1x128x64 : Shape := ⟨3, ![1, 128, 64]⟩
abbrev S1x64x128 : Shape := ⟨3, ![1, 64, 128]⟩
abbrev S1x128x1024 : Shape := ⟨3, ![1, 128, 1024]⟩
abbrev S1x1024x128 : Shape := ⟨3, ![1, 1024, 128]⟩
abbrev S128x512 : Shape := ⟨2, ![128, 512]⟩
abbrev S1x128x8 : Shape := ⟨3, ![1, 128, 8]⟩
abbrev S1x8x128 : Shape := ⟨3, ![1, 8, 128]⟩
abbrev S128x2048 : Shape := ⟨2, ![128, 2048]⟩
abbrev S32x4x2x512 : Shape := ⟨4, ![32, 4, 2, 512]⟩
abbrev S32x4x1x512 : Shape := ⟨4, ![32, 4, 1, 512]⟩
abbrev S128x128 : Shape := ⟨2, ![128, 128]⟩
abbrev S32x4x128 : Shape := ⟨3, ![32, 4, 128]⟩
abbrev S1x1x128x128 : Shape := ⟨4, ![1, 1, 128, 128]⟩
abbrev S1x1x128x512 : Shape := ⟨4, ![1, 1, 128, 512]⟩
abbrev S1x1x512x128 : Shape := ⟨4, ![1, 1, 512, 128]⟩

abbrev nBuf : Space → Nat
  | .hbm => 242
  | .vmem => 0
  | .smem => 0
  | _ => 0

abbrev hbmTy0_0 (i : Nat) : BufTy := match i % 128 with
  | 0 => ⟨S32x4x1024, .f32⟩
  | 1 => ⟨S1x1024, .f32⟩
  | 2 => ⟨S1x1024x4936, .f32⟩
  | 3 => ⟨S4, .i32⟩
  | 4 => ⟨S_, .i32⟩
  | 5 => ⟨S4, .i32⟩
  | 6 => ⟨S4, .i32⟩
  | 7 => ⟨S1024, .f32⟩
  | 8 => ⟨S32x4x1024, .f32⟩
  | 9 => ⟨S_, .f32⟩
  | 10 => ⟨S32x4, .f32⟩
  | 11 => ⟨S32x4x1, .f32⟩
  | 12 => ⟨S_, .f32⟩
  | 13 => ⟨S32x4x1, .f32⟩
  | 14 => ⟨S32x4x1, .f32⟩
  | 15 => ⟨S_, .f32⟩
  | 16 => ⟨S32x4x1, .f32⟩
  | 17 => ⟨S32x4x1, .f32⟩
  | 18 => ⟨S32x4x1, .f32⟩
  | 19 => ⟨S32x4x1024, .f32⟩
  | 20 => ⟨S32x4x1024, .f32⟩
  | 21 => ⟨S1x1x1024, .f32⟩
  | 22 => ⟨S32x4x1024, .f32⟩
  | 23 => ⟨S32x4x1024, .f32⟩
  | 24 => ⟨S1024x4936, .f32⟩
  | 25 => ⟨S32x4x4936, .f32⟩
  | 26 => ⟨S32x4x512, .f32⟩
  | 27 => ⟨S32x4x256, .f32⟩
  | 28 => ⟨S32x4x512, .f32⟩
  | 29 => ⟨S32x4x64, .f32⟩
  | 30 => ⟨S32x4x8, .f32⟩
  | 31 => ⟨S32x4x512, .f32⟩
  | 32 => ⟨S32x4x1024, .f32⟩
  | 33 => ⟨S32x4x2048, .f32⟩
  | 34 => ⟨S32x4x8x64, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S4, .f32⟩
  | 44 => ⟨S4x1, .f32⟩
  | 45 => ⟨S1x32, .f32⟩
  | 46 => ⟨S4x32, .f32⟩
  | 47 => ⟨S4x32, .f32⟩
  | 48 => ⟨S4x32, .f32⟩
  | 49 => ⟨S4x32, .f32⟩
  | 50 => ⟨S4x1x32, .f32⟩
  | 51 => ⟨S4x32, .f32⟩
  | 52 => ⟨S4x1x32, .f32⟩
  | 53 => ⟨S32x4x8x32, .f32⟩
  | 54 => ⟨S32x4x8x32, .f32⟩
  | 55 => ⟨S1x4x1x32, .f32⟩
  | 56 => ⟨S32x4x8x32, .f32⟩
  | 57 => ⟨S32x4x8x32, .f32⟩
  | 58 => ⟨S1x4x1x32, .f32⟩
  | 59 => ⟨S32x4x8x32, .f32⟩
  | 60 => ⟨S32x4x8x32, .f32⟩
  | 61 => ⟨S32x4x8x32, .f32⟩
  | 62 => ⟨S1x4x1x32, .f32⟩
  | 63 => ⟨S32x4x8x32, .f32⟩
  | 64 => ⟨S32x4x8x32, .f32⟩
  | 65 => ⟨S1x4x1x32, .f32⟩
  | 66 => ⟨S32x4x8x32, .f32⟩
  | 67 => ⟨S32x4x8x32, .f32⟩
  | 68 => ⟨S32x4x8x32, .f32⟩
  | 69 => ⟨S32x4x8x64, .f32⟩
  | 70 => ⟨S32x4x2x2x64, .f32⟩
  | 71 => ⟨S32x4x1x2x64, .f32⟩
  | 72 => ⟨S32x4x2x64, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S4, .f32⟩
  | 82 => ⟨S4x1, .f32⟩
  | 83 => ⟨S1x32, .f32⟩
  | 84 => ⟨S4x32, .f32⟩
  | 85 => ⟨S4x32, .f32⟩
  | 86 => ⟨S4x32, .f32⟩
  | 87 => ⟨S4x32, .f32⟩
  | 88 => ⟨S4x1x32, .f32⟩
  | 89 => ⟨S4x32, .f32⟩
  | 90 => ⟨S4x1x32, .f32⟩
  | 91 => ⟨S32x4x2x32, .f32⟩
  | 92 => ⟨S32x4x2x32, .f32⟩
  | 93 => ⟨S1x4x1x32, .f32⟩
  | 94 => ⟨S32x4x2x32, .f32⟩
  | 95 => ⟨S32x4x2x32, .f32⟩
  | 96 => ⟨S1x4x1x32, .f32⟩
  | 97 => ⟨S32x4x2x32, .f32⟩
  | 98 => ⟨S32x4x2x32, .f32⟩
  | 99 => ⟨S32x4x2x32, .f32⟩
  | 100 => ⟨S1x4x1x32, .f32⟩
  | 101 => ⟨S32x4x2x32, .f32⟩
  | 102 => ⟨S32x4x2x32, .f32⟩
  | 103 => ⟨S1x4x1x32, .f32⟩
  | 104 => ⟨S32x4x2x32, .f32⟩
  | 105 => ⟨S32x4x2x32, .f32⟩
  | 106 => ⟨S32x4x2x32, .f32⟩
  | 107 => ⟨S32x4x2x64, .f32⟩
  | 108 => ⟨S32x4x1x2x64, .f32⟩
  | 109 => ⟨S32x4x2x64, .f32⟩
  | 110 => ⟨S32x4x8x64, .f32⟩
  | 111 => ⟨S32, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S4, .f32⟩
  | 120 => ⟨S4x1, .f32⟩
  | 121 => ⟨S1x32, .f32⟩
  | 122 => ⟨S4x32, .f32⟩
  | 123 => ⟨S4x32, .f32⟩
  | 124 => ⟨S4x32, .f32⟩
  | 125 => ⟨S4x32, .f32⟩
  | 126 => ⟨S4x1x32, .f32⟩
  | 127 => ⟨S4x32, .f32⟩
  | _ => ⟨S32x4x1024, .f32⟩

abbrev hbmTy0_1 (i : Nat) : BufTy := match i % 128 with
  | 0 => ⟨S4x1x32, .f32⟩
  | 1 => ⟨S32x4x8x32, .f32⟩
  | 2 => ⟨S32x4x8x32, .f32⟩
  | 3 => ⟨S1x4x1x32, .f32⟩
  | 4 => ⟨S32x4x8x32, .f32⟩
  | 5 => ⟨S32x4x8x32, .f32⟩
  | 6 => ⟨S1x4x1x32, .f32⟩
  | 7 => ⟨S32x4x8x32, .f32⟩
  | 8 => ⟨S32x4x8x32, .f32⟩
  | 9 => ⟨S32x4x8x32, .f32⟩
  | 10 => ⟨S1x4x1x32, .f32⟩
  | 11 => ⟨S32x4x8x32, .f32⟩
  | 12 => ⟨S32x4x8x32, .f32⟩
  | 13 => ⟨S1x4x1x32, .f32⟩
  | 14 => ⟨S32x4x8x32, .f32⟩
  | 15 => ⟨S32x4x8x32, .f32⟩
  | 16 => ⟨S32x4x8x32, .f32⟩
  | 17 => ⟨S32x4x8x64, .f32⟩
  | 18 => ⟨S32x4x1x64, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S4, .f32⟩
  | 28 => ⟨S4x1, .f32⟩
  | 29 => ⟨S1x32, .f32⟩
  | 30 => ⟨S4x32, .f32⟩
  | 31 => ⟨S4x32, .f32⟩
  | 32 => ⟨S4x32, .f32⟩
  | 33 => ⟨S4x32, .f32⟩
  | 34 => ⟨S4x1x32, .f32⟩
  | 35 => ⟨S4x32, .f32⟩
  | 36 => ⟨S4x1x32, .f32⟩
  | 37 => ⟨S32x4x1x32, .f32⟩
  | 38 => ⟨S32x4x1x32, .f32⟩
  | 39 => ⟨S1x4x1x32, .f32⟩
  | 40 => ⟨S32x4x1x32, .f32⟩
  | 41 => ⟨S32x4x1x32, .f32⟩
  | 42 => ⟨S1x4x1x32, .f32⟩
  | 43 => ⟨S32x4x1x32, .f32⟩
  | 44 => ⟨S32x4x1x32, .f32⟩
  | 45 => ⟨S32x4x1x32, .f32⟩
  | 46 => ⟨S1x4x1x32, .f32⟩
  | 47 => ⟨S32x4x1x32, .f32⟩
  | 48 => ⟨S32x4x1x32, .f32⟩
  | 49 => ⟨S1x4x1x32, .f32⟩
  | 50 => ⟨S32x4x1x32, .f32⟩
  | 51 => ⟨S32x4x1x32, .f32⟩
  | 52 => ⟨S32x4x1x32, .f32⟩
  | 53 => ⟨S32x4x1x64, .f32⟩
  | 54 => ⟨S32x4x64, .f32⟩
  | 55 => ⟨S_, .f32⟩
  | 56 => ⟨S32x4x8, .f32⟩
  | 57 => ⟨S32x4x8, .f32⟩
  | 58 => ⟨S32x4x2048, .f32⟩
  | 59 => ⟨S32x4x2048, .f32⟩
  | 60 => ⟨S_, .f32⟩
  | 61 => ⟨S32x4x2048, .f32⟩
  | 62 => ⟨S32x4x2048, .f32⟩
  | 63 => ⟨S_, .f32⟩
  | 64 => ⟨S32x4x2048, .f32⟩
  | 65 => ⟨S32x4x2048, .f32⟩
  | 66 => ⟨S32x4x2x4x64, .f32⟩
  | 67 => ⟨S32x4x4x2x64, .f32⟩
  | 68 => ⟨S_, .f32⟩
  | 69 => ⟨S32x4x4x2x64, .f32⟩
  | 70 => ⟨S32x4x4x2x64, .f32⟩
  | 71 => ⟨S32x4x1x2x64, .f32⟩
  | 72 => ⟨S32x4x1x2x64, .f32⟩
  | 73 => ⟨S32x4x2x2x64, .f32⟩
  | 74 => ⟨S1x128x256, .f32⟩
  | 75 => ⟨S1x256x128, .f32⟩
  | 76 => ⟨S1x128x64, .f32⟩
  | 77 => ⟨S1x64x128, .f32⟩
  | 78 => ⟨S1x128x1024, .f32⟩
  | 79 => ⟨S1x1024x128, .f32⟩
  | 80 => ⟨S128x512, .f32⟩
  | 81 => ⟨S128x512, .bf16⟩
  | 82 => ⟨S128x512, .f32⟩
  | 83 => ⟨S128x512, .bf16⟩
  | 84 => ⟨S_, .f32⟩
  | 85 => ⟨S32x4x8, .f32⟩
  | 86 => ⟨S32x4x8, .f32⟩
  | 87 => ⟨S1x128x8, .f32⟩
  | 88 => ⟨S1x8x128, .f32⟩
  | 89 => ⟨S_, .f32⟩
  | 90 => ⟨S32x4x512, .f32⟩
  | 91 => ⟨S32x4x512, .f32⟩
  | 92 => ⟨S128x512, .f32⟩
  | 93 => ⟨S128x512, .bf16⟩
  | 94 => ⟨S128x2048, .f32⟩
  | 95 => ⟨S128x2048, .bf16⟩
  | 96 => ⟨S32x4x2x512, .f32⟩
  | 97 => ⟨S32x4x1x512, .f32⟩
  | 98 => ⟨S32x4x512, .f32⟩
  | 99 => ⟨S32x4x1x512, .f32⟩
  | 100 => ⟨S32x4x512, .f32⟩
  | 101 => ⟨S128x128, .f32⟩
  | 102 => ⟨S128x128, .bf16⟩
  | 103 => ⟨S32x4x128, .f32⟩
  | 104 => ⟨S128x128, .f32⟩
  | 105 => ⟨S128x128, .bf16⟩
  | 106 => ⟨S128x512, .f32⟩
  | 107 => ⟨S128x512, .bf16⟩
  | 108 => ⟨S1x1x128x128, .f32⟩
  | 109 => ⟨S1x1x128x128, .f32⟩
  | 110 => ⟨S1x1x128x128, .bf16⟩
  | 111 => ⟨S1x1x128x512, .f32⟩
  | 112 => ⟨S1x1x512x128, .f32⟩
  | 113 => ⟨S1x1x512x128, .bf16⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_cst_4 : Ref sig .tc := ⟨.hbm, 75, rfl⟩
abbrev main_v66 : Ref sig .tc := ⟨.hbm, 76, rfl⟩
abbrev main_v67 : Ref sig .tc := ⟨.hbm, 77, rfl⟩
abbrev main_cst_5 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_cst_6 : Ref sig .tc := ⟨.hbm, 113, rfl⟩
abbrev main_v102 : Ref sig .tc := ⟨.hbm, 114, rfl⟩
abbrev main_v103 : Ref sig .tc := ⟨.hbm, 115, rfl⟩
abbrev main_cst_7 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_cst_8 : Ref sig .tc := ⟨.hbm, 149, rfl⟩
abbrev main_v136 : Ref sig .tc := ⟨.hbm, 150, rfl⟩
abbrev main_v137 : Ref sig .tc := ⟨.hbm, 151, rfl⟩
abbrev main_cst_9 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_cst_10 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_cst_11 : Ref sig .tc := ⟨.hbm, 188, rfl⟩
abbrev main_v172 : Ref sig .tc := ⟨.hbm, 189, rfl⟩
abbrev main_v173 : Ref sig .tc := ⟨.hbm, 190, rfl⟩
abbrev main_cst_12 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_cst_13 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_cst_14 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_cst_15 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩

abbrev nD : Nat := 1
abbrev τ : Topo := Topo.v7x

variable {F : FTy → Type} [FloatOps F]
-- ==== Kernel5.lean ====
abbrev S32x4x512 : Shape := ⟨3, ![32, 4, 512]⟩
abbrev S32x4x2x1024 : Shape := ⟨4, ![32, 4, 2, 1024]⟩
abbrev S32x4x1024 : Shape := ⟨3, ![32, 4, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S128x512 : Shape := ⟨2, ![128, 512]⟩
abbrev S128x2048 : Shape := ⟨2, ![128, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S128x1024 : Shape := ⟨2, ![128, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 33
  | .vmem => 13
  | .smem => 0
  | _ => 0

abbrev bufTy : (tb : Table) → Fin (tcTables nBuf tb) → BufTy
  | .hbm, ⟨0, _⟩ => ⟨S32x4x512, .f32⟩
  | .hbm, ⟨1, _⟩ => ⟨S32x4x512, .f32⟩
  | .hbm, ⟨2, _⟩ => ⟨S32x4x2x1024, .f32⟩
  | .hbm, ⟨3, _⟩ => ⟨S32x4x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S128x512, .f32⟩
  | .hbm, ⟨13, _⟩ => ⟨S128x512, .f32⟩
  | .hbm, ⟨14, _⟩ => ⟨S128x2048, .f32⟩
  | .hbm, ⟨15, _⟩ => ⟨S128x2048, .bf16⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024x2816, .f32⟩
  | .hbm, ⟨25, _⟩ => ⟨S1024x2816, .bf16⟩
  | .hbm, ⟨26, _⟩ => ⟨S1024x2816, .f32⟩
  | .hbm, ⟨27, _⟩ => ⟨S1024x2816, .bf16⟩
  | .hbm, ⟨28, _⟩ => ⟨S2816x1024, .f32⟩
  | .hbm, ⟨29, _⟩ => ⟨S2816x1024, .bf16⟩
  | .hbm, ⟨30, _⟩ => ⟨S1x1024, .f32⟩
  | .hbm, ⟨31, _⟩ => ⟨S128x1024, .f32⟩
  | .hbm, ⟨32, _⟩ => ⟨S128x1024, .f32⟩
  | .local _ .vmem, ⟨0, _⟩ => ⟨S128x512, .f32⟩
  | .local _ .vmem, ⟨1, _⟩ => ⟨S128x512, .f32⟩
  | .local _ .vmem, ⟨2, _⟩ => ⟨S128x2048, .bf16⟩
  | .local _ .vmem, ⟨3, _⟩ => ⟨S128x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S128x1024, .f32⟩
  | _, _ => ⟨S32x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference5Ideal.lean ====
abbrev S32x4x512 : Shape := ⟨3, ![32, 4, 512]⟩
abbrev S32x4x2x1024 : Shape := ⟨4, ![32, 4, 2, 1024]⟩
abbrev S32x4x1024 : Shape := ⟨3, ![32, 4, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32x4x1x1024 : Shape := ⟨4, ![32, 4, 1, 1024]⟩
abbrev S512x1024 : Shape := ⟨2, ![512, 1024]⟩
abbrev S1024x1024 : Shape := ⟨2, ![1024, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x2816 : Shape := ⟨2, ![1024, 2816]⟩
abbrev S32x4x2816 : Shape := ⟨3, ![32, 4, 2816]⟩
abbrev S2816x1024 : Shape := ⟨2, ![2816, 1024]⟩
abbrev S128x1024 : Shape := ⟨2, ![128, 1024]⟩

abbrev nBuf : Space → Nat
  | .hbm => 77
  | .vmem => 0
  | .smem => 0
  | _ => 0

abbrev bufTy : (tb : Table) → Fin (tcTables nBuf tb) → BufTy
  | .hbm, ⟨0, _⟩ => ⟨S32x4x512, .f32⟩
  | .hbm, ⟨1, _⟩ => ⟨S32x4x512, .f32⟩
  | .hbm, ⟨2, _⟩ => ⟨S32x4x2x1024, .f32⟩
  | .hbm, ⟨3, _⟩ => ⟨S32x4x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S32x4x1x1024, .f32⟩
  | .hbm, ⟨13, _⟩ => ⟨S32x4x1024, .f32⟩
  | .hbm, ⟨14, _⟩ => ⟨S512x1024, .f32⟩
  | .hbm, ⟨15, _⟩ => ⟨S32x4x1024, .f32⟩
  | .hbm, ⟨16, _⟩ => ⟨S32x4x1024, .f32⟩
  | .hbm, ⟨17, _⟩ => ⟨S32x4x1x1024, .f32⟩
  | .hbm, ⟨18, _⟩ => ⟨S32x4x1024, .f32⟩
  | .hbm, ⟨19, _⟩ => ⟨S512x1024, .f32⟩
  | .hbm, ⟨20, _⟩ => ⟨S32x4x1024, .f32⟩
  | .hbm, ⟨21, _⟩ => ⟨S32x4x1024, .f32⟩
  | .hbm, ⟨22, _⟩ => ⟨S32x4x1024, .f32⟩
  | .hbm, ⟨23, _⟩ => ⟨S1024x1024, .f32⟩
  | .hbm, ⟨24, _⟩ => ⟨S32x4x1024, .f32⟩
  | .hbm, ⟨25, _⟩ => ⟨S32x4x1024, .f32⟩
  | .hbm, ⟨26, _⟩ => ⟨S1024, .f32⟩
  | .hbm, ⟨27, _⟩ => ⟨S32x4x1024, .f32⟩
  | .hbm, ⟨28, _⟩ => ⟨S_, .f32⟩
  | .hbm, ⟨29, _⟩ => ⟨S32x4, .f32⟩
  | .hbm, ⟨30, _⟩ => ⟨S32x4x1, .f32⟩
  | .hbm, ⟨31, _⟩ => ⟨S_, .f32⟩
  | .hbm, ⟨32, _⟩ => ⟨S32x4x1, .f32⟩
  | .hbm, ⟨33, _⟩ => ⟨S32x4x1, .f32⟩
  | .hbm, ⟨34, _⟩ => ⟨S_, .f32⟩
  | .hbm, ⟨35, _⟩ => ⟨S32x4x1, .f32⟩
  | .hbm, ⟨36, _⟩ => ⟨S32x4x1, .f32⟩
  | .hbm, ⟨37, _⟩ => ⟨S32x4x1, .f32⟩
  | .hbm, ⟨38, _⟩ => ⟨S32x4x1024, .f32⟩
  | .hbm, ⟨39, _⟩ => ⟨S32x4x1024, .f32⟩
  | .hbm, ⟨40, _⟩ => ⟨S1x1x1024, .f32⟩
  | .hbm, ⟨41, _⟩ => ⟨S32x4x1024, .f32⟩
  | .hbm, ⟨42, _⟩ => ⟨S32x4x1024, .f32⟩
  | .hbm, ⟨43, _⟩ => ⟨S1024x2816, .f32⟩
  | .hbm, ⟨44, _⟩ => ⟨S32x4x2816, .f32⟩
  | .hbm, ⟨45, _⟩ => ⟨S32x4x2816, .f32⟩
  | .hbm, ⟨46, _⟩ => ⟨S32x4x2816, .f32⟩
  | .hbm, ⟨47, _⟩ => ⟨S_, .f32⟩
  | .hbm, ⟨48, _⟩ => ⟨S32x4x2816, .f32⟩
  | .hbm, ⟨49, _⟩ => ⟨S32x4x2816, .f32⟩
  | .hbm, ⟨50, _⟩ => ⟨S_, .f32⟩
  | .hbm, ⟨51, _⟩ => ⟨S32x4x2816, .f32⟩
  | .hbm, ⟨52, _⟩ => ⟨S32x4x2816, .f32⟩
  | .hbm, ⟨53, _⟩ => ⟨S32x4x2816, .f32⟩
  | .hbm, ⟨54, _⟩ => ⟨S1024x2816, .f32⟩
  | .hbm, ⟨55, _⟩ => ⟨S32x4x2816, .f32⟩
  | .hbm, ⟨56, _⟩ => ⟨S32x4x2816, .f32⟩
  | .hbm, ⟨57, _⟩ => ⟨S2816x1024, .f32⟩
  | .hbm, ⟨58, _⟩ => ⟨S32x4x1024, .f32⟩
  | .hbm, ⟨59, _⟩ => ⟨S32x4x1024, .f32⟩
  | .hbm, ⟨60, _⟩ => ⟨S32x4x1024, .f32⟩
  | .hbm, ⟨61, _⟩ => ⟨S_, .f32⟩
  | .hbm, ⟨62, _⟩ => ⟨S32x4, .f32⟩
  | .hbm, ⟨63, _⟩ => ⟨S32x4x1, .f32⟩
  | .hbm, ⟨64, _⟩ => ⟨S_, .f32⟩
  | .hbm, ⟨65, _⟩ => ⟨S32x4x1, .f32⟩
  | .hbm, ⟨66, _⟩ => ⟨S32x4x1, .f32⟩
  | .hbm, ⟨67, _⟩ => ⟨S_, .f32⟩
  | .hbm, ⟨68, _⟩ => ⟨S32x4x1, .f32⟩
  | .hbm, ⟨69, _⟩ => ⟨S32x4x1, .f32⟩
  | .hbm, ⟨70, _⟩ => ⟨S32x4x1, .f32⟩
  | .hbm, ⟨71, _⟩ => ⟨S32x4x1024, .f32⟩
  | .hbm, ⟨72, _⟩ => ⟨S32x4x1024, .f32⟩
  | .hbm, ⟨73, _⟩ => ⟨S1x1x1024, .f32⟩
  | .hbm, ⟨74, _⟩ => ⟨S32x4x1024, .f32⟩
  | .hbm, ⟨75, _⟩ => ⟨S32x4x1024, .f32⟩
  | .hbm, ⟨76, _⟩ => ⟨S128x1024, .f32⟩
  | _, _ => ⟨S32x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== Proof.Sb.Rules.lean ====
/-
  Loads and stores over a memref owned at contents: a load reads the rectangle's part of the contents, a store lays the
  stored values over the rectangle's part, a load or store of the whole reads or replaces the contents.
-/
module

public import Idealize.ShloMosaic.Lib.Tactic
public import Idealize.ShloMosaic.Lib.Memref
public import Idealize.ShloMosaic.Rules.Step
public import Idealize.ShloMosaic.Lib.Pipeline.ValueKit

@[expose] public section

noncomputable section

namespace Cert.Proof.Sb

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ)
variable {s : Shape} {e : EltTy} {α : Type} {Q : α → sProp (MT nD τ sig Ix Val Name U Lvl)}
variable (bd : Option 𝒱.V) (E : Set Name)

/-- What a view reads after a store through one of its rectangles: the contents before with the stored values over them. -/
theorem read_store {κ : Kind} {sp : Space} (m : Memref sig κ sp s e) (r : Rect s) (f : m.view.ty.Contents Val) (w : r.shape.Idx → Val e) :
    m.view.read Val ((m.access r).write Val f w Finset.univ) = r.overlay (m.view.read Val f) w := by
  funext y
  by_cases hy : y ∈ r.set
  · obtain ⟨x, -, rfl⟩ := Finset.mem_map.1 ((Rect.map_emb_univ r).symm ▸ hy)
    rw [Rect.overlay_emb]
    exact m.view.read_slice_write_emb (Val := Val) r f w (M := Finset.univ) (Finset.mem_univ x)
  · rw [Rect.overlay_of_not_mem r _ _ hy]
    exact m.view.read_slice_write_of_not_mem (Val := Val) r f w Finset.univ (by rw [Rect.map_emb_univ]; exact hy)

/-- A load at the head of a program whose memref is owned at `X`: it reads `X` on the rectangle. -/
theorem load_owns {cs : CoreSpace} {m : Memref sig c.2.kind cs s e} {r : Rect s} {hl : m.view.LoadsAt r.toLoadRect}
    {k : (r.shape.Idx → Val e) → Prog (TpuEff nD τ sig Val Λ c.2) α} {X : s.Idx → Val e} :
    (owns c m fullShare X : sProp (MT nD τ sig Ix Val Name U Lvl))
      ⊢ iprop((owns c m fullShare X -∗ wp frame (wpE defs 𝒱 c bd) E (k (View.ld X r)) Q)
        -∗ wp frame (wpE defs 𝒱 c bd) E (.op (.load m r.toLoadRect hl) k) Q) := by
  unfold owns
  iintro ⟨%f, %hf, H⟩ Hk
  iapply (wp_load 𝒱 c bd E (m := m) (r := r.toLoadRect) (S := m.view.set) (m.view.setOn_subset_set _)) $$ H
  iintro H
  rw [View.readAt_eq_ld, hf]
  iapply Hk
  iexists f
  isplitr
  · ipureintro; exact hf
  · iexact H

/-- A store at the head of a program whose memref is owned at `X`: it leaves the stored values over `X`. -/
theorem store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (Mk := Finset.univ) (S := m.view.set)
    (by rw [View.setOn_univ]; exact m.view.set_slice_subset r)) $$ H
  iintro H
  iapply Hk
  iexists _
  isplitr
  · ipureintro; exact (read_store m r f w).trans (by rw [hf])
  · iexact H

end

/-- Values laid over the whole are the values. -/
theorem overlay_whole {s : Shape} {α : Type} (off : Fin s.rank → ℕ) (h0 : ∀ a, off a = 0) (inb : ∀ a, off a + s.size a ≤ s.size a)
    (X : s.Idx → α) (w : s.Idx → α) : (Rect.unit (s := s) off s.size inb).overlay X w = w := by
  funext y
  have hy : (Rect.unit (s := s) off s.size inb).emb y = y := by
    funext a; apply Fin.ext
    rw [Rect.emb_apply]
    show off a + 1 * (y a).val = (y a).val
    rw [h0 a]; omega
  conv_lhs => rw [← hy]
  exact Rect.overlay_emb (Rect.unit (s := s) off s.size inb) X w y

/-- Contents read whole are the contents. -/
theorem ld_whole {s : Shape} {α : Type} (off : Fin s.rank → ℕ) (h0 : ∀ a, off a = 0) (inb : ∀ a, off a + s.size a ≤ s.size a)
    (X : s.Idx → α) : (fun x => X ((Rect.unit (s := s) off s.size inb).toLoadRect.idx x)) = X := by
  funext y
  refine congrArg X ?_
  funext a; apply Fin.ext
  rw [LoadRect.idx_apply]
  show off a + 1 * (y a).val = (y a).val
  rw [h0 a]; omega

end Cert.Proof.Sb

end
-- ==== Proof.Sb.Label.lean ====
/-
  The sweep over the key tiles, as the kernel writes it: a loop going down from a query block's own tile, its state in
  three buffers. This file names the state, what one trip does to it and what the whole loop does to it, and shows that
  the loop's label, entered with `k` tiles still to visit, ends and leaves the state after those trips — or after fewer,
  where the test on the running sums stops the loop early.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Sb.Rules
public import Idealize.ShloMosaic.Lib.Pipeline.Sound
public import Idealize.ShloMosaic.Lib.Tactic

@[expose] public section

noncomputable section

namespace Cert.Proof.SbI

open Cert.KernelIdeal Cert.KernelIdeal.Gen Cert.Proof.Sb

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR sig nD τ) ℕ

/-- The loop's variants are the naturals: the tiles still to visit. -/
abbrev 𝒱₀ : Variants := Variants.nat

/-- The loop's state: the four weighted sums of value rows, the running sums of the tiles already visited, and the
    logits of the tile about to be visited. -/
structure St (F : FTy → Type) [FloatOps F] where
  /-- the weighted sums of value rows -/
  acc : Vec F S4x128x256 .f32
  /-- the running sums -/
  carry : Vec F S8x1024 .f32
  /-- the next tile's logits -/
  z : Vec F S128x1024 .f32

/-- The tile counter with `k` tiles still to visit: the last of them. -/
def cnt (k : ℕ) : BitVec 32 := BitVec.ofNat 32 k - 1#32

/-- A tile inside the array passes the trip's check. -/
theorem chk_of_lt (k : ℕ) (hk : k < 32) : k0_chk1 (cnt (k + 1)) := by
  have h : ∀ k : Fin 32, k0_chk1 (cnt (k.val + 1)) := by decide +kernel
  exact h ⟨k, hk⟩

/-- With a tile to visit the counter is not negative; -/
theorem sge_succ (k : ℕ) (hk : k < 32) : Scalar.cmpi .sge (cnt (k + 1)) 0#32 = 1#1 := by
  have h : ∀ k : Fin 32, Scalar.cmpi .sge (cnt (k.val + 1)) 0#32 = 1#1 := by decide +kernel
  exact h ⟨k, hk⟩

/-- with none it is. -/
theorem sge_zero : Scalar.cmpi .sge (cnt 0) 0#32 = 0#1 := by decide +kernel

/-- The trip counts down. -/
theorem cnt_pred (k : ℕ) : Scalar.subi (cnt (k + 1)) 1#32 = cnt k := by
  show cnt (k + 1) - 1#32 = cnt k
  unfold cnt
  rw [BitVec.ofNat_add]
  rw [BitVec.add_sub_cancel]

section Trip

variable (i : grid0.Coords) (q0 q1 q2 q3 : FVec F S256x128 .bf16) (K : Vec F S4096x512 .bf16) (V : Vec F S1x32x512x128 .bf16)

/-- The mask of tile `j`: its keys before the query. -/
def mask (j : BitVec 32) : IVec S128x1024 1 := k0_pay23 (iota .tc S128x1024 32 [0] iota_S128x1024_d0_w32) (k0_pay7 i) j

/-- The running sums' row as a trip reads it. -/
def carryRow (s : St F) : Vec F S1x1024 .f32 :=
  View.ld (Val := Elt F) s.carry (Rect.unit (s := S8x1024) ![0, 0] S1x1024.size inb_S8x1024_S1x1024_0_0)

/-- The logits as a trip reads them. -/
def zRead (s : St F) : Vec F S128x1024 .f32 :=
  View.ld (Val := Elt F) s.z (Rect.unit (s := S128x1024) ![0, 0] S128x1024.size inb_S128x1024_S128x1024_0_0)

/-- That is: the logits. -/
theorem zRead_eq (s : St F) : zRead s = s.z := ld_whole (s := S128x1024) ![0, 0] (by decide) _ _

/-- The running sums after tile `j`, one row. -/
def newCarry (j : BitVec 32) (s : St F) : FVec F S1x1024 .f32 :=
  k0_pay29 (k0_pay6 (F := F)) (mask i j) (carryRow s) (k0_pay25 (zRead s)) (k0_pay26 (F := F))

/-- The weights of tile `j`. -/
def weights (j : BitVec 32) (s : St F) : FVec F S128x1024 .bf16 :=
  k0_pay30 (k0_pay6 (F := F)) (mask i j) (carryRow s) (k0_pay24 (zRead s)) (k0_pay25 (zRead s)) (k0_pay26 (F := F))

/-- The sums of value rows after tile `j`'s first head pair; -/
def acc1 (j : BitVec 32) (h : k0_chk1 j) (s : St F) : Vec F S4x128x256 .f32 :=
  (Rect.unit (s := S4x128x256) ![0, 0, 0] S1x128x256.size inb_S4x128x256_S1x128x256_0_0_0).overlay s.acc
    (k0_pay31 (k0_pay6 (F := F)) (mask i j) (carryRow s) (k0_pay24 (zRead s)) (k0_pay25 (zRead s)) (k0_pay26 (F := F))
      (View.ld (Val := Elt F) s.acc (Rect.unit (s := S4x128x256) ![0, 0, 0] S1x128x256.size inb_S4x128x256_S1x128x256_0_0_0))
      (View.ld (Val := Elt F) V (Rect.unit (s := S1x32x512x128) (k0_off9 j) S1x1x128x128.size (k0_off9_inb j h))))

/-- its second; -/
def acc2 (j : BitVec 32) (h : k0_chk1 j) (s : St F) : Vec F S4x128x256 .f32 :=
  (Rect.unit (s := S4x128x256) ![1, 0, 0] S1x128x256.size inb_S4x128x256_S1x128x256_1_0_0).overlay (acc1 i V j h s)
    (k0_pay33 (k0_pay32 (k0_pay6 (F := F)) (mask i j) (carryRow s) (k0_pay24 (zRead s)) (k0_pay25 (zRead s)) (k0_pay26 (F := F))
      (View.ld (Val := Elt F) (acc1 i V j h s) (Rect.unit (s := S4x128x256) ![1, 0, 0] S1x128x256.size inb_S4x128x256_S1x128x256_1_0_0))
      (View.ld (Val := Elt F) V (Rect.unit (s := S1x32x512x128) (k0_off10 j) S1x1x128x128.size (k0_off10_inb j h)))))

/-- its third; -/
def acc3 (j : BitVec 32) (h : k0_chk1 j) (s : St F) : Vec F S4x128x256 .f32 :=
  (Rect.unit (s := S4x128x256) ![2, 0, 0] S1x128x256.size inb_S4x128x256_S1x128x256_2_0_0).overlay (acc2 i V j h s)
    (k0_pay34 (weights i j s)
      (View.ld (Val := Elt F) (acc2 i V j h s) (Rect.unit (s := S4x128x256) ![2, 0, 0] S1x128x256.size inb_S4x128x256_S1x128x256_2_0_0))
      (View.ld (Val := Elt F) V (Rect.unit (s := S1x32x512x128) (k0_off11 j) S1x1x128x128.size (k0_off11_inb j h))))

/-- its fourth. -/
def acc4 (j : BitVec 32) (h : k0_chk1 j) (s : St F) : Vec F S4x128x256 .f32 :=
  (Rect.unit (s := S4x128x256) ![3, 0, 0] S1x128x256.size inb_S4x128x256_S1x128x256_3_0_0).overlay (acc3 i V j h s)
    (k0_pay35 (weights i j s)
      (View.ld (Val := Elt F) (acc3 i V j h s) (Rect.unit (s := S4x128x256) ![3, 0, 0] S1x128x256.size inb_S4x128x256_S1x128x256_3_0_0))
      (View.ld (Val := Elt F) V (Rect.unit (s := S1x32x512x128) (k0_off12 j) S1x1x128x128.size (k0_off12_inb j h))))

/-- The logits of the tile before `j` (of tile 0 again when `j` is 0). -/
def nextZ (j : BitVec 32) (h : k0_chk1 j) : FVec F S128x1024 .f32 :=
  k0_pay22 q0 q1 q2 q3
    (View.ld (Val := Elt F) K (Rect.unit (s := S4096x512) (k0_off5 j) S128x128.size (k0_off5_inb j h)))
    (View.ld (Val := Elt F) K (Rect.unit (s := S4096x512) (k0_off6 j) S128x128.size (k0_off6_inb j h)))
    (View.ld (Val := Elt F) K (Rect.unit (s := S4096x512) (k0_off7 j) S128x128.size (k0_off7_inb j h)))
    (View.ld (Val := Elt F) K (Rect.unit (s := S4096x512) (k0_off8 j) S128x128.size (k0_off8_inb j h)))

/-- One trip, at tile `j`. -/
def trip (j : BitVec 32) (h : k0_chk1 j) (s : St F) : St F :=
  ⟨acc4 i V j h s, k0_pay36 (newCarry i j s), k0_pay2 (nextZ q0 q1 q2 q3 K j h)⟩

/-- Whether the loop goes on after tile `j`. -/
def goOn (j : BitVec 32) (s : St F) : BitVec 1 :=
  Scalar.cmpf .oge (k0_pay3 (newCarry i j s)) (Named.named κ "stop" 0xC2D20000#32)

/-- The loop, with `k` tiles to visit. -/
def loop : ℕ → BitVec 1 → St F → St F
  | 0, _, s => s
  | k + 1, go, s =>
    if h : k < 32 then
      if go = 1#1 then loop k (goOn i (cnt (k + 1)) s) (trip i q0 q1 q2 q3 K V (cnt (k + 1)) (chk_of_lt k h) s) else s
    else s

end Trip

section Label

variable (c : Dev nD) (i : grid0.Coords) (q0 q1 q2 q3 : FVec F S256x128 .bf16)
  (aK : Memref sig .tc .vmem S4096x512 .bf16) (haK : aK.IsWhole) (aV : Memref sig .tc .vmem S1x32x512x128 .bf16) (haV : aV.IsWhole)
  (K : Vec F S4096x512 .bf16) (V : Vec F S1x32x512x128 .bf16)

/-- The buffers the loop works on: the state's three, the keys and the values. -/
def held (s : St F) : sProp 𝕄 :=
  iprop(owns (c : Thread nD τ) (Memref.whole cc0_scratch0) fullShare s.acc ∗ owns (c : Thread nD τ) (Memref.whole cc0_scratch1) fullShare s.carry
    ∗ owns (c : Thread nD τ) (Memref.whole cc0_scratch2) fullShare s.z ∗ owns (c : Thread nD τ) aK fullShare K ∗ owns (c : Thread nD τ) aV fullShare V)

/-- The label's specification: from the state `s` it leaves the state `s'`, whatever it returns. -/
def spec (s s' : St F) : sWPT 𝕄 (BitVec 32 × BitVec 1) := do
  sWPT.consume (held c aK aV K V s)
  let r ← sWPT.arbitrary
  sWPT.produce (held c aK aV K V s')
  pure r

theorem spec_apply (s s' : St F) (Q : BitVec 32 × BitVec 1 → sProp 𝕄) :
    spec c aK aV K V s s' Q
      = iprop(held c aK aV K V s ∗ ∀ r : BitVec 32 × BitVec 1, (held c aK aV K V s' -∗ Q r)) := rfl

/-- The label called with `k` tiles to visit. -/
abbrev call (k : ℕ) (go : BitVec 1) : Prog (TpuEff nD τ sig (Elt F) (Λ₀ F) .tc) (BitVec 32 × BitVec 1) :=
  cc0_while1 i (Memref.whole cc0_scratch2) (Memref.isWhole_whole _) aK haK q0 q1 q2 q3 (iota .tc S128x1024 32 [0] iota_S128x1024_d0_w32)
    (k0_pay7 i) (Memref.whole cc0_scratch1) (Memref.isWhole_whole _) (k0_pay6 (F := F)) (Memref.whole cc0_scratch0) (Memref.isWhole_whole _)
    aV haV (cnt k) go

set_option maxHeartbeats 4000000 in
set_option maxRecDepth 16384 in
/-- The label entered with `k` tiles to visit meets its specification at the state after them, by induction on `k`. -/
theorem spec_le (E : Set ℕ) : ∀ k, k ≤ 32 → ∀ (go : BitVec 1) (s : St F) (Q : BitVec 32 × BitVec 1 → sProp 𝕄),
    spec c aK aV K V s (loop i q0 q1 q2 q3 K V k go s) Q
      ⊢ wp frame (wpE (defs₀ (F := F)) 𝒱₀ (c : Thread nD τ) (some k)) E (call i q0 q1 q2 q3 aK haK aV haV k go) Q := by
  intro k
  induction k with
  | zero =>
    intro _ go s Q
    rw [spec_apply]
    unfold call cc0_while1
    have htest : ¬ Scalar.andi (Scalar.cmpi .sge (cnt 0) 0#32) go = 1#1 := by
      rw [sge_zero]; show ¬ (0#1 &&& go) = 1#1; rw [BitVec.zero_and]; decide
    simp only [htest, ↓reduceIte, Prog.pure_eq_ret]
    iintro ⟨H, Hk⟩
    rw [wp_ret]; imodintro
    iapply Hk
    simp only [loop]; iexact H
  | succ k ih =>
    intro hk go s Q
    have hk' : k < 32 := by omega
    rw [spec_apply]
    unfold call
    simp only [cc0_while1_eq_skeleton]; unfold cc0_while1_skel
    by_cases hgo : go = 1#1
    · subst hgo
      have htest : Scalar.andi (Scalar.cmpi .sge (cnt (k + 1)) 0#32) 1#1 = 1#1 := by rw [sge_succ k hk']; rfl
      have hloop : loop i q0 q1 q2 q3 K V (k + 1) 1#1 s
          = loop i q0 q1 q2 q3 K V k (goOn i (cnt (k + 1)) s) (trip i q0 q1 q2 q3 K V (cnt (k + 1)) (chk_of_lt k hk') s) := by
        rw [loop, dif_pos hk', if_pos rfl]
      rw [hloop]
      simp only [htest, ↓reduceIte, k0_part4_eq_skeleton, k0_part5_eq_skeleton, k0_part6_eq_skeleton]
      unfold k0_part4_skel k0_part5_skel k0_part6_skel
      simp only [Prog.lift, Prog.bind_op, Prog.bind_ret, Prog.pure_eq_ret]
      unfold held
      iintro ⟨⟨Ha, Hc, Hz, HK, HV⟩, Hk⟩
      iapply (wp_assume 𝒱₀ (c : Thread nD τ) (some (k + 1)) E (chk_of_lt k hk'))
      iapply (load_owns 𝒱₀ (c : Thread nD τ) (some (k + 1)) E) $$ Hz; iintro Hz
      iapply (load_owns 𝒱₀ (c : Thread nD τ) (some (k + 1)) E) $$ HK; iintro HK
      iapply (load_owns 𝒱₀ (c : Thread nD τ) (some (k + 1)) E) $$ HK; iintro HK
      iapply (load_owns 𝒱₀ (c : Thread nD τ) (some (k + 1)) E) $$ HK; iintro HK
      iapply (load_owns 𝒱₀ (c : Thread nD τ) (some (k + 1)) E) $$ HK; iintro HK
      iapply (load_owns 𝒱₀ (c : Thread nD τ) (some (k + 1)) E) $$ Hc; iintro Hc
      -- the four head pairs
      iapply (load_owns 𝒱₀ (c : Thread nD τ) (some (k + 1)) E) $$ Ha; iintro Ha
      iapply (load_owns 𝒱₀ (c : Thread nD τ) (some (k + 1)) E) $$ HV; iintro HV
      iapply (load_owns 𝒱₀ (c : Thread nD τ) (some (k + 1)) E) $$ Ha; iintro Ha
      iapply (store_owns 𝒱₀ (c : Thread nD τ) (some (k + 1)) E) $$ Ha; iintro Ha
      iapply (load_owns 𝒱₀ (c : Thread nD τ) (some (k + 1)) E) $$ Ha; iintro Ha
      iapply (load_owns 𝒱₀ (c : Thread nD τ) (some (k + 1)) E) $$ HV; iintro HV
      iapply (load_owns 𝒱₀ (c : Thread nD τ) (some (k + 1)) E) $$ Ha; iintro Ha
      iapply (store_owns 𝒱₀ (c : Thread nD τ) (some (k + 1)) E) $$ Ha; iintro Ha
      iapply (load_owns 𝒱₀ (c : Thread nD τ) (some (k + 1)) E) $$ Ha; iintro Ha
      iapply (load_owns 𝒱₀ (c : Thread nD τ) (some (k + 1)) E) $$ HV; iintro HV
      iapply (load_owns 𝒱₀ (c : Thread nD τ) (some (k + 1)) E) $$ Ha; iintro Ha
      iapply (store_owns 𝒱₀ (c : Thread nD τ) (some (k + 1)) E) $$ Ha; iintro Ha
      iapply (load_owns 𝒱₀ (c : Thread nD τ) (some (k + 1)) E) $$ Ha; iintro Ha
      iapply (load_owns 𝒱₀ (c : Thread nD τ) (some (k + 1)) E) $$ HV; iintro HV
      iapply (load_owns 𝒱₀ (c : Thread nD τ) (some (k + 1)) E) $$ Ha; iintro Ha
      iapply (store_owns 𝒱₀ (c : Thread nD τ) (some (k + 1)) E) $$ Ha; iintro Ha
      -- the running sums and the next logits
      iapply (load_owns 𝒱₀ (c : Thread nD τ) (some (k + 1)) E) $$ Hc; iintro Hc
      iapply (store_owns 𝒱₀ (c : Thread nD τ) (some (k + 1)) E) $$ Hc; iintro Hc
      iapply (load_owns 𝒱₀ (c : Thread nD τ) (some (k + 1)) E) $$ Hz; iintro Hz
      iapply (store_owns 𝒱₀ (c : Thread nD τ) (some (k + 1)) E) $$ Hz; iintro Hz
      rw [cnt_pred k]
      rw [overlay_whole (s := S8x1024) ![0, 0] (by decide), overlay_whole (s := S128x1024) ![0, 0] (by decide)]
      iapply (wp_call_spec 𝒱₀ (c : Thread nD τ) (some (k + 1)) E
        (spec c aK aV K V (trip i q0 q1 q2 q3 K V (cnt (k + 1)) (chk_of_lt k hk') s)
          (loop i q0 q1 q2 q3 K V k (goOn i (cnt (k + 1)) s) (trip i q0 q1 q2 q3 K V (cnt (k + 1)) (chk_of_lt k hk') s))) k
        (fun u hu => by cases hu; exact Nat.lt_succ_self k)
        (ih (by omega) (goOn i (cnt (k + 1)) s) (trip i q0 q1 q2 q3 K V (cnt (k + 1)) (chk_of_lt k hk') s)))
      rw [spec_apply]; unfold held
      isplitl [Ha Hc Hz HK HV]
      · isplitl [Ha]; · iexact Ha
        isplitl [Hc]; · iexact Hc
        isplitl [Hz]; · iexact Hz
        isplitl [HK]; · iexact HK
        iexact HV
      iintro %r ⟨Ha, Hc, Hz, HK, HV⟩
      rw [wp_ret]; imodintro
      iapply Hk
      isplitl [Ha]; · iexact Ha
      isplitl [Hc]; · iexact Hc
      isplitl [Hz]; · iexact Hz
      isplitl [HK]; · iexact HK
      iexact HV
    · have htest : ¬ Scalar.andi (Scalar.cmpi .sge (cnt (k + 1)) 0#32) go = 1#1 := by
        rw [sge_succ k hk']; show ¬ (1#1 &&& go) = 1#1
        intro h; apply hgo; revert h; revert go; decide
      simp only [htest, ↓reduceIte, Prog.pure_eq_ret]
      iintro ⟨H, Hk⟩
      rw [wp_ret]; imodintro
      iapply Hk
      rw [loop, dif_pos hk', if_neg hgo]
      iexact H

end Label

end Cert.Proof.SbI

end
-- ==== Proof.Sb.Body.lean ====
/-
  The kernel's body at one grid point: it empties the sums, computes the logits of the query block's own tile, runs the
  loop down to tile 0 and writes the four head pairs' sums to the result's four column chunks.
-/
module

public import proofs.«01_k».proof.Proof.Sb.Label

@[expose] public section

noncomputable section

namespace Cert.Proof.SbI

open Cert.KernelIdeal Cert.KernelIdeal.Gen Cert.Proof.Sb

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR sig nD τ) ℕ

section Value

variable (i : grid0.Coords) (q : Vec F S128x512 .bf16) (K : Vec F S4096x512 .bf16) (V : Vec F S1x32x512x128 .bf16)

/-- The first head pair's queries, each head's lanes kept in its own rows; -/
def q0 : FVec F S256x128 .bf16 := k0_pay9 (View.ld (Val := Elt F) q (Rect.unit (s := S128x512) ![0, 0] S128x128.size inb_S128x512_S128x128_0_0))
/-- the second's; -/
def q1 : FVec F S256x128 .bf16 := k0_pay10 (View.ld (Val := Elt F) q (Rect.unit (s := S128x512) ![0, 128] S128x128.size inb_S128x512_S128x128_0_128))
/-- the third's; -/
def q2 : FVec F S256x128 .bf16 := k0_pay11 (View.ld (Val := Elt F) q (Rect.unit (s := S128x512) ![0, 256] S128x128.size inb_S128x512_S128x128_0_256))
/-- the fourth's. -/
def q3 : FVec F S256x128 .bf16 := k0_pay12 (View.ld (Val := Elt F) q (Rect.unit (s := S128x512) ![0, 384] S128x128.size inb_S128x512_S128x128_0_384))

/-- The logits of the query block's own tile. -/
def firstZ : FVec F S128x1024 .f32 :=
  k0_pay18 (q1 q) (q2 q) (q3 q)
    (k0_pay16 (q0 q) (View.ld (Val := Elt F) K (Rect.unit (s := S4096x512) (k0_off1 i) S128x128.size (k0_off1_inb i))))
    (k0_pay17 (View.ld (Val := Elt F) K (Rect.unit (s := S4096x512) (k0_off2 i) S128x128.size (k0_off2_inb i))))
    (View.ld (Val := Elt F) K (Rect.unit (s := S4096x512) (k0_off3 i) S128x128.size (k0_off3_inb i)))
    (View.ld (Val := Elt F) K (Rect.unit (s := S4096x512) (k0_off4 i) S128x128.size (k0_off4_inb i)))

/-- The state the loop starts in. -/
def start : St F := ⟨k0_pay14 (k0_pay13 (F := F)), k0_pay15 (F := F), firstZ i q K⟩

/-- The state it ends in. -/
def final : St F := loop i (q0 q) (q1 q) (q2 q) (q3 q) K V ((i 1).val + 1) 1#1 (start i q K)

/-- The sums' four parts written over the result's four column chunks. -/
def writeOut (X : Vec F S128x512 .f32) (a : Vec F S4x128x256 .f32) : Vec F S128x512 .f32 :=
  (Rect.unit (s := S128x512) ![0, 384] S128x128.size inb_S128x512_S128x128_0_384).overlay
    ((Rect.unit (s := S128x512) ![0, 256] S128x128.size inb_S128x512_S128x128_0_256).overlay
      ((Rect.unit (s := S128x512) ![0, 128] S128x128.size inb_S128x512_S128x128_0_128).overlay
        ((Rect.unit (s := S128x512) ![0, 0] S128x128.size inb_S128x512_S128x128_0_0).overlay X
          (k0_pay19 k0_pay8 (View.ld (Val := Elt F) a (Rect.unit (s := S4x128x256) ![0, 0, 0] S1x128x256.size inb_S4x128x256_S1x128x256_0_0_0))))
        (k0_pay20 k0_pay8 (View.ld (Val := Elt F) a (Rect.unit (s := S4x128x256) ![1, 0, 0] S1x128x256.size inb_S4x128x256_S1x128x256_1_0_0))))
      (k0_pay21 k0_pay8 (View.ld (Val := Elt F) a (Rect.unit (s := S4x128x256) ![2, 0, 0] S1x128x256.size inb_S4x128x256_S1x128x256_2_0_0))))
    (k0_pay1 k0_pay8 (View.ld (Val := Elt F) a (Rect.unit (s := S4x128x256) ![3, 0, 0] S1x128x256.size inb_S4x128x256_S1x128x256_3_0_0)))

/-- The result block. -/
def outBlock : Vec F S128x512 .f32 := writeOut (constant S128x512 .f32 0x00000000#32) (final i q K V).acc

end Value

/-- An element of the column chunk at `o` is the chunk's at its column less `o`. -/
theorem mem_chunk (o : ℕ) (inb : ∀ a, (![0, o] : Fin 2 → ℕ) a + S128x128.size a ≤ S128x512.size a) (y : S128x512.Idx)
    (h : o ≤ (y 1).val ∧ (y 1).val < o + 128) :
    ∃ x : S128x128.Idx, (Rect.unit (s := S128x512) ![0, o] S128x128.size inb).emb x = y := by
  refine ⟨fun a => match a with
    | ⟨0, _⟩ => ⟨(y 0).val, (y 0).isLt⟩
    | ⟨1, _⟩ => ⟨(y 1).val - o, by show (y 1).val - o < 128; omega⟩, ?_⟩
  funext a
  apply Fin.ext
  rw [Rect.emb_apply]
  match a with
  | ⟨0, _⟩ => show 0 + 1 * (y 0).val = (y 0).val; omega
  | ⟨1, _⟩ => show o + 1 * ((y 1).val - o) = (y 1).val; omega

theorem not_mem_chunk (o : ℕ) (inb : ∀ a, (![0, o] : Fin 2 → ℕ) a + S128x128.size a ≤ S128x512.size a) (y : S128x512.Idx)
    (h : ¬ (o ≤ (y 1).val ∧ (y 1).val < o + 128)) : y ∉ (Rect.unit (s := S128x512) ![0, o] S128x128.size inb).set := by
  intro hy
  obtain ⟨x, -, rfl⟩ := Finset.mem_map.1 ((Rect.map_emb_univ (Rect.unit (s := S128x512) ![0, o] S128x128.size inb)).symm ▸ hy)
  apply h
  have e : (((Rect.unit (s := S128x512) ![0, o] S128x128.size inb).emb x) 1).val = o + 1 * (x 1).val := Rect.emb_apply _ _ _
  have hx : (x 1).val < 128 := (x 1).isLt
  rw [e]; omega

/-- The four chunks are the whole result: nothing of what was there before is left. -/
theorem writeOut_base (X X' : Vec F S128x512 .f32) (a : Vec F S4x128x256 .f32) : writeOut X a = writeOut X' a := by
  funext y
  have hy : (y 1).val < 512 := (y 1).isLt
  unfold writeOut
  by_cases h3 : 384 ≤ (y 1).val ∧ (y 1).val < 384 + 128
  · obtain ⟨x, rfl⟩ := mem_chunk 384 inb_S128x512_S128x128_0_384 y h3
    rw [Rect.overlay_emb, Rect.overlay_emb]
  rw [Rect.overlay_of_not_mem _ _ _ (not_mem_chunk 384 inb_S128x512_S128x128_0_384 y h3), Rect.overlay_of_not_mem _ _ _ (not_mem_chunk 384 inb_S128x512_S128x128_0_384 y h3)]
  by_cases h2 : 256 ≤ (y 1).val ∧ (y 1).val < 256 + 128
  · obtain ⟨x, rfl⟩ := mem_chunk 256 inb_S128x512_S128x128_0_256 y h2
    rw [Rect.overlay_emb, Rect.overlay_emb]
  rw [Rect.overlay_of_not_mem _ _ _ (not_mem_chunk 256 inb_S128x512_S128x128_0_256 y h2), Rect.overlay_of_not_mem _ _ _ (not_mem_chunk 256 inb_S128x512_S128x128_0_256 y h2)]
  by_cases h1 : 128 ≤ (y 1).val ∧ (y 1).val < 128 + 128
  · obtain ⟨x, rfl⟩ := mem_chunk 128 inb_S128x512_S128x128_0_128 y h1
    rw [Rect.overlay_emb, Rect.overlay_emb]
  rw [Rect.overlay_of_not_mem _ _ _ (not_mem_chunk 128 inb_S128x512_S128x128_0_128 y h1), Rect.overlay_of_not_mem _ _ _ (not_mem_chunk 128 inb_S128x512_S128x128_0_128 y h1)]
  obtain ⟨x, rfl⟩ := mem_chunk 0 inb_S128x512_S128x128_0_0 y (by omega)
  rw [Rect.overlay_emb, Rect.overlay_emb]

/-- The first tile's counter, as the kernel computes it from the grid coordinate. -/
def firstWord (w : BitVec 32) : BitVec 32 :=
  Scalar.subi (Scalar.select (Scalar.andi (Scalar.cmpi .ne (Scalar.subi (Scalar.extui (Scalar.cmpi .sgt (Scalar.addi (Scalar.muli w 128#32) 128#32) 0#32)) (Scalar.extui (Scalar.cmpi .slt (Scalar.addi (Scalar.muli w 128#32) 128#32) 0#32))) (Scalar.subi (Scalar.extui (Scalar.cmpi .sgt 128#32 0#32)) (Scalar.extui (Scalar.cmpi .slt 128#32 0#32)))) (Scalar.cmpi .ne (Scalar.remsi (Scalar.addi (Scalar.muli w 128#32) 128#32) 128#32) 0#32)) (Scalar.subi (Scalar.divsi (Scalar.addi (Scalar.muli w 128#32) 128#32) 128#32) 1#32) (Scalar.divsi (Scalar.addi (Scalar.muli w 128#32) 128#32) 128#32)) 1#32

/-- It is the query block's own tile. -/
theorem firstWord_eq (n : ℕ) (hn : n < 32) : firstWord (BitVec.ofNat 32 n) = cnt (n + 1) := by
  have h : ∀ n : Fin 32, firstWord (BitVec.ofNat 32 n.val) = cnt (n.val + 1) := by decide +kernel
  exact h ⟨n, hn⟩

section Body

variable (c : Dev nD) (i : grid0.Coords)
  (aq : Memref sig .tc .vmem S128x512 .bf16) (haq : aq.IsWhole) (aK : Memref sig .tc .vmem S4096x512 .bf16) (haK : aK.IsWhole)
  (aV : Memref sig .tc .vmem S1x32x512x128 .bf16) (haV : aV.IsWhole) (ao : Memref sig .tc .vmem S128x512 .f32) (hao : ao.IsWhole)
  (q : Vec F S128x512 .bf16) (K : Vec F S4096x512 .bf16) (V : Vec F S1x32x512x128 .bf16) (X : Vec F S128x512 .f32) (s : St F)

/-- The body's buffers: the state's three, the keys, the values, the queries and the result. -/
def bodyHeld (s : St F) (X : Vec F S128x512 .f32) : sProp 𝕄 :=
  iprop(held c aK aV K V s ∗ owns (c : Thread nD τ) aq fullShare q ∗ owns (c : Thread nD τ) ao fullShare X)

set_option maxHeartbeats 4000000 in
set_option maxRecDepth 16384 in
/-- The body, from any state and any result, leaves the loop's final state and the result block. -/
theorem body_wp (Q : PUnit → sProp 𝕄) :
    iprop(bodyHeld c aq aK aV ao q K V s X ∗ (bodyHeld c aq aK aV ao q K V (final i q K V) (outBlock i q K V) -∗ Q ⟨⟩))
      ⊢ wp frame (wpE (defs₀ (F := F)) 𝒱₀ (c : Thread nD τ) none) Set.univ
          (cc0_sb_prompt i aq haq aK haK aV haV ao hao (Memref.whole cc0_scratch0) (Memref.isWhole_whole _)
            (Memref.whole cc0_scratch1) (Memref.isWhole_whole _) (Memref.whole cc0_scratch2) (Memref.isWhole_whole _)) Q := by
  have hi : (i 1).val < 32 := (i 1).isLt
  simp only [cc0_sb_prompt_eq_skeleton]; unfold cc0_sb_prompt_skel
  simp only [k0_part1_eq_skeleton, k0_part2_eq_skeleton, k0_part3_eq_skeleton]
  unfold k0_part1_skel k0_part2_skel k0_part3_skel
  simp only [Prog.lift, Prog.bind_op, Prog.bind_ret, Prog.pure_eq_ret]
  have hw := firstWord_eq (i 1).val hi
  unfold firstWord at hw
  rw [hw]
  unfold bodyHeld held
  iintro ⟨⟨⟨Ha, Hc, Hz, HK, HV⟩, Hq, Ho⟩, Hk⟩
  -- the queries
  iapply (load_owns 𝒱₀ (c : Thread nD τ) none Set.univ) $$ Hq; iintro Hq
  iapply (load_owns 𝒱₀ (c : Thread nD τ) none Set.univ) $$ Hq; iintro Hq
  iapply (load_owns 𝒱₀ (c : Thread nD τ) none Set.univ) $$ Hq; iintro Hq
  iapply (load_owns 𝒱₀ (c : Thread nD τ) none Set.univ) $$ Hq; iintro Hq
  -- the sums emptied
  iapply (load_owns 𝒱₀ (c : Thread nD τ) none Set.univ) $$ Ha; iintro Ha
  iapply (store_owns 𝒱₀ (c : Thread nD τ) none Set.univ) $$ Ha; iintro Ha
  iapply (load_owns 𝒱₀ (c : Thread nD τ) none Set.univ) $$ Hc; iintro Hc
  iapply (store_owns 𝒱₀ (c : Thread nD τ) none Set.univ) $$ Hc; iintro Hc
  -- the own tile's logits
  iapply (load_owns 𝒱₀ (c : Thread nD τ) none Set.univ) $$ HK; iintro HK
  iapply (load_owns 𝒱₀ (c : Thread nD τ) none Set.univ) $$ HK; iintro HK
  iapply (load_owns 𝒱₀ (c : Thread nD τ) none Set.univ) $$ HK; iintro HK
  iapply (load_owns 𝒱₀ (c : Thread nD τ) none Set.univ) $$ HK; iintro HK
  iapply (load_owns 𝒱₀ (c : Thread nD τ) none Set.univ) $$ Hz; iintro Hz
  iapply (store_owns 𝒱₀ (c : Thread nD τ) none Set.univ) $$ Hz; iintro Hz
  rw [overlay_whole (s := S4x128x256) ![0, 0, 0] (by decide), overlay_whole (s := S8x1024) ![0, 0] (by decide),
    overlay_whole (s := S128x1024) ![0, 0] (by decide)]
  -- the loop
  iapply (wp_call_spec 𝒱₀ (c : Thread nD τ) none Set.univ
    (spec c aK aV K V (start i q K) (final i q K V)) ((i 1).val + 1)
    (fun u hu => nomatch hu)
    (spec_le c i (q0 q) (q1 q) (q2 q) (q3 q) aK haK aV haV K V Set.univ ((i 1).val + 1) (by omega) 1#1 (start i q K)))
  rw [spec_apply]; unfold held
  isplitl [Ha Hc Hz HK HV]
  · isplitl [Ha]; · iexact Ha
    isplitl [Hc]; · iexact Hc
    isplitl [Hz]; · iexact Hz
    isplitl [HK]; · iexact HK
    iexact HV
  iintro %r ⟨Ha, Hc, Hz, HK, HV⟩
  -- the result's four chunks
  iapply (load_owns 𝒱₀ (c : Thread nD τ) none Set.univ) $$ Ha; iintro Ha
  iapply (load_owns 𝒱₀ (c : Thread nD τ) none Set.univ) $$ Ho; iintro Ho
  iapply (store_owns 𝒱₀ (c : Thread nD τ) none Set.univ) $$ Ho; iintro Ho
  iapply (load_owns 𝒱₀ (c : Thread nD τ) none Set.univ) $$ Ha; iintro Ha
  iapply (load_owns 𝒱₀ (c : Thread nD τ) none Set.univ) $$ Ho; iintro Ho
  iapply (store_owns 𝒱₀ (c : Thread nD τ) none Set.univ) $$ Ho; iintro Ho
  iapply (load_owns 𝒱₀ (c : Thread nD τ) none Set.univ) $$ Ha; iintro Ha
  iapply (load_owns 𝒱₀ (c : Thread nD τ) none Set.univ) $$ Ho; iintro Ho
  iapply (store_owns 𝒱₀ (c : Thread nD τ) none Set.univ) $$ Ho; iintro Ho
  iapply (load_owns 𝒱₀ (c : Thread nD τ) none Set.univ) $$ Ha; iintro Ha
  iapply (load_owns 𝒱₀ (c : Thread nD τ) none Set.univ) $$ Ho; iintro Ho
  iapply (store_owns 𝒱₀ (c : Thread nD τ) none Set.univ) $$ Ho; iintro Ho
  rw [wp_ret]; imodintro
  iapply Hk
  isplitl [Ha Hc Hz HK HV]
  · isplitl [Ha]; · iexact Ha
    isplitl [Hc]; · iexact Hc
    isplitl [Hz]; · iexact Hz
    isplitl [HK]; · iexact HK
    iexact HV
  isplitl [Hq]; · iexact Hq
  unfold outBlock
  rw [writeOut_base _ X]
  iexact Ho

end Body

end Cert.Proof.SbI

end
-- ==== Proof.Sb.Run.lean ====
/-
  The kernel's run: the host operations, then the grid of 4 × 32 points, each of them the body on its blocks. Every
  execution ends, the arguments unchanged, every counter at zero, and the result's array holds at each point's block what
  the body wrote there.
-/
module

public import proofs.«01_k».proof.Proof.Sb.Body
public import Idealize.ShloMosaic.Lib.Pipeline.Frame
public import Idealize.ShloMosaic.Lib.Pipeline.FrameBody
public import Idealize.ShloMosaic.Lib.Pipeline.ValueKit
public import Idealize.ShloMosaic.Adequacy
public import Idealize.ShloMosaic.Init

@[expose] public section

noncomputable section

namespace Cert.Proof.SbI

open Cert.KernelIdeal Cert.KernelIdeal.Gen Cert.Proof.Sb

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### @main up to the grid -/

/-- What the host operations leave in a buffer. -/
abbrev atEntry (c : Dev nD) (b : Ref sig .tc) : Buf (Elt F) ((c : Thread nD τ).loc b) := StableHlo.after hostOps0 (fun b => m (c, b)) b

/-- They allocate nothing. -/
theorem hostOps0_fresh : (hostOps0 : List (HloOp τ sig (Elt F))).Forall fun op => op.fresh = ∅ :=
  ⟨rfl, rfl, rfl, rfl, rfl, rfl, rfl, rfl, rfl, rfl, rfl, rfl, rfl, rfl⟩

set_option maxHeartbeats 4000000 in
/-- @main up to the grid: the host operations, then the grid. -/
theorem hmain : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- No host operation writes the queries, -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
/-- nor the keys and values. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-! ### The grid -/

/-- Window `w`'s block at a point. -/
def blockAt (c : Dev nD) (w : Fin 4) (t : Fin (cfg0 (F := F)).N) :
    (((cfg0 (F := F)).win w).xblock ((cfg0 (F := F)).grid.coords t)).Idx → Elt F ((cfg0 (F := F)).win w).elt :=
  (((cfg0 (F := F)).win w).blk t).view.read (Elt F) (atEntry m c (Pipeline.arrRef spec0 w))

/-- The grid's data: the arrays as the host operations leave them, each input's buffer at its block after the body and
    the result's at the block the body computes. -/
def dats (_ : Fin 1) (c : Dev nD) : Dat τ (Elt F) Unit ℕ (UR sig nD τ) ℕ (cfg0 (F := F)) c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => outBlock (grid0.coords t) (blockAt m c 0 t) (blockAt m c 1 t) (blockAt m c 2 t)
  Φ _ := Pipeline.ΦA spec0 c
  q _ := fullShare
  owed _ := 0

theorem after_0 (c : Dev nD) (t : Fin (cfg0 (F := F)).N) : (dats m 0 c).after 0 t = blockAt m c 0 t := rfl
theorem after_1 (c : Dev nD) (t : Fin (cfg0 (F := F)).N) : (dats m 0 c).after 1 t = blockAt m c 1 t := rfl
theorem after_2 (c : Dev nD) (t : Fin (cfg0 (F := F)).N) : (dats m 0 c).after 2 t = blockAt m c 2 t := rfl
theorem after_3 (c : Dev nD) (t : Fin (cfg0 (F := F)).N) : (dats m 0 c).after 3 t
    = outBlock (grid0.coords t) (blockAt m c 0 t) (blockAt m c 1 t) (blockAt m c 2 t) := rfl

/-- An input's buffer holds its block at every point, fetched there or not. -/
theorem before_0 (c : Dev nD) (t : Fin (cfg0 (F := F)).N) (d) : (dats m 0 c).before 0 t d = blockAt m c 0 t :=
  ((dats m 0 c).before_in_eq_fetched 0 rfl (fun _ => rfl) (fun _ _ _ => rfl) (fun t => by rw [after_0]; rfl) t d).trans rfl
theorem before_1 (c : Dev nD) (t : Fin (cfg0 (F := F)).N) (d) : (dats m 0 c).before 1 t d = blockAt m c 1 t :=
  ((dats m 0 c).before_in_eq_fetched 1 rfl (fun _ => rfl) (fun _ _ _ => rfl) (fun t => by rw [after_1]; rfl) t d).trans rfl
theorem before_2 (c : Dev nD) (t : Fin (cfg0 (F := F)).N) (d) : (dats m 0 c).before 2 t d = blockAt m c 2 t :=
  ((dats m 0 c).before_in_eq_fetched 2 rfl (fun _ => rfl) (fun _ _ _ => rfl) (fun t => by rw [after_2]; rfl) t d).trans rfl

/-- What the body is called with at a point, -/
def pre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def post (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin (cfg0 (F := F)).N) :
    pre m c t ⊢ wp frame (wpE (defs₀ (F := F)) 𝒱₀ (c : Thread nD τ) none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = iprop(Pipeline.scopedRest (Ix := Unit) (Name := ℕ) (U := UR sig nD τ) (Lvl := ℕ) (Val := Elt F) spec0 c ∗ ∃ r, prngReg c r) from rfl,
    scopedRest0_eq]
  iintro ⟨⟨⟨⟨%fa, Ha⟩, ⟨%fc, Hc⟩, %fz, Hz⟩, HR⟩, Ho, ⟨%d0, H0⟩, ⟨%d1, H1⟩, ⟨%d2, H2⟩, %d3, H3⟩
  iapply (body_wp c (grid0.coords t) _ _ _ _ _ _ _ _ (blockAt m c 0 t) (blockAt m c 1 t) (blockAt m c 2 t) _ (⟨fa, fc, fz⟩ : St F) _)
  unfold bodyHeld held
  simp only [owns_whole]
  isplitl [Ha Hc Hz H0 H1 H2 H3]
  · isplitl [Ha Hc Hz H1 H2]
    · isplitl [Ha]; · iexact Ha
      isplitl [Hc]; · iexact Hc
      isplitl [Hz]; · iexact Hz
      isplitl [H1]; · iexact H1
      iexact H2
    isplitl [H0]; · iexact H0
    iexact H3
  iintro ⟨⟨Ha, Hc, Hz, H1, H2⟩, H0, H3⟩
  isplitl [Ha Hc Hz HR]
  · isplitl [Ha Hc Hz]
    · isplitl [Ha]; · iexists _; iexact Ha
      isplitl [Hc]; · iexists _; iexact Hc
      iexists _; iexact Hz
    iexact HR
  isplitl [Ho]; · iexact Ho
  isplitl [H0]; · iexact H0
  isplitl [H1]; · iexact H1
  isplitl [H2]; · iexact H2
  iexact H3

/-- The body's table at a point is the body on the point's buffers. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option maxHeartbeats 4000000 in
/-- THE RUN: every execution ends; the arrays then hold what the grid's data say, every other buffer what the host
    operations left in it, and every counter is zero. -/
theorem run_main : θ_run defs (onTc (τ := τ) (main (F := F))) ⟨m, fun _ => 0, ρ⟩
    (fun r => Pipeline.FramePost cfgs (dats m) 0 (atEntry m) r ∧ r.2.sem = fun _ => 0) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := atEntry m) (hmain := hmain m) (hA := fun _ _ => rfl) (hΦ := fun _ _ => rfl)
    (Q' := fun r => Pipeline.FramePost cfgs (dats m) 0 (atEntry m) r ∧ r.2.sem = fun _ => 0) (hQ' := fun _ h => h)

/-- The arguments end as they began and every counter is zero. -/
theorem args_kept {r : PUnit × MemSt nD τ sig (Elt F)} (h : Pipeline.FramePost cfgs (dats m) 0 (atEntry m) r) (c : Dev nD) :
    r.2.mem ((c : Thread nD τ).loc main_arg0) = m ((c : Thread nD τ).loc main_arg0)
      ∧ r.2.mem ((c : Thread nD τ).loc main_arg1) = m ((c : Thread nD τ).loc main_arg1) :=
  ⟨((h c).2 main_arg0 (Pipeline.mem_restRefs_of main_arg0 (by decide) (by decide : ∀ w : Fin 4, (spec0 w).arr.view.ref ≠ main_arg0))).trans (atEntry_arg0 m c),
    ((h c).2 main_arg1 (Pipeline.mem_restRefs_of main_arg1 (by decide) (by decide : ∀ w : Fin 4, (spec0 w).arr.view.ref ≠ main_arg1))).trans (atEntry_arg1 m c)⟩

end Cert.Proof.SbI

end
-- ==== Proof.Sb.Frames.lean ====
/-
  The frames of the three programs, and the rewrite between the kernel and its ideal text.
-/
module

public import proofs.«01_k».proof.Defs
public import proofs.«01_k».proof.Proof.Sb.Run
public import proofs.«01_k».proof.Proof.SbBits.Run
public import proofs.«01_k».proof.Proof.Gen.ReferenceIdeal
public import proofs.«01_k».proof.Proof.Gen.ReferenceIdeal.Run

@[expose] public section

noncomputable section

namespace Cert.Proof.Sb

open Idealize.ShloMosaic Idealize.ShloMosaic.TcCoe Idealize.SL.Sem

/-- The kernel ends, its arguments unchanged and every counter at zero. -/
theorem frame_kernel : Cert.quiescent_Kernel := fun m g _ =>
  (θ_run Cert.Kernel.defs _ _).mono (fun _ h => ⟨SbBits.args_kept m h.1, h.2⟩) (SbBits.run_main m g)

/-- So does its ideal text, -/
theorem frame_kernelIdeal : Cert.quiescent_KernelIdeal := fun m g _ =>
  (θ_run Cert.KernelIdeal.defs _ _).mono (fun _ h => ⟨SbI.args_kept m h.1, h.2⟩) (SbI.run_main m g)

/-- and the reference. -/
theorem frame_referenceIdeal : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The one constant the ideal text names. -/
theorem preserves : Cert.preserves_Kernel_KernelIdeal := IdealRules.named_const.statement _ _ _ _ _ rfl

end Cert.Proof.Sb

end
-- ==== Proof.Sb.Sums.lean ====
/-
  Stick-breaking weights over the real numbers. `f s` is the logit of key `s` for one query at position `t`; the keys
  before `t` share a stick: a key takes the fraction `σ (f s)` of what the keys after it have left.
-/
module

public import Mathlib.Analysis.SpecialFunctions.Log.Basic
public import Mathlib.Data.EReal.Operations
public import Idealize.ShloMosaic.PureOps.Ideal

@[expose] public section

noncomputable section

namespace Cert.Proof.Sb

open Idealize.ShloMosaic

/-- The logarithm of the fraction a key takes, -/
def logBeta (z : ℝ) : ℝ := min z 0 - Real.log (1 + Real.exp (-|z|))

/-- and of the fraction it leaves. -/
def logRest (z : ℝ) : ℝ := logBeta z - z

/-- What key `s` leaves, where it comes before the query. -/
def rest (f : ℕ → ℝ) (t s : ℕ) : ℝ := if s < t then logRest (f s) else 0

/-- What the keys from `m` on leave. -/
def tail (f : ℕ → ℝ) (t m : ℕ) : ℝ := ∑ s ∈ Finset.Ico m 4096, rest f t s

/-- The weight of key `s`. -/
def weight (f : ℕ → ℝ) (t s : ℕ) : ℝ := if s < t then Real.exp (logBeta (f s) + tail f t (s + 1)) else 0

/-- The keys from a query on leave nothing used, -/
theorem tail_of_le (f : ℕ → ℝ) (t m : ℕ) (h : t ≤ m) : tail f t m = 0 :=
  Finset.sum_eq_zero fun s hs => if_neg (by have := (Finset.mem_Ico.1 hs).1; omega)

/-- and take nothing. -/
theorem weight_of_le (f : ℕ → ℝ) (t s : ℕ) (h : t ≤ s) : weight f t s = 0 := if_neg (by omega)

/-- A sum over a tile's keys past `a`, as a sum over the tile. -/
theorem sum_past (g : ℕ → ℝ) (m a : ℕ) :
    (∑ x : Fin 128, if a < x.val then g (m + x.val) else 0) = ∑ s ∈ Finset.Ico (m + (a + 1)) (m + 128), g s := by
  rw [Fin.sum_univ_eq_sum_range (fun x => if a < x then g (m + x) else 0) 128, ← Finset.sum_filter]
  have e : (Finset.range 128).filter (fun x => a < x) = Finset.Ico (a + 1) 128 := by ext x; simp; omega
  rw [e, Finset.sum_Ico_add g (a + 1) 128 m, Nat.add_comm (a + 1) m, Nat.add_comm 128 m]

/-- What the keys past the `a`-th of tile `k` leave: the tile's, then the later tiles'. -/
theorem tail_in_tile (f : ℕ → ℝ) (t k a : ℕ) (hk : k < 32) (ha : a < 128) :
    (∑ x : Fin 128, if a < x.val then rest f t (128 * k + x.val) else 0) + tail f t (128 * (k + 1)) = tail f t (128 * k + a + 1) := by
  rw [sum_past]
  unfold tail
  rw [show 128 * (k + 1) = 128 * k + 128 by ring, show 128 * k + (a + 1) = 128 * k + a + 1 by ring]
  exact Finset.sum_Ico_consecutive _ (by omega) (by omega)

/-- What the keys from a tile's first on leave. -/
theorem tail_tile (f : ℕ → ℝ) (t k : ℕ) (hk : k < 32) :
    tail f t (128 * k) = rest f t (128 * k) + tail f t (128 * k + 1) := by
  unfold tail
  exact Finset.sum_eq_sum_Ico_succ_bot (by omega) _

/-- A sum over the keys from tile `k` on: that tile's, then the later tiles'. -/
theorem sum_tile (g : ℕ → EReal) (k : ℕ) (hk : k < 32) :
    (∑ s ∈ Finset.Ico (128 * (k + 1)) 4096, g s) + ∑ x : Fin 128, g (128 * k + x.val) = ∑ s ∈ Finset.Ico (128 * k) 4096, g s := by
  rw [← Finset.sum_Ico_consecutive g (show 128 * k ≤ 128 * (k + 1) by omega) (by omega : 128 * (k + 1) ≤ 4096), add_comm]
  congr 1
  rw [Fin.sum_univ_eq_sum_range (fun x => g (128 * k + x)) 128, Finset.sum_Ico_eq_sum_range]
  congr 2
  omega

/-- A sum of real numbers read as extended ones. -/
theorem coe_sum {ι : Type} (S : Finset ι) (g : ι → ℝ) : ((∑ i ∈ S, g i : ℝ) : EReal) = ∑ i ∈ S, (g i : EReal) := by
  classical
  induction S using Finset.induction_on with
  | empty => simp
  | insert a s ha ih => rw [Finset.sum_insert ha, Finset.sum_insert ha, EReal.coe_add, ih]

/-- The logarithm of the fraction taken, computed on extended real numbers. -/
theorem logBeta_coe (z : ℝ) :
    min (z : EReal) 0 - Ideal.log (1 + Ideal.exp (0 - max (z : EReal) (-z))) = (logBeta z : EReal) := by
  have hm : ∀ a b : ℝ, ((min a b : ℝ) : EReal) = min (a : EReal) b := fun a b => EReal.coe_strictMono.monotone.map_min
  have hM : ∀ a b : ℝ, ((max a b : ℝ) : EReal) = max (a : EReal) b := fun a b => EReal.coe_strictMono.monotone.map_max
  rw [← EReal.coe_neg, ← hM, ← abs_eq_max_neg]
  have h : (0 : ℝ) < 1 + Real.exp (-|z|) := by positivity
  rw [← EReal.coe_zero, ← EReal.coe_sub, Ideal.exp_coe, ← EReal.coe_one, ← EReal.coe_add, Ideal.log_coe, if_neg (by rw [zero_sub]; exact not_le.2 h),
    ← hm, ← EReal.coe_sub, zero_sub]
  rfl

end Cert.Proof.Sb

end
-- ==== Proof.Sb.Sweep.lean ====
/-
  The sweep's arithmetic over the extended real numbers, for queries and keys that are real numbers: with the tiles from
  `k` on visited, the running sums hold what those tiles' keys leave and the sums of value rows hold those keys' weighted
  values. Column `c` of the four head pairs side by side is head `c / 128` at the block's query `c % 128`.
-/
module

public import proofs.«01_k».proof.Proof.Sb.Body
public import proofs.«01_k».proof.Proof.Sb.Sums
public import Idealize.ShloMosaic.Lib.Pointwise
public import Idealize.ShloMosaic.Lib.WordCmp
public import Idealize.ShloMosaic.PureOps.IdealRules

@[expose] public section

set_option maxRecDepth 16384

noncomputable section

namespace Cert.Proof.SbI

open Cert.KernelIdeal Cert.KernelIdeal.Gen Cert.Proof.Sb
open Idealize.ShloMosaic Idealize.ShloMosaic.Pointwise Idealize.ShloMosaic.WordCmp

/-! ### The trip's operations at an index -/

theorem cnt_succ (k : ℕ) : cnt (k + 1) = BitVec.ofNat 32 k := by
  unfold cnt; rw [BitVec.ofNat_add, BitVec.add_sub_cancel]

/-- The mask keeps a tile's keys before the query. -/
theorem mask_apply (i : grid0.Coords) (k : ℕ) (hk : k < 32) (x : Fin 128) (c : Fin 1024) :
    mask i (cnt (k + 1)) (ix2 x c) = BitVec.ofBool (decide (128 * k + x.val < 128 * (i 1).val + c.val % 128)) := by
  have hi : (i 1).val < 32 := (i 1).isLt
  have hx := x.isLt
  have hc := c.isLt
  rw [cnt_succ]
  pointwise [mask, k0_pay23, k0_pay7]
  have e1 : IntOp.addi (Scalar.muli (BitVec.ofNat 32 k) 128#32) (BitVec.ofNat 32 x.val) = BitVec.ofNat 32 (128 * k + x.val) := by
    show BitVec.ofNat 32 k * 128#32 + BitVec.ofNat 32 x.val = _
    rw [BitVec.ofNat_add, BitVec.ofNat_mul, BitVec.mul_comm]
  have e2 : IntOp.andi (BitVec.ofNat 32 c.val) 127#32 = BitVec.ofNat 32 (c.val % 128) := by
    apply BitVec.eq_of_toNat_eq
    show (BitVec.ofNat 32 c.val &&& 127#32).toNat = _
    rw [BitVec.toNat_and, BitVec.toNat_ofNat, BitVec.toNat_ofNat, BitVec.toNat_ofNat, Nat.mod_eq_of_lt (show c.val < 2 ^ 32 by omega),
      Nat.mod_eq_of_lt (show 127 < 2 ^ 32 by omega), Nat.mod_eq_of_lt (show c.val % 128 < 2 ^ 32 by omega)]
    exact Nat.and_two_pow_sub_one_eq_mod c.val 7
  have e3 : IntOp.addi (Scalar.muli (BitVec.ofNat 32 (i 1).val) 128#32) (BitVec.ofNat 32 (c.val % 128))
      = BitVec.ofNat 32 (128 * (i 1).val + c.val % 128) := by
    show BitVec.ofNat 32 (i 1).val * 128#32 + BitVec.ofNat 32 (c.val % 128) = _
    rw [BitVec.ofNat_add, BitVec.ofNat_mul, BitVec.mul_comm]
  rw [e1, e2, e3]
  exact cmpi_slt_ofNat (by omega) (by omega)

/-- The matrix of ones above the diagonal. -/
theorem above_apply (a x : Fin 128) : k0_pay6 (F := Ideal) (ix2 a x) = if a.val < x.val then 1 else 0 := by
  have ha := a.isLt
  have hx := x.isLt
  pointwise [k0_pay6]
  rw [cmpi_sgt_ofNat (by omega) (by omega)]
  exact select_decide _ _ _

section Column

variable (i : grid0.Coords) (f : ℕ → ℕ → ℝ)

/-- The position of column `c`'s query. -/
abbrev pos (c : ℕ) : ℕ := 128 * (i 1).val + c % 128

variable {f} (k : ℕ) (hk : k < 32) (s : St Ideal)
  (hz : ∀ (x : Fin 128) (c : Fin 1024), s.z (ix2 x c) = (f c.val (128 * k + x.val) : EReal))
  (hc : ∀ (a : Fin 8) (c : Fin 1024), s.carry (ix2 a c) = (tail (f c.val) (pos i c.val) (128 * (k + 1)) : EReal))

include hz in
theorem logBeta_apply (x : Fin 128) (c : Fin 1024) : k0_pay24 (zRead s) (ix2 x c) = (logBeta (f c.val (128 * k + x.val)) : EReal) := by
  rw [zRead_eq]
  pointwise [k0_pay24]
  rw [hz]
  exact logBeta_coe _

include hz in
theorem logRest_apply (x : Fin 128) (c : Fin 1024) : k0_pay25 (zRead s) (ix2 x c) = (logRest (f c.val (128 * k + x.val)) : EReal) := by
  have h : k0_pay25 (F := Ideal) (zRead s) (ix2 x c) = k0_pay24 (zRead s) (ix2 x c) - zRead s (ix2 x c) := by
    pointwise [k0_pay25]
  rw [h, logBeta_apply k s hz, zRead_eq, hz, ← EReal.coe_sub]
  rfl

include hk hz in
theorem rest_apply (x : Fin 128) (c : Fin 1024) :
    k0_pay27 (mask i (cnt (k + 1))) (k0_pay25 (zRead s)) (k0_pay26 (F := Ideal)) (ix2 x c)
      = (rest (f c.val) (pos i c.val) (128 * k + x.val) : EReal) := by
  pointwise [k0_pay27, k0_pay26]
  rw [mask_apply i k hk, select_decide, logRest_apply k s hz]
  unfold rest
  split <;> rfl

include hk hz in
/-- The sums over a tile's later keys. -/
theorem later_apply (a : Fin 128) (c : Fin 1024) :
    k0_pay28 (k0_pay6 (F := Ideal)) (mask i (cnt (k + 1))) (k0_pay25 (zRead s)) (k0_pay26 (F := Ideal)) (ix2 a c)
      = ((∑ x : Fin 128, if a.val < x.val then rest (f c.val) (pos i c.val) (128 * k + x.val) else 0 : ℝ) : EReal) := by
  pointwise [k0_pay28]
  have e1 : ∀ x : Fin 128, k0_pay6 (F := Ideal) (ix2 a x)
        * k0_pay27 (mask i (cnt (k + 1))) (k0_pay25 (zRead s)) (k0_pay26 (F := Ideal)) (ix2 x c)
      = ((if a.val < x.val then rest (f c.val) (pos i c.val) (128 * k + x.val) else 0 : ℝ) : EReal) := by
    intro x
    rw [rest_apply i k hk s hz, above_apply]
    split <;> simp
  have e2 : ∀ x : Fin 128, k0_pay6 (F := Ideal) (ix2 a x)
        * (k0_pay27 (mask i (cnt (k + 1))) (k0_pay25 (zRead s)) (k0_pay26 (F := Ideal)) (ix2 x c)
          - k0_pay27 (mask i (cnt (k + 1))) (k0_pay25 (zRead s)) (k0_pay26 (F := Ideal)) (ix2 x c)) = 0 := by
    intro x
    rw [rest_apply i k hk s hz, ← EReal.coe_sub, sub_self, EReal.coe_zero, mul_zero]
  rw [Finset.sum_congr rfl fun x _ => e1 x, Finset.sum_congr rfl fun x _ => e2 x, Finset.sum_const_zero, add_zero, coe_sum]

include hk hz hc in
/-- The running sums after the tile. -/
theorem newCarry_apply (c : Fin 1024) :
    newCarry i (cnt (k + 1)) s (ix2 (0 : Fin 1) c) = (tail (f c.val) (pos i c.val) (128 * k) : EReal) := by
  pointwise [newCarry, k0_pay29, carryRow]
  rw [later_apply i k hk s hz, rest_apply i k hk s hz, hc, ← EReal.coe_add, ← EReal.coe_add, tail_tile _ _ k hk]
  congr 1
  have h := tail_in_tile (f c.val) (pos i c.val) k 0 hk (by omega)
  rw [← show 128 * k + 0 + 1 = 128 * k + 1 by omega, ← h]
  simp only [Fin.val_zero]
  ring_nf

include hk hz hc in
/-- The tile's weights. -/
theorem weights_apply (a : Fin 128) (c : Fin 1024) :
    weights i (cnt (k + 1)) s (ix2 a c) = (weight (f c.val) (pos i c.val) (128 * k + a.val) : EReal) := by
  pointwise [weights, k0_pay30, carryRow]
  rw [mask_apply i k hk, select_decide, later_apply i k hk s hz, logBeta_apply k s hz, hc, ← EReal.coe_add, ← EReal.coe_add,
    add_assoc, tail_in_tile _ _ k a.val hk a.isLt, Ideal.exp_coe]
  unfold weight
  split <;> rfl

end Column

/-! ### Where a trip reads -/

/-- The offsets of the value reads and of the next tile's key reads, at tile `k`. -/
theorem offs (k : ℕ) (hk : k < 32) :
    (k0_off9 (cnt (k + 1)) = ![0, k, 0, 0] ∧ k0_off10 (cnt (k + 1)) = ![0, k, 128, 0]
      ∧ k0_off11 (cnt (k + 1)) = ![0, k, 256, 0] ∧ k0_off12 (cnt (k + 1)) = ![0, k, 384, 0])
    ∧ (k0_off5 (cnt (k + 1)) = ![128 * (k - 1), 0] ∧ k0_off6 (cnt (k + 1)) = ![128 * (k - 1), 128]
      ∧ k0_off7 (cnt (k + 1)) = ![128 * (k - 1), 256] ∧ k0_off8 (cnt (k + 1)) = ![128 * (k - 1), 384]) := by
  have h : ∀ k : Fin 32, (k0_off9 (cnt (k.val + 1)) = ![0, k.val, 0, 0] ∧ k0_off10 (cnt (k.val + 1)) = ![0, k.val, 128, 0]
      ∧ k0_off11 (cnt (k.val + 1)) = ![0, k.val, 256, 0] ∧ k0_off12 (cnt (k.val + 1)) = ![0, k.val, 384, 0])
    ∧ (k0_off5 (cnt (k.val + 1)) = ![128 * (k.val - 1), 0] ∧ k0_off6 (cnt (k.val + 1)) = ![128 * (k.val - 1), 128]
      ∧ k0_off7 (cnt (k.val + 1)) = ![128 * (k.val - 1), 256] ∧ k0_off8 (cnt (k.val + 1)) = ![128 * (k.val - 1), 384]) := by
    decide +kernel
  exact h ⟨k, hk⟩

/-- Value `e` of key `s`, the keys in tiles of 128. -/
def valAt (V : Vec Ideal S1x32x512x128 .bf16) (s e : ℕ) : EReal :=
  if h : s < 4096 ∧ e < 512 then V (ix4 (0 : Fin 1) (⟨s / 128, by omega⟩ : Fin 32) (⟨e, h.2⟩ : Fin 512) (⟨s % 128, by omega⟩ : Fin 128)) else 0

/-- A read of tile `k`'s value rows from `o` on. -/
theorem ld_value (V : Vec Ideal S1x32x512x128 .bf16) (k o : ℕ) (hk : k < 32) (ho : o + 128 ≤ 512) (off : Fin 4 → ℕ) (he : off = ![0, k, o, 0])
    (inb : ∀ a, off a + S1x1x128x128.size a ≤ S1x32x512x128.size a) (a x : Fin 128) :
    View.ld (Val := Elt Ideal) V (Rect.unit (s := S1x32x512x128) off S1x1x128x128.size inb) (ix4 (0 : Fin 1) (0 : Fin 1) a x)
      = valAt V (128 * k + x.val) (o + a.val) := by
  subst he
  have ha := a.isLt
  have hx := x.isLt
  unfold valAt
  rw [dif_pos ⟨by omega, by omega⟩]
  show V ((Rect.unit (s := S1x32x512x128) ![0, k, o, 0] S1x1x128x128.size inb).toLoadRect.idx (ix4 (0 : Fin 1) (0 : Fin 1) a x)) = _
  refine congrArg V ?_
  funext b; apply Fin.ext
  rw [LoadRect.idx_apply]
  fin_cases b
  · rfl
  · show k + 1 * 0 = (128 * k + x.val) / 128; omega
  · show o + 1 * a.val = o + a.val; omega
  · show 0 + 1 * x.val = (128 * k + x.val) % 128; omega

/-- A read of one slot of the sums of value rows. -/
theorem ld_slot (X : Vec Ideal S4x128x256 .f32) (p : ℕ) (hp : p < 4) (inb : ∀ a, (![p, 0, 0] : Fin 3 → ℕ) a + S1x128x256.size a ≤ S4x128x256.size a)
    (a : Fin 128) (c : Fin 256) :
    View.ld (Val := Elt Ideal) X (Rect.unit (s := S4x128x256) ![p, 0, 0] S1x128x256.size inb) (ix3 (0 : Fin 1) a c) = X (ix3 (⟨p, hp⟩ : Fin 4) a c) := by
  show X ((Rect.unit (s := S4x128x256) ![p, 0, 0] S1x128x256.size inb).toLoadRect.idx (ix3 (0 : Fin 1) a c)) = _
  refine congrArg X ?_
  funext b; apply Fin.ext
  rw [LoadRect.idx_apply]
  fin_cases b
  · show p + 1 * 0 = p; omega
  · show 0 + 1 * a.val = a.val; omega
  · show 0 + 1 * c.val = c.val; omega

/-- A write of one slot, read back: that slot's new contents, -/
theorem slot_new (X : Vec Ideal S4x128x256 .f32) (p : ℕ) (hp : p < 4) (inb : ∀ a, (![p, 0, 0] : Fin 3 → ℕ) a + S1x128x256.size a ≤ S4x128x256.size a)
    (w : Vec Ideal S1x128x256 .f32) (a : Fin 128) (c : Fin 256) :
    (Rect.unit (s := S4x128x256) ![p, 0, 0] S1x128x256.size inb).overlay X w (ix3 (⟨p, hp⟩ : Fin 4) a c) = w (ix3 (0 : Fin 1) a c) := by
  have e : ix3 (⟨p, hp⟩ : Fin 4) a c = (Rect.unit (s := S4x128x256) ![p, 0, 0] S1x128x256.size inb).emb (ix3 (0 : Fin 1) a c) := by
    funext b; apply Fin.ext
    rw [Rect.emb_apply]
    fin_cases b
    · show p = p + 1 * 0; omega
    · show a.val = 0 + 1 * a.val; omega
    · show c.val = 0 + 1 * c.val; omega
  rw [e, Rect.overlay_emb]

/-- every other slot's old. -/
theorem slot_old (X : Vec Ideal S4x128x256 .f32) (p : ℕ) (inb : ∀ a, (![p, 0, 0] : Fin 3 → ℕ) a + S1x128x256.size a ≤ S4x128x256.size a)
    (w : Vec Ideal S1x128x256 .f32) (p' : Fin 4) (hne : p'.val ≠ p) (a : Fin 128) (c : Fin 256) :
    (Rect.unit (s := S4x128x256) ![p, 0, 0] S1x128x256.size inb).overlay X w (ix3 p' a c) = X (ix3 p' a c) := by
  refine Rect.overlay_of_not_mem _ _ _ fun hy => ?_
  obtain ⟨x, -, hx⟩ := Finset.mem_map.1 ((Rect.map_emb_univ (Rect.unit (s := S4x128x256) ![p, 0, 0] S1x128x256.size inb)).symm ▸ hy)
  have e : (((Rect.unit (s := S4x128x256) ![p, 0, 0] S1x128x256.size inb).emb x) 0).val = p + 1 * (x 0).val := Rect.emb_apply _ _ _
  rw [hx] at e
  have h0 : (x 0).val < 1 := (x 0).isLt
  have : p'.val = p + 1 * (x 0).val := e
  omega

/-! ### The sums of value rows after a trip -/

section Add

variable (B : FVec Ideal S128x128 .bf16) (M : IVec S128x1024 1) (r : Vec Ideal S1x1024 .f32) (l b z : FVec Ideal S128x1024 .f32)
  (W : FVec Ideal S128x1024 .bf16) (A : Vec Ideal S1x128x256 .f32) (U : Vec Ideal S1x1x128x128 .bf16) (a : Fin 128) (c : Fin 256)

theorem add0_apply : k0_pay31 B M r l b z A U (ix3 (0 : Fin 1) a c)
    = A (ix3 (0 : Fin 1) a c) + ∑ x : Fin 128, U (ix4 (0 : Fin 1) (0 : Fin 1) a x) * k0_pay30 B M r l b z (ix2 x (⟨256 * 0 + c.val, by omega⟩ : Fin 1024)) := by
  pointwise [k0_pay31]

theorem add1_apply : k0_pay33 (k0_pay32 B M r l b z A U) (ix3 (0 : Fin 1) a c)
    = A (ix3 (0 : Fin 1) a c) + ∑ x : Fin 128, U (ix4 (0 : Fin 1) (0 : Fin 1) a x) * k0_pay30 B M r l b z (ix2 x (⟨256 * 1 + c.val, by omega⟩ : Fin 1024)) := by
  pointwise [k0_pay33, k0_pay32]

theorem add2_apply : k0_pay34 W A U (ix3 (0 : Fin 1) a c)
    = A (ix3 (0 : Fin 1) a c) + ∑ x : Fin 128, U (ix4 (0 : Fin 1) (0 : Fin 1) a x) * W (ix2 x (⟨256 * 2 + c.val, by omega⟩ : Fin 1024)) := by
  pointwise [k0_pay34]

theorem add3_apply : k0_pay35 W A U (ix3 (0 : Fin 1) a c)
    = A (ix3 (0 : Fin 1) a c) + ∑ x : Fin 128, U (ix4 (0 : Fin 1) (0 : Fin 1) a x) * W (ix2 x (⟨256 * 3 + c.val, by omega⟩ : Fin 1024)) := by
  pointwise [k0_pay35]

end Add

section Acc

variable (i : grid0.Coords) (V : Vec Ideal S1x32x512x128 .bf16) (k : ℕ) (hk : k < 32) (h : k0_chk1 (cnt (k + 1))) (s : St Ideal)

/-- A sum with its tile's weighted values. -/
def gain (p : Fin 4) (a : Fin 128) (c : Fin 256) : EReal :=
  s.acc (ix3 p a c) + ∑ x : Fin 128, valAt V (128 * k + x.val) (128 * p.val + a.val)
    * weights i (cnt (k + 1)) s (ix2 x (⟨256 * p.val + c.val, by omega⟩ : Fin 1024))

include hk

theorem acc1_apply (p : Fin 4) (a : Fin 128) (c : Fin 256) :
    acc1 i V (cnt (k + 1)) h s (ix3 p a c) = if p.val < 1 then gain i V k s p a c else s.acc (ix3 p a c) := by
  unfold acc1
  by_cases hp : p = 0
  · subst hp
    refine (slot_new _ 0 (by decide) _ _ _ _).trans ((add0_apply _ _ _ _ _ _ _ _ a c).trans ?_)
    rw [if_pos (by decide), ld_slot _ 0 (by decide)]
    exact congrArg₂ (· + ·) rfl (Finset.sum_congr rfl fun x _ => congrArg₂ (· * ·) (ld_value V k 0 hk (by omega) _ (offs k hk).1.1 _ a x) rfl)
  · have h0 : p.val ≠ 0 := fun e => hp (Fin.ext e)
    rw [slot_old _ _ _ _ _ h0, if_neg (by omega)]

theorem acc2_apply (p : Fin 4) (a : Fin 128) (c : Fin 256) :
    acc2 i V (cnt (k + 1)) h s (ix3 p a c) = if p.val < 2 then gain i V k s p a c else s.acc (ix3 p a c) := by
  unfold acc2
  by_cases hp : p = 1
  · subst hp
    refine (slot_new _ 1 (by decide) _ _ _ _).trans ((add1_apply _ _ _ _ _ _ _ _ a c).trans ?_)
    rw [if_pos (by decide), ld_slot _ 1 (by decide), acc1_apply i V k hk, if_neg (by decide)]
    exact congrArg₂ (· + ·) rfl (Finset.sum_congr rfl fun x _ => congrArg₂ (· * ·) (ld_value V k 128 hk (by omega) _ (offs k hk).1.2.1 _ a x) rfl)
  · have h0 : p.val ≠ 1 := fun e => hp (Fin.ext e)
    rw [slot_old _ _ _ _ _ h0, acc1_apply i V k hk]
    exact if_congr (by omega) rfl rfl

theorem acc3_apply (p : Fin 4) (a : Fin 128) (c : Fin 256) :
    acc3 i V (cnt (k + 1)) h s (ix3 p a c) = if p.val < 3 then gain i V k s p a c else s.acc (ix3 p a c) := by
  unfold acc3
  by_cases hp : p = 2
  · subst hp
    refine (slot_new _ 2 (by decide) _ _ _ _).trans ((add2_apply _ _ _ a c).trans ?_)
    rw [if_pos (by decide), ld_slot _ 2 (by decide), acc2_apply i V k hk, if_neg (by decide)]
    exact congrArg₂ (· + ·) rfl (Finset.sum_congr rfl fun x _ => congrArg₂ (· * ·) (ld_value V k 256 hk (by omega) _ (offs k hk).1.2.2.1 _ a x) rfl)
  · have h0 : p.val ≠ 2 := fun e => hp (Fin.ext e)
    rw [slot_old _ _ _ _ _ h0, acc2_apply i V k hk]
    exact if_congr (by omega) rfl rfl

/-- Each sum gains its tile's weighted values. -/
theorem acc_apply (p : Fin 4) (a : Fin 128) (c : Fin 256) : acc4 i V (cnt (k + 1)) h s (ix3 p a c) = gain i V k s p a c := by
  unfold acc4
  by_cases hp : p = 3
  · subst hp
    refine (slot_new _ 3 (by decide) _ _ _ _).trans ((add3_apply _ _ _ a c).trans ?_)
    rw [ld_slot _ 3 (by decide), acc3_apply i V k hk, if_neg (by decide)]
    exact congrArg₂ (· + ·) rfl (Finset.sum_congr rfl fun x _ => congrArg₂ (· * ·) (ld_value V k 384 hk (by omega) _ (offs k hk).1.2.2.2 _ a x) rfl)
  · have h0 : p.val ≠ 3 := fun e => hp (Fin.ext e)
    rw [slot_old _ _ _ _ _ h0, acc3_apply i V k hk]
    exact if_pos (by omega)

end Acc

end Cert.Proof.SbI

end
-- ==== Proof.Sb.Block.lean ====
/-
  What the body computes from real queries and keys and any values: the loop keeps its invariant down to tile 0, and the
  result block holds, for each of its queries and each head, the stick-breaking sum of that head's values.
-/
module

public import proofs.«01_k».proof.Proof.Sb.Sweep

@[expose] public section

set_option maxRecDepth 16384

noncomputable section

namespace Cert.Proof.SbI

open Cert.KernelIdeal Cert.KernelIdeal.Gen Cert.Proof.Sb
open Idealize.ShloMosaic Idealize.ShloMosaic.Pointwise Idealize.ShloMosaic.WordCmp

/-! ### The logits -/

/-- The logit of key `s` in column `c`: head `c / 128` of query `c % 128` against the key's. -/
def logit (qr kr : ℕ → ℕ → ℝ) (c s : ℕ) : ℝ :=
  ∑ d ∈ Finset.range 64, kr s (64 * (c / 128) + d) * qr (c % 128) (64 * (c / 128) + d)

/-- A sum over the lanes of one half of a pair. -/
theorem sum_half (g : ℕ → ℝ) (h : ℕ) (hh : h < 2) :
    (∑ x : Fin 128, if h = x.val / 64 then g x.val else 0) = ∑ d ∈ Finset.range 64, g (64 * h + d) := by
  rw [Fin.sum_univ_eq_sum_range (fun x => if h = x / 64 then g x else 0) 128, ← Finset.sum_filter]
  have e : (Finset.range 128).filter (fun x => h = x / 64) = Finset.Ico (64 * h) (64 * h + 64) := by ext x; simp; omega
  rw [e, Finset.sum_Ico_eq_sum_range]
  congr 2
  omega

section Pair

variable (Q : Vec Ideal S128x128 .bf16) (y : Fin 256) (x : Fin 128)

/-- A pair's queries, stacked: the upper half its first head's lanes, the lower its second's. -/
def stacked : EReal := if y.val / 128 = x.val / 64 then Q (ix2 (⟨y.val % 128, by omega⟩ : Fin 128) x) else 0

theorem stacked_eq :
    (if h : y.val < 128 then Scalar.select (IntOp.cmpi CmpIPredicate.slt (BitVec.ofNat 32 x.val) 64#32) (Q (ix2 (⟨y.val, h⟩ : Fin 128) x)) 0
      else Scalar.select (IntOp.cmpi CmpIPredicate.slt (BitVec.ofNat 32 x.val) 64#32) 0 (Q (ix2 (⟨y.val - 128, by omega⟩ : Fin 128) x)))
      = stacked Q y x := by
  have hx := x.isLt
  have hy := y.isLt
  have e : IntOp.cmpi CmpIPredicate.slt (BitVec.ofNat 32 x.val) 64#32 = BitVec.ofBool (decide (x.val < 64)) :=
    cmpi_slt_ofNat (a := x.val) (b := 64) (by omega) (by omega)
  rw [e]
  unfold stacked
  split
  · rename_i h
    rw [select_decide]
    by_cases hl : x.val < 64
    · rw [if_pos hl, if_pos (by omega)]
      exact congrArg Q (congrArg (ix2 · x) (Fin.ext (by show y.val = y.val % 128; omega)))
    · rw [if_neg hl, if_neg (by omega)]
  · rename_i h
    rw [select_decide]
    by_cases hl : x.val < 64
    · rw [if_pos hl, if_neg (by omega)]
    · rw [if_neg hl, if_pos (by omega)]
      exact congrArg Q (congrArg (ix2 · x) (Fin.ext (by show y.val - 128 = y.val % 128; omega)))

theorem pair0_apply : k0_pay9 Q (ix2 y x) = stacked Q y x := by
  rw [← stacked_eq]; pointwise [k0_pay9, k0_pay4, k0_pay5]
theorem pair1_apply : k0_pay10 Q (ix2 y x) = stacked Q y x := by
  rw [← stacked_eq]; pointwise [k0_pay10, k0_pay4, k0_pay5]
theorem pair2_apply : k0_pay11 Q (ix2 y x) = stacked Q y x := by
  rw [← stacked_eq]; pointwise [k0_pay11, k0_pay4, k0_pay5]
theorem pair3_apply : k0_pay12 Q (ix2 y x) = stacked Q y x := by
  rw [← stacked_eq]; pointwise [k0_pay12, k0_pay4, k0_pay5]

end Pair

/-- A key's dot product with a pair's stacked queries. -/
theorem dot_pair (qr kr : ℕ → ℕ → ℝ) (p s : ℕ) (hp : p < 4) (y : Fin 256) (C Q : Fin 128 → EReal)
    (hC : ∀ x : Fin 128, C x = (kr s (128 * p + x.val) : EReal))
    (hQ : ∀ x : Fin 128, Q x = if y.val / 128 = x.val / 64 then (qr (y.val % 128) (128 * p + x.val) : EReal) else 0) :
    ∑ x : Fin 128, C x * Q x = (logit qr kr (256 * p + y.val) s : EReal) := by
  have hy := y.isLt
  have e : ∀ x : Fin 128, C x * Q x
      = ((if y.val / 128 = x.val / 64 then kr s (128 * p + x.val) * qr (y.val % 128) (128 * p + x.val) else 0 : ℝ) : EReal) := by
    intro x
    rw [hC, hQ]
    split
    · rw [EReal.coe_mul]
    · rw [mul_zero, EReal.coe_zero]
  rw [Finset.sum_congr rfl fun x _ => e x, ← coe_sum, sum_half (fun x => kr s (128 * p + x) * qr (y.val % 128) (128 * p + x)) _ (by omega)]
  unfold logit
  rw [show (256 * p + y.val) / 128 = 2 * p + y.val / 128 by omega, show (256 * p + y.val) % 128 = y.val % 128 by omega]
  congr 1
  refine Finset.sum_congr rfl fun d _ => ?_
  rw [show 128 * p + (64 * (y.val / 128) + d) = 64 * (2 * p + y.val / 128) + d by ring]

section Logits

variable (q : Vec Ideal S128x512 .bf16) (K : Vec Ideal S4096x512 .bf16) (qr kr : ℕ → ℕ → ℝ)
  (hq : ∀ (r : Fin 128) (e : Fin 512), q (ix2 r e) = (qr r.val e.val : EReal))
  (hK : ∀ (s : Fin 4096) (e : Fin 512), K (ix2 s e) = (kr s.val e.val : EReal))

include hq in
/-- A chunk of the queries. -/
theorem ld_query (o : ℕ) (ho : o + 128 ≤ 512) (inb : ∀ a, (![0, o] : Fin 2 → ℕ) a + S128x128.size a ≤ S128x512.size a) (r x : Fin 128) :
    View.ld (Val := Elt Ideal) q (Rect.unit (s := S128x512) ![0, o] S128x128.size inb) (ix2 r x) = (qr r.val (o + x.val) : EReal) := by
  refine Eq.trans ?_ (hq r ⟨o + x.val, by omega⟩)
  show q ((Rect.unit (s := S128x512) ![0, o] S128x128.size inb).toLoadRect.idx (ix2 r x)) = _
  refine congrArg q ?_
  funext b; apply Fin.ext
  rw [LoadRect.idx_apply]
  fin_cases b
  · show 0 + 1 * r.val = r.val; omega
  · show o + 1 * x.val = o + x.val; omega

include hK in
/-- A chunk of tile `m`'s keys. -/
theorem ld_key (m o : ℕ) (hm : m < 32) (ho : o + 128 ≤ 512) (off : Fin 2 → ℕ) (he : off = ![128 * m, o])
    (inb : ∀ a, off a + S128x128.size a ≤ S4096x512.size a) (a x : Fin 128) :
    View.ld (Val := Elt Ideal) K (Rect.unit (s := S4096x512) off S128x128.size inb) (ix2 a x) = (kr (128 * m + a.val) (o + x.val) : EReal) := by
  subst he
  refine Eq.trans ?_ (hK ⟨128 * m + a.val, by omega⟩ ⟨o + x.val, by omega⟩)
  show K ((Rect.unit (s := S4096x512) ![128 * m, o] S128x128.size inb).toLoadRect.idx (ix2 a x)) = _
  refine congrArg K ?_
  funext b; apply Fin.ext
  rw [LoadRect.idx_apply]
  fin_cases b
  · show 128 * m + 1 * a.val = 128 * m + a.val; omega
  · show o + 1 * x.val = o + x.val; omega

/-- The four pairs' dot products side by side. -/
def beside (g : Fin 4 → Fin 128 → Fin 256 → EReal) (x : Fin 128) (c : Fin 1024) : EReal :=
  g (⟨c.val / 256, by omega⟩ : Fin 4) x (⟨c.val % 256, by omega⟩ : Fin 256)

theorem beside_eq (g : Fin 4 → Fin 128 → Fin 256 → EReal) (x : Fin 128) (c : Fin 1024) :
    (if h : c.val < 256 then g 0 x ⟨c.val, h⟩
      else if h1 : c.val - 256 < 256 then g 1 x ⟨c.val - 256, h1⟩
      else if h2 : c.val - 256 - 256 < 256 then g 2 x ⟨c.val - 256 - 256, h2⟩
      else g 3 x ⟨c.val - 256 - 256 - 256, by omega⟩) = beside g x c := by
  have hc := c.isLt
  unfold beside
  split
  · exact congrArg₂ (g · x ·) (Fin.ext (by show 0 = c.val / 256; omega)) (Fin.ext (by show c.val = c.val % 256; omega))
  · split
    · exact congrArg₂ (g · x ·) (Fin.ext (by show 1 = c.val / 256; omega)) (Fin.ext (by show c.val - 256 = c.val % 256; omega))
    · split
      · exact congrArg₂ (g · x ·) (Fin.ext (by show 2 = c.val / 256; omega)) (Fin.ext (by show c.val - 256 - 256 = c.val % 256; omega))
      · exact congrArg₂ (g · x ·) (Fin.ext (by show 3 = c.val / 256; omega)) (Fin.ext (by show c.val - 256 - 256 - 256 = c.val % 256; omega))

/-- The pairs' dot products. -/
def dots (C : Fin 4 → Vec Ideal S128x128 .bf16) (P : Fin 4 → FVec Ideal S256x128 .bf16) (p : Fin 4) (a : Fin 128) (y : Fin 256) : EReal :=
  ∑ x : Fin 128, C p (ix2 a x) * P p (ix2 y x)

theorem tile_apply (P : Fin 4 → FVec Ideal S256x128 .bf16) (C : Fin 4 → Vec Ideal S128x128 .bf16) (x : Fin 128) (c : Fin 1024) :
    k0_pay2 (k0_pay22 (P 0) (P 1) (P 2) (P 3) (C 0) (C 1) (C 2) (C 3)) (ix2 x c) = beside (dots C P) x c := by
  rw [← beside_eq]
  pointwise [k0_pay2, k0_pay22]
  rfl

theorem firstTile_apply (P : Fin 4 → FVec Ideal S256x128 .bf16) (C : Fin 4 → Vec Ideal S128x128 .bf16) (x : Fin 128) (c : Fin 1024) :
    k0_pay18 (P 1) (P 2) (P 3) (k0_pay16 (P 0) (C 0)) (k0_pay17 (C 1)) (C 2) (C 3) (ix2 x c) = beside (dots C P) x c := by
  rw [← beside_eq]
  pointwise [k0_pay18, k0_pay17, k0_pay16]
  rfl

include hq in
/-- A pair's stacked queries. -/
theorem pairs_apply (p : Fin 4) (y : Fin 256) (x : Fin 128) :
    (![q0 q, q1 q, q2 q, q3 q] : Fin 4 → FVec Ideal S256x128 .bf16) p (ix2 y x)
      = if y.val / 128 = x.val / 64 then (qr (y.val % 128) (128 * p.val + x.val) : EReal) else 0 := by
  fin_cases p
  · refine (pair0_apply _ y x).trans ?_
    unfold stacked; rw [ld_query q qr hq 0 (by omega)]; rfl
  · refine (pair1_apply _ y x).trans ?_
    unfold stacked; rw [ld_query q qr hq 128 (by omega)]; rfl
  · refine (pair2_apply _ y x).trans ?_
    unfold stacked; rw [ld_query q qr hq 256 (by omega)]; rfl
  · refine (pair3_apply _ y x).trans ?_
    unfold stacked; rw [ld_query q qr hq 384 (by omega)]; rfl

include hq in
/-- The dot products with tile `m`'s keys are its logits. -/
theorem beside_apply (C : Fin 4 → Vec Ideal S128x128 .bf16) (m : ℕ)
    (hC : ∀ (p : Fin 4) (a x : Fin 128), C p (ix2 a x) = (kr (128 * m + a.val) (128 * p.val + x.val) : EReal)) (a : Fin 128) (c : Fin 1024) :
    beside (dots C ![q0 q, q1 q, q2 q, q3 q]) a c = (logit qr kr c.val (128 * m + a.val) : EReal) := by
  have hc := c.isLt
  unfold beside dots
  refine (dot_pair qr kr (c.val / 256) (128 * m + a.val) (by omega) ⟨c.val % 256, by omega⟩ _ _ (fun x => hC _ a x)
    (fun x => pairs_apply q qr hq _ _ x)).trans ?_
  show (logit qr kr (256 * (c.val / 256) + c.val % 256) _ : EReal) = _
  rw [show 256 * (c.val / 256) + c.val % 256 = c.val by omega]

include hq hK in
/-- The logits the next trip reads. -/
theorem nextZ_apply (k : ℕ) (hk : k < 32) (h : k0_chk1 (cnt (k + 1))) (a : Fin 128) (c : Fin 1024) :
    k0_pay2 (nextZ (q0 q) (q1 q) (q2 q) (q3 q) K (cnt (k + 1)) h) (ix2 a c) = (logit qr kr c.val (128 * (k - 1) + a.val) : EReal) := by
  obtain ⟨-, o5, o6, o7, o8⟩ := offs k hk
  refine (tile_apply ![q0 q, q1 q, q2 q, q3 q] ![_, _, _, _] a c).trans (beside_apply q qr kr hq _ (k - 1) ?_ a c)
  intro p a x
  fin_cases p
  · exact ld_key K kr hK (k - 1) 0 (by omega) (by omega) _ o5 _ a x
  · exact ld_key K kr hK (k - 1) 128 (by omega) (by omega) _ o6 _ a x
  · exact ld_key K kr hK (k - 1) 256 (by omega) (by omega) _ o7 _ a x
  · exact ld_key K kr hK (k - 1) 384 (by omega) (by omega) _ o8 _ a x

include hq hK in
/-- The logits the first trip reads. -/
theorem firstZ_apply (i : grid0.Coords) (a : Fin 128) (c : Fin 1024) :
    firstZ i q K (ix2 a c) = (logit qr kr c.val (128 * (i 1).val + a.val) : EReal) := by
  have hi : (i 1).val < 32 := (i 1).isLt
  refine (firstTile_apply ![q0 q, q1 q, q2 q, q3 q] ![_, _, _, _] a c).trans (beside_apply q qr kr hq _ (i 1).val ?_ a c)
  intro p a x
  fin_cases p
  · exact ld_key K kr hK (i 1).val 0 hi (by omega) _ (k0_off1_eq i) _ a x
  · exact ld_key K kr hK (i 1).val 128 hi (by omega) _ (k0_off2_eq i) _ a x
  · exact ld_key K kr hK (i 1).val 256 hi (by omega) _ (k0_off3_eq i) _ a x
  · exact ld_key K kr hK (i 1).val 384 hi (by omega) _ (k0_off4_eq i) _ a x

/-! ### The loop -/

variable (V : Vec Ideal S1x32x512x128 .bf16) (i : grid0.Coords)

/-- The weighted values of the keys from `m` on, for column `c` and value `e`. -/
def total (m c e : ℕ) : EReal :=
  ∑ s ∈ Finset.Ico m 4096, valAt V s e * (weight (logit qr kr c) (pos i c) s : EReal)

/-- The state with the tiles from `k` on visited: the logits of the tile before, what the visited keys leave, and their
    weighted values. -/
structure Inv (k : ℕ) (s : St Ideal) : Prop where
  z : 0 < k → ∀ (x : Fin 128) (c : Fin 1024), s.z (ix2 x c) = (logit qr kr c.val (128 * (k - 1) + x.val) : EReal)
  carry : ∀ (a : Fin 8) (c : Fin 1024), s.carry (ix2 a c) = (tail (logit qr kr c.val) (pos i c.val) (128 * k) : EReal)
  acc : ∀ (p : Fin 4) (a : Fin 128) (c : Fin 256), s.acc (ix3 p a c) = total qr kr V i (128 * k) (256 * p.val + c.val) (128 * p.val + a.val)

include hq hK in
/-- It holds at the start, no tile visited: the keys past the block's own tile count for nothing. -/
theorem inv_start : Inv qr kr V i ((i 1).val + 1) (start i q K) where
  z _ x c := firstZ_apply q K qr kr hq hK i x c
  carry a c := by
    rw [tail_of_le _ _ _ (by unfold pos; omega)]
    show k0_pay15 (F := Ideal) (ix2 a c) = _
    pointwise [k0_pay15]
    rfl
  acc p a c := by
    show k0_pay14 (F := Ideal) k0_pay13 (ix3 p a c) = _
    pointwise [k0_pay14, k0_pay13]
    refine (Finset.sum_eq_zero fun s hs => ?_).symm
    rw [weight_of_le _ _ _ (by have := (Finset.mem_Ico.1 hs).1; unfold pos; omega), EReal.coe_zero, mul_zero]

include hq hK in
/-- A trip visits a tile. -/
theorem inv_trip (k : ℕ) (hk : k < 32) (h : k0_chk1 (cnt (k + 1))) (s : St Ideal) (hs : Inv qr kr V i (k + 1) s) :
    Inv qr kr V i k (trip i (q0 q) (q1 q) (q2 q) (q3 q) K V (cnt (k + 1)) h s) where
  z _ x c := nextZ_apply q K qr kr hq hK k hk h x c
  carry a c := by
    show k0_pay36 (newCarry i (cnt (k + 1)) s) (ix2 a c) = _
    pointwise [k0_pay36]
    exact newCarry_apply i k hk s (fun x c => hs.z (by omega) x c) hs.carry c
  acc p a c := by
    refine (acc_apply i V k hk h s p a c).trans ?_
    unfold gain
    rw [hs.acc]
    unfold total
    rw [← sum_tile _ k hk]
    refine congrArg₂ (· + ·) rfl (Finset.sum_congr rfl fun x _ => congrArg₂ (· * ·) rfl ?_)
    exact weights_apply i k hk s (fun x c => hs.z (by omega) x c) hs.carry x ⟨256 * p.val + c.val, by omega⟩

/-- With the stopping value at minus infinity the loop goes on. -/
theorem goOn_eq (j : BitVec 32) (s : St Ideal) : goOn i j s = 1#1 := by
  unfold goOn
  rw [IdealRules.named_const.ideal_named_scalar (φ := .f32) κ "stop" 0xC2D20000#32 ⊥ rfl]
  show Ideal.cmp .oge (k0_pay3 (newCarry i j s)) ⊥ = 1#1
  simp [Ideal.cmp]

include hq hK in
/-- The loop visits every tile. -/
theorem inv_loop : ∀ (k : ℕ) (_ : k ≤ 32) (s : St Ideal) (_ : Inv qr kr V i k s),
    Inv qr kr V i 0 (loop i (q0 q) (q1 q) (q2 q) (q3 q) K V k 1#1 s)
  | 0, _, _, hs => hs
  | k + 1, hk, s, hs => by
    have hk' : k < 32 := by omega
    unfold loop
    rw [dif_pos hk', if_pos rfl, goOn_eq]
    exact inv_loop k (by omega) _ (inv_trip q K qr kr hq hK V i k hk' _ s hs)

include hq hK in
theorem inv_final : Inv qr kr V i 0 (final i q K V) :=
  inv_loop q K qr kr hq hK V i _ (by have : (i 1).val < 32 := (i 1).isLt; omega) _ (inv_start q K qr kr hq hK V i)

/-! ### The result block -/

/-- A part's transposed sums: lane `x` of query `r` is value `x`'s sum for its own head. -/
theorem part_eq (A : Vec Ideal S1x128x256 .f32) (r x : Fin 128) :
    Scalar.select (IntOp.cmpi CmpIPredicate.slt (BitVec.ofNat 32 x.val) 64#32) (A (ix3 (0 : Fin 1) x (⟨r.val, by omega⟩ : Fin 256)))
      (A (ix3 (0 : Fin 1) x (⟨128 + r.val, by omega⟩ : Fin 256)))
      = A (ix3 (0 : Fin 1) x (⟨128 * (x.val / 64) + r.val, by omega⟩ : Fin 256)) := by
  have hx := x.isLt
  have e : IntOp.cmpi CmpIPredicate.slt (BitVec.ofNat 32 x.val) 64#32 = BitVec.ofBool (decide (x.val < 64)) :=
    cmpi_slt_ofNat (a := x.val) (b := 64) (by omega) (by omega)
  rw [e, select_decide]
  split
  · exact congrArg A (congrArg (ix3 (0 : Fin 1) x) (Fin.ext (by show r.val = 128 * (x.val / 64) + r.val; omega)))
  · exact congrArg A (congrArg (ix3 (0 : Fin 1) x) (Fin.ext (by show 128 + r.val = 128 * (x.val / 64) + r.val; omega)))

theorem part0_apply (A : Vec Ideal S1x128x256 .f32) (r x : Fin 128) :
    k0_pay19 k0_pay8 A (ix2 r x) = A (ix3 (0 : Fin 1) x (⟨128 * (x.val / 64) + r.val, by omega⟩ : Fin 256)) := by
  rw [← part_eq A r x]; pointwise [k0_pay19, k0_pay8]
theorem part1_apply (A : Vec Ideal S1x128x256 .f32) (r x : Fin 128) :
    k0_pay20 k0_pay8 A (ix2 r x) = A (ix3 (0 : Fin 1) x (⟨128 * (x.val / 64) + r.val, by omega⟩ : Fin 256)) := by
  rw [← part_eq A r x]; pointwise [k0_pay20, k0_pay8]
theorem part2_apply (A : Vec Ideal S1x128x256 .f32) (r x : Fin 128) :
    k0_pay21 k0_pay8 A (ix2 r x) = A (ix3 (0 : Fin 1) x (⟨128 * (x.val / 64) + r.val, by omega⟩ : Fin 256)) := by
  rw [← part_eq A r x]; pointwise [k0_pay21, k0_pay8]
theorem part3_apply (A : Vec Ideal S1x128x256 .f32) (r x : Fin 128) :
    k0_pay1 k0_pay8 A (ix2 r x) = A (ix3 (0 : Fin 1) x (⟨128 * (x.val / 64) + r.val, by omega⟩ : Fin 256)) := by
  rw [← part_eq A r x]; pointwise [k0_pay1, k0_pay8]

/-- The result at query `r` and lane `128 p + x` is part `p`'s sum. -/
theorem writeOut_apply (X : Vec Ideal S128x512 .f32) (a : Vec Ideal S4x128x256 .f32) (r x : Fin 128) (p : Fin 4) :
    writeOut X a (ix2 r (⟨128 * p.val + x.val, by omega⟩ : Fin 512)) = a (ix3 p x (⟨128 * (x.val / 64) + r.val, by omega⟩ : Fin 256)) := by
  have hx := x.isLt
  have emb : ∀ (o : ℕ) (ho : o + 128 ≤ 512) (inb : ∀ a, (![0, o] : Fin 2 → ℕ) a + S128x128.size a ≤ S128x512.size a),
      (ix2 r (⟨o + x.val, by omega⟩ : Fin 512) : S128x512.Idx) = (Rect.unit (s := S128x512) ![0, o] S128x128.size inb).emb (ix2 r x) := by
    intro o ho inb
    funext b; apply Fin.ext
    rw [Rect.emb_apply]
    fin_cases b
    · show r.val = 0 + 1 * r.val; omega
    · show o + x.val = o + 1 * x.val; omega
  unfold writeOut
  by_cases h3 : p = 3
  · subst h3
    rw [show (ix2 r (⟨128 * (3 : Fin 4).val + x.val, by omega⟩ : Fin 512) : S128x512.Idx) = _ from emb 384 (by omega) inb_S128x512_S128x128_0_384, Rect.overlay_emb]
    exact (part3_apply _ r x).trans (ld_slot a 3 (by decide) _ x _)
  rw [Rect.overlay_of_not_mem _ _ _ (not_mem_chunk 384 inb_S128x512_S128x128_0_384 _ (by show ¬ (384 ≤ 128 * p.val + x.val ∧ _); omega))]
  by_cases h2 : p = 2
  · subst h2
    rw [show (ix2 r (⟨128 * (2 : Fin 4).val + x.val, by omega⟩ : Fin 512) : S128x512.Idx) = _ from emb 256 (by omega) inb_S128x512_S128x128_0_256, Rect.overlay_emb]
    exact (part2_apply _ r x).trans (ld_slot a 2 (by decide) _ x _)
  rw [Rect.overlay_of_not_mem _ _ _ (not_mem_chunk 256 inb_S128x512_S128x128_0_256 _ (by show ¬ (256 ≤ 128 * p.val + x.val ∧ _); omega))]
  by_cases h1 : p = 1
  · subst h1
    rw [show (ix2 r (⟨128 * (1 : Fin 4).val + x.val, by omega⟩ : Fin 512) : S128x512.Idx) = _ from emb 128 (by omega) inb_S128x512_S128x128_0_128, Rect.overlay_emb]
    exact (part1_apply _ r x).trans (ld_slot a 1 (by decide) _ x _)
  rw [Rect.overlay_of_not_mem _ _ _ (not_mem_chunk 128 inb_S128x512_S128x128_0_128 _ (by show ¬ (128 ≤ 128 * p.val + x.val ∧ _); omega))]
  have h0 : p = 0 := by omega
  subst h0
  rw [show (ix2 r (⟨128 * (0 : Fin 4).val + x.val, by omega⟩ : Fin 512) : S128x512.Idx) = _ from emb 0 (by omega) inb_S128x512_S128x128_0_0, Rect.overlay_emb]
  exact (part0_apply _ r x).trans (ld_slot a 0 (by decide) _ x _)

include hq hK in
/-- THE RESULT BLOCK: at query `r` and lane `e`, the weighted values of all keys, weighted by head `e / 64`'s. -/
theorem outBlock_apply (r : Fin 128) (e : Fin 512) :
    outBlock i q K V (ix2 r e) = total qr kr V i 0 (128 * (e.val / 64) + r.val) e.val := by
  have he := e.isLt
  have h := writeOut_apply (constant (F := Ideal) S128x512 .f32 0x00000000#32) (final i q K V).acc r ⟨e.val % 128, by omega⟩ ⟨e.val / 128, by omega⟩
  rw [(inv_final q K qr kr hq hK V i).acc] at h
  have e1 : (⟨128 * (e.val / 128) + e.val % 128, by omega⟩ : Fin 512) = e := Fin.ext (by show 128 * (e.val / 128) + e.val % 128 = e.val; omega)
  refine Eq.trans (congrArg (fun y => writeOut _ _ (ix2 r y)) e1.symm) (h.trans ?_)
  refine congrArg₂ (total qr kr V i 0) ?_ ?_
  · show 256 * (e.val / 128) + (128 * (e.val % 128 / 64) + r.val) = _; omega
  · show 128 * (e.val / 128) + e.val % 128 = _; omega

end Logits

end Cert.Proof.SbI

end
-- ==== Proof.Sb.Spec.lean ====
/-
  The stick-breaking attention of finite queries and keys, as one sum per query and lane. Both programs compute it.
-/
module

public import proofs.«01_k».proof.Proof.Sb.Sums
public import Idealize.ShloMosaic.Lib.Pointwise
public import Idealize.ShloMosaic.Lib.IdealHost

@[expose] public section

noncomputable section

namespace Cert.Proof.Sb

open Idealize.ShloMosaic Idealize.ShloMosaic.Pointwise

/-- The queries' shape: batch, position, head, lane. -/
abbrev QShape : Shape := ⟨4, ![4, 4096, 8, 64]⟩
/-- The keys' and values' shape: batch, position, which of the two, head, lane. -/
abbrev KvShape : Shape := ⟨5, ![4, 4096, 2, 8, 64]⟩

section

variable (x0 : QShape.Idx → EReal) (x1 : KvShape.Idx → EReal)

/-- The query entry of batch `b` at position `s` and lane `e` of its 512. -/
def queryAt (b s e : ℕ) : EReal :=
  x0 (ix4 (⟨b % 4, by omega⟩ : Fin 4) (⟨s % 4096, by omega⟩ : Fin 4096) (⟨e / 64 % 8, by omega⟩ : Fin 8) (⟨e % 64, by omega⟩ : Fin 64))

/-- The key entry (`w = 0`) or the value entry (`w = 1`) of batch `b` at position `s` and lane `e`. -/
def entryAt (w : Fin 2) (b s e : ℕ) : EReal :=
  x1 (ix5 (⟨b % 4, by omega⟩ : Fin 4) (⟨s % 4096, by omega⟩ : Fin 4096) w (⟨e / 64 % 8, by omega⟩ : Fin 8) (⟨e % 64, by omega⟩ : Fin 64))

/-- Every query and key entry is finite. -/
structure Finite : Prop where
  query : ∀ b s e, queryAt x0 b s e = ((queryAt x0 b s e).toReal : EReal)
  key : ∀ b s e, entryAt x1 0 b s e = ((entryAt x1 0 b s e).toReal : EReal)

/-- A query entry scaled by an eighth, the inverse square root of a head's 64 lanes. -/
def qr (b s e : ℕ) : ℝ := (queryAt x0 b s e).toReal * (1 / 8)

/-- A key entry. -/
def kr (b s e : ℕ) : ℝ := (entryAt x1 0 b s e).toReal

/-- Head `h`'s logit of the query at `t` against the key at `s`. -/
def z (b h t s : ℕ) : ℝ := ∑ d ∈ Finset.range 64, kr x1 b s (64 * h + d) * qr x0 b t (64 * h + d)

/-- The result of batch `b` for the query at `t`, at lane `e`: the values at the lane, weighted by its head. -/
def result (b t e : ℕ) : EReal :=
  ∑ s ∈ Finset.Ico 0 4096, entryAt x1 1 b s e * (weight (z x0 x1 b (e / 64) t) t s : EReal)

end

/-- The scale both programs multiply by is an eighth. -/
theorem eighth : Ideal.ofBits .f32 0x3E000000#32 = ((1 / 8 : ℝ) : EReal) := by
  simp [Ideal.ofBits, Ideal.ieee, -EReal.coe_mul]; norm_num

end Cert.Proof.Sb

end
-- ==== Proof.Sb.Kernel.lean ====
/-
  The kernel's result array: at every query and lane, the attention's sum over the argument arrays.
-/
module

public import proofs.«01_k».proof.Proof.Sb.Block
public import proofs.«01_k».proof.Proof.Sb.Spec
public import proofs.«01_k».proof.Proof.Sb.Run
public import Idealize.ShloMosaic.Lib.Claim

@[expose] public section

set_option maxRecDepth 16384

noncomputable section

namespace Cert.Proof.SbI

open Cert.KernelIdeal Cert.KernelIdeal.Gen Cert.Proof.Sb
open Idealize.ShloMosaic Idealize.ShloMosaic.TcCoe Idealize.ShloMosaic.Pointwise Idealize.ShloMosaic.StableHlo

variable (m : (ℓ : Loc nD τ sig) → Buf (Elt Ideal) ℓ) (c : Dev nD)

/-- The queries, -/
abbrev arg0 : Vec Ideal S4x4096x8x64 .f32 := m ((c : Thread nD τ).loc main_arg0)
/-- and the keys and values. -/
abbrev arg1 : Vec Ideal S4x4096x2x8x64 .f32 := m ((c : Thread nD τ).loc main_arg1)

/-! ### What the host operations prepare -/

theorem entry_q : atEntry m c main_v3 =
    truncf .bf16 (mulf (shapeCast S16384x512 (arg0 m c) shapeCasts_S4x4096x8x64_S16384x512)
      (broadcastInDim S16384x512 ![] bcast_S_S16384x512 (constant (F := Ideal) S_ .f32 0x3E000000#32))) bitsLt_bf16_f32 := by
  show StableHlo.after hostOps0 _ _ = _
  after_results
  rfl

theorem entry_k : atEntry m c main_v7 =
    truncf (F := Ideal) .bf16 (shapeCast S16384x512 (shapeCast S4x4096x8x64 (extractStridedSlice S4x4096x1x8x64 ![0, 0, 0, 0, 0] (arg1 m c)
      slices_S4x4096x2x8x64_S4x4096x1x8x64_0_0_0_0_0) shapeCasts_S4x4096x1x8x64_S4x4096x8x64) shapeCasts_S4x4096x8x64_S16384x512) bitsLt_bf16_f32 := by
  show StableHlo.after hostOps0 _ _ = _
  after_results
  rfl

theorem entry_v : atEntry m c main_v12 =
    truncf (F := Ideal) .bf16 (transpose S4x32x512x128 [0, 1, 3, 2] (shapeCast S4x32x128x512 (shapeCast S4x4096x8x64 (extractStridedSlice S4x4096x1x8x64 ![0, 0, 1, 0, 0] (arg1 m c)
      slices_S4x4096x2x8x64_S4x4096x1x8x64_0_0_1_0_0) shapeCasts_S4x4096x1x8x64_S4x4096x8x64) shapeCasts_S4x4096x8x64_S4x32x128x512)
      transposes_S4x32x128x512_S4x32x512x128_0_1_3_2) bitsLt_bf16_f32 := by
  show StableHlo.after hostOps0 _ _ = _
  after_results
  rfl

theorem query_row (x : Vec Ideal S4x4096x8x64 .f32) (R : Fin 16384) (e : Fin 512) :
    truncf .bf16 (mulf (shapeCast S16384x512 x shapeCasts_S4x4096x8x64_S16384x512)
      (broadcastInDim S16384x512 ![] bcast_S_S16384x512 (constant (F := Ideal) S_ .f32 0x3E000000#32))) bitsLt_bf16_f32 (ix2 R e)
      = queryAt x (R.val / 4096) (R.val % 4096) e.val * ((1 / 8 : ℝ) : EReal) := by
  pointwise []
  rw [eighth]
  refine congrArg₂ (· * ·) (congrArg x ?_) rfl
  blk_ext

theorem key_row (x : Vec Ideal S4x4096x2x8x64 .f32) (R : Fin 16384) (e : Fin 512) :
    truncf (F := Ideal) .bf16 (shapeCast S16384x512 (shapeCast S4x4096x8x64 (extractStridedSlice S4x4096x1x8x64 ![0, 0, 0, 0, 0] x
      slices_S4x4096x2x8x64_S4x4096x1x8x64_0_0_0_0_0) shapeCasts_S4x4096x1x8x64_S4x4096x8x64) shapeCasts_S4x4096x8x64_S16384x512) bitsLt_bf16_f32 (ix2 R e)
      = entryAt x 0 (R.val / 4096) (R.val % 4096) e.val := by
  pointwise []
  refine congrArg x ?_
  blk_ext

theorem value_row (x : Vec Ideal S4x4096x2x8x64 .f32) (b : Fin 4) (k : Fin 32) (e : Fin 512) (s : Fin 128) :
    truncf (F := Ideal) .bf16 (transpose S4x32x512x128 [0, 1, 3, 2] (shapeCast S4x32x128x512 (shapeCast S4x4096x8x64 (extractStridedSlice S4x4096x1x8x64 ![0, 0, 1, 0, 0] x
      slices_S4x4096x2x8x64_S4x4096x1x8x64_0_0_1_0_0) shapeCasts_S4x4096x1x8x64_S4x4096x8x64) shapeCasts_S4x4096x8x64_S4x32x128x512)
      transposes_S4x32x128x512_S4x32x512x128_0_1_3_2) bitsLt_bf16_f32 (ix4 b k e s)
      = entryAt x 1 b.val (128 * k.val + s.val) e.val := by
  pointwise []
  refine congrArg x ?_
  blk_ext

/-! ### The blocks -/

/-- The blocks of a point: its queries' rows, its batch's keys and values, and its own rows of the result. -/
theorem idx : ∀ t : Fin (cfg0 (F := Ideal)).N,
    win0_0.index t = ![32 * (grid0.coords t 0).val + (grid0.coords t 1).val, 0] ∧ win0_1.index t = ![(grid0.coords t 0).val, 0]
      ∧ win0_2.index t = ![(grid0.coords t 0).val, 0, 0, 0] ∧ win0_3.index t = ![32 * (grid0.coords t 0).val + (grid0.coords t 1).val, 0] :=
  (by decide +kernel : ∀ t : Fin grid0.N, _)

theorem coord0_lt (t : Fin (cfg0 (F := Ideal)).N) : (grid0.coords t 0).val < 4 := (grid0.coords t 0).isLt
theorem coord1_lt (t : Fin (cfg0 (F := Ideal)).N) : (grid0.coords t 1).val < 32 := (grid0.coords t 1).isLt

section Blocks

variable (t : Fin (cfg0 (F := Ideal)).N)

theorem block_q (r : Fin 128) (e : Fin 512) : blockAt m c 0 t (ix2 r e)
    = queryAt (arg0 m c) (grid0.coords t 0).val (128 * (grid0.coords t 1).val + r.val) e.val * ((1 / 8 : ℝ) : EReal) := by
  have h0 := coord0_lt t
  have h1 := coord1_lt t
  have hr := r.isLt
  have h := query_row (arg0 m c) ⟨4096 * (grid0.coords t 0).val + (128 * (grid0.coords t 1).val + r.val), by omega⟩ e
  rw [← entry_q] at h
  refine Eq.trans ?_ (h.trans ?_)
  · unfold blockAt
    blk_ext [(idx t).1]
  · show queryAt _ ((4096 * (grid0.coords t 0).val + (128 * (grid0.coords t 1).val + r.val)) / 4096) ((4096 * (grid0.coords t 0).val + (128 * (grid0.coords t 1).val + r.val)) % 4096) _ * _ = _
    rw [show (4096 * (grid0.coords t 0).val + (128 * (grid0.coords t 1).val + r.val)) / 4096 = (grid0.coords t 0).val by omega,
      show (4096 * (grid0.coords t 0).val + (128 * (grid0.coords t 1).val + r.val)) % 4096 = 128 * (grid0.coords t 1).val + r.val by omega]

theorem block_k (s : Fin 4096) (e : Fin 512) : blockAt m c 1 t (ix2 s e) = entryAt (arg1 m c) 0 (grid0.coords t 0).val s.val e.val := by
  have h0 := coord0_lt t
  have hs := s.isLt
  have h := key_row (arg1 m c) ⟨4096 * (grid0.coords t 0).val + s.val, by omega⟩ e
  rw [← entry_k] at h
  refine Eq.trans ?_ (h.trans ?_)
  · unfold blockAt
    blk_ext [(idx t).2.1]
  · show entryAt _ 0 ((4096 * (grid0.coords t 0).val + s.val) / 4096) ((4096 * (grid0.coords t 0).val + s.val) % 4096) _ = _
    rw [show (4096 * (grid0.coords t 0).val + s.val) / 4096 = (grid0.coords t 0).val by omega, show (4096 * (grid0.coords t 0).val + s.val) % 4096 = s.val by omega]

/-- A batch's values, read through its block. -/
theorem read_v (X : Vec Ideal S4x32x512x128 .bf16) (k : Fin 32) (e : Fin 512) (s : Fin 128) :
    (((cfg0 (F := Ideal)).win 2).blk t).view.read (Elt Ideal) X (ix4 (0 : Fin 1) k e s) = X (ix4 (⟨(grid0.coords t 0).val, coord0_lt t⟩ : Fin 4) k e s) := by
  blk_ext [(idx t).2.2.1]

theorem block_v (k : Fin 32) (e : Fin 512) (s : Fin 128) : blockAt m c 2 t (ix4 (0 : Fin 1) k e s)
    = entryAt (arg1 m c) 1 (grid0.coords t 0).val (128 * k.val + s.val) e.val := by
  unfold blockAt
  refine (read_v t _ k e s).trans ?_
  exact (congrFun (entry_v m c) _).trans (value_row (arg1 m c) ⟨(grid0.coords t 0).val, coord0_lt t⟩ k e s)

variable (hf : Finite (arg0 m c) (arg1 m c))

include hf in
/-- What the body leaves at a point: its queries' results. -/
theorem out_block (r : Fin 128) (e : Fin 512) :
    outBlock (grid0.coords t) (blockAt m c 0 t) (blockAt m c 1 t) (blockAt m c 2 t) (ix2 r e)
      = result (arg0 m c) (arg1 m c) (grid0.coords t 0).val (128 * (grid0.coords t 1).val + r.val) e.val := by
  have hr := r.isLt
  have he := e.isLt
  refine (outBlock_apply _ _ (fun r e => qr (arg0 m c) (grid0.coords t 0).val (128 * (grid0.coords t 1).val + r) e)
    (fun s e => kr (arg1 m c) (grid0.coords t 0).val s e) (fun r e => ?_) (fun s e => ?_) _ _ r e).trans ?_
  · rw [block_q, hf.query, ← EReal.coe_mul]; rfl
  · rw [block_k, hf.key]; rfl
  · unfold total result
    refine Finset.sum_congr rfl fun s hs => congrArg₂ (· * ·) ?_ ?_
    · have hs' : s < 4096 := (Finset.mem_Ico.1 hs).2
      unfold valAt
      rw [dif_pos ⟨hs', he⟩, block_v]
      show entryAt _ 1 _ (128 * (s / 128) + s % 128) _ = _
      rw [show 128 * (s / 128) + s % 128 = s by omega]
    · refine congrArg Real.toEReal (congrArg₂ (weight · · s) ?_ ?_)
      · funext s'
        unfold logit z
        rw [show (128 * (e.val / 64) + r.val) / 128 = e.val / 64 by omega, show (128 * (e.val / 64) + r.val) % 128 = r.val by omega]
      · unfold pos; omega

end Blocks

/-! ### The array -/

variable (hf : Finite (arg0 m c) (arg1 m c))

include hf in
/-- THE RESULT ARRAY: row `4096 b + t` at lane `e`. -/
theorem out_array : (dats m 0 c).arrAt 3 (cfg0 (F := Ideal)).N
    = fun y : S16384x512.Idx => result (arg0 m c) (arg1 m c) ((y 0).val / 4096) ((y 0).val % 4096) (y 1).val := by
  refine (dats m 0 c).arrAt_eq_of_covers 3 _ (by decide +kernel) fun t hfl y => ?_
  have h0 := coord0_lt t
  have h1 := coord1_lt t
  blk_simp
  rw [after_3]
  obtain ⟨r, e, rfl⟩ : ∃ (r : Fin 128) (e : Fin 512), y = ix2 r e := ⟨y 0, y 1, by funext a; fin_cases a <;> rfl⟩
  refine (out_block m c t hf r e).trans ?_
  blk_simp [(idx t).2.2.2]
  rw [show ((32 * (grid0.coords t 0).val + (grid0.coords t 1).val) * 128 + r.val) / 4096 = (grid0.coords t 0).val by omega,
    show ((32 * (grid0.coords t 0).val + (grid0.coords t 1).val) * 128 + r.val) % 4096 = 128 * (grid0.coords t 1).val + r.val by omega]

end Cert.Proof.SbI

end
-- ==== Proof.Sb.Reference.lean ====
/-
  The reference's result array: at every query and lane, the attention's sum over the argument arrays.
-/
module

public import proofs.«01_k».proof.Proof.Sb.Spec
public import proofs.«01_k».proof.Proof.Gen.ReferenceIdeal.Read
public import Idealize.ShloMosaic.Lib.Pipeline.ValueKit
public import Idealize.ShloMosaic.Lib.WordCmp

@[expose] public section

set_option maxRecDepth 16384

noncomputable section

namespace Cert.Proof.SbR

open Cert.ReferenceIdeal Cert.ReferenceIdeal.Gen Cert.ReferenceIdeal.Read Cert.Proof.Sb
open Idealize.ShloMosaic Idealize.ShloMosaic.TcCoe Idealize.ShloMosaic.Pointwise Idealize.ShloMosaic.WordCmp

/-! ### A running sum from the end -/

theorem foldl_add_sum {n : ℕ} (f : Fin n → EReal) (v : EReal) :
    (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, Fin.sum_univ_def]

/-- Every entry is the sum of its row's entries from it on. -/
theorem window_sum (x : Vec Ideal S4x8x4096x4096 .f32) (init : Vec Ideal S_ .f32) (hi : ∀ i, init i = (0 : EReal)) (g : ℕ → ℝ)
    (b : Fin 4) (h : Fin 8) (t : Fin 4096) (hx : ∀ s : Fin 4096, x (ix4 b h t s) = (g s.val : EReal)) (s : Fin 4096) :
    Host.reduceWindowAdd (F := Ideal) (φ := .f32) ![1, 1, 1, 4096] ![1, 1, 1, 1] ![0, 0, 0, 0] ![0, 0, 0, 4095] x init
      reduceWindows_S4x8x4096x4096_S4x8x4096x4096_w1s1p0_0_w1s1p0_0_w1s1p0_0_w4096s1p0_4095 h_S_ (ix4 b h t s)
      = ((∑ s' ∈ Finset.Ico s.val 4096, g s' : ℝ) : EReal) := by
  have hs := s.isLt
  have hN : (⟨4, ![1, 1, 1, 4096]⟩ : Shape).numel = 4096 := by simp [Shape.numel, Fin.prod_univ_succ]
  unfold Host.reduceWindowAdd
  rw [Ideal.hostReduceWindowAdd_def]
  unfold Ideal.hostReduceWindowAdd Host.reduceWindow
  dsimp only
  rw [hi, foldl_add_sum, zero_add]
  refine (Finset.sum_congr rfl (g := fun n => ((if s.val + n.val < 4096 then g (s.val + n.val) else 0 : ℝ) : EReal)) fun n _ => ?_).trans ?_
  · have hn : n.val = ((⟨4, ![1, 1, 1, 4096]⟩ : Shape).rowMajor ((⟨4, ![1, 1, 1, 4096]⟩ : Shape).rowMajor.symm n)).val := by rw [Equiv.apply_symm_apply]
    rw [Shape.rowMajor_val_four] at hn
    obtain ⟨w, hw⟩ : ∃ w, w = (⟨4, ![1, 1, 1, 4096]⟩ : Shape).rowMajor.symm n := ⟨_, rfl⟩
    rw [← hw] at hn
    have w0 : (w 0).val < 1 := (w 0).isLt
    have w1 : (w 1).val < 1 := (w 1).isLt
    have w2 : (w 2).val < 1 := (w 2).isLt
    replace hn : n.val = (((w 0).val * 1 + (w 1).val) * 1 + (w 2).val) * 4096 + (w 3).val := hn
    have d0 : ((⟨4, ![1, 1, 1, 4096]⟩ : Shape).rowMajor.symm n 0).val = 0 := by rw [← hw]; omega
    have d1 : ((⟨4, ![1, 1, 1, 4096]⟩ : Shape).rowMajor.symm n 1).val = 0 := by rw [← hw]; omega
    have d2 : ((⟨4, ![1, 1, 1, 4096]⟩ : Shape).rowMajor.symm n 2).val = 0 := by rw [← hw]; omega
    have d3 : ((⟨4, ![1, 1, 1, 4096]⟩ : Shape).rowMajor.symm n 3).val = n.val := by rw [← hw]; omega
    split
    · next hin =>
      have h3 : s.val * 1 + ((⟨4, ![1, 1, 1, 4096]⟩ : Shape).rowMajor.symm n 3).val - 0 < 4096 := (hin 3).2
      rw [d3] at h3
      rw [if_pos (by omega)]
      refine (congrArg x (funext fun a => Fin.ext ?_)).trans (hx ⟨s.val + n.val, by omega⟩)
      match a with
      | ⟨0, _⟩ => show b.val * 1 + ((⟨4, ![1, 1, 1, 4096]⟩ : Shape).rowMajor.symm n 0).val - 0 = b.val; rw [d0]; omega
      | ⟨1, _⟩ => show h.val * 1 + ((⟨4, ![1, 1, 1, 4096]⟩ : Shape).rowMajor.symm n 1).val - 0 = h.val; rw [d1]; omega
      | ⟨2, _⟩ => show t.val * 1 + ((⟨4, ![1, 1, 1, 4096]⟩ : Shape).rowMajor.symm n 2).val - 0 = t.val; rw [d2]; omega
      | ⟨3, _⟩ => show s.val * 1 + ((⟨4, ![1, 1, 1, 4096]⟩ : Shape).rowMajor.symm n 3).val - 0 = s.val + n.val; rw [d3]; omega
    · next hin =>
      rw [if_neg fun hlt => hin fun a => by
        have hb := b.isLt
        have hh := h.isLt
        have ht := t.isLt
        match a with
        | ⟨0, _⟩ => show 0 ≤ b.val * 1 + ((⟨4, ![1, 1, 1, 4096]⟩ : Shape).rowMajor.symm n 0).val ∧ b.val * 1 + ((⟨4, ![1, 1, 1, 4096]⟩ : Shape).rowMajor.symm n 0).val - 0 < 4; rw [d0]; omega
        | ⟨1, _⟩ => show 0 ≤ h.val * 1 + ((⟨4, ![1, 1, 1, 4096]⟩ : Shape).rowMajor.symm n 1).val ∧ h.val * 1 + ((⟨4, ![1, 1, 1, 4096]⟩ : Shape).rowMajor.symm n 1).val - 0 < 8; rw [d1]; omega
        | ⟨2, _⟩ => show 0 ≤ t.val * 1 + ((⟨4, ![1, 1, 1, 4096]⟩ : Shape).rowMajor.symm n 2).val ∧ t.val * 1 + ((⟨4, ![1, 1, 1, 4096]⟩ : Shape).rowMajor.symm n 2).val - 0 < 4096; rw [d2]; omega
        | ⟨3, _⟩ => show 0 ≤ s.val * 1 + ((⟨4, ![1, 1, 1, 4096]⟩ : Shape).rowMajor.symm n 3).val ∧ s.val * 1 + ((⟨4, ![1, 1, 1, 4096]⟩ : Shape).rowMajor.symm n 3).val - 0 < 4096; rw [d3]; omega]
      exact EReal.coe_zero.symm
  rw [← coe_sum, Fin.sum_univ_eq_sum_range (fun n => if s.val + n < 4096 then g (s.val + n) else 0), hN, ← Finset.sum_filter]
  have er : (Finset.range 4096).filter (fun n => s.val + n < 4096) = Finset.range (4096 - s.val) := by ext n; simp; omega
  rw [er, Finset.sum_Ico_eq_sum_range]

/-! ### The logits and what they leave -/

variable (x0 : Vec Ideal S4x4096x8x64 .f32) (x1 : Vec Ideal S4x4096x2x8x64 .f32) (hf : Finite x0 x1)
  (b : Fin 4) (h : Fin 8) (t s : Fin 4096)

theorem query_entry (d : Fin 64) : x0 (ix4 b t h d) = queryAt x0 b.val t.val (64 * h.val + d.val) := by
  unfold queryAt
  refine congrArg x0 ?_
  blk_ext

theorem key_entry (d : Fin 64) : val_main_v2 (F := Ideal) x1 (ix4 b s h d) = entryAt x1 0 b.val s.val (64 * h.val + d.val) := by
  rw [val_main_v2_apply, val_main_v1_apply]
  unfold entryAt
  refine congrArg x1 ?_
  blk_ext

theorem value_entry (d : Fin 64) : val_main_v22 (F := Ideal) x1 (ix4 b s h d) = entryAt x1 1 b.val s.val (64 * h.val + d.val) := by
  rw [val_main_v22_apply, val_main_v21_apply]
  unfold entryAt
  refine congrArg x1 ?_
  blk_ext

include hf in
theorem logit_apply : val_main_v5 (F := Ideal) x0 x1 (ix4 b h t s) = (z x0 x1 b.val h.val t.val s.val : EReal) := by
  rw [val_main_v5_apply, val_main_v4_apply, val_main_cst_apply, val_main_v3_apply]
  show (∑ k : Fin 64, x0 (lidx_main_v3 (ix4 b h t s) k) * val_main_v2 (F := Ideal) x1 (ridx_main_v3 (ix4 b h t s) k)) * Ideal.ofBits .f32 0x3E000000#32 = _
  rw [eighth]
  have el : ∀ k : Fin 64, (lidx_main_v3 (ix4 b h t s) k : S4x4096x8x64.Idx) = ix4 b t h k := fun k => by blk_ext
  have er : ∀ k : Fin 64, (ridx_main_v3 (ix4 b h t s) k : S4x4096x8x64.Idx) = ix4 b s h k := fun k => by blk_ext
  have e : ∀ k : Fin 64, x0 (lidx_main_v3 (ix4 b h t s) k) * val_main_v2 (F := Ideal) x1 (ridx_main_v3 (ix4 b h t s) k)
      = (((queryAt x0 b.val t.val (64 * h.val + k.val)).toReal * kr x1 b.val s.val (64 * h.val + k.val) : ℝ) : EReal) := by
    intro k
    rw [el, er, query_entry x0, key_entry x1, hf.query, hf.key, EReal.coe_mul]
    rfl
  rw [Finset.sum_congr rfl fun k _ => e k, ← coe_sum, ← EReal.coe_mul]
  unfold z
  rw [← Fin.sum_univ_eq_sum_range (fun d => kr x1 b.val s.val (64 * h.val + d) * qr x0 b.val t.val (64 * h.val + d)) 64, Finset.sum_mul]
  refine congrArg Real.toEReal (Finset.sum_congr rfl fun k _ => ?_)
  unfold qr
  ring

theorem mask_apply : val_main_v12 (F := Ideal) (ix4 (0 : Fin 1) (0 : Fin 1) t s) = BitVec.ofBool (decide (s.val < t.val)) := by
  rw [val_main_v12_apply, val_main_v11_apply, val_main_v9_apply, val_main_v7_apply, val_main_v6_apply, val_main_v10_apply, val_main_v8_apply, val_main_v0_apply]
  exact cmpi_slt_ofNat (a := s.val) (b := t.val) (by omega) (by omega)

/-- The reference's log-sigmoid. -/
theorem logSigmoid (y : ℝ) :
    -Scalar.select (Ideal.cmp .une (-(y : EReal) - 0) (-(y : EReal) - 0)) (-(y : EReal) + 0)
        (max (-(y : EReal)) 0 + Ideal.log1p (Ideal.exp (-(max (-(y : EReal) - 0) (-(-(y : EReal) - 0)))))) = (logBeta y : EReal) := by
  have hM : ∀ a b : ℝ, ((max a b : ℝ) : EReal) = max (a : EReal) b := fun a b => EReal.coe_strictMono.monotone.map_max
  rw [show Ideal.cmp .une (-(y : EReal) - 0) (-(y : EReal) - 0) = BitVec.ofBool (decide False) by simp [Ideal.cmp], select_decide, if_neg not_false,
    sub_zero, neg_neg, ← EReal.coe_neg, ← hM, max_comm (-y) y, ← abs_eq_max_neg, ← EReal.coe_neg, Ideal.exp_coe]
  have hp : (0 : ℝ) < 1 + Real.exp (-|y|) := by positivity
  unfold Ideal.log1p
  rw [← EReal.coe_one, ← EReal.coe_add, Ideal.log_coe, if_neg (not_le.2 hp), ← EReal.coe_zero, ← hM, ← EReal.coe_add, ← EReal.coe_neg]
  refine congrArg Real.toEReal ?_
  unfold logBeta
  rw [neg_add, ← min_neg_neg, neg_neg, neg_zero, sub_eq_add_neg]

include hf in
theorem logBeta_apply : val_main_v13 (F := Ideal) x0 x1 (ix4 b h t s) = (logBeta (z x0 x1 b.val h.val t.val s.val) : EReal) := by
  rw [← logSigmoid]
  simp only [val_main_v13_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply, val_main_call0_call0_v7_apply,
    val_main_call0_call0_v3_apply, val_main_call0_call0_v2_apply, val_main_call0_call0_v5_apply, val_main_call0_call0_v0_apply, val_main_call0_call0_cst_apply,
    val_main_call0_v0_apply, logit_apply x0 x1 hf]
  rw [show (FloatOps.ofBits .f32 0x00000000#32 : Ideal .f32) = (0 : EReal) from Ideal.ofBits_zero_f32]
  rfl

include hf in
theorem rest_apply : val_main_v15 (F := Ideal) x0 x1 (ix4 b h t s) = (rest (z x0 x1 b.val h.val t.val) t.val s.val : EReal) := by
  rw [val_main_v15_apply, val_main_call1_v1_apply, val_main_call1_v2_apply, val_main_call1_v0_apply, val_main_cst_0_apply, val_main_v14_apply,
    logBeta_apply x0 x1 hf, logit_apply x0 x1 hf]
  rw [show val_main_v12 (F := Ideal) (idx_main_call1_v1 (ix4 b h t s)) = _ from mask_apply t s]
  rw [show (FloatOps.ofBits .f32 0x00000000#32 : Ideal .f32) = (0 : EReal) from Ideal.ofBits_zero_f32]
  rw [select_decide]
  unfold rest
  split
  · show (logBeta _ : EReal) - (z x0 x1 b.val h.val t.val s.val : EReal) = _
    rw [← EReal.coe_sub]; rfl
  · exact EReal.coe_zero.symm

include hf in
theorem tail_apply : val_main_v16 (F := Ideal) x0 x1 (ix4 b h t s) = (tail (z x0 x1 b.val h.val t.val) t.val s.val : EReal) :=
  window_sum _ _ (fun i => by rw [val_main_call2_v0_apply, val_main_call2_cst_apply]; exact Ideal.ofBits_zero_f32) _ b h t (fun s => rest_apply x0 x1 hf b h t s) s

include hf in
theorem weight_apply : val_main_v20 (F := Ideal) x0 x1 (ix4 b h t s) = (weight (z x0 x1 b.val h.val t.val) t.val s.val : EReal) := by
  have hs := s.isLt
  rw [val_main_v20_apply, val_main_call3_v1_apply, val_main_call3_v2_apply, val_main_call3_v0_apply, val_main_cst_1_apply, val_main_v19_apply, val_main_v18_apply,
    val_main_v17_apply, logBeta_apply x0 x1 hf, tail_apply x0 x1 hf, rest_apply x0 x1 hf]
  rw [show val_main_v12 (F := Ideal) (idx_main_call3_v1 (ix4 b h t s)) = _ from mask_apply t s]
  rw [show (FloatOps.ofBits .f32 0x00000000#32 : Ideal .f32) = (0 : EReal) from Ideal.ofBits_zero_f32]
  rw [select_decide]
  unfold weight
  split
  · show Ideal.exp ((logBeta _ : EReal) + ((tail _ t.val s.val : EReal) - (rest _ t.val s.val : EReal))) = _
    rw [← EReal.coe_sub, ← EReal.coe_add, Ideal.exp_coe]
    refine congrArg Real.toEReal (congrArg Real.exp (congrArg (logBeta _ + ·) ?_))
    unfold tail
    rw [Finset.sum_eq_sum_Ico_succ_bot (by omega : s.val < 4096)]
    ring
  · exact EReal.coe_zero.symm

/-! ### The result -/

include hf in
/-- THE RESULT ARRAY: row `4096 b + t` at lane `e`. -/
theorem result_apply (y : S16384x512.Idx) :
    val_main_v25 (F := Ideal) x0 x1 y = result x0 x1 ((y 0).val / 4096) ((y 0).val % 4096) (y 1).val := by
  have h0 : (y 0).val < 16384 := (y 0).isLt
  have h1 : (y 1).val < 512 := (y 1).isLt
  have e : (idx_main_v24 (idx_main_v25 y) : S4x8x64x4096.Idx) = ix4 (⟨(y 0).val / 4096, by omega⟩ : Fin 4) (⟨(y 1).val / 64, by omega⟩ : Fin 8)
      (⟨(y 1).val % 64, by omega⟩ : Fin 64) (⟨(y 0).val % 4096, by omega⟩ : Fin 4096) := by
    blk_ext
  rw [val_main_v25_apply, val_main_v24_apply, e, val_main_v23_apply]
  unfold result
  rw [Nat.Ico_zero_eq_range, ← Fin.sum_univ_eq_sum_range (fun s => entryAt x1 1 ((y 0).val / 4096) s (y 1).val
    * (weight (z x0 x1 ((y 0).val / 4096) ((y 1).val / 64) ((y 0).val % 4096)) ((y 0).val % 4096) s : EReal)) 4096]
  have el : ∀ k : Fin 4096, (lidx_main_v23 (ix4 (⟨(y 0).val / 4096, by omega⟩ : Fin 4) (⟨(y 1).val / 64, by omega⟩ : Fin 8)
      (⟨(y 1).val % 64, by omega⟩ : Fin 64) (⟨(y 0).val % 4096, by omega⟩ : Fin 4096)) k : S4x4096x8x64.Idx)
      = ix4 (⟨(y 0).val / 4096, by omega⟩ : Fin 4) k (⟨(y 1).val / 64, by omega⟩ : Fin 8) (⟨(y 1).val % 64, by omega⟩ : Fin 64) := fun k => by blk_ext
  have er : ∀ k : Fin 4096, (ridx_main_v23 (ix4 (⟨(y 0).val / 4096, by omega⟩ : Fin 4) (⟨(y 1).val / 64, by omega⟩ : Fin 8)
      (⟨(y 1).val % 64, by omega⟩ : Fin 64) (⟨(y 0).val % 4096, by omega⟩ : Fin 4096)) k : S4x8x4096x4096.Idx)
      = ix4 (⟨(y 0).val / 4096, by omega⟩ : Fin 4) (⟨(y 1).val / 64, by omega⟩ : Fin 8) (⟨(y 0).val % 4096, by omega⟩ : Fin 4096) k := fun k => by blk_ext
  refine Finset.sum_congr rfl fun k _ => congrArg₂ (· * ·) ?_ ?_
  · rw [el, value_entry x1]
    show entryAt x1 1 _ _ (64 * ((y 1).val / 64) + (y 1).val % 64) = _
    rw [show 64 * ((y 1).val / 64) + (y 1).val % 64 = (y 1).val by omega]
  · rw [er, weight_apply x0 x1 hf]

end Cert.Proof.SbR

end
-- ==== Proof.Sb.Value.lean ====
/-
  The kernel and the reference end with the same array, where every query and key entry is finite.
-/
module

public import proofs.«01_k».proof.Defs
public import proofs.«01_k».proof.Proof.Sb.Frames
public import proofs.«01_k».proof.Proof.Sb.Kernel
public import proofs.«01_k».proof.Proof.Sb.Reference
public import proofs.«01_k».proof.Proof.Gen.Pre_finite
public import Idealize.ShloMosaic.Lib.ReduceAll

@[expose] public section

noncomputable section

namespace Cert.Proof.Sb

open Idealize.ShloMosaic Idealize.ShloMosaic.TcCoe Idealize.SL.Sem Idealize.ShloMosaic.Pointwise

/-! ### The precondition -/

/-- An extended real whose absolute value is below infinity is a real number. -/
theorem eq_toReal (x : EReal) (h : Ideal.cmp .olt (max x (-x)) (Ideal.ofBits .f32 0x7F800000#32) = 1#1) : x = (x.toReal : EReal) := by
  have ht : Ideal.ofBits .f32 0x7F800000#32 = ⊤ := by simp [Ideal.ofBits, Ideal.ieee]
  rw [ht] at h
  have hl : max x (-x) < ⊤ := by
    by_contra hn
    simp [Ideal.cmp, hn] at h
  have h1 : x ≠ ⊤ := (lt_of_le_of_lt (le_max_left _ _) hl).ne
  have h2 : x ≠ ⊥ := fun e => by
    rw [e] at hl
    exact absurd (lt_of_le_of_lt (le_max_right _ _) hl) (by simp)
  exact (EReal.coe_toReal h1 h2).symm

instance : Subsingleton Cert.Pre_finite.S_.Idx := ⟨fun a b => funext fun i => i.elim0⟩

/-- A key entry, as the precondition reads it. -/
theorem key_read (x1 : FVec Ideal Cert.Pre_finite.S4x4096x2x8x64 .f32)
    (hs : Cert.Pre_finite.S4x4096x2x8x64.Slices ![0, 0, 0, 0, 0] Cert.Pre_finite.S4x4096x1x8x64)
    (hc : Cert.Pre_finite.S4x4096x1x8x64.ShapeCasts Cert.Pre_finite.S4x4096x8x64) (b : Fin 4) (s : Fin 4096) (h : Fin 8) (d : Fin 64) :
    shapeCast Cert.Pre_finite.S4x4096x8x64 (extractStridedSlice Cert.Pre_finite.S4x4096x1x8x64 ![0, 0, 0, 0, 0] x1 hs) hc (ix4 b s h d)
      = x1 (ix5 b s (0 : Fin 2) h d) := by
  pointwise []

/-- The precondition makes every query and key entry a real number. -/
theorem finite_of_pre (x0 : QShape.Idx → EReal) (x1 : KvShape.Idx → EReal)
    (h : @Cert.Pre_finite.fn Cert.Pre_finite.Gen.facts Ideal _ x0 x1 = fun _ => 1#1) : Finite x0 x1 := by
  have h0 := congrFun h (fun a => a.elim0)
  unfold Cert.Pre_finite.fn at h0
  obtain ⟨hq, hk⟩ : _ ∧ _ := IntOp.andi_eq_one.1 h0
  constructor
  · intro b s e
    exact eq_toReal _ (Host.reduce_andi_all _ _ _ _ _ hq _)
  · intro b s e
    have hr := eq_toReal _ (Host.reduce_andi_all _ _ _ _ _ hk
      (ix4 (⟨b % 4, by omega⟩ : Fin 4) (⟨s % 4096, by omega⟩ : Fin 4096) (⟨e / 64 % 8, by omega⟩ : Fin 8) (⟨e % 64, by omega⟩ : Fin 64)))
    rw [key_read] at hr
    exact hr

/-! ### The claim -/

/-- From equal queries, keys and values both programs end with the attention's result. -/
theorem algebraic : @Cert.algebraic_KernelIdeal_ReferenceIdeal_pre_finite Cert.KernelIdeal.Gen.facts Cert.ReferenceIdeal.Gen.facts Cert.Pre_finite.Gen.facts := by
  intro m g m' g' hpre hagree
  have hf : ∀ c, Finite (SbI.arg0 m c) (SbI.arg1 m c) := fun c => finite_of_pre _ _ (hpre c)
  refine ⟨fun c => fun y : Cert.KernelIdeal.S16384x512.Idx => result (SbI.arg0 m c) (SbI.arg1 m c) ((y 0).val / 4096) ((y 0).val % 4096) (y 1).val, ?_, ?_⟩
  · exact (θ_run Cert.KernelIdeal.defs _ _).mono
      (fun _ h c => ⟨((h.1 c).1 3).trans (SbI.out_array m c (hf c)), SbI.args_kept m h.1 c⟩) (SbI.run_main m g)
  · refine (θ_run Cert.ReferenceIdeal.defs _ _).mono (fun _ h c => ⟨(h c).1.trans ?_, (h c).2⟩) (Cert.ReferenceIdeal.Value.run m' g')
    rw [Cert.ReferenceIdeal.Read.val_main_v25_eq, (hagree c).1, (hagree c).2]
    funext y
    exact SbR.result_apply (SbI.arg0 m c) (SbI.arg1 m c) (hf c) y

end Cert.Proof.Sb

end
-- ==== Proof.Out.Spec.lean ====
/-
  The layer's tail for one token: the two branches' outputs projected and gated, the output projection
  with its residual, and the normalised SwiGLU network with its residual and the final norm.
-/
module

public import Idealize.ShloMosaic.Lib.Pointwise

@[expose] public section

noncomputable section

namespace Cert.Proof.Out

open Idealize.ShloMosaic

/-- A row through a weight matrix. -/
def through {n k : ℕ} (a : Fin n → EReal) (w : Fin n → Fin k → EReal) (e : Fin k) : EReal := ∑ x, a x * w x e

/-- The root-mean-square norm with its gain: 1149239296 is the word of 1024, 897988541 that of the epsilon. -/
def rmsNorm (h g : Fin 1024 → EReal) (e : Fin 1024) : EReal :=
  h e * Ideal.rsqrt (Ideal.div (∑ x, h x * h x) (Ideal.ofBits FTy.f32 1149239296#32) + Ideal.ofBits FTy.f32 897988541#32) * g e

/-- `g · sigmoid(g) · u`. -/
def swish (g u : EReal) : EReal := g * Ideal.div 1 (1 + Ideal.exp (0 - g)) * u

/-- The SwiGLU network of a row. -/
def ffn (h : Fin 1024 → EReal) (wg wu : Fin 1024 → Fin 2816 → EReal) (wd : Fin 2816 → Fin 1024 → EReal) (e : Fin 1024) : EReal :=
  ∑ f, swish (through h wg f) (through h wu f) * wd f e

/-- The two branches, each weighted by its gate. -/
def gated (oa ob : Fin 512 → EReal) (ga gb : Fin 1024 → EReal) (wa wb : Fin 512 → Fin 1024 → EReal) (e : Fin 1024) : EReal :=
  ga e * through oa wa e + gb e * through ob wb e

/-- The row after the mixers. -/
def mixed (oa ob : Fin 512 → EReal) (ga gb x : Fin 1024 → EReal) (wa wb : Fin 512 → Fin 1024 → EReal)
    (wo : Fin 1024 → Fin 1024 → EReal) (e : Fin 1024) : EReal :=
  x e + through (gated oa ob ga gb wa wb) wo e

/-- The row after the network and the final norm. -/
def tail (h : Fin 1024 → EReal) (nf : Fin 1024 → EReal) (wg wu : Fin 1024 → Fin 2816 → EReal) (wd : Fin 2816 → Fin 1024 → EReal)
    (nl : Fin 1024 → EReal) (e : Fin 1024) : EReal :=
  rmsNorm (fun x => h x + ffn (rmsNorm h nf) wg wu wd x) nl e

/-- The batch of a row of the 4 × 4096 tokens laid out one after another, -/
def batchOf (R : Fin 16384) : Fin 4 := ⟨R.val / 4096, by omega⟩
/-- and its token in the batch. -/
def tokenOf (R : Fin 16384) : Fin 4096 := ⟨R.val % 4096, by omega⟩

/-- THE LAYER'S TAIL of the argument arrays, at a token and a lane. -/
def result (oa ob : (⟨3, ![4, 4096, 512]⟩ : Shape).Idx → EReal) (g : (⟨4, ![4, 4096, 2, 1024]⟩ : Shape).Idx → EReal)
    (x : (⟨3, ![4, 4096, 1024]⟩ : Shape).Idx → EReal) (wa wb : (⟨3, ![1, 512, 1024]⟩ : Shape).Idx → EReal)
    (wo : (⟨3, ![1, 1024, 1024]⟩ : Shape).Idx → EReal) (nf : (⟨2, ![1, 1024]⟩ : Shape).Idx → EReal)
    (wg wu : (⟨3, ![1, 1024, 2816]⟩ : Shape).Idx → EReal) (wd : (⟨3, ![1, 2816, 1024]⟩ : Shape).Idx → EReal)
    (nl : (⟨1, ![1024]⟩ : Shape).Idx → EReal) (R : Fin 16384) (e : Fin 1024) : EReal :=
  tail
    (mixed (fun k => oa (ix3 (batchOf R) (tokenOf R) k)) (fun k => ob (ix3 (batchOf R) (tokenOf R) k))
      (fun k => g (ix4 (batchOf R) (tokenOf R) (0 : Fin 2) k)) (fun k => g (ix4 (batchOf R) (tokenOf R) (1 : Fin 2) k))
      (fun k => x (ix3 (batchOf R) (tokenOf R) k))
      (fun k y => wa (ix3 (0 : Fin 1) k y)) (fun k y => wb (ix3 (0 : Fin 1) k y)) (fun k y => wo (ix3 (0 : Fin 1) k y)))
    (fun k => nf (ix2 (0 : Fin 1) k)) (fun k y => wg (ix3 (0 : Fin 1) k y)) (fun k y => wu (ix3 (0 : Fin 1) k y))
    (fun k y => wd (ix3 (0 : Fin 1) k y)) (fun k => nl (ix1 k)) e

/-! ### Heads in another order -/

/-- The head in place `p`: the even places hold heads 0 to 3, the odd ones 4 to 7. -/
def headAt (p : ℕ) : ℕ := 4 * (p % 2) + p / 2

/-- A column of the reordered array reads this column of the array. -/
def columnAt (k : Fin 512) : Fin 512 := ⟨64 * headAt (k.val / 64) + k.val % 64, by unfold headAt; omega⟩

/-- Every column is read once. -/
def columns : Equiv.Perm (Fin 512) where
  toFun := columnAt
  invFun k := ⟨64 * (2 * (k.val / 64 % 4) + k.val / 64 / 4) + k.val % 64, by omega⟩
  left_inv k := Fin.ext (by unfold columnAt headAt; dsimp only; omega)
  right_inv k := Fin.ext (by unfold columnAt headAt; dsimp only; omega)

/-- A product over reordered columns, with the weight's rows reordered alike. -/
theorem through_columns {n : ℕ} (a : Fin 512 → EReal) (w : Fin 512 → Fin n → EReal) (e : Fin n) :
    through (fun k => a (columnAt k)) (fun k => w (columnAt k)) e = through a w e :=
  Equiv.sum_comp columns fun k => a k * w k e

/-- So the row after the mixers is the same. -/
theorem mixed_columns (oa ob : Fin 512 → EReal) (ga gb x : Fin 1024 → EReal) (wa wb : Fin 512 → Fin 1024 → EReal)
    (wo : Fin 1024 → Fin 1024 → EReal) :
    mixed (fun k => oa (columnAt k)) ob ga gb x (fun k => wa (columnAt k)) wb wo = mixed oa ob ga gb x wa wb wo := by
  funext e
  unfold mixed
  refine congrArg (fun h => x e + through h wo e) (funext fun y => ?_)
  unfold gated
  rw [through_columns]

end Cert.Proof.Out

end
-- ==== Proof.Out.Block.lean ====
/-
  The block of 512 tokens that one grid point computes: every row of it is the layer's tail of that row.
-/
module

public import proofs.«01_k».proof.Proof.Gen.Kernel2Ideal.Frame
public import proofs.«01_k».proof.Proof.Out.Spec
public import Idealize.ShloMosaic.Lib.Pipeline.ValueKit

@[expose] public section

set_option maxRecDepth 16384

noncomputable section

namespace Cert.Proof.OutI

open Cert.Kernel2Ideal Cert.Kernel2Ideal.Gen Cert.Proof.Out
open Idealize.ShloMosaic Idealize.ShloMosaic.TcCoe

/-- Row `i` of a matrix, -/
def row {n k : ℕ} {φ : FTy} (A : FVec Ideal ⟨2, ![n, k]⟩ φ) (i : Fin n) : Fin k → EReal := fun x => A (ix2 i x)
/-- and its entries. -/
def mat {n k : ℕ} {φ : FTy} (A : FVec Ideal ⟨2, ![n, k]⟩ φ) : Fin n → Fin k → EReal := fun x y => A (ix2 x y)

/-- What 256 hidden columns add to the network's result. -/
def chunk (hn : FVec Ideal S512x1024 .bf16) (wg wu : Vec Ideal S1024x256 .bf16) (wd : Vec Ideal S256x1024 .bf16) : FVec Ideal S512x1024 .f32 :=
  let zero : FVec Ideal S512x256 .f32 := constant S512x256 .f32 0x00000000#32
  let one : FVec Ideal S512x256 .f32 := broadcast S512x256 (Scalar.ofBits (F := Ideal) .f32 0x3F800000#32)
  let g : FVec Ideal S512x256 .f32 := matmul dot_S512x1024_S1024x256_S512x256_1_0_0_1_n_n none hn (shapeCast S1024x256 wg shapeCasts_S1024x256_S1024x256 : FVec Ideal S1024x256 .bf16) zero
  let u : FVec Ideal S512x256 .f32 := matmul dot_S512x1024_S1024x256_S512x256_1_0_0_1_n_n none hn (shapeCast S1024x256 wu shapeCasts_S1024x256_S1024x256 : FVec Ideal S1024x256 .bf16) zero
  let e : FVec Ideal S512x256 .f32 := exp (subf (broadcast S512x256 (Scalar.ofBits (F := Ideal) .f32 0x00000000#32)) g)
  let act : FVec Ideal S512x256 .f32 := mulf (mulf g (divf one (addf one e))) u
  matmul dot_S512x256_S256x1024_S512x1024_1_0_0_1_n_n none (truncf .bf16 act bitsLt_bf16_f32 : FVec Ideal S512x256 .bf16)
    (shapeCast S256x1024 wd shapeCasts_S256x1024_S256x1024 : FVec Ideal S256x1024 .bf16) (constant S512x1024 .f32 0x00000000#32 : FVec Ideal S512x1024 .f32)

theorem chunk_apply (hn : FVec Ideal S512x1024 .bf16) (wg wu : Vec Ideal S1024x256 .bf16) (wd : Vec Ideal S256x1024 .bf16)
    (i : Fin 512) (j : Fin 1024) : chunk hn wg wu wd (ix2 i j)
      = ∑ f, swish (through (row hn i) (mat (φ := .bf16) wg) f) (through (row hn i) (mat (φ := .bf16) wu) f) * (wd (ix2 f j) : EReal) := by
  pointwise [chunk]
  rfl

/-! ### The payloads as sums of chunks -/

variable (hn : FVec Ideal S512x1024 .bf16) (acc : FVec Ideal S512x1024 .f32) (a b a' b' : Vec Ideal S1024x256 .bf16) (d d' : Vec Ideal S256x1024 .bf16)

theorem pay5_eq (h n : FVec Ideal S512x1024 .f32) (g : Vec Ideal S1x1024 .f32) :
    k0_pay5 h n g a b d = addf (broadcast S512x1024 (Scalar.ofBits (F := Ideal) .f32 0x00000000#32)) (chunk (k0_pay4 h n g) a b d) := rfl
theorem pay10_eq (h n : FVec Ideal S512x1024 .f32) (g : Vec Ideal S1x1024 .f32) :
    k0_pay10 (k0_pay4 h n g) acc (k0_pay6 h n g a) (k0_pay7 h n g b) (k0_pay8 h n g a) (k0_pay9 (F := Ideal)) d a' b' d'
      = addf (addf acc (chunk (k0_pay4 h n g) a b d)) (chunk (k0_pay4 h n g) a' b' d') := rfl
theorem pay14_eq : k0_pay14 hn acc (k0_pay11 hn a) (k0_pay12 hn b) (k0_pay13 (F := Ideal)) d a' b' d'
      = addf (addf acc (chunk hn a b d)) (chunk hn a' b' d') := rfl
theorem pay17_eq : k0_pay17 hn acc (k0_pay15 hn a) (k0_pay16 b) d a' b' d'
      = addf (addf acc (chunk hn a b d)) (chunk hn a' b' d') := rfl
theorem pay19_eq : k0_pay19 hn acc (k0_pay18 hn a) b d a' b' d' = addf (addf acc (chunk hn a b d)) (chunk hn a' b' d') := rfl
theorem pay20_eq : k0_pay20 hn acc a b d = addf acc (chunk hn a b d) := rfl

/-- The last chunk is added inside the final norm. -/
theorem pay1_apply (h : FVec Ideal S512x1024 .f32) (g : Vec Ideal S1x1024 .f32) (i : Fin 512) (j : Fin 1024) :
    k0_pay1 h acc (k0_pay21 hn a b) (k0_pay22 d) (constant S512x1024 .f32 0x00000000#32) g (ix2 i j)
      = rmsNorm (fun x => (h (ix2 i x) : EReal) + addf acc (chunk hn a b d) (ix2 i x)) (row (φ := .f32) g 0) j := by
  unfold rmsNorm
  pointwise [k0_pay1, k0_pay21, k0_pay22, chunk, row]

/-- The row after the mixers, -/
theorem pay2_apply (x0 : Vec Ideal S512x512 .f32) (x4 : Vec Ideal S512x1024 .bf16) (x1 : Vec Ideal S512x512 .f32) (x5 : Vec Ideal S512x1024 .bf16)
    (ga gb : Vec Ideal S512x1024 .bf16) (x3 : Vec Ideal S512x1024 .f32) (x6 : Vec Ideal S1024x1024 .bf16) (i : Fin 512) (j : Fin 1024) :
    k0_pay2 x0 x4 x1 x5 ga gb x3 x6 (ix2 i j) = mixed (row (φ := .f32) x0 i) (row (φ := .f32) x1 i) (row (φ := .bf16) ga i) (row (φ := .bf16) gb i)
      (row (φ := .f32) x3 i) (mat (φ := .bf16) x4) (mat (φ := .bf16) x5) (mat (φ := .bf16) x6) j := by
  pointwise [k0_pay2]
  rfl

/-- and its norm. -/
theorem pay4_apply (x0 : Vec Ideal S512x512 .f32) (x4 : Vec Ideal S512x1024 .bf16) (x1 : Vec Ideal S512x512 .f32) (x5 : Vec Ideal S512x1024 .bf16)
    (ga gb : Vec Ideal S512x1024 .bf16) (x3 : Vec Ideal S512x1024 .f32) (x6 : Vec Ideal S1024x1024 .bf16) (g : Vec Ideal S1x1024 .f32) (i : Fin 512) (j : Fin 1024) :
    k0_pay4 (k0_pay2 x0 x4 x1 x5 ga gb x3 x6) (k0_pay3 x0 x4 x1 x5 ga gb x3 x6) g (ix2 i j)
      = rmsNorm (row (k0_pay2 x0 x4 x1 x5 ga gb x3 x6) i) (row (φ := .f32) g 0) j := by
  unfold k0_pay3
  generalize k0_pay2 x0 x4 x1 x5 ga gb x3 x6 = h
  pointwise [k0_pay4]
  rfl

/-! ### The eleven chunks -/

/-- A sum over the 2816 hidden columns, chunk by chunk. -/
theorem sum_chunks (G : Fin 2816 → EReal) :
    ∑ f, G f = ∑ n ∈ Finset.range 11, ∑ f : Fin 256, G ⟨(256 * n + f.val) % 2816, Nat.mod_lt _ (by decide)⟩ := by
  rw [← Fin.sum_univ_eq_sum_range (fun n => ∑ f : Fin 256, G ⟨(256 * n + f.val) % 2816, Nat.mod_lt _ (by decide)⟩) 11, ← Fintype.sum_prod_type']
  refine (Fintype.sum_equiv (finProdFinEquiv (m := 11) (n := 256)) _ _ fun p => ?_).symm
  refine congrArg G (Fin.ext ?_)
  have h : (finProdFinEquiv p).val = p.2.val + 256 * p.1.val := rfl
  have := p.1.isLt; have := p.2.isLt
  show (256 * p.1.val + p.2.val) % 2816 = (finProdFinEquiv p).val
  rw [h]; omega

variable (x8 x9 : Vec Ideal S1024x2816 .bf16) (x10 : Vec Ideal S2816x1024 .bf16)

/-- One hidden column's share of the network's result. -/
def share (h : Fin 1024 → EReal) (j : Fin 1024) (f : Fin 2816) : EReal :=
  swish (through h (mat (φ := .bf16) x8) f) (through h (mat (φ := .bf16) x9) f) * mat (φ := .bf16) x10 f j

/-- A chunk over the columns from `256·n` on. -/
theorem chunk_ld (n o : ℕ) (ho : o = 256 * n) (inb inb') (i : Fin 512) (j : Fin 1024) (hn11 : n < 11) :
    chunk hn (View.ld (Val := Elt Ideal) x8 (Rect.unit (s := S1024x2816) ![0, o] S1024x256.size inb))
        (View.ld (Val := Elt Ideal) x9 (Rect.unit (s := S1024x2816) ![0, o] S1024x256.size inb))
        (View.ld (Val := Elt Ideal) x10 (Rect.unit (s := S2816x1024) ![o, 0] S256x1024.size inb')) (ix2 i j)
      = ∑ f : Fin 256, share x8 x9 x10 (row hn i) j ⟨(256 * n + f.val) % 2816, Nat.mod_lt _ (by decide)⟩ := by
  subst ho
  rw [chunk_apply]
  have hcol : ∀ (X : Vec Ideal S1024x2816 .bf16) (f : Fin 256) (x : Fin 1024),
      (View.ld (Val := Elt Ideal) X (Rect.unit (s := S1024x2816) ![0, 256 * n] S1024x256.size inb) (ix2 x f) : EReal)
        = X (ix2 x (⟨(256 * n + f.val) % 2816, Nat.mod_lt _ (by decide)⟩ : Fin 2816)) := fun X f x =>
    View.ld_unit_apply_of X _ _ inb _ _ fun a => by
      match a with
      | ⟨0, _⟩ => show x.val = 0 + x.val; omega
      | ⟨1, _⟩ => show (256 * n + f.val) % 2816 = 256 * n + f.val; omega
  have hrow : ∀ (f : Fin 256), (View.ld (Val := Elt Ideal) x10 (Rect.unit (s := S2816x1024) ![256 * n, 0] S256x1024.size inb') (ix2 f j) : EReal)
        = x10 (ix2 (⟨(256 * n + f.val) % 2816, Nat.mod_lt _ (by decide)⟩ : Fin 2816) j) := fun f =>
    View.ld_unit_apply_of x10 _ _ inb' _ _ fun a => by
      match a with
      | ⟨0, _⟩ => show (256 * n + f.val) % 2816 = 256 * n + f.val; omega
      | ⟨1, _⟩ => show j.val = 0 + j.val; omega
  refine Finset.sum_congr rfl fun f _ => ?_
  unfold share
  rw [hrow f]
  have hw : ∀ (X : Vec Ideal S1024x2816 .bf16), through (row hn i) (mat (φ := .bf16)
      (View.ld (Val := Elt Ideal) X (Rect.unit (s := S1024x2816) ![0, 256 * n] S1024x256.size inb))) f
      = through (row hn i) (mat (φ := .bf16) X) (⟨(256 * n + f.val) % 2816, Nat.mod_lt _ (by decide)⟩ : Fin 2816) := fun X =>
    Finset.sum_congr rfl fun x _ => congrArg (row hn i x * ·) (hcol X f x)
  rw [hw x8, hw x9]
  rfl

/-! ### The block -/

variable (x0 x1 : Vec Ideal S512x512 .f32) (x2 : Vec Ideal S512x2048 .bf16) (x3 : Vec Ideal S512x1024 .f32) (x4 x5 : Vec Ideal S512x1024 .bf16)
  (x6 : Vec Ideal S1024x1024 .bf16) (x7 x11 : Vec Ideal S1x1024 .f32)

/-- The left half of a token's gates, -/
def gateA (i : Fin 512) : Fin 1024 → EReal := fun x => (x2 (ix2 i (⟨x.val, by omega⟩ : Fin 2048)) : EReal)
/-- and the right half. -/
def gateB (i : Fin 512) : Fin 1024 → EReal := fun x => (x2 (ix2 i (⟨1024 + x.val, by omega⟩ : Fin 2048)) : EReal)

/-- A token's row after the mixers. -/
def mixedRow (i : Fin 512) : Fin 1024 → EReal :=
  mixed (row (φ := .f32) x0 i) (row (φ := .f32) x1 i) (gateA x2 i) (gateB x2 i) (row (φ := .f32) x3 i) (mat (φ := .bf16) x4) (mat (φ := .bf16) x5) (mat (φ := .bf16) x6)

theorem pay23_apply (i : Fin 512) (j : Fin 1024) :
    k0_pay23 x0 x1 x2 x3 x4 x5 x6 x7 x8 x9 x10 x11 (ix2 i j) = mixedRow x0 x1 x2 x3 x4 x5 x6 i j := by
  unfold k0_pay23
  rw [pay2_apply]
  have z : (![0, 0] : Fin 2 → ℕ) = fun _ => 0 := by funext a; fin_cases a <;> rfl
  rw [View.ld_unit_zero (S := S512x512) z, View.ld_unit_zero (S := S512x1024) z, View.ld_unit_zero (S := S512x512) z, View.ld_unit_zero (S := S512x1024) z,
    View.ld_unit_zero (S := S512x1024) z, View.ld_unit_zero (S := S1024x1024) z]
  have ha : row (φ := .bf16) (View.ld (Val := Elt Ideal) x2 r0_2) i = gateA x2 i := funext fun x =>
    View.ld_unit_apply_of x2 _ _ _ _ _ fun a => by
      match a with
      | ⟨0, _⟩ => show i.val = 0 + i.val; omega
      | ⟨1, _⟩ => show x.val = 0 + x.val; omega
  have hb : row (φ := .bf16) (View.ld (Val := Elt Ideal) x2 r0_3) i = gateB x2 i := funext fun x =>
    View.ld_unit_apply_of x2 _ _ _ _ _ fun a => by
      match a with
      | ⟨0, _⟩ => show i.val = 0 + i.val; omega
      | ⟨1, _⟩ => rfl
  rw [ha, hb]
  rfl

theorem pay25_row (i : Fin 512) :
    row (k0_pay25 x0 x1 x2 x3 x4 x5 x6 x7 x8 x9 x10 x11) i = rmsNorm (mixedRow x0 x1 x2 x3 x4 x5 x6 i) (row (φ := .f32) x7 0) := by
  funext x
  have z : (![0, 0] : Fin 2 → ℕ) = fun _ => 0 := by funext a; fin_cases a <;> rfl
  show k0_pay4 (k0_pay23 x0 x1 x2 x3 x4 x5 x6 x7 x8 x9 x10 x11) (k0_pay24 x0 x1 x2 x3 x4 x5 x6 x7 x8 x9 x10 x11) (View.ld x7 r0_5) (ix2 i x) = _
  unfold k0_pay23 k0_pay24
  rw [pay4_apply, View.ld_unit_zero (S := S1x1024) z]
  refine congrArg (fun h => rmsNorm h (row (φ := .f32) x7 0) x) (funext fun y => ?_)
  exact pay23_apply x8 x9 x10 x0 x1 x2 x3 x4 x5 x6 x7 x11 i y

/-- Row `i` of the block is the layer's tail of the token's row. -/
theorem out_apply (i : Fin 512) (j : Fin 1024) :
    out0_12 x0 x1 x2 x3 x4 x5 x6 x7 x8 x9 x10 x11 (ix2 i j)
      = Out.tail (mixedRow x0 x1 x2 x3 x4 x5 x6 i) (row (φ := .f32) x7 0) (mat (φ := .bf16) x8) (mat (φ := .bf16) x9) (mat (φ := .bf16) x10)
          (row (φ := .f32) x11 0) j := by
  have z : (![0, 0] : Fin 2 → ℕ) = fun _ => 0 := by funext a; fin_cases a <;> rfl
  unfold out0_12
  rw [View.canon_unit_zero (S := S512x1024) z, pay1_apply, View.ld_unit_zero (S := S1x1024) z _ x11, View.ld_unit_zero (S := S1x1024) z _ x7, pay20_eq, pay19_eq, pay17_eq, pay14_eq]
  unfold Out.tail
  refine congrArg (fun h => rmsNorm h (row (φ := .f32) x11 0) j) (funext fun y => ?_)
  rw [pay23_apply]
  refine congrArg (mixedRow x0 x1 x2 x3 x4 x5 x6 i y + ·) ?_
  have e4 : k0_pay4 (k0_pay23 x0 x1 x2 x3 x4 x5 x6 x7 x8 x9 x10 x11) (k0_pay24 x0 x1 x2 x3 x4 x5 x6 x7 x8 x9 x10 x11) x7
      = k0_pay25 x0 x1 x2 x3 x4 x5 x6 x7 x8 x9 x10 x11 := by
    unfold k0_pay25
    rw [View.ld_unit_zero (S := S1x1024) z _ x7]
  have e10 := fun acc a b a' b' d d' => pay10_eq acc a b a' b' d d' (k0_pay23 x0 x1 x2 x3 x4 x5 x6 x7 x8 x9 x10 x11)
    (k0_pay24 x0 x1 x2 x3 x4 x5 x6 x7 x8 x9 x10 x11) x7
  rw [e4] at e10
  rw [e10, pay5_eq, e4]
  generalize hh : k0_pay25 x0 x1 x2 x3 x4 x5 x6 x7 x8 x9 x10 x11 = hn
  have hr : row hn i = rmsNorm (mixedRow x0 x1 x2 x3 x4 x5 x6 i) (row (φ := .f32) x7 0) := by
    rw [← hh]; exact pay25_row x8 x9 x10 x0 x1 x2 x3 x4 x5 x6 x7 x11 i
  rw [← hr]
  unfold ffn
  rw [show (∑ f, swish (through (row hn i) (mat (φ := .bf16) x8) f) (through (row hn i) (mat (φ := .bf16) x9) f) * mat (φ := .bf16) x10 f y)
      = ∑ f, share x8 x9 x10 (row hn i) y f from rfl, sum_chunks]
  simp only [Finset.sum_range_succ, Finset.sum_range_zero]
  rw [← chunk_ld hn x8 x9 x10 0 0 rfl inb_S1024x2816_S1024x256_0_0 inb_S2816x1024_S256x1024_0_0 i y (by decide),
    ← chunk_ld hn x8 x9 x10 1 256 rfl inb_S1024x2816_S1024x256_0_256 inb_S2816x1024_S256x1024_256_0 i y (by decide),
    ← chunk_ld hn x8 x9 x10 2 512 rfl inb_S1024x2816_S1024x256_0_512 inb_S2816x1024_S256x1024_512_0 i y (by decide),
    ← chunk_ld hn x8 x9 x10 3 768 rfl inb_S1024x2816_S1024x256_0_768 inb_S2816x1024_S256x1024_768_0 i y (by decide),
    ← chunk_ld hn x8 x9 x10 4 1024 rfl inb_S1024x2816_S1024x256_0_1024 inb_S2816x1024_S256x1024_1024_0 i y (by decide),
    ← chunk_ld hn x8 x9 x10 5 1280 rfl inb_S1024x2816_S1024x256_0_1280 inb_S2816x1024_S256x1024_1280_0 i y (by decide),
    ← chunk_ld hn x8 x9 x10 6 1536 rfl inb_S1024x2816_S1024x256_0_1536 inb_S2816x1024_S256x1024_1536_0 i y (by decide),
    ← chunk_ld hn x8 x9 x10 7 1792 rfl inb_S1024x2816_S1024x256_0_1792 inb_S2816x1024_S256x1024_1792_0 i y (by decide),
    ← chunk_ld hn x8 x9 x10 8 2048 rfl inb_S1024x2816_S1024x256_0_2048 inb_S2816x1024_S256x1024_2048_0 i y (by decide),
    ← chunk_ld hn x8 x9 x10 9 2304 rfl inb_S1024x2816_S1024x256_0_2304 inb_S2816x1024_S256x1024_2304_0 i y (by decide),
    ← chunk_ld hn x8 x9 x10 10 2560 rfl inb_S1024x2816_S1024x256_0_2560 inb_S2816x1024_S256x1024_2560_0 i y (by decide)]
  have e0 : ((broadcast S512x1024 (Scalar.ofBits (F := Ideal) .f32 0x00000000#32) : FVec Ideal S512x1024 .f32) (ix2 i y) : EReal) = 0 := by
    pointwise []
  rw [← e0]
  rfl

end Cert.Proof.OutI

end
-- ==== Proof.Out.Heads.lean ====
/-
  The arrays the host prepares for the layer's tail, read at an index: the first branch's output and its
  projection with the heads reordered, every other argument reshaped.
-/
module

public import proofs.«01_k».proof.Proof.Out.Block
public import proofs.«01_k».proof.Proof.Out.Spec
public import Idealize.ShloMosaic.Lib.Claim

@[expose] public section

set_option maxRecDepth 16384

noncomputable section

namespace Cert.Proof.OutI

open Cert.Kernel2Ideal Cert.Kernel2Ideal.Gen Cert.Proof.Out
open Idealize.ShloMosaic Idealize.ShloMosaic.TcCoe Idealize.ShloMosaic.Pointwise Idealize.ShloMosaic.StableHlo

/-! ### The order of the heads -/

/-- The table of the heads' order, as the host hands it to a gather. -/
def heads (tab : Fin 8 → BitVec 32) : IVec S8x1 32 :=
  broadcastInDim S8x1 ![0] bcast_S8_S8x1_0 (select (constantI S8 1 0#1)
    (addi (fun i => tab (S8.rowMajor i)) (broadcastInDim S8 ![] bcast_S_S8 (constantI S_ 32 8#32))) (fun i => tab (S8.rowMajor i)))

theorem heads_apply (p : Fin 8) : heads lit0 (ix2 p (0 : Fin 1)) = BitVec.ofNat 32 (headAt p.val) := by
  revert p; decide +kernel

theorem heads_start (p : Fin 8) : (heads lit0 (ix2 p (0 : Fin 1))).toInt.toNat = headAt p.val := by
  rw [heads_apply]; revert p; decide +kernel

/-- The gather of a branch's heads: place `p` reads the head the table names. -/
theorem gather_rows {α : Type} (x : S16384x8x64.Idx → α) (R : Fin 16384) (p : Fin 8) (d : Fin 64) :
    Host.gather gather_S16384x8x64_S8x1_S16384x8x64_02_1_n_n_1_1_16384164 x (heads lit0) (ix3 R p d)
      = x (ix3 R (⟨headAt p.val, by unfold headAt; omega⟩ : Fin 8) d) := by
  unfold Host.gather
  refine congrArg x (funext fun a => Fin.ext ?_)
  show GatherDims.start _ _ _ a + GatherDims.batchCoord _ _ a + GatherDims.offCoord _ _ a = _
  rw [GatherDims.batchCoord_eq_zero _ _ _ (fun h => by simp [gather_S16384x8x64_S8x1_S16384x8x64_02_1_n_n_1_1_16384164] at h)]
  match a with
  | ⟨0, _⟩ => show 0 + 0 + R.val = R.val; omega
  | ⟨1, _⟩ =>
    have hs : gather_S16384x8x64_S8x1_S16384x8x64_02_1_n_n_1_1_16384164.siIdx (ix3 R p d)
        ⟨List.idxOf (1 : Fin 3) [1], List.idxOf_lt_length_iff.2 (List.mem_singleton.mpr rfl)⟩ = ix2 p (0 : Fin 1) := by
      funext b
      match b with
      | ⟨0, _⟩ => rfl
      | ⟨1, _⟩ => rfl
    show min (heads lit0 (gather_S16384x8x64_S8x1_S16384x8x64_02_1_n_n_1_1_16384164.siIdx (ix3 R p d)
        ⟨List.idxOf (1 : Fin 3) [1], List.idxOf_lt_length_iff.2 (List.mem_singleton.mpr rfl)⟩)).toInt.toNat (8 - 1) + 0 + 0 = headAt p.val
    rw [hs, heads_start]
    unfold headAt
    omega
  | ⟨2, _⟩ => show 0 + 0 + d.val = d.val; omega

/-- The gather of the projection's heads. -/
theorem gather_weights {α : Type} (x : S8x64x1024.Idx → α) (p : Fin 8) (d : Fin 64) (e : Fin 1024) :
    Host.gather gather_S8x64x1024_S8x1_S8x64x1024_12_0_n_n_0_1_1641024 x (heads lit0) (ix3 p d e)
      = x (ix3 (⟨headAt p.val, by unfold headAt; omega⟩ : Fin 8) d e) := by
  unfold Host.gather
  refine congrArg x (funext fun a => Fin.ext ?_)
  show GatherDims.start _ _ _ a + GatherDims.batchCoord _ _ a + GatherDims.offCoord _ _ a = _
  rw [GatherDims.batchCoord_eq_zero _ _ _ (fun h => by simp [gather_S8x64x1024_S8x1_S8x64x1024_12_0_n_n_0_1_1641024] at h)]
  match a with
  | ⟨0, _⟩ =>
    have hs : gather_S8x64x1024_S8x1_S8x64x1024_12_0_n_n_0_1_1641024.siIdx (ix3 p d e)
        ⟨List.idxOf (0 : Fin 3) [0], List.idxOf_lt_length_iff.2 (List.mem_singleton.mpr rfl)⟩ = ix2 p (0 : Fin 1) := by
      funext b
      match b with
      | ⟨0, _⟩ => rfl
      | ⟨1, _⟩ => rfl
    show min (heads lit0 (gather_S8x64x1024_S8x1_S8x64x1024_12_0_n_n_0_1_1641024.siIdx (ix3 p d e)
        ⟨List.idxOf (0 : Fin 3) [0], List.idxOf_lt_length_iff.2 (List.mem_singleton.mpr rfl)⟩)).toInt.toNat (8 - 1) + 0 + 0 = headAt p.val
    rw [hs, heads_start]
    unfold headAt
    omega
  | ⟨1, _⟩ => show 0 + 0 + d.val = d.val; omega
  | ⟨2, _⟩ => show 0 + 0 + e.val = e.val; omega

/-- The first branch's output, with its heads reordered. -/
theorem first_row (x : Vec Ideal S4x4096x512 .f32) (R : Fin 16384) (k : Fin 512) :
    shapeCast S16384x512 (Host.gather gather_S16384x8x64_S8x1_S16384x8x64_02_1_n_n_1_1_16384164
      (shapeCast S16384x8x64 x shapeCasts_S4x4096x512_S16384x8x64) (heads lit0)) shapeCasts_S16384x8x64_S16384x512 (ix2 R k)
      = x (ix3 (batchOf R) (tokenOf R) (columnAt k)) := by
  have h1 : shapeCast S16384x512 (Host.gather gather_S16384x8x64_S8x1_S16384x8x64_02_1_n_n_1_1_16384164
      (shapeCast S16384x8x64 x shapeCasts_S4x4096x512_S16384x8x64) (heads lit0)) shapeCasts_S16384x8x64_S16384x512 (ix2 R k)
      = Host.gather gather_S16384x8x64_S8x1_S16384x8x64_02_1_n_n_1_1_16384164
          (shapeCast S16384x8x64 x shapeCasts_S4x4096x512_S16384x8x64) (heads lit0)
          (ix3 R (⟨k.val / 64, by omega⟩ : Fin 8) (⟨k.val % 64, by omega⟩ : Fin 64)) := by
    generalize Host.gather _ _ _ = X
    pointwise []
  rw [h1, gather_rows]
  pointwise []
  refine congrArg x ?_
  unfold batchOf tokenOf columnAt headAt
  blk_ext

/-- Its projection, with the rows reordered. -/
theorem first_weight (x : Vec Ideal S1x512x1024 .f32) (k : Fin 512) (e : Fin 1024) :
    truncf (F := Ideal) .bf16 (shapeCast S512x1024 (Host.gather gather_S8x64x1024_S8x1_S8x64x1024_12_0_n_n_0_1_1641024
      (shapeCast S8x64x1024 (shapeCast S512x1024 x shapeCasts_S1x512x1024_S512x1024) shapeCasts_S512x1024_S8x64x1024) (heads lit0))
      shapeCasts_S8x64x1024_S512x1024) bitsLt_bf16_f32 (ix2 k e)
      = x (ix3 (0 : Fin 1) (columnAt k) e) := by
  have h1 : truncf (F := Ideal) .bf16 (shapeCast S512x1024 (Host.gather gather_S8x64x1024_S8x1_S8x64x1024_12_0_n_n_0_1_1641024
      (shapeCast S8x64x1024 (shapeCast S512x1024 x shapeCasts_S1x512x1024_S512x1024) shapeCasts_S512x1024_S8x64x1024) (heads lit0))
      shapeCasts_S8x64x1024_S512x1024) bitsLt_bf16_f32 (ix2 k e)
      = Host.gather gather_S8x64x1024_S8x1_S8x64x1024_12_0_n_n_0_1_1641024
      (shapeCast S8x64x1024 (shapeCast S512x1024 x shapeCasts_S1x512x1024_S512x1024) shapeCasts_S512x1024_S8x64x1024) (heads lit0)
          (ix3 (⟨k.val / 64, by omega⟩ : Fin 8) (⟨k.val % 64, by omega⟩ : Fin 64) e) := by
    generalize Host.gather _ _ _ = X
    pointwise []
  rw [h1, gather_weights]
  pointwise []
  refine congrArg x ?_
  unfold columnAt headAt
  blk_ext

end Cert.Proof.OutI

end
-- ==== Proof.Out.Kernel.lean ====
/-
  The kernel's result array: at every token and lane, the layer's tail of the argument arrays.
-/
module

public import proofs.«01_k».proof.Proof.Out.Heads
public import proofs.«01_k».proof.Proof.Gen.Kernel2Ideal.Value

@[expose] public section

set_option maxRecDepth 16384

noncomputable section

namespace Cert.Proof.OutI

open Cert.Kernel2Ideal Cert.Kernel2Ideal.Gen Cert.Proof.Out
open Idealize.ShloMosaic Idealize.ShloMosaic.TcCoe Idealize.ShloMosaic.Pointwise Idealize.ShloMosaic.StableHlo

variable (m : (ℓ : Loc nD τ sig) → Buf (Elt Ideal) ℓ) (c : Dev nD)

/-- An argument array. -/
abbrev arg (b : Ref sig .tc) := m ((c : Thread nD τ).loc b)

/-! ### What the host operations prepare -/

theorem entry_0 : V m c main_v6 = shapeCast S16384x512 (Host.gather gather_S16384x8x64_S8x1_S16384x8x64_02_1_n_n_1_1_16384164
    (shapeCast S16384x8x64 (arg m c main_arg0 : Vec Ideal S4x4096x512 .f32) shapeCasts_S4x4096x512_S16384x8x64) (heads lit0)) shapeCasts_S16384x8x64_S16384x512 := by
  show StableHlo.after hostOps0 _ _ = _
  after_results
  rfl

theorem entry_1 : V m c main_v7 = shapeCast S16384x512 (arg m c main_arg1 : Vec Ideal S4x4096x512 .f32) shapeCasts_S4x4096x512_S16384x512 := by
  show StableHlo.after hostOps0 _ _ = _
  after_results
  rfl

theorem entry_2 : V m c main_v9 = truncf (F := Ideal) .bf16 (shapeCast S16384x2048 (arg m c main_arg2 : Vec Ideal S4x4096x2x1024 .f32)
    shapeCasts_S4x4096x2x1024_S16384x2048) bitsLt_bf16_f32 := by
  show StableHlo.after hostOps0 _ _ = _
  after_results
  rfl

theorem entry_3 : V m c main_v32 = shapeCast S16384x1024 (arg m c main_arg3 : Vec Ideal S4x4096x1024 .f32) shapeCasts_S4x4096x1024_S16384x1024 := by
  show StableHlo.after hostOps0 _ _ = _
  after_results
  rfl

theorem entry_4 : V m c main_v18 = truncf (F := Ideal) .bf16 (shapeCast S512x1024 (Host.gather gather_S8x64x1024_S8x1_S8x64x1024_12_0_n_n_0_1_1641024
    (shapeCast S8x64x1024 (shapeCast S512x1024 (arg m c main_arg4 : Vec Ideal S1x512x1024 .f32) shapeCasts_S1x512x1024_S512x1024) shapeCasts_S512x1024_S8x64x1024) (heads lit1))
    shapeCasts_S8x64x1024_S512x1024) bitsLt_bf16_f32 := by
  show StableHlo.after hostOps0 _ _ = _
  after_results
  rfl

theorem entry_5 : V m c main_v20 = truncf (F := Ideal) .bf16 (shapeCast S512x1024 (arg m c main_arg5 : Vec Ideal S1x512x1024 .f32) shapeCasts_S1x512x1024_S512x1024) bitsLt_bf16_f32 := by
  show StableHlo.after hostOps0 _ _ = _
  after_results
  rfl

theorem entry_6 : V m c main_v22 = truncf (F := Ideal) .bf16 (shapeCast S1024x1024 (arg m c main_arg6 : Vec Ideal S1x1024x1024 .f32) shapeCasts_S1x1024x1024_S1024x1024) bitsLt_bf16_f32 := by
  show StableHlo.after hostOps0 _ _ = _
  after_results
  rfl

theorem entry_7 : V m c main_v24 = shapeCast S1x1024 (shapeCast S1024 (arg m c main_arg7 : Vec Ideal S1x1024 .f32) shapeCasts_S1x1024_S1024) shapeCasts_S1024_S1x1024 := by
  show StableHlo.after hostOps0 _ _ = _
  after_results
  rfl

theorem entry_8 : V m c main_v26 = truncf (F := Ideal) .bf16 (shapeCast S1024x2816 (arg m c main_arg8 : Vec Ideal S1x1024x2816 .f32) shapeCasts_S1x1024x2816_S1024x2816) bitsLt_bf16_f32 := by
  show StableHlo.after hostOps0 _ _ = _
  after_results
  rfl

theorem entry_9 : V m c main_v28 = truncf (F := Ideal) .bf16 (shapeCast S1024x2816 (arg m c main_arg9 : Vec Ideal S1x1024x2816 .f32) shapeCasts_S1x1024x2816_S1024x2816) bitsLt_bf16_f32 := by
  show StableHlo.after hostOps0 _ _ = _
  after_results
  rfl

theorem entry_10 : V m c main_v30 = truncf (F := Ideal) .bf16 (shapeCast S2816x1024 (arg m c main_arg10 : Vec Ideal S1x2816x1024 .f32) shapeCasts_S1x2816x1024_S2816x1024) bitsLt_bf16_f32 := by
  show StableHlo.after hostOps0 _ _ = _
  after_results
  rfl

theorem entry_11 : V m c main_v31 = shapeCast S1x1024 (arg m c main_arg11 : Vec Ideal S1024 .f32) shapeCasts_S1024_S1x1024 := by
  show StableHlo.after hostOps0 _ _ = _
  after_results
  rfl

/-! ### Read at an index -/

theorem rows_512 (x : Vec Ideal S4x4096x512 .f32) (R : Fin 16384) (k : Fin 512) :
    shapeCast S16384x512 x shapeCasts_S4x4096x512_S16384x512 (ix2 R k) = x (ix3 (batchOf R) (tokenOf R) k) := by
  pointwise []
  refine congrArg x ?_
  unfold batchOf tokenOf
  blk_ext

theorem rows_1024 (x : Vec Ideal S4x4096x1024 .f32) (R : Fin 16384) (k : Fin 1024) :
    shapeCast S16384x1024 x shapeCasts_S4x4096x1024_S16384x1024 (ix2 R k) = x (ix3 (batchOf R) (tokenOf R) k) := by
  pointwise []
  refine congrArg x ?_
  unfold batchOf tokenOf
  blk_ext

theorem rows_gates (x : Vec Ideal S4x4096x2x1024 .f32) (R : Fin 16384) (g : Fin 2) (k : Fin 1024) :
    truncf (F := Ideal) .bf16 (shapeCast S16384x2048 x shapeCasts_S4x4096x2x1024_S16384x2048) bitsLt_bf16_f32
      (ix2 R (⟨1024 * g.val + k.val, by omega⟩ : Fin 2048)) = x (ix4 (batchOf R) (tokenOf R) g k) := by
  pointwise []
  refine congrArg x ?_
  unfold batchOf tokenOf
  blk_ext

theorem weight_512 (x : Vec Ideal S1x512x1024 .f32) (k : Fin 512) (e : Fin 1024) :
    truncf (F := Ideal) .bf16 (shapeCast S512x1024 x shapeCasts_S1x512x1024_S512x1024) bitsLt_bf16_f32 (ix2 k e) = x (ix3 (0 : Fin 1) k e) := by
  pointwise []

theorem weight_1024 (x : Vec Ideal S1x1024x1024 .f32) (k : Fin 1024) (e : Fin 1024) :
    truncf (F := Ideal) .bf16 (shapeCast S1024x1024 x shapeCasts_S1x1024x1024_S1024x1024) bitsLt_bf16_f32 (ix2 k e) = x (ix3 (0 : Fin 1) k e) := by
  pointwise []

theorem weight_in (x : Vec Ideal S1x1024x2816 .f32) (k : Fin 1024) (e : Fin 2816) :
    truncf (F := Ideal) .bf16 (shapeCast S1024x2816 x shapeCasts_S1x1024x2816_S1024x2816) bitsLt_bf16_f32 (ix2 k e) = x (ix3 (0 : Fin 1) k e) := by
  pointwise []

theorem weight_out (x : Vec Ideal S1x2816x1024 .f32) (k : Fin 2816) (e : Fin 1024) :
    truncf (F := Ideal) .bf16 (shapeCast S2816x1024 x shapeCasts_S1x2816x1024_S2816x1024) bitsLt_bf16_f32 (ix2 k e) = x (ix3 (0 : Fin 1) k e) := by
  pointwise []

theorem gain_ffn (x : Vec Ideal S1x1024 .f32) (e : Fin 1024) :
    shapeCast S1x1024 (shapeCast S1024 x shapeCasts_S1x1024_S1024) shapeCasts_S1024_S1x1024 (ix2 (0 : Fin 1) e) = x (ix2 (0 : Fin 1) e) := by
  pointwise []

theorem gain_final (x : Vec Ideal S1024 .f32) (e : Fin 1024) :
    shapeCast S1x1024 x shapeCasts_S1024_S1x1024 (ix2 (0 : Fin 1) e) = x (ix1 e) := by
  pointwise []

/-! ### The blocks -/

/-- The blocks of a point: its tokens' rows, and the weights whole. -/
theorem idx : ∀ t : Fin cfg0.N,
    win0_0.index t = ![t.val, 0] ∧ win0_1.index t = ![t.val, 0] ∧ win0_2.index t = ![t.val, 0] ∧ win0_3.index t = ![t.val, 0]
      ∧ win0_4.index t = ![0, 0] ∧ win0_5.index t = ![0, 0] ∧ win0_6.index t = ![0, 0] ∧ win0_7.index t = ![0, 0] ∧ win0_8.index t = ![0, 0]
      ∧ win0_9.index t = ![0, 0] ∧ win0_10.index t = ![0, 0] ∧ win0_11.index t = ![0, 0] ∧ win0_12.index t = ![t.val, 0] :=
  (by decide +kernel : ∀ t : Fin grid0.N, _)

theorem point_lt (t : Fin cfg0.N) : t.val < 32 := t.isLt

section Blocks

variable (t : Fin cfg0.N)

/-- A point's token among all. -/
def rowOf (i : Fin 512) : Fin 16384 := ⟨512 * t.val + i.val, by have := point_lt t; omega⟩

theorem read_0 (X : Vec Ideal S16384x512 .f32) (i : Fin 512) (k : Fin 512) :
    ((cfg0.win 0).blk t).view.read (Elt Ideal) X (ix2 i k) = X (ix2 (rowOf t i) k) := by
  unfold rowOf
  blk_ext [(idx t).1]

theorem read_1 (X : Vec Ideal S16384x512 .f32) (i : Fin 512) (k : Fin 512) :
    ((cfg0.win 1).blk t).view.read (Elt Ideal) X (ix2 i k) = X (ix2 (rowOf t i) k) := by
  unfold rowOf
  blk_ext [(idx t).2.1]

theorem read_2 (X : Vec Ideal S16384x2048 .bf16) (i : Fin 512) (k : Fin 2048) :
    ((cfg0.win 2).blk t).view.read (Elt Ideal) X (ix2 i k) = X (ix2 (rowOf t i) k) := by
  unfold rowOf
  blk_ext [(idx t).2.2.1]

theorem read_3 (X : Vec Ideal S16384x1024 .f32) (i : Fin 512) (k : Fin 1024) :
    ((cfg0.win 3).blk t).view.read (Elt Ideal) X (ix2 i k) = X (ix2 (rowOf t i) k) := by
  unfold rowOf
  blk_ext [(idx t).2.2.2.1]

theorem read_4 (X : Vec Ideal S512x1024 .bf16) (i : Fin 512) (k : Fin 1024) :
    ((cfg0.win 4).blk t).view.read (Elt Ideal) X (ix2 i k) = X (ix2 i k) := by
  blk_ext [(idx t).2.2.2.2.1]

theorem read_5 (X : Vec Ideal S512x1024 .bf16) (i : Fin 512) (k : Fin 1024) :
    ((cfg0.win 5).blk t).view.read (Elt Ideal) X (ix2 i k) = X (ix2 i k) := by
  blk_ext [(idx t).2.2.2.2.2.1]

theorem read_6 (X : Vec Ideal S1024x1024 .bf16) (i : Fin 1024) (k : Fin 1024) :
    ((cfg0.win 6).blk t).view.read (Elt Ideal) X (ix2 i k) = X (ix2 i k) := by
  blk_ext [(idx t).2.2.2.2.2.2.1]

theorem read_7 (X : Vec Ideal S1x1024 .f32) (k : Fin 1024) :
    ((cfg0.win 7).blk t).view.read (Elt Ideal) X (ix2 (0 : Fin 1) k) = X (ix2 (0 : Fin 1) k) := by
  blk_ext [(idx t).2.2.2.2.2.2.2.1]

theorem read_8 (X : Vec Ideal S1024x2816 .bf16) (i : Fin 1024) (k : Fin 2816) :
    ((cfg0.win 8).blk t).view.read (Elt Ideal) X (ix2 i k) = X (ix2 i k) := by
  blk_ext [(idx t).2.2.2.2.2.2.2.2.1]

theorem read_9 (X : Vec Ideal S1024x2816 .bf16) (i : Fin 1024) (k : Fin 2816) :
    ((cfg0.win 9).blk t).view.read (Elt Ideal) X (ix2 i k) = X (ix2 i k) := by
  blk_ext [(idx t).2.2.2.2.2.2.2.2.2.1]

theorem read_10 (X : Vec Ideal S2816x1024 .bf16) (i : Fin 2816) (k : Fin 1024) :
    ((cfg0.win 10).blk t).view.read (Elt Ideal) X (ix2 i k) = X (ix2 i k) := by
  blk_ext [(idx t).2.2.2.2.2.2.2.2.2.2.1]

theorem read_11 (X : Vec Ideal S1x1024 .f32) (k : Fin 1024) :
    ((cfg0.win 11).blk t).view.read (Elt Ideal) X (ix2 (0 : Fin 1) k) = X (ix2 (0 : Fin 1) k) := by
  blk_ext [(idx t).2.2.2.2.2.2.2.2.2.2.2.1]

/-- The layer's tail of the argument arrays. -/
abbrev want (R : Fin 16384) (e : Fin 1024) : EReal :=
  result (arg m c main_arg0) (arg m c main_arg1) (arg m c main_arg2) (arg m c main_arg3) (arg m c main_arg4) (arg m c main_arg5)
    (arg m c main_arg6) (arg m c main_arg7) (arg m c main_arg8) (arg m c main_arg9) (arg m c main_arg10) (arg m c main_arg11) R e

theorem gates_left (i : Fin 512) : gateA (iblk m c 2 t) i
    = fun k => (arg m c main_arg2 : Vec Ideal S4x4096x2x1024 .f32) (ix4 (batchOf (rowOf t i)) (tokenOf (rowOf t i)) (0 : Fin 2) k) := by
  funext k
  unfold gateA
  refine (read_2 t _ i _).trans ?_
  refine (congrFun (entry_2 m c) _).trans ?_
  refine Eq.trans (congrArg _ ?_) (rows_gates (arg m c main_arg2) (rowOf t i) 0 k)
  refine congrArg (ix2 (rowOf t i)) (Fin.ext ?_)
  show k.val = 1024 * 0 + k.val
  omega

theorem gates_right (i : Fin 512) : gateB (iblk m c 2 t) i
    = fun k => (arg m c main_arg2 : Vec Ideal S4x4096x2x1024 .f32) (ix4 (batchOf (rowOf t i)) (tokenOf (rowOf t i)) (1 : Fin 2) k) := by
  funext k
  unfold gateB
  refine (read_2 t _ i _).trans ?_
  refine (congrFun (entry_2 m c) _).trans ?_
  exact rows_gates (arg m c main_arg2) (rowOf t i) 1 k

theorem block_0 (i : Fin 512) : row (φ := .f32) (iblk m c 0 t) i
    = fun k => (arg m c main_arg0 : Vec Ideal S4x4096x512 .f32) (ix3 (batchOf (rowOf t i)) (tokenOf (rowOf t i)) (columnAt k)) :=
  funext fun k => (read_0 t _ i k).trans ((congrFun (entry_0 m c) _).trans (first_row _ _ _))

theorem block_1 (i : Fin 512) : row (φ := .f32) (iblk m c 1 t) i
    = fun k => (arg m c main_arg1 : Vec Ideal S4x4096x512 .f32) (ix3 (batchOf (rowOf t i)) (tokenOf (rowOf t i)) k) :=
  funext fun k => (read_1 t _ i k).trans ((congrFun (entry_1 m c) _).trans (rows_512 _ _ _))

theorem block_3 (i : Fin 512) : row (φ := .f32) (iblk m c 3 t) i
    = fun k => (arg m c main_arg3 : Vec Ideal S4x4096x1024 .f32) (ix3 (batchOf (rowOf t i)) (tokenOf (rowOf t i)) k) :=
  funext fun k => (read_3 t _ i k).trans ((congrFun (entry_3 m c) _).trans (rows_1024 _ _ _))

theorem block_4 : mat (φ := .bf16) (iblk m c 4 t)
    = fun k y => (arg m c main_arg4 : Vec Ideal S1x512x1024 .f32) (ix3 (0 : Fin 1) (columnAt k) y) :=
  funext fun k => funext fun y => (read_4 t _ k y).trans ((congrFun (entry_4 m c) _).trans (first_weight _ _ _))

theorem block_5 : mat (φ := .bf16) (iblk m c 5 t)
    = fun k y => (arg m c main_arg5 : Vec Ideal S1x512x1024 .f32) (ix3 (0 : Fin 1) k y) :=
  funext fun k => funext fun y => (read_5 t _ k y).trans ((congrFun (entry_5 m c) _).trans (weight_512 _ _ _))

theorem block_6 : mat (φ := .bf16) (iblk m c 6 t)
    = fun k y => (arg m c main_arg6 : Vec Ideal S1x1024x1024 .f32) (ix3 (0 : Fin 1) k y) :=
  funext fun k => funext fun y => (read_6 t _ k y).trans ((congrFun (entry_6 m c) _).trans (weight_1024 _ _ _))

theorem block_8 : mat (φ := .bf16) (iblk m c 8 t)
    = fun k y => (arg m c main_arg8 : Vec Ideal S1x1024x2816 .f32) (ix3 (0 : Fin 1) k y) :=
  funext fun k => funext fun y => (read_8 t _ k y).trans ((congrFun (entry_8 m c) _).trans (weight_in _ _ _))

theorem block_9 : mat (φ := .bf16) (iblk m c 9 t)
    = fun k y => (arg m c main_arg9 : Vec Ideal S1x1024x2816 .f32) (ix3 (0 : Fin 1) k y) :=
  funext fun k => funext fun y => (read_9 t _ k y).trans ((congrFun (entry_9 m c) _).trans (weight_in _ _ _))

theorem block_10 : mat (φ := .bf16) (iblk m c 10 t)
    = fun k y => (arg m c main_arg10 : Vec Ideal S1x2816x1024 .f32) (ix3 (0 : Fin 1) k y) :=
  funext fun k => funext fun y => (read_10 t _ k y).trans ((congrFun (entry_10 m c) _).trans (weight_out _ _ _))

theorem block_7 : row (φ := .f32) (iblk m c 7 t) 0 = fun k => (arg m c main_arg7 : Vec Ideal S1x1024 .f32) (ix2 (0 : Fin 1) k) :=
  funext fun k => (read_7 t _ k).trans ((congrFun (entry_7 m c) _).trans (gain_ffn _ _))

theorem block_11 : row (φ := .f32) (iblk m c 11 t) 0 = fun k => (arg m c main_arg11 : Vec Ideal S1024 .f32) (ix1 k) :=
  funext fun k => (read_11 t _ k).trans ((congrFun (entry_11 m c) _).trans (gain_final _ _))

/-- What the body leaves at a point: its tokens' results. -/
theorem out_block (i : Fin 512) (e : Fin 1024) :
    out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 i e) = want m c (rowOf t i) e := by
  rw [out_apply]
  unfold want result mixedRow
  rw [gates_left, gates_right, block_0, block_1, block_3, block_4, block_5, block_6, block_7, block_8, block_9, block_10, block_11]
  refine congrArg (fun h => tail h _ _ _ _ _ e) ?_
  exact mixed_columns (fun k => (arg m c main_arg0 : Vec Ideal S4x4096x512 .f32) (ix3 (batchOf (rowOf t i)) (tokenOf (rowOf t i)) k)) _ _ _ _
    (fun k y => (arg m c main_arg4 : Vec Ideal S1x512x1024 .f32) (ix3 (0 : Fin 1) k y)) _ _

end Blocks

/-! ### The array -/

/-- THE RESULT ARRAY: the layer's tail at every token and lane. -/
theorem out_array : (dats m 0 c).arrAt 12 cfg0.N = fun y : S16384x1024.Idx => want m c (y 0) (y 1) := by
  refine (dats m 0 c).arrAt_eq_of_covers 12 _ (by decide +kernel) fun t hfl y => ?_
  have ht := point_lt t
  blk_simp
  rw [after0_12]
  obtain ⟨i, e, rfl⟩ : ∃ (i : Fin 512) (e : Fin 1024), y = ix2 i e := ⟨y 0, y 1, by funext a; fin_cases a <;> rfl⟩
  refine (out_block m c t i e).trans ?_
  refine congrArg₂ (want m c) (Fin.ext ?_) (Fin.ext ?_)
  · blk_simp [(idx t).2.2.2.2.2.2.2.2.2.2.2.2]
    unfold rowOf
    dsimp only
    omega
  · blk_simp [(idx t).2.2.2.2.2.2.2.2.2.2.2.2]

end Cert.Proof.OutI

end
-- ==== Proof.Out.Reference.lean ====
/-
  The reference's result array: at every token and lane, the layer's tail of the argument arrays.
-/
module

public import proofs.«01_k».proof.Proof.Out.Spec
public import proofs.«01_k».proof.Proof.Gen.Reference2Ideal.Read
public import Idealize.ShloMosaic.Lib.Pipeline.ValueKit

@[expose] public section

set_option maxRecDepth 16384

noncomputable section

namespace Cert.Proof.OutR

open Cert.Reference2Ideal Cert.Reference2Ideal.Gen Cert.Reference2Ideal.Read Cert.Proof.Out
open Idealize.ShloMosaic Idealize.ShloMosaic.TcCoe Idealize.ShloMosaic.Pointwise

/-! ### The stages over any arrays -/

variable (b : Fin 4) (s : Fin 4096)

/-- The norm of every token. -/
def normed (h : FVec Ideal S4x4096x1024 .f32) (g : FVec Ideal S1024 .f32) : FVec Ideal S4x4096x1024 .f32 :=
  mulf (mulf h (broadcastInDim S4x4096x1024 ![0, 1, 2] bcast_S4x4096x1_S4x4096x1024_0_1_2 (Host.rsqrt (addf
    (Host.divf (broadcastInDim S4x4096x1 ![0, 1] bcast_S4x4096_S4x4096x1_0_1
      (Host.reduceAdd (mulf h h) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

theorem normed_apply (h : FVec Ideal S4x4096x1024 .f32) (g : FVec Ideal S1024 .f32) (e : Fin 1024) :
    normed h g (ix3 b s e) = rmsNorm (fun x => h (ix3 b s x)) (fun x => g (ix1 x)) e := by
  unfold normed rmsNorm
  pointwise []

/-- The network of every token. -/
def network (n : FVec Ideal S4x4096x1024 .f32) (wg wu : FVec Ideal S1024x2816 .f32) (wd : FVec Ideal S2816x1024 .f32) : FVec Ideal S4x4096x1024 .f32 :=
  let g := Host.dotGeneral dot_S4x4096x1024_S1024x2816_S4x4096x2816_2_0_01_1_n_n none n wg
  Host.dotGeneral dot_S4x4096x2816_S2816x1024_S4x4096x1024_2_0_01_1_n_n none
    (mulf (mulf g (Host.divf (broadcastInDim S4x4096x2816 ![] bcast_S_S4x4096x2816 (constant S_ .f32 0x3F800000#32))
      (addf (broadcastInDim S4x4096x2816 ![] bcast_S_S4x4096x2816 (constant S_ .f32 0x3F800000#32)) (Host.exp (Host.negf g)))))
      (Host.dotGeneral dot_S4x4096x1024_S1024x2816_S4x4096x2816_2_0_01_1_n_n none n wu)) wd

theorem network_apply (n : FVec Ideal S4x4096x1024 .f32) (wg wu : FVec Ideal S1024x2816 .f32) (wd : FVec Ideal S2816x1024 .f32) (e : Fin 1024) :
    network n wg wu wd (ix3 b s e)
      = ffn (fun x => n (ix3 b s x)) (fun k y => wg (ix2 k y)) (fun k y => wu (ix2 k y)) (fun k y => wd (ix2 k y)) e := by
  have h0 : ∀ x : EReal, 0 - x = -x := fun x => by rw [sub_eq_add_neg, zero_add]
  unfold network ffn swish through
  simp only [h0]
  pointwise []

/-- Every token after the mixers. -/
theorem mixed_apply (x0 x1 : Vec Ideal S4x4096x512 .f32) (x2 : Vec Ideal S4x4096x2x1024 .f32) (x3 : Vec Ideal S4x4096x1024 .f32)
    (x4 x5 : Vec Ideal S1x512x1024 .f32) (x6 : Vec Ideal S1x1024x1024 .f32) (e : Fin 1024) :
    val_main_v13 (F := Ideal) x0 x1 x2 x3 x4 x5 x6 (ix3 b s e)
      = mixed (fun k => x0 (ix3 b s k)) (fun k => x1 (ix3 b s k)) (fun k => x2 (ix4 b s (0 : Fin 2) k)) (fun k => x2 (ix4 b s (1 : Fin 2) k))
        (fun k => x3 (ix3 b s k)) (fun k y => x4 (ix3 (0 : Fin 1) k y)) (fun k y => x5 (ix3 (0 : Fin 1) k y)) (fun k y => x6 (ix3 (0 : Fin 1) k y)) e := by
  unfold mixed gated through
  pointwise [val_main_v13, val_main_v12, val_main_v11, val_main_v10, val_main_v9, val_main_v8, val_main_v7, val_main_v6, val_main_v5,
    val_main_v4, val_main_v3, val_main_v2, val_main_v1, val_main_v0]

/-! ### The result -/

theorem result_apply (x0 x1 : Vec Ideal S4x4096x512 .f32) (x2 : Vec Ideal S4x4096x2x1024 .f32) (x3 : Vec Ideal S4x4096x1024 .f32)
    (x4 x5 : Vec Ideal S1x512x1024 .f32) (x6 : Vec Ideal S1x1024x1024 .f32) (x7 : Vec Ideal S1x1024 .f32) (x8 x9 : Vec Ideal S1x1024x2816 .f32)
    (x10 : Vec Ideal S1x2816x1024 .f32) (x11 : Vec Ideal S1024 .f32) (R : Fin 16384) (e : Fin 1024) :
    val_main_v50 (F := Ideal) x0 x1 x2 x3 x4 x5 x6 x7 x8 x9 x10 x11 (ix2 R e) = result x0 x1 x2 x3 x4 x5 x6 x7 x8 x9 x10 x11 R e := by
  have hidx : idx_main_v50 (ix2 R e) = ix3 (batchOf R) (tokenOf R) e := by
    unfold idx_main_v50 batchOf tokenOf
    blk_ext
  rw [val_main_v50_apply, hidx]
  have h49 : val_main_v49 (F := Ideal) x0 x1 x2 x3 x4 x5 x6 x7 x8 x9 x10 x11
      = normed (addf (val_main_v13 (F := Ideal) x0 x1 x2 x3 x4 x5 x6)
          (network (normed (val_main_v13 (F := Ideal) x0 x1 x2 x3 x4 x5 x6) (val_main_v14 (F := Ideal) x7))
            (val_main_v28 (F := Ideal) x8) (val_main_v31 (F := Ideal) x9) (val_main_v34 (F := Ideal) x10))) x11 := rfl
  rw [h49, normed_apply]
  unfold result tail
  have hm : (fun x => val_main_v13 (F := Ideal) x0 x1 x2 x3 x4 x5 x6 (ix3 (batchOf R) (tokenOf R) x)) = _ :=
    funext fun x => mixed_apply (batchOf R) (tokenOf R) x0 x1 x2 x3 x4 x5 x6 x
  rw [← hm]
  refine congrArg (fun h => rmsNorm h (fun x => x11 (ix1 x)) e) (funext fun y => ?_)
  show val_main_v13 (F := Ideal) x0 x1 x2 x3 x4 x5 x6 (ix3 (batchOf R) (tokenOf R) y)
      + network (normed (val_main_v13 (F := Ideal) x0 x1 x2 x3 x4 x5 x6) (val_main_v14 (F := Ideal) x7))
            (val_main_v28 (F := Ideal) x8) (val_main_v31 (F := Ideal) x9) (val_main_v34 (F := Ideal) x10) (ix3 (batchOf R) (tokenOf R) y) = _
  rw [network_apply]
  refine congrArg (val_main_v13 (F := Ideal) x0 x1 x2 x3 x4 x5 x6 (ix3 (batchOf R) (tokenOf R) y) + ·) ?_
  have hn : (fun x => normed (val_main_v13 (F := Ideal) x0 x1 x2 x3 x4 x5 x6) (val_main_v14 (F := Ideal) x7) (ix3 (batchOf R) (tokenOf R) x))
      = rmsNorm (fun x => val_main_v13 (F := Ideal) x0 x1 x2 x3 x4 x5 x6 (ix3 (batchOf R) (tokenOf R) x)) (fun k => x7 (ix2 (0 : Fin 1) k)) :=
    funext fun x => (normed_apply (batchOf R) (tokenOf R) _ _ x).trans (by
      refine congrArg (fun g => rmsNorm _ g x) (funext fun k => ?_)
      pointwise [val_main_v14])
  have h8 : (fun k y => val_main_v28 (F := Ideal) x8 (ix2 k y)) = fun (k : Fin 1024) (y : Fin 2816) => x8 (ix3 (0 : Fin 1) k y) :=
    funext fun k => funext fun y => by pointwise [val_main_v28]
  have h9 : (fun k y => val_main_v31 (F := Ideal) x9 (ix2 k y)) = fun (k : Fin 1024) (y : Fin 2816) => x9 (ix3 (0 : Fin 1) k y) :=
    funext fun k => funext fun y => by pointwise [val_main_v31]
  have h10 : (fun k y => val_main_v34 (F := Ideal) x10 (ix2 k y)) = fun (k : Fin 2816) (y : Fin 1024) => x10 (ix3 (0 : Fin 1) k y) :=
    funext fun k => funext fun y => by pointwise [val_main_v34]
  rw [hn, h8, h9, h10]

end Cert.Proof.OutR

end
-- ==== Proof.Out.Value.lean ====
/-
  The layer's tail: the frames of its three programs, and the kernel and the reference ending with the
  same array, from any argument arrays.
-/
module

public import proofs.«01_k».proof.Defs
public import proofs.«01_k».proof.Proof.Out.Kernel
public import proofs.«01_k».proof.Proof.Out.Reference
public import proofs.«01_k».proof.Proof.Gen.Kernel2.Frame
public import proofs.«01_k».proof.Proof.Gen.Reference2Ideal.Run

@[expose] public section

noncomputable section

namespace Cert.Proof.Out

open Idealize.ShloMosaic Idealize.ShloMosaic.TcCoe Idealize.SL.Sem Idealize.ShloMosaic.Pointwise

/-- The kernel ends, its arguments unchanged and every counter at zero. -/
theorem frame_kernel : Cert.quiescent_Kernel2 := fun m g _ => Cert.Kernel2.Gen.frame m g

/-- So does its ideal text, -/
theorem frame_kernelIdeal : Cert.quiescent_Kernel2Ideal := fun m g _ => Cert.Kernel2Ideal.Gen.frame m g

/-- and the reference. -/
theorem frame_referenceIdeal : Cert.quiescent_Reference2Ideal := fun m g _ =>
  (θ_run Cert.Reference2Ideal.defs _ _).mono
    (fun r h => ⟨fun c => (h c).2, sem_eq_zero_of_no_sems (by decide) r.2⟩) (Cert.Reference2Ideal.Value.run m g)

/-- No constant is named: the ideal text is the text. -/
theorem preserves : Cert.preserves_Kernel2_Kernel2Ideal := trivial

/-- From equal arguments both programs end with the layer's tail. -/
theorem algebraic : @Cert.algebraic_Kernel2Ideal_Reference2Ideal Cert.Kernel2Ideal.Gen.facts Cert.Reference2Ideal.Gen.facts := by
  intro m g m' g' _ hagree
  refine ⟨fun c => fun y : Cert.Kernel2Ideal.S16384x1024.Idx => OutI.want m c (y 0) (y 1), ?_, ?_⟩
  · exact (θ_run Cert.Kernel2Ideal.defs _ _).mono
      (fun _ h c => ⟨(h c).1.trans (OutI.out_array m c), (h c).2⟩) (Cert.Kernel2Ideal.Value.run_blocks m g)
  · refine (θ_run Cert.Reference2Ideal.defs _ _).mono (fun _ h c => ⟨(h c).1.trans ?_, (h c).2⟩) (Cert.Reference2Ideal.Value.run m' g')
    obtain ⟨a0, a1, a2, a3, a4, a5, a6, a7, a8, a9, a10, a11⟩ := hagree c
    rw [Cert.Reference2Ideal.Read.val_main_v50_eq, a0, a1, a2, a3, a4, a5, a6, a7, a8, a9, a10, a11]
    funext y
    obtain ⟨R, e, rfl⟩ : ∃ (R : Fin 16384) (e : Fin 1024), y = ix2 R e := ⟨y 0, y 1, by funext a; fin_cases a <;> rfl⟩
    exact OutR.result_apply _ _ _ _ _ _ _ _ _ _ _ _ R e

end Cert.Proof.Out

end
-- ==== Proof.Prj.Spec.lean ====
/-
  The layer's projection of one token: the token's normalised row through the projection weight, the
  rotary turn of its query and key lanes, and the gates.
-/
module

public import proofs.«01_k».proof.Proof.Out.Spec

@[expose] public section

noncomputable section

namespace Cert.Proof.Prj

open Cert.Proof.Out Idealize.ShloMosaic

/-- A token's lane `c` of the 4936 projected ones. -/
def lane (x : (⟨3, ![4, 4096, 1024]⟩ : Shape).Idx → EReal) (g : (⟨2, ![1, 1024]⟩ : Shape).Idx → EReal)
    (w : (⟨3, ![1, 1024, 4936]⟩ : Shape).Idx → EReal) (b : Fin 4) (s : Fin 4096) (c : ℕ) : EReal :=
  ∑ k, rmsNorm (fun e => x (ix3 b s e)) (fun e => g (ix2 (0 : Fin 1) e)) k
    * w (ix3 (0 : Fin 1) k (⟨c % 4936, Nat.mod_lt _ (by decide)⟩ : Fin 4936))

/-- The angle of pair `d` at position `s`: `s · 10000 ^ (-d / 32)`. -/
def angle (s d : ℕ) : EReal :=
  (FloatOps.sitofp FTy.f32 (BitVec.ofNat 32 s) : Ideal FTy.f32) * Ideal.pow (Ideal.ofBits FTy.f32 0x461C4000#32)
    (Ideal.div (-(FloatOps.sitofp FTy.f32 (BitVec.ofNat 32 d) : Ideal FTy.f32)) (Ideal.ofBits FTy.f32 0x42000000#32))

/-- Its cosine -/
def co (s d : ℕ) : EReal := Ideal.cos (angle s d)
/-- and its sine. -/
def si (s d : ℕ) : EReal := Ideal.sin (angle s d)

/-- Lane `c` of lanes `p` turned in heads of 64 lanes, the first 32 paired with the last, by cosines and sines of the pair. -/
def rope (p u v : ℕ → EReal) (c : ℕ) : EReal :=
  if c % 64 < 32 then p c * u (c % 32) - p (c + 32) * v (c % 32) else p c * u (c % 32) + p (c - 32) * v (c % 32)

/-- Turning lanes needs only the lanes of whole heads and the 32 pairs. -/
theorem rope_congr {p q u v u' v' : ℕ → EReal} {n : ℕ} (hn : n % 64 = 0) (h : ∀ c < n, p c = q c)
    (hu : ∀ d < 32, u d = u' d) (hv : ∀ d < 32, v d = v' d) {c : ℕ} (hl : c < n) : rope p u v c = rope q u' v' c := by
  unfold rope
  rw [hu _ (Nat.mod_lt _ (by decide)), hv _ (Nat.mod_lt _ (by decide)), h c hl]
  by_cases hh : c % 64 < 32
  · rw [if_pos hh, if_pos hh, h (c + 32) (by omega)]
  · rw [if_neg hh, if_neg hh, h (c - 32) (by omega)]

/-- The gate of a lane. -/
def gate (z : EReal) : EReal := Ideal.div 1 (1 + Ideal.exp (0 - z))

/-- The scale of the first branch's queries, -/
abbrev scaleA : EReal := Ideal.ofBits FTy.f32 0x3E38AA3B#32
/-- of the other queries, -/
abbrev scaleB : EReal := Ideal.ofBits FTy.f32 0x3E000000#32
/-- and of the eight head weights. -/
abbrev scaleW : EReal := Ideal.ofBits FTy.f32 0x3EB504F3#32

/-! ### The results, from a token's lanes `p` at position `s` -/

/-- The first branch's queries, the heads in the other order, -/
def queryA (p : ℕ → EReal) (s : ℕ) (j : Fin 512) : EReal := rope p (co s) (si s) (columnAt j).val * scaleA
/-- its keys, -/
def keyA (p : ℕ → EReal) (s c : ℕ) : EReal := rope (fun a => p (512 + a)) (co s) (si s) c
/-- its keys and values side by side; -/
def keyValueA (p : ℕ → EReal) (s c : ℕ) : EReal := if c < 128 then keyA p s c else p (512 + c)
/-- the indexer's queries -/
def queryI (p : ℕ → EReal) (s c : ℕ) : EReal := rope (fun a => p (768 + a)) (co s) (si s) c
/-- and keys, -/
def keyI (p : ℕ → EReal) (s c : ℕ) : EReal := rope (fun a => p (1280 + a)) (co s) (si s) c
/-- and its head weights; -/
def weightI (p : ℕ → EReal) (c : ℕ) : EReal := p (1344 + c) * scaleW * scaleB
/-- the second branch's queries; -/
def queryB (p : ℕ → EReal) (c : ℕ) : EReal := p (1352 + c) * scaleB
/-- the branches' gates. -/
def gates (p : ℕ → EReal) (c : ℕ) : EReal := gate (p (2888 + c))

end Cert.Proof.Prj

end
-- ==== Proof.Prj.Block.lean ====
/-
  The block of 512 tokens that one grid point projects: the token-major results are dots of the block's
  normalised rows with columns of one weight, the channel-major ones of rows of another.
-/
module

public import proofs.«01_k».proof.Proof.Gen.Kernel3Ideal.Frame
public import proofs.«01_k».proof.Proof.Prj.Spec
public import Idealize.ShloMosaic.Lib.Pipeline.ValueKit

@[expose] public section

set_option maxRecDepth 16384

noncomputable section

namespace Cert.Proof.PrjI

open Cert.Kernel3Ideal Cert.Kernel3Ideal.Gen Cert.Proof.Out Cert.Proof.Prj
open Idealize.ShloMosaic Idealize.ShloMosaic.TcCoe

/-- A lane's other half of its pair, in heads of 64 lanes. -/
def partner (j : ℕ) : ℕ := if j % 64 < 32 then j + 32 else j - 32

theorem partner_lt (j : Fin 512) : partner j.val < 512 := by unfold partner; split <;> omega

/-- The lanes of a row turned by the tables: each lane times the first table plus its partner times the second. -/
def turned (y : FVec Ideal S512x512 .f32) (cs sn : Vec Ideal S512x128 .f32) (i j : Fin 512) : EReal :=
  y (ix2 i j) * cs (ix2 i (⟨j.val % 128, by omega⟩ : Fin 128))
    + y (ix2 i (⟨partner j.val, partner_lt j⟩ : Fin 512)) * sn (ix2 i (⟨j.val % 128, by omega⟩ : Fin 128))

/-- The lane mask of the first half of each pair. -/
theorem mask_apply (j : Fin 128) : IntOp.cmpi CmpIPredicate.eq (IntOp.andi (BitVec.ofNat 32 j.val) 32#32) 0#32
    = if j.val % 64 < 32 then 1#1 else 0#1 := by
  revert j; decide +kernel

/-- A rotation of 128 lanes, one way for the first half of each pair and the other for the second, fetches the partner. -/
theorem turn_core (y : FVec Ideal S512x512 .f32) (cs sn : FVec Ideal S512x128 .f32) (i : Fin 512) (j : Fin 128) (o : ℕ) (ho : o = 128 * (o / 128))
    (h : o + 128 ≤ 512) (ha hb hc) :
    y (ix2 i (⟨o + j.val, ha⟩ : Fin 512)) * cs (ix2 i j)
      + Scalar.select (IntOp.cmpi CmpIPredicate.eq (IntOp.andi (BitVec.ofNat 32 j.val) 32#32) 0#32)
          (y (ix2 i (⟨o + (j.val + 128 - 96) % 128, hb⟩ : Fin 512))) (y (ix2 i (⟨o + (j.val + 128 - 32) % 128, hc⟩ : Fin 512))) * sn (ix2 i j)
      = turned y cs sn i ⟨o + j.val, ha⟩ := by
  have hm : (⟨(o + j.val) % 128, by omega⟩ : Fin 128) = j := Fin.ext (by dsimp only; omega)
  unfold turned
  dsimp only
  rw [hm, mask_apply]
  refine congrArg (y (ix2 i (⟨o + j.val, ha⟩ : Fin 512)) * cs (ix2 i j) + · * sn (ix2 i j)) ?_
  by_cases hj : j.val % 64 < 32
  · rw [if_pos hj]
    refine congrArg (fun k : Fin 512 => y (ix2 i k)) (Fin.ext ?_)
    dsimp only
    unfold partner
    rw [if_pos (by omega)]
    omega
  · rw [if_neg hj]
    refine congrArg (fun k : Fin 512 => y (ix2 i k)) (Fin.ext ?_)
    dsimp only
    unfold partner
    rw [if_neg (by omega)]
    omega

variable (y : FVec Ideal S512x512 .f32) (cs sn : FVec Ideal S512x128 .f32) (i : Fin 512) (j : Fin 128)

/-! ### The turned columns, in four pieces of 128 -/

theorem pay9_apply : k0_pay9 cs sn k0_pay6 y (ix2 i j) = turned y cs sn i ⟨128 + j.val, by omega⟩ * scaleA := by
  rw [← turn_core y cs sn i j 128 (by decide) (by decide) (by omega) (by omega) (by omega)]
  pointwise [k0_pay9, k0_pay6]

theorem pay10_apply : k0_pay10 cs sn k0_pay6 y (ix2 i j) = turned y cs sn i ⟨256 + j.val, by omega⟩ * scaleA := by
  rw [← turn_core y cs sn i j 256 (by decide) (by decide) (by omega) (by omega) (by omega)]
  pointwise [k0_pay10, k0_pay6]

theorem pay11_apply : k0_pay11 cs sn k0_pay6 y (ix2 i j) = turned y cs sn i ⟨384 + j.val, by omega⟩ * scaleA := by
  rw [← turn_core y cs sn i j 384 (by decide) (by decide) (by omega) (by omega) (by omega)]
  pointwise [k0_pay11, k0_pay6]

theorem pay8_apply (x : Vec Ideal S512x1024 .f32) (g : Vec Ideal S1x1024 .f32) (w : Vec Ideal S1024x512 .bf16) :
    k0_pay8 x g cs sn w (ix2 i j) = turned (k0_pay7 x g w) cs sn i ⟨0 + j.val, by omega⟩ * scaleA := by
  rw [← turn_core _ cs sn i j 0 (by decide) (by decide) (by omega) (by omega) (by omega)]
  unfold k0_pay8
  generalize k0_pay7 x g w = y
  pointwise [k0_pay4, k0_pay5, k0_pay6]

theorem pay13_apply : k0_pay13 cs sn k0_pay6 y (ix2 i j) = turned y cs sn i ⟨0 + j.val, by omega⟩ := by
  rw [← turn_core y cs sn i j 0 (by decide) (by decide) (by omega) (by omega) (by omega)]
  pointwise [k0_pay13, k0_pay6]

theorem pay14_apply : k0_pay14 cs sn k0_pay6 y (ix2 i j) = turned y cs sn i ⟨128 + j.val, by omega⟩ := by
  rw [← turn_core y cs sn i j 128 (by decide) (by decide) (by omega) (by omega) (by omega)]
  pointwise [k0_pay14, k0_pay6]

theorem pay15_apply : k0_pay15 cs sn k0_pay6 y (ix2 i j) = turned y cs sn i ⟨256 + j.val, by omega⟩ := by
  rw [← turn_core y cs sn i j 256 (by decide) (by decide) (by omega) (by omega) (by omega)]
  pointwise [k0_pay15, k0_pay6]

theorem pay16_apply : k0_pay16 cs sn k0_pay6 y (ix2 i j) = turned y cs sn i ⟨384 + j.val, by omega⟩ := by
  rw [← turn_core y cs sn i j 384 (by decide) (by decide) (by omega) (by omega) (by omega)]
  pointwise [k0_pay16, k0_pay6]

/-! ### The channel-major dots -/

/-- A feature's dot with the rows. -/
def dotRow {n : ℕ} (X : FVec Ideal S512x1024 .bf16) (w : FVec Ideal ⟨2, ![n, 1024]⟩ .bf16) (j : Fin 512) (h : 0 < n) (c : ℕ) : EReal :=
  ∑ k, X (ix2 j k) * w (ix2 (⟨c % n, Nat.mod_lt _ h⟩ : Fin n) k)

theorem dotRow_at {n : ℕ} (X : FVec Ideal S512x1024 .bf16) (w : FVec Ideal ⟨2, ![n, 1024]⟩ .bf16) (j : Fin 512) (h : 0 < n) (c : ℕ) (hc : c < n) :
    ∑ k, w (ix2 (⟨c, hc⟩ : Fin n) k) * X (ix2 j k) = dotRow X w j h c := by
  unfold dotRow
  refine Finset.sum_congr rfl fun k _ => ?_
  rw [show (⟨c % n, Nat.mod_lt _ h⟩ : Fin n) = ⟨c, hc⟩ from Fin.ext (Nat.mod_eq_of_lt hc)]
  exact mul_comm _ _

/-- A table's entry. -/
def pairAt (t : FVec Ideal S32x512 .f32) (j : Fin 512) (d : ℕ) : EReal := t (ix2 (⟨d % 32, Nat.mod_lt _ (by decide)⟩ : Fin 32) j)

theorem pairAt_at (t : FVec Ideal S32x512 .f32) (j : Fin 512) (d : ℕ) (hd : d < 32) : t (ix2 (⟨d, hd⟩ : Fin 32) j) = pairAt t j d := by
  unfold pairAt
  rw [show (⟨d % 32, Nat.mod_lt _ (by decide)⟩ : Fin 32) = ⟨d, hd⟩ from Fin.ext (Nat.mod_eq_of_lt hd)]

variable (X : FVec Ideal S512x1024 .bf16) (lo hi : FVec Ideal S32x512 .f32)

/-- The first branch's keys turn in two heads. -/
theorem pay31_apply (w : FVec Ideal S128x1024 .bf16) (c : Fin 128) (t : Fin 512) :
    k0_pay31 (k0_pay25 lo) (k0_pay26 hi) (k0_pay28 X lo hi w) (k0_pay29 X w) (k0_pay30 X w) (ix2 c t)
      = rope (dotRow X w t (by decide)) (pairAt lo t) (pairAt hi t) c.val := by
  obtain ⟨c, hc⟩ := c
  pointwise [k0_pay31, k0_pay30, k0_pay29, k0_pay28, k0_pay27, k0_pay26, k0_pay25]
  simp only [dotRow_at X w t (by decide), pairAt_at]
  generalize dotRow X w t (by decide) = p
  generalize pairAt lo t = u
  generalize pairAt hi t = v
  unfold rope
  split_ifs <;> first | omega | (congr 3 <;> omega)

/-- The indexer's keys turn in one. -/
theorem pay36_apply (w : FVec Ideal S64x1024 .bf16) (c : Fin 64) (t : Fin 512) :
    k0_pay36 X lo hi w (ix2 c t) = rope (dotRow X w t (by decide)) (pairAt lo t) (pairAt hi t) c.val := by
  obtain ⟨c, hc⟩ := c
  pointwise [k0_pay36]
  simp only [dotRow_at X w t (by decide), pairAt_at]
  generalize dotRow X w t (by decide) = p
  generalize pairAt lo t = u
  generalize pairAt hi t = v
  unfold rope
  split_ifs <;> first | omega | (congr 3 <;> omega)

/-! ### The block's lanes -/

section Block

variable (x0 : Vec Ideal S512x1024 .f32) (x1 : Vec Ideal S1x1024 .f32) (x2 : Vec Ideal S1024x3584 .bf16) (x3 : Vec Ideal S1408x1024 .bf16)
  (x4 x5 : Vec Ideal S512x128 .f32) (x6 x7 : Vec Ideal S32x512 .f32)

/-- A row of the block, normalised. -/
def nrm (i : Fin 512) (k : Fin 1024) : EReal := rmsNorm (fun e => x0 (ix2 i e)) (fun e => x1 (ix2 (0 : Fin 1) e)) k

/-- Its dot with a column of the token-major weight, -/
def tok (i : Fin 512) (c : ℕ) : EReal := ∑ k, nrm x0 x1 i k * x2 (ix2 k (⟨c % 3584, Nat.mod_lt _ (by decide)⟩ : Fin 3584))
/-- and with a row of the channel-major one. -/
def feat (i : Fin 512) (c : ℕ) : EReal := ∑ k, nrm x0 x1 i k * x3 (ix2 (⟨c % 1408, Nat.mod_lt _ (by decide)⟩ : Fin 1408) k)

theorem pay53_apply (i : Fin 512) (k : Fin 1024) : k0_pay53 x0 x1 x2 x3 x4 x5 x6 x7 (ix2 i k) = nrm x0 x1 i k := by
  have z : (![0, 0] : Fin 2 → ℕ) = fun _ => 0 := by funext a; fin_cases a <;> rfl
  unfold k0_pay53
  rw [View.ld_unit_zero (S := S512x1024) z, View.ld_unit_zero (S := S1x1024) z]
  unfold nrm rmsNorm
  pointwise [k0_pay3]

/-- Columns from `o` on. -/
theorem cols_ld (X : FVec Ideal S512x1024 .bf16) (i : Fin 512) (hX : ∀ k, X (ix2 i k) = nrm x0 x1 i k) (o : ℕ) (ho : o ≤ 3072) (inb) (j : Fin 512) :
    ∑ k, X (ix2 i k) * View.ld (Val := Elt Ideal) x2 (Rect.unit (s := S1024x3584) ![0, o] S1024x512.size inb) (ix2 k j) = tok x0 x1 x2 i (o + j.val) := by
  unfold tok
  refine Finset.sum_congr rfl fun k _ => ?_
  rw [hX]
  refine congrArg (nrm x0 x1 i k * ·) (View.ld_unit_apply_of x2 _ _ inb _ _ fun a => ?_)
  match a with
  | ⟨0, _⟩ => show k.val = 0 + k.val; omega
  | ⟨1, _⟩ => show (o + j.val) % 3584 = o + j.val; omega

/-- Rows from `o` on. -/
theorem rows_ld {n : ℕ} (hn : 0 < n) (X : FVec Ideal S512x1024 .bf16) (i : Fin 512) (hX : ∀ k, X (ix2 i k) = nrm x0 x1 i k) (o : ℕ) (ho : o + n ≤ 1408) (inb)
    (c : ℕ) (hc : c < n) :
    dotRow X (View.ld (Val := Elt Ideal) x3 (Rect.unit (s := S1408x1024) ![o, 0] (⟨2, ![n, 1024]⟩ : Shape).size inb)) i hn c = feat x0 x1 x3 i (o + c) := by
  unfold dotRow feat
  refine Finset.sum_congr rfl fun k _ => ?_
  rw [hX]
  refine congrArg (nrm x0 x1 i k * ·) (View.ld_unit_apply_of x3 _ _ inb _ _ fun a => ?_)
  match a with
  | ⟨0, _⟩ => show (o + c) % 1408 = o + c % n; rw [Nat.mod_eq_of_lt hc]; omega
  | ⟨1, _⟩ => show k.val = 0 + k.val; omega

theorem pay57_apply (i j : Fin 512) : k0_pay57 x0 x1 x2 x3 x4 x5 x6 x7 (ix2 i j) = tok x0 x1 x2 i (0 + j.val) := by
  have e : k0_pay57 x0 x1 x2 x3 x4 x5 x6 x7 = k0_pay12 (k0_pay53 x0 x1 x2 x3 x4 x5 x6 x7) (View.ld x2 r0_3) := rfl
  rw [e, ← cols_ld x0 x1 x2 (k0_pay53 x0 x1 x2 x3 x4 x5 x6 x7) i (pay53_apply x0 x1 x2 x3 x4 x5 x6 x7 i) 0 (by decide) inb_S1024x3584_S1024x512_0_0 j]
  generalize k0_pay53 x0 x1 x2 x3 x4 x5 x6 x7 = X
  pointwise [k0_pay12]

theorem pay58_apply (i j : Fin 512) : k0_pay58 x0 x1 x2 x3 x4 x5 x6 x7 (ix2 i j) = tok x0 x1 x2 i (512 + j.val) := by
  unfold k0_pay58
  rw [← cols_ld x0 x1 x2 (k0_pay53 x0 x1 x2 x3 x4 x5 x6 x7) i (pay53_apply x0 x1 x2 x3 x4 x5 x6 x7 i) 512 (by decide) inb_S1024x3584_S1024x512_0_512 j]
  generalize k0_pay53 x0 x1 x2 x3 x4 x5 x6 x7 = X
  pointwise [k0_pay12]

theorem pay54_eq : k0_pay54 x0 x1 x2 x3 x4 x5 x6 x7 = x4 := by
  have z : (![0, 0] : Fin 2 → ℕ) = fun _ => 0 := by funext a; fin_cases a <;> rfl
  unfold k0_pay54
  rw [View.ld_unit_zero (S := S512x128) z]
  funext y
  obtain ⟨a, b, rfl⟩ : ∃ (a : Fin 512) (b : Fin 128), y = ix2 a b := ⟨y 0, y 1, by funext a; fin_cases a <;> rfl⟩
  pointwise [k0_pay4]

theorem pay55_eq : k0_pay55 x0 x1 x2 x3 x4 x5 x6 x7 = x5 := by
  have z : (![0, 0] : Fin 2 → ℕ) = fun _ => 0 := by funext a; fin_cases a <;> rfl
  unfold k0_pay55
  rw [View.ld_unit_zero (S := S512x128) z]
  funext y
  obtain ⟨a, b, rfl⟩ : ∃ (a : Fin 512) (b : Fin 128), y = ix2 a b := ⟨y 0, y 1, by funext a; fin_cases a <;> rfl⟩
  pointwise [k0_pay5]

/-- Lane `j` of the lanes from `o` on, turned by the block's tables. -/
def turnTok (o : ℕ) (i j : Fin 512) : EReal :=
  tok x0 x1 x2 i (o + j.val) * x4 (ix2 i (⟨j.val % 128, by omega⟩ : Fin 128))
    + tok x0 x1 x2 i (o + partner j.val) * x5 (ix2 i (⟨j.val % 128, by omega⟩ : Fin 128))

theorem turned57 (i j : Fin 512) : turned (k0_pay57 x0 x1 x2 x3 x4 x5 x6 x7) (k0_pay54 x0 x1 x2 x3 x4 x5 x6 x7) (k0_pay55 x0 x1 x2 x3 x4 x5 x6 x7) i j
    = turnTok x0 x1 x2 x4 x5 0 i j := by
  unfold turned
  rw [pay54_eq, pay55_eq, pay57_apply, pay57_apply]
  rfl

theorem turned58 (i j : Fin 512) : turned (k0_pay58 x0 x1 x2 x3 x4 x5 x6 x7) (k0_pay54 x0 x1 x2 x3 x4 x5 x6 x7) (k0_pay55 x0 x1 x2 x3 x4 x5 x6 x7) i j
    = turnTok x0 x1 x2 x4 x5 512 i j := by
  unfold turned
  rw [pay54_eq, pay55_eq, pay58_apply, pay58_apply]
  rfl

theorem ix2_of {n m : ℕ} (x : (⟨2, ![n, m]⟩ : Shape).Idx) : ∃ (a : Fin n) (b : Fin m), x = ix2 a b :=
  ⟨x 0, x 1, by funext a; fin_cases a <;> rfl⟩
theorem ix3_of {n m k : ℕ} (x : (⟨3, ![n, m, k]⟩ : Shape).Idx) : ∃ (a : Fin n) (b : Fin m) (c : Fin k), x = ix3 a b c :=
  ⟨x 0, x 1, x 2, by funext a; fin_cases a <;> rfl⟩
theorem ix4_of {n m k l : ℕ} (x : (⟨4, ![n, m, k, l]⟩ : Shape).Idx) : ∃ (a : Fin n) (b : Fin m) (c : Fin k) (d : Fin l), x = ix4 a b c d :=
  ⟨x 0, x 1, x 2, x 3, by funext a; fin_cases a <;> rfl⟩

include x3 x6 x7 in
theorem turned57' (i j : Fin 512) : turned (k0_pay7 (View.ld x0 r0_0) (View.ld x1 r0_1) (View.ld x2 r0_3)) (View.ld x4 r0_2) (View.ld x5 r0_2) i j
    = turnTok x0 x1 x2 x4 x5 0 i j := by
  have z : (![0, 0] : Fin 2 → ℕ) = fun _ => 0 := by funext a; fin_cases a <;> rfl
  rw [View.ld_unit_zero (S := S512x128) z, View.ld_unit_zero (S := S512x128) z]
  have e := turned57 x0 x1 x2 x3 x4 x5 x6 x7 i j
  rw [pay54_eq, pay55_eq] at e
  exact e

/-- The first branch's queries. -/
theorem out11_apply (i j : Fin 512) : out0_11 x0 x1 x2 x3 x4 x5 x6 x7 (ix2 i j) = turnTok x0 x1 x2 x4 x5 0 i j * scaleA := by
  unfold out0_11
  canon_tiles x h
  · obtain ⟨a, b, rfl⟩ := ix2_of x
    obtain rfl : i = a := Fin.ext h0
    obtain rfl : j = ⟨384 + b.val, by clear h0 h1; omega⟩ := Fin.ext h1
    exact (pay11_apply _ _ _ i b).trans (congrArg (· * scaleA) (turned57 x0 x1 x2 x3 x4 x5 x6 x7 i _))
  · obtain ⟨a, b, rfl⟩ := ix2_of x
    obtain rfl : i = a := Fin.ext h0
    obtain rfl : j = ⟨256 + b.val, by clear h0 h1; omega⟩ := Fin.ext h1
    exact (pay10_apply _ _ _ i b).trans (congrArg (· * scaleA) (turned57 x0 x1 x2 x3 x4 x5 x6 x7 i _))
  · obtain ⟨a, b, rfl⟩ := ix2_of x
    obtain rfl : i = a := Fin.ext h0
    obtain rfl : j = ⟨128 + b.val, by clear h0 h1; omega⟩ := Fin.ext h1
    exact (pay9_apply _ _ _ i b).trans (congrArg (· * scaleA) (turned57 x0 x1 x2 x3 x4 x5 x6 x7 i _))
  · obtain ⟨a, b, rfl⟩ := ix2_of x
    obtain rfl : i = a := Fin.ext h0
    obtain rfl : j = ⟨0 + b.val, by clear h0 h1; omega⟩ := Fin.ext (by show j.val = 0 + b.val; rw [Nat.zero_add]; exact h1)
    exact (pay8_apply _ _ i b _ _ _).trans (congrArg (· * scaleA) (turned57' x0 x1 x2 x3 x4 x5 x6 x7 i _))

/-- The indexer's queries. -/
theorem out12_apply (i j : Fin 512) : out0_12 x0 x1 x2 x3 x4 x5 x6 x7 (ix2 i j) = turnTok x0 x1 x2 x4 x5 512 i j := by
  unfold out0_12
  canon_tiles x h
  · obtain ⟨a, b, rfl⟩ := ix2_of x
    obtain rfl : i = a := Fin.ext h0
    obtain rfl : j = ⟨384 + b.val, by clear h0 h1; omega⟩ := Fin.ext h1
    exact (pay16_apply _ _ _ i b).trans (turned58 x0 x1 x2 x3 x4 x5 x6 x7 i _)
  · obtain ⟨a, b, rfl⟩ := ix2_of x
    obtain rfl : i = a := Fin.ext h0
    obtain rfl : j = ⟨256 + b.val, by clear h0 h1; omega⟩ := Fin.ext h1
    exact (pay15_apply _ _ _ i b).trans (turned58 x0 x1 x2 x3 x4 x5 x6 x7 i _)
  · obtain ⟨a, b, rfl⟩ := ix2_of x
    obtain rfl : i = a := Fin.ext h0
    obtain rfl : j = ⟨128 + b.val, by clear h0 h1; omega⟩ := Fin.ext h1
    exact (pay14_apply _ _ _ i b).trans (turned58 x0 x1 x2 x3 x4 x5 x6 x7 i _)
  · obtain ⟨a, b, rfl⟩ := ix2_of x
    obtain rfl : i = a := Fin.ext h0
    obtain rfl : j = ⟨0 + b.val, by clear h0 h1; omega⟩ := Fin.ext (by show j.val = 0 + b.val; rw [Nat.zero_add]; exact h1)
    exact (pay13_apply _ _ _ i b).trans (turned58 x0 x1 x2 x3 x4 x5 x6 x7 i _)

/-- The second branch's queries. -/
theorem out14_apply (i j : Fin 512) : out0_14 x0 x1 x2 x3 x4 x5 x6 x7 (ix2 i j) = tok x0 x1 x2 i (1024 + j.val) * scaleB := by
  have z : (![0, 0] : Fin 2 → ℕ) = fun _ => 0 := by funext a; fin_cases a <;> rfl
  unfold out0_14
  rw [View.canon_unit_zero (S := S512x512) z,
    ← cols_ld x0 x1 x2 (k0_pay53 x0 x1 x2 x3 x4 x5 x6 x7) i (pay53_apply x0 x1 x2 x3 x4 x5 x6 x7 i) 1024 (by decide) inb_S1024x3584_S1024x512_0_1024 j]
  generalize (k0_pay53 x0 x1 x2 x3 x4 x5 x6 x7) = X
  pointwise [k0_pay18, k0_pay17]

/-- The gates. -/
theorem out15_apply (i : Fin 512) (j : Fin 2048) : out0_15 x0 x1 x2 x3 x4 x5 x6 x7 (ix2 i j) = gate (tok x0 x1 x2 i (1536 + j.val)) := by
  unfold out0_15
  canon_tiles x h
  · obtain ⟨a, b, rfl⟩ := ix2_of x
    obtain rfl : i = a := Fin.ext h0
    obtain rfl : j = ⟨1536 + b.val, by clear h0 h1; omega⟩ := Fin.ext h1
    have e := cols_ld x0 x1 x2 (k0_pay53 x0 x1 x2 x3 x4 x5 x6 x7) i (pay53_apply x0 x1 x2 x3 x4 x5 x6 x7 i) 3072 (by decide) inb_S1024x3584_S1024x512_0_3072 b
    rw [show 1536 + (⟨1536 + b.val, by omega⟩ : Fin 2048).val = 3072 + b.val from by dsimp only; omega, ← e]
    generalize (k0_pay53 x0 x1 x2 x3 x4 x5 x6 x7) = X
    unfold gate
    pointwise [k0_pay24]
  · obtain ⟨a, b, rfl⟩ := ix2_of x
    obtain rfl : i = a := Fin.ext h0
    obtain rfl : j = ⟨1024 + b.val, by clear h0 h1; omega⟩ := Fin.ext h1
    have e := cols_ld x0 x1 x2 (k0_pay53 x0 x1 x2 x3 x4 x5 x6 x7) i (pay53_apply x0 x1 x2 x3 x4 x5 x6 x7 i) 2560 (by decide) inb_S1024x3584_S1024x512_0_2560 b
    rw [show 1536 + (⟨1024 + b.val, by omega⟩ : Fin 2048).val = 2560 + b.val from by dsimp only; omega, ← e]
    generalize (k0_pay53 x0 x1 x2 x3 x4 x5 x6 x7) = X
    unfold gate
    pointwise [k0_pay23, k0_pay21, k0_pay22]
  · obtain ⟨a, b, rfl⟩ := ix2_of x
    obtain rfl : i = a := Fin.ext h0
    obtain rfl : j = ⟨512 + b.val, by clear h0 h1; omega⟩ := Fin.ext h1
    have e := cols_ld x0 x1 x2 (k0_pay53 x0 x1 x2 x3 x4 x5 x6 x7) i (pay53_apply x0 x1 x2 x3 x4 x5 x6 x7 i) 2048 (by decide) inb_S1024x3584_S1024x512_0_2048 b
    rw [show 1536 + (⟨512 + b.val, by omega⟩ : Fin 2048).val = 2048 + b.val from by dsimp only; omega, ← e]
    generalize (k0_pay53 x0 x1 x2 x3 x4 x5 x6 x7) = X
    unfold gate
    pointwise [k0_pay20]
  · obtain ⟨a, b, rfl⟩ := ix2_of x
    obtain rfl : i = a := Fin.ext h0
    obtain rfl : j = ⟨0 + b.val, by clear h0 h1; omega⟩ := Fin.ext (by show j.val = 0 + b.val; rw [Nat.zero_add]; exact h1)
    have e := cols_ld x0 x1 x2 (k0_pay53 x0 x1 x2 x3 x4 x5 x6 x7) i (pay53_apply x0 x1 x2 x3 x4 x5 x6 x7 i) 1536 (by decide) inb_S1024x3584_S1024x512_0_1536 b
    rw [show 1536 + (⟨0 + b.val, by omega⟩ : Fin 2048).val = 1536 + b.val from by dsimp only; omega, ← e]
    generalize (k0_pay53 x0 x1 x2 x3 x4 x5 x6 x7) = X
    unfold gate
    pointwise [k0_pay19]

/-! ### The channel-major results -/

/-- Feature `c` of those from `o` on, turned by the block's tables. -/
def turnFeat (o : ℕ) (t : Fin 512) (c : ℕ) : EReal := rope (fun a => feat x0 x1 x3 t (o + a)) (pairAt x6 t) (pairAt x7 t) c

theorem pay59_eq : k0_pay59 x0 x1 x2 x3 x4 x5 x6 x7 = x6 := by
  have z : (![0, 0] : Fin 2 → ℕ) = fun _ => 0 := by funext a; fin_cases a <;> rfl
  unfold k0_pay59
  rw [View.ld_unit_zero (S := S32x512) z]
  funext y
  obtain ⟨a, b, rfl⟩ := ix2_of y
  pointwise [k0_pay25]

theorem pay60_eq : k0_pay60 x0 x1 x2 x3 x4 x5 x6 x7 = x7 := by
  have z : (![0, 0] : Fin 2 → ℕ) = fun _ => 0 := by funext a; fin_cases a <;> rfl
  unfold k0_pay60
  rw [View.ld_unit_zero (S := S32x512) z]
  funext y
  obtain ⟨a, b, rfl⟩ := ix2_of y
  pointwise [k0_pay26]

theorem keyA_block (c : Fin 128) (t : Fin 512) :
    k0_pay31 (k0_pay59 x0 x1 x2 x3 x4 x5 x6 x7) (k0_pay60 x0 x1 x2 x3 x4 x5 x6 x7) (k0_pay61 x0 x1 x2 x3 x4 x5 x6 x7) (k0_pay62 x0 x1 x2 x3 x4 x5 x6 x7) (k0_pay63 x0 x1 x2 x3 x4 x5 x6 x7) (ix2 c t) = turnFeat x0 x1 x3 x6 x7 0 t c.val := by
  have z : (![0, 0] : Fin 2 → ℕ) = fun _ => 0 := by funext a; fin_cases a <;> rfl
  unfold k0_pay59 k0_pay60 k0_pay61 k0_pay62 k0_pay63
  rw [View.ld_unit_zero (S := S32x512) z, View.ld_unit_zero (S := S32x512) z]
  refine (pay31_apply (k0_pay53 x0 x1 x2 x3 x4 x5 x6 x7) x6 x7 (View.ld x3 r0_20) c t).trans ?_
  exact rope_congr (n := 128) rfl (fun a ha => rows_ld x0 x1 x3 (by decide) (k0_pay53 x0 x1 x2 x3 x4 x5 x6 x7) t (pay53_apply x0 x1 x2 x3 x4 x5 x6 x7 t) 0 (by decide) inb_S1408x1024_S128x1024_0_0 a ha)
    (fun _ _ => rfl) (fun _ _ => rfl) c.isLt

theorem keyI_block (c : Fin 64) (t : Fin 512) :
    k0_pay36 (k0_pay53 x0 x1 x2 x3 x4 x5 x6 x7) (k0_pay59 x0 x1 x2 x3 x4 x5 x6 x7) (k0_pay60 x0 x1 x2 x3 x4 x5 x6 x7) (View.ld x3 r0_24) (ix2 c t) = turnFeat x0 x1 x3 x6 x7 256 t c.val := by
  rw [pay59_eq, pay60_eq]
  refine (pay36_apply (k0_pay53 x0 x1 x2 x3 x4 x5 x6 x7) x6 x7 (View.ld x3 r0_24) c t).trans ?_
  exact rope_congr (n := 64) rfl (fun a ha => rows_ld x0 x1 x3 (by decide) (k0_pay53 x0 x1 x2 x3 x4 x5 x6 x7) t (pay53_apply x0 x1 x2 x3 x4 x5 x6 x7 t) 256 (by decide) inb_S1408x1024_S64x1024_256_0 a ha)
    (fun _ _ => rfl) (fun _ _ => rfl) c.isLt

theorem pay34_block (c : Fin 128) (t : Fin 512) : k0_pay34 (k0_pay53 x0 x1 x2 x3 x4 x5 x6 x7) (View.ld x3 r0_22) (ix2 c t) = feat x0 x1 x3 t (128 + c.val) := by
  rw [← rows_ld x0 x1 x3 (n := 128) (by decide) (k0_pay53 x0 x1 x2 x3 x4 x5 x6 x7) t (pay53_apply x0 x1 x2 x3 x4 x5 x6 x7 t) 128 (by decide) inb_S1408x1024_S128x1024_128_0 c.val c.isLt,
    ← dotRow_at (k0_pay53 x0 x1 x2 x3 x4 x5 x6 x7) _ t (by decide) c.val c.isLt]
  generalize (k0_pay53 x0 x1 x2 x3 x4 x5 x6 x7) = X
  pointwise [k0_pay34]

theorem pay40_block (c t : Fin 512) : k0_pay40 (k0_pay53 x0 x1 x2 x3 x4 x5 x6 x7) (View.ld x3 r0_28) (ix2 c t) = feat x0 x1 x3 t (384 + c.val) := by
  rw [← rows_ld x0 x1 x3 (n := 512) (by decide) (k0_pay53 x0 x1 x2 x3 x4 x5 x6 x7) t (pay53_apply x0 x1 x2 x3 x4 x5 x6 x7 t) 384 (by decide) inb_S1408x1024_S512x1024_384_0 c.val c.isLt,
    ← dotRow_at (k0_pay53 x0 x1 x2 x3 x4 x5 x6 x7) _ t (by decide) c.val c.isLt]
  generalize (k0_pay53 x0 x1 x2 x3 x4 x5 x6 x7) = X
  pointwise [k0_pay40]

theorem pay43_block (c t : Fin 512) : k0_pay43 (k0_pay53 x0 x1 x2 x3 x4 x5 x6 x7) (View.ld x3 r0_30) (ix2 c t) = feat x0 x1 x3 t (896 + c.val) := by
  rw [← rows_ld x0 x1 x3 (n := 512) (by decide) (k0_pay53 x0 x1 x2 x3 x4 x5 x6 x7) t (pay53_apply x0 x1 x2 x3 x4 x5 x6 x7 t) 896 (by decide) inb_S1408x1024_S512x1024_896_0 c.val c.isLt,
    ← dotRow_at (k0_pay53 x0 x1 x2 x3 x4 x5 x6 x7) _ t (by decide) c.val c.isLt]
  generalize (k0_pay53 x0 x1 x2 x3 x4 x5 x6 x7) = X
  pointwise [k0_pay43]

/-- The first branch's keys above its values, -/
theorem out8_apply (c : Fin 256) (t : Fin 512) :
    out0_8 x0 x1 x2 x3 x4 x5 x6 x7 (ix3 (0 : Fin 1) c t) = if c.val < 128 then turnFeat x0 x1 x3 x6 x7 0 t c.val else feat x0 x1 x3 t c.val := by
  unfold out0_8
  canon_tiles x h
  · obtain ⟨a, b, d, rfl⟩ := ix3_of x
    obtain rfl : t = d := Fin.ext h2
    obtain rfl : a = 0 := Fin.ext (by omega)
    obtain rfl : c = ⟨128 + b.val, by clear h0 h1 h2; omega⟩ := Fin.ext h1
    rw [if_neg (by dsimp only; omega), ← pay34_block x0 x1 x2 x3 x4 x5 x6 x7 b t]
    unfold k0_pay35
    generalize k0_pay34 (k0_pay53 x0 x1 x2 x3 x4 x5 x6 x7) (View.ld x3 r0_22) = Y
    pointwise []
  · obtain ⟨a, b, d, rfl⟩ := ix3_of x
    obtain rfl : t = d := Fin.ext h2
    obtain rfl : a = 0 := Fin.ext (by omega)
    obtain rfl : c = ⟨b.val, by clear h0 h1 h2; omega⟩ := Fin.ext h1
    rw [if_pos (by dsimp only; omega), ← keyA_block x0 x1 x2 x3 x4 x5 x6 x7 b t]
    unfold k0_pay32
    generalize k0_pay31 (k0_pay59 x0 x1 x2 x3 x4 x5 x6 x7) (k0_pay60 x0 x1 x2 x3 x4 x5 x6 x7) (k0_pay61 x0 x1 x2 x3 x4 x5 x6 x7) (k0_pay62 x0 x1 x2 x3 x4 x5 x6 x7) (k0_pay63 x0 x1 x2 x3 x4 x5 x6 x7) = Y
    pointwise []

/-- the indexer's keys, -/
theorem out9_apply (c : Fin 64) (t : Fin 512) : out0_9 x0 x1 x2 x3 x4 x5 x6 x7 (ix3 (0 : Fin 1) c t) = turnFeat x0 x1 x3 x6 x7 256 t c.val := by
  have z : (![0, 0, 0] : Fin 3 → ℕ) = fun _ => 0 := by funext a; fin_cases a <;> rfl
  unfold out0_9
  rw [View.canon_unit_zero (S := S1x64x512) z, ← keyI_block x0 x1 x2 x3 x4 x5 x6 x7 c t]
  unfold k0_pay37
  generalize k0_pay36 (k0_pay53 x0 x1 x2 x3 x4 x5 x6 x7) (k0_pay59 x0 x1 x2 x3 x4 x5 x6 x7) (k0_pay60 x0 x1 x2 x3 x4 x5 x6 x7) (View.ld x3 r0_24) = Y
  pointwise []

/-- the second branch's keys above its values, -/
theorem out10_apply (c : Fin 1024) (t : Fin 512) : out0_10 x0 x1 x2 x3 x4 x5 x6 x7 (ix3 (0 : Fin 1) c t) = feat x0 x1 x3 t (384 + c.val) := by
  unfold out0_10
  canon_tiles x h
  · obtain ⟨a, b, d, rfl⟩ := ix3_of x
    obtain rfl : t = d := Fin.ext h2
    obtain rfl : a = 0 := Fin.ext (by omega)
    obtain rfl : c = ⟨512 + b.val, by clear h0 h1 h2; omega⟩ := Fin.ext h1
    rw [show 384 + (⟨512 + b.val, by omega⟩ : Fin 1024).val = 896 + b.val from by dsimp only; omega, ← pay43_block x0 x1 x2 x3 x4 x5 x6 x7 b t]
    unfold k0_pay44
    generalize k0_pay43 (k0_pay53 x0 x1 x2 x3 x4 x5 x6 x7) (View.ld x3 r0_30) = Y
    pointwise []
  · obtain ⟨a, b, d, rfl⟩ := ix3_of x
    obtain rfl : t = d := Fin.ext h2
    obtain rfl : a = 0 := Fin.ext (by omega)
    obtain rfl : c = ⟨b.val, by clear h0 h1 h2; omega⟩ := Fin.ext h1
    rw [← pay40_block x0 x1 x2 x3 x4 x5 x6 x7 b t]
    unfold k0_pay41
    generalize k0_pay40 (k0_pay53 x0 x1 x2 x3 x4 x5 x6 x7) (View.ld x3 r0_28) = Y
    pointwise []

/-- the indexer's head weights, -/
theorem out13_apply (c : Fin 8) (t : Fin 512) : out0_13 x0 x1 x2 x3 x4 x5 x6 x7 (ix3 (0 : Fin 1) c t) = feat x0 x1 x3 t (320 + c.val) * scaleW * scaleB := by
  have z : (![0, 0, 0] : Fin 3 → ℕ) = fun _ => 0 := by funext a; fin_cases a <;> rfl
  unfold out0_13
  rw [View.canon_unit_zero (S := S1x8x512) z,
    ← rows_ld x0 x1 x3 (n := 64) (by decide) (k0_pay53 x0 x1 x2 x3 x4 x5 x6 x7) t (pay53_apply x0 x1 x2 x3 x4 x5 x6 x7 t) 320 (by decide) inb_S1408x1024_S64x1024_320_0 c.val (by omega),
    ← dotRow_at (k0_pay53 x0 x1 x2 x3 x4 x5 x6 x7) _ t (by decide) c.val (by omega)]
  generalize (k0_pay53 x0 x1 x2 x3 x4 x5 x6 x7) = X
  pointwise [k0_pay39]

/-- the keys by token, -/
theorem out16_apply (t : Fin 512) (c : Fin 128) : out0_16 x0 x1 x2 x3 x4 x5 x6 x7 (ix2 t c) = turnFeat x0 x1 x3 x6 x7 0 t c.val := by
  have z : (![0, 0] : Fin 2 → ℕ) = fun _ => 0 := by funext a; fin_cases a <;> rfl
  unfold out0_16
  rw [View.canon_unit_zero (S := S512x128) z, ← keyA_block x0 x1 x2 x3 x4 x5 x6 x7 c t]
  unfold k0_pay33
  generalize k0_pay31 (k0_pay59 x0 x1 x2 x3 x4 x5 x6 x7) (k0_pay60 x0 x1 x2 x3 x4 x5 x6 x7) (k0_pay61 x0 x1 x2 x3 x4 x5 x6 x7) (k0_pay62 x0 x1 x2 x3 x4 x5 x6 x7) (k0_pay63 x0 x1 x2 x3 x4 x5 x6 x7) = Y
  pointwise []

/-- the indexer's twice, -/
theorem out17_apply (t : Fin 512) (c : Fin 128) : out0_17 x0 x1 x2 x3 x4 x5 x6 x7 (ix2 t c) = turnFeat x0 x1 x3 x6 x7 256 t (c.val % 64) := by
  have z : (![0, 0] : Fin 2 → ℕ) = fun _ => 0 := by funext a; fin_cases a <;> rfl
  unfold out0_17
  rw [View.canon_unit_zero (S := S512x128) z, show c.val % 64 = (⟨c.val % 64, Nat.mod_lt _ (by decide)⟩ : Fin 64).val from rfl, ← keyI_block x0 x1 x2 x3 x4 x5 x6 x7 _ t]
  unfold k0_pay38
  generalize k0_pay36 (k0_pay53 x0 x1 x2 x3 x4 x5 x6 x7) (k0_pay59 x0 x1 x2 x3 x4 x5 x6 x7) (k0_pay60 x0 x1 x2 x3 x4 x5 x6 x7) (View.ld x3 r0_24) = Y
  pointwise []
  split <;> exact congrArg (fun a : Fin 64 => Y (ix2 a t)) (Fin.ext (by dsimp only; omega))

/-- the second branch's, -/
theorem out18_apply (t c : Fin 512) : out0_18 x0 x1 x2 x3 x4 x5 x6 x7 (ix2 t c) = feat x0 x1 x3 t (384 + c.val) := by
  have z : (![0, 0] : Fin 2 → ℕ) = fun _ => 0 := by funext a; fin_cases a <;> rfl
  unfold out0_18
  rw [View.canon_unit_zero (S := S512x512) z, ← pay40_block x0 x1 x2 x3 x4 x5 x6 x7 c t]
  unfold k0_pay42
  generalize k0_pay40 (k0_pay53 x0 x1 x2 x3 x4 x5 x6 x7) (View.ld x3 r0_28) = Y
  pointwise []

/-- the first branch's values by blocks of 128 tokens -/
theorem out19_apply (q : Fin 4) (c : Fin 128) (l : Fin 128) :
    out0_19 x0 x1 x2 x3 x4 x5 x6 x7 (ix4 (0 : Fin 1) q c l) = feat x0 x1 x3 ⟨128 * q.val + l.val, by omega⟩ (128 + c.val) := by
  unfold out0_19
  canon_tiles x h
  · obtain ⟨a, b, d, e, rfl⟩ := ix4_of x
    obtain rfl : c = d := Fin.ext h2
    obtain rfl : l = e := Fin.ext h3
    obtain rfl : a = 0 := Fin.ext (by omega)
    obtain rfl : b = 0 := Fin.ext (by omega)
    obtain rfl : q = 3 := Fin.ext h1
    rw [← pay34_block x0 x1 x2 x3 x4 x5 x6 x7 c _]
    unfold k0_pay64
    generalize k0_pay34 (k0_pay53 x0 x1 x2 x3 x4 x5 x6 x7) (View.ld x3 r0_22) = Y
    pointwise [k0_pay1, k0_pay52]
  · obtain ⟨a, b, d, e, rfl⟩ := ix4_of x
    obtain rfl : c = d := Fin.ext h2
    obtain rfl : l = e := Fin.ext h3
    obtain rfl : a = 0 := Fin.ext (by omega)
    obtain rfl : b = 0 := Fin.ext (by omega)
    obtain rfl : q = 2 := Fin.ext h1
    rw [← pay34_block x0 x1 x2 x3 x4 x5 x6 x7 c _]
    unfold k0_pay64
    generalize k0_pay34 (k0_pay53 x0 x1 x2 x3 x4 x5 x6 x7) (View.ld x3 r0_22) = Y
    pointwise [k0_pay50]
  · obtain ⟨a, b, d, e, rfl⟩ := ix4_of x
    obtain rfl : c = d := Fin.ext h2
    obtain rfl : l = e := Fin.ext h3
    obtain rfl : a = 0 := Fin.ext (by omega)
    obtain rfl : b = 0 := Fin.ext (by omega)
    obtain rfl : q = 1 := Fin.ext h1
    rw [← pay34_block x0 x1 x2 x3 x4 x5 x6 x7 c _]
    unfold k0_pay64
    generalize k0_pay34 (k0_pay53 x0 x1 x2 x3 x4 x5 x6 x7) (View.ld x3 r0_22) = Y
    pointwise [k0_pay48]
  · obtain ⟨a, b, d, e, rfl⟩ := ix4_of x
    obtain rfl : c = d := Fin.ext h2
    obtain rfl : l = e := Fin.ext h3
    obtain rfl : a = 0 := Fin.ext (by omega)
    obtain rfl : b = 0 := Fin.ext (by omega)
    obtain rfl : q = 0 := Fin.ext h1
    rw [← pay34_block x0 x1 x2 x3 x4 x5 x6 x7 c _]
    unfold k0_pay64
    generalize k0_pay34 (k0_pay53 x0 x1 x2 x3 x4 x5 x6 x7) (View.ld x3 r0_22) = Y
    pointwise [k0_pay46, k0_pay45]

/-- and the second's. -/
theorem out20_apply (q : Fin 4) (c : Fin 512) (l : Fin 128) :
    out0_20 x0 x1 x2 x3 x4 x5 x6 x7 (ix4 (0 : Fin 1) q c l) = feat x0 x1 x3 ⟨128 * q.val + l.val, by omega⟩ (896 + c.val) := by
  unfold out0_20
  canon_tiles x h
  · obtain ⟨a, b, d, e, rfl⟩ := ix4_of x
    obtain rfl : c = d := Fin.ext h2
    obtain rfl : l = e := Fin.ext h3
    obtain rfl : a = 0 := Fin.ext (by omega)
    obtain rfl : b = 0 := Fin.ext (by omega)
    obtain rfl : q = 3 := Fin.ext h1
    rw [← pay43_block x0 x1 x2 x3 x4 x5 x6 x7 c _]
    unfold k0_pay65
    generalize k0_pay43 (k0_pay53 x0 x1 x2 x3 x4 x5 x6 x7) (View.ld x3 r0_30) = Y
    pointwise [k0_pay2]
  · obtain ⟨a, b, d, e, rfl⟩ := ix4_of x
    obtain rfl : c = d := Fin.ext h2
    obtain rfl : l = e := Fin.ext h3
    obtain rfl : a = 0 := Fin.ext (by omega)
    obtain rfl : b = 0 := Fin.ext (by omega)
    obtain rfl : q = 2 := Fin.ext h1
    rw [← pay43_block x0 x1 x2 x3 x4 x5 x6 x7 c _]
    unfold k0_pay65
    generalize k0_pay43 (k0_pay53 x0 x1 x2 x3 x4 x5 x6 x7) (View.ld x3 r0_30) = Y
    pointwise [k0_pay51]
  · obtain ⟨a, b, d, e, rfl⟩ := ix4_of x
    obtain rfl : c = d := Fin.ext h2
    obtain rfl : l = e := Fin.ext h3
    obtain rfl : a = 0 := Fin.ext (by omega)
    obtain rfl : b = 0 := Fin.ext (by omega)
    obtain rfl : q = 1 := Fin.ext h1
    rw [← pay43_block x0 x1 x2 x3 x4 x5 x6 x7 c _]
    unfold k0_pay65
    generalize k0_pay43 (k0_pay53 x0 x1 x2 x3 x4 x5 x6 x7) (View.ld x3 r0_30) = Y
    pointwise [k0_pay49]
  · obtain ⟨a, b, d, e, rfl⟩ := ix4_of x
    obtain rfl : c = d := Fin.ext h2
    obtain rfl : l = e := Fin.ext h3
    obtain rfl : a = 0 := Fin.ext (by omega)
    obtain rfl : b = 0 := Fin.ext (by omega)
    obtain rfl : q = 0 := Fin.ext h1
    rw [← pay43_block x0 x1 x2 x3 x4 x5 x6 x7 c _]
    unfold k0_pay65
    generalize k0_pay43 (k0_pay53 x0 x1 x2 x3 x4 x5 x6 x7) (View.ld x3 r0_30) = Y
    pointwise [k0_pay47]

end Block

end Cert.Proof.PrjI

end
-- ==== Proof.Prj.Entry.lean ====
/-
  The arrays the host prepares for the projection, read at an index: the weight's columns regrouped by
  layout, the first branch's query heads reordered, and the tables of the rotary angles.
-/
module

public import proofs.«01_k».proof.Proof.Prj.Block
public import Idealize.ShloMosaic.Lib.Claim
public import Idealize.ShloMosaic.Lib.StableHlo.ReadAt

@[expose] public section

set_option maxRecDepth 16384

noncomputable section

namespace Cert.Proof.PrjI

open Cert.Kernel3Ideal Cert.Kernel3Ideal.Gen Cert.Proof.Out Cert.Proof.Prj
open Idealize.ShloMosaic Idealize.ShloMosaic.TcCoe Idealize.ShloMosaic.Pointwise Idealize.ShloMosaic.StableHlo

variable (m : (ℓ : Loc nD τ sig) → Buf (Elt Ideal) ℓ) (c : Dev nD)

/-- An argument array. -/
abbrev arg (b : Ref sig .tc) := m ((c : Thread nD τ).loc b)

/-! ### The order of the heads -/

/-- The table of the heads' order, as the host hands it to a gather. -/
def heads (tab : Fin 8 → BitVec 32) : IVec S8x1 32 :=
  broadcastInDim S8x1 ![0] bcast_S8_S8x1_0 (select (constantI S8 1 0#1)
    (addi (fun i => tab (S8.rowMajor i)) (broadcastInDim S8 ![] bcast_S_S8 (constantI S_ 32 8#32))) (fun i => tab (S8.rowMajor i)))

theorem heads_apply (p : Fin 8) : heads lit0 (ix2 p (0 : Fin 1)) = BitVec.ofNat 32 (headAt p.val) := by
  revert p; decide +kernel

theorem heads_start (p : Fin 8) : (heads lit0 (ix2 p (0 : Fin 1))).toInt.toNat = headAt p.val := by
  rw [heads_apply]; revert p; decide +kernel

/-- The gather of the weight's query heads: place `p` reads the head the table names. -/
theorem gather_rows {α : Type} (x : S1024x8x64.Idx → α) (R : Fin 1024) (p : Fin 8) (d : Fin 64) :
    Host.gather gather_S1024x8x64_S8x1_S1024x8x64_02_1_n_n_1_1_1024164 x (heads lit0) (ix3 R p d)
      = x (ix3 R (⟨headAt p.val, by unfold headAt; omega⟩ : Fin 8) d) := by
  unfold Host.gather
  refine congrArg x (funext fun a => Fin.ext ?_)
  show GatherDims.start _ _ _ a + GatherDims.batchCoord _ _ a + GatherDims.offCoord _ _ a = _
  rw [GatherDims.batchCoord_eq_zero _ _ _ (fun h => by simp [gather_S1024x8x64_S8x1_S1024x8x64_02_1_n_n_1_1_1024164] at h)]
  match a with
  | ⟨0, _⟩ => show 0 + 0 + R.val = R.val; omega
  | ⟨1, _⟩ =>
    have hs : gather_S1024x8x64_S8x1_S1024x8x64_02_1_n_n_1_1_1024164.siIdx (ix3 R p d)
        ⟨List.idxOf (1 : Fin 3) [1], List.idxOf_lt_length_iff.2 (List.mem_singleton.mpr rfl)⟩ = ix2 p (0 : Fin 1) := by
      funext b
      match b with
      | ⟨0, _⟩ => rfl
      | ⟨1, _⟩ => rfl
    show min (heads lit0 (gather_S1024x8x64_S8x1_S1024x8x64_02_1_n_n_1_1_1024164.siIdx (ix3 R p d)
        ⟨List.idxOf (1 : Fin 3) [1], List.idxOf_lt_length_iff.2 (List.mem_singleton.mpr rfl)⟩)).toInt.toNat (8 - 1) + 0 + 0 = headAt p.val
    rw [hs, heads_start]
    unfold headAt
    omega
  | ⟨2, _⟩ => show 0 + 0 + d.val = d.val; omega

/-- The weight's first 512 columns with the heads reordered. -/
theorem first_columns (w : Vec Ideal S1x1024x4936 .f32) (k : Fin 1024) (j : Fin 512) :
    shapeCast S1024x512 (Host.gather gather_S1024x8x64_S8x1_S1024x8x64_02_1_n_n_1_1_1024164
      (shapeCast S1024x8x64 (extractStridedSlice S1024x512 ![0, 0] (shapeCast S1024x4936 w shapeCasts_S1x1024x4936_S1024x4936) slices_S1024x4936_S1024x512_0_0)
        shapeCasts_S1024x512_S1024x8x64) (heads lit0)) shapeCasts_S1024x8x64_S1024x512 (ix2 k j)
      = w (ix3 (0 : Fin 1) k (⟨(columnAt j).val, by omega⟩ : Fin 4936)) := by
  have h1 : shapeCast S1024x512 (Host.gather gather_S1024x8x64_S8x1_S1024x8x64_02_1_n_n_1_1_1024164
      (shapeCast S1024x8x64 (extractStridedSlice S1024x512 ![0, 0] (shapeCast S1024x4936 w shapeCasts_S1x1024x4936_S1024x4936) slices_S1024x4936_S1024x512_0_0)
        shapeCasts_S1024x512_S1024x8x64) (heads lit0)) shapeCasts_S1024x8x64_S1024x512 (ix2 k j)
      = Host.gather gather_S1024x8x64_S8x1_S1024x8x64_02_1_n_n_1_1_1024164
      (shapeCast S1024x8x64 (extractStridedSlice S1024x512 ![0, 0] (shapeCast S1024x4936 w shapeCasts_S1x1024x4936_S1024x4936) slices_S1024x4936_S1024x512_0_0)
        shapeCasts_S1024x512_S1024x8x64) (heads lit0) (ix3 k (⟨j.val / 64, by omega⟩ : Fin 8) (⟨j.val % 64, by omega⟩ : Fin 64)) := by
    generalize Host.gather _ _ _ = X
    pointwise []
  rw [h1, gather_rows]
  pointwise []
  refine congrArg w ?_
  unfold columnAt headAt
  blk_ext

/-! ### The weights' columns -/

/-- The lane of a column of the token-major weight, -/
def tokChan (j : ℕ) : ℕ :=
  if j < 512 then 64 * headAt (j / 64) + j % 64 else if j < 1024 then j + 256 else if j < 1536 then j + 328 else j + 1352
/-- and of a row of the channel-major one. -/
def featChan (k : ℕ) : ℕ := if k < 256 then k + 512 else if k < 384 then k + 1024 else k + 1480

/-- The host's buffers when the call begins. -/
theorem V_eq : V m c = fun b : Ref sig .tc =>
    StableHlo.after (hostOps0 ++ (hostOps0_1 ++ (hostOps0_2 ++ []))) (fun b => m (c, b)) (Proc.devRef .tc b) := rfl

theorem entry_2 (k : Fin 1024) (j : Fin 3584) : (V m c main_v19 (ix2 k j) : EReal)
    = (arg m c main_arg2 : Vec Ideal S1x1024x4936 .f32) (ix3 (0 : Fin 1) k (⟨tokChan j.val % 4936, Nat.mod_lt _ (by decide)⟩ : Fin 4936)) := by
  rw [V_eq]
  after_reads_at
  by_cases h1 : j.val < 512
  · rw [dif_pos h1]
    after_reads_simp
    refine (first_columns (arg m c main_arg2) k ⟨j.val, h1⟩).trans ?_
    refine congrArg (fun a : Fin 4936 => (arg m c main_arg2 : Vec Ideal S1x1024x4936 .f32) (ix3 (0 : Fin 1) k a)) (Fin.ext ?_)
    show (columnAt ⟨j.val, h1⟩).val = tokChan j.val % 4936
    unfold tokChan
    rw [if_pos h1, Nat.mod_eq_of_lt (by unfold headAt; omega)]
    rfl
  rw [dif_neg h1]
  by_cases h2 : j.val - 512 < 512
  · rw [dif_pos h2]
    after_reads_at
    refine congrArg (fun a : Fin 4936 => (arg m c main_arg2 : Vec Ideal S1x1024x4936 .f32) (ix3 (0 : Fin 1) k a)) (Fin.ext ?_)
    dsimp only
    unfold tokChan
    split_ifs <;> omega
  rw [dif_neg h2]
  by_cases h3 : j.val - 512 - 512 < 512
  · rw [dif_pos h3]
    after_reads_at
    refine congrArg (fun a : Fin 4936 => (arg m c main_arg2 : Vec Ideal S1x1024x4936 .f32) (ix3 (0 : Fin 1) k a)) (Fin.ext ?_)
    dsimp only
    unfold tokChan
    split_ifs <;> omega
  rw [dif_neg h3]
  after_reads_at
  refine congrArg (fun a : Fin 4936 => (arg m c main_arg2 : Vec Ideal S1x1024x4936 .f32) (ix3 (0 : Fin 1) k a)) (Fin.ext ?_)
  dsimp only
  unfold tokChan
  split_ifs <;> omega

theorem entry_3 (j : Fin 1408) (k : Fin 1024) (hj : j.val < 328 ∨ 384 ≤ j.val) : (V m c main_v23 (ix2 j k) : EReal)
    = (arg m c main_arg2 : Vec Ideal S1x1024x4936 .f32) (ix3 (0 : Fin 1) k (⟨featChan j.val % 4936, Nat.mod_lt _ (by decide)⟩ : Fin 4936)) := by
  rw [V_eq]
  after_reads_at
  by_cases h1 : j.val < 128
  · rw [dif_pos h1]
    after_reads_at
    refine congrArg (fun a : Fin 4936 => (arg m c main_arg2 : Vec Ideal S1x1024x4936 .f32) (ix3 (0 : Fin 1) k a)) (Fin.ext ?_)
    dsimp only
    unfold featChan
    split_ifs <;> omega
  rw [dif_neg h1]
  by_cases h2 : j.val - 128 < 128
  · rw [dif_pos h2]
    after_reads_at
    refine congrArg (fun a : Fin 4936 => (arg m c main_arg2 : Vec Ideal S1x1024x4936 .f32) (ix3 (0 : Fin 1) k a)) (Fin.ext ?_)
    dsimp only
    unfold featChan
    split_ifs <;> omega
  rw [dif_neg h2]
  by_cases h3 : j.val - 128 - 128 < 64
  · rw [dif_pos h3]
    after_reads_at
    refine congrArg (fun a : Fin 4936 => (arg m c main_arg2 : Vec Ideal S1x1024x4936 .f32) (ix3 (0 : Fin 1) k a)) (Fin.ext ?_)
    dsimp only
    unfold featChan
    split_ifs <;> omega
  rw [dif_neg h3]
  by_cases h4 : j.val - 128 - 128 - 64 < 64
  · rw [dif_pos h4]
    after_reads_at
    rw [dif_pos (by omega)]
    refine congrArg (fun a : Fin 4936 => (arg m c main_arg2 : Vec Ideal S1x1024x4936 .f32) (ix3 (0 : Fin 1) k a)) (Fin.ext ?_)
    dsimp only
    unfold featChan
    split_ifs <;> omega
  rw [dif_neg h4]
  by_cases h5 : j.val - 128 - 128 - 64 - 64 < 512
  · rw [dif_pos h5]
    after_reads_at
    refine congrArg (fun a : Fin 4936 => (arg m c main_arg2 : Vec Ideal S1x1024x4936 .f32) (ix3 (0 : Fin 1) k a)) (Fin.ext ?_)
    dsimp only
    unfold featChan
    split_ifs <;> omega
  rw [dif_neg h5]
  after_reads_at
  refine congrArg (fun a : Fin 4936 => (arg m c main_arg2 : Vec Ideal S1x1024x4936 .f32) (ix3 (0 : Fin 1) k a)) (Fin.ext ?_)
  dsimp only
  unfold featChan
  split_ifs <;> omega

theorem entry_4 (s : Fin 4096) (j : Fin 128) : (V m c main_v42 (ix2 s j) : EReal) = co s.val (j.val % 32) := by
  rw [V_eq]
  after_reads_at
  by_cases h1 : j.val < 32
  · rw [dif_pos h1]
    after_reads_at
    rw [show j.val % 32 = j.val by omega]
    rfl
  rw [dif_neg h1]
  by_cases h2 : j.val - 32 < 32
  · rw [dif_pos h2]
    after_reads_at
    rw [show j.val % 32 = j.val - 32 by omega]
    rfl
  rw [dif_neg h2]
  by_cases h3 : j.val - 32 - 32 < 32
  · rw [dif_pos h3]
    after_reads_at
    rw [show j.val % 32 = j.val - 32 - 32 by omega]
    rfl
  rw [dif_neg h3]
  after_reads_at
  rw [show j.val % 32 = j.val - 32 - 32 - 32 by omega]
  rfl

theorem entry_5 (s : Fin 4096) (j : Fin 128) : (V m c main_v45 (ix2 s j) : EReal)
    = if j.val % 64 < 32 then -si s.val (j.val % 32) else si s.val (j.val % 32) := by
  rw [V_eq]
  after_reads_at
  by_cases h1 : j.val < 32
  · rw [dif_pos h1]
    after_reads_at
    rw [if_pos (by omega), show j.val % 32 = j.val by omega]
    rfl
  rw [dif_neg h1]
  by_cases h2 : j.val - 32 < 32
  · rw [dif_pos h2]
    after_reads_at
    rw [if_neg (by omega), show j.val % 32 = j.val - 32 by omega]
    rfl
  rw [dif_neg h2]
  by_cases h3 : j.val - 32 - 32 < 32
  · rw [dif_pos h3]
    after_reads_at
    rw [if_pos (by omega), show j.val % 32 = j.val - 32 - 32 by omega]
    rfl
  rw [dif_neg h3]
  after_reads_at
  rw [if_neg (by omega), show j.val % 32 = j.val - 32 - 32 - 32 by omega]
  rfl

theorem entry_6 (d : Fin 32) (s : Fin 4096) : (V m c main_v46 (ix2 d s) : EReal) = co s.val d.val := by
  rw [V_eq]
  after_reads_at
  rfl

theorem entry_7 (d : Fin 32) (s : Fin 4096) : (V m c main_v47 (ix2 d s) : EReal) = si s.val d.val := by
  rw [V_eq]
  after_reads_at
  rfl

theorem entry_1 (e : Fin 1024) : (V m c main_v25 (ix2 (0 : Fin 1) e) : EReal) = (arg m c main_arg1 : Vec Ideal S1x1024 .f32) (ix2 (0 : Fin 1) e) := by
  rw [V_eq]
  after_reads_at

theorem entry_0 (R : Fin 16384) (e : Fin 1024) : (V m c main_v26 (ix2 R e) : EReal)
    = (arg m c main_arg0 : Vec Ideal S4x4096x1024 .f32) (ix3 (batchOf R) (tokenOf R) e) := by
  rw [V_eq]
  after_reads_at
  rfl

end Cert.Proof.PrjI

end
-- ==== Proof.Prj.Kernel.lean ====
/-
  The kernel's result arrays: at every index, the layer's projection of the argument arrays.
-/
module

public import proofs.«01_k».proof.Proof.Prj.Entry
public import proofs.«01_k».proof.Proof.Gen.Kernel3Ideal.Value

@[expose] public section

set_option maxRecDepth 16384

noncomputable section

namespace Cert.Proof.PrjI

open Cert.Kernel3Ideal Cert.Kernel3Ideal.Gen Cert.Proof.Out Cert.Proof.Prj
open Idealize.ShloMosaic Idealize.ShloMosaic.TcCoe Idealize.ShloMosaic.Pointwise Idealize.ShloMosaic.StableHlo

variable (m : (ℓ : Loc nD τ sig) → Buf (Elt Ideal) ℓ) (c : Dev nD)

/-! ### The blocks -/

/-- The blocks of a point: eight points to a batch, 512 tokens to a point. -/
theorem idx : ∀ t : Fin cfg0.N,
    win0_0.index t = ![t.val, 0]
      ∧ win0_1.index t = ![0, 0]
      ∧ win0_2.index t = ![0, 0]
      ∧ win0_3.index t = ![0, 0]
      ∧ win0_4.index t = ![t.val % 8, 0]
      ∧ win0_5.index t = ![t.val % 8, 0]
      ∧ win0_6.index t = ![0, t.val % 8]
      ∧ win0_7.index t = ![0, t.val % 8]
      ∧ win0_8.index t = ![t.val / 8, 0, t.val % 8]
      ∧ win0_9.index t = ![t.val / 8, 0, t.val % 8]
      ∧ win0_10.index t = ![t.val / 8, 0, t.val % 8]
      ∧ win0_11.index t = ![t.val, 0]
      ∧ win0_12.index t = ![t.val, 0]
      ∧ win0_13.index t = ![t.val / 8, 0, t.val % 8]
      ∧ win0_14.index t = ![t.val, 0]
      ∧ win0_15.index t = ![t.val, 0]
      ∧ win0_16.index t = ![t.val, 0]
      ∧ win0_17.index t = ![t.val, 0]
      ∧ win0_18.index t = ![t.val, 0]
      ∧ win0_19.index t = ![t.val / 8, t.val % 8, 0, 0]
      ∧ win0_20.index t = ![t.val / 8, t.val % 8, 0, 0] :=
  (by decide +kernel : ∀ t : Fin grid0.N, _)

theorem point_lt (t : Fin cfg0.N) : t.val < 32 := t.isLt

section Blocks

variable (t : Fin cfg0.N)

/-- A point's token among all, -/
def rowOf (i : Fin 512) : Fin 16384 := ⟨512 * t.val + i.val, by have := point_lt t; omega⟩
/-- and its lanes. -/
abbrev lanes (i : Fin 512) : ℕ → EReal :=
  lane (arg m c main_arg0) (arg m c main_arg1) (arg m c main_arg2) (batchOf (rowOf t i)) (tokenOf (rowOf t i))
/-- The token's position in its batch. -/
abbrev pos (i : Fin 512) : ℕ := (tokenOf (rowOf t i)).val

theorem read_0 (X : Vec Ideal S16384x1024 .f32) (i : Fin 512) (k : Fin 1024) :
    ((cfg0.win 0).blk t).view.read (Elt Ideal) X (ix2 i k) = X (ix2 (rowOf t i) k) := by
  unfold rowOf
  blk_ext [(idx t).1]

theorem read_1 (X : Vec Ideal S1x1024 .f32) (k : Fin 1024) :
    ((cfg0.win 1).blk t).view.read (Elt Ideal) X (ix2 (0 : Fin 1) k) = X (ix2 (0 : Fin 1) k) := by
  blk_ext [(idx t).2.1]

theorem read_2 (X : Vec Ideal S1024x3584 .bf16) (k : Fin 1024) (j : Fin 3584) :
    ((cfg0.win 2).blk t).view.read (Elt Ideal) X (ix2 k j) = X (ix2 k j) := by
  blk_ext [(idx t).2.2.1]

theorem read_3 (X : Vec Ideal S1408x1024 .bf16) (j : Fin 1408) (k : Fin 1024) :
    ((cfg0.win 3).blk t).view.read (Elt Ideal) X (ix2 j k) = X (ix2 j k) := by
  blk_ext [(idx t).2.2.2.1]

theorem read_4 (X : Vec Ideal S4096x128 .f32) (i : Fin 512) (j : Fin 128) :
    ((cfg0.win 4).blk t).view.read (Elt Ideal) X (ix2 i j) = X (ix2 (tokenOf (rowOf t i)) j) := by
  unfold tokenOf rowOf
  blk_ext [(idx t).2.2.2.2.1]

theorem read_5 (X : Vec Ideal S4096x128 .f32) (i : Fin 512) (j : Fin 128) :
    ((cfg0.win 5).blk t).view.read (Elt Ideal) X (ix2 i j) = X (ix2 (tokenOf (rowOf t i)) j) := by
  unfold tokenOf rowOf
  blk_ext [(idx t).2.2.2.2.2.1]

theorem read_6 (X : Vec Ideal S32x4096 .f32) (d : Fin 32) (i : Fin 512) :
    ((cfg0.win 6).blk t).view.read (Elt Ideal) X (ix2 d i) = X (ix2 d (tokenOf (rowOf t i))) := by
  unfold tokenOf rowOf
  blk_ext [(idx t).2.2.2.2.2.2.1]

theorem read_7 (X : Vec Ideal S32x4096 .f32) (d : Fin 32) (i : Fin 512) :
    ((cfg0.win 7).blk t).view.read (Elt Ideal) X (ix2 d i) = X (ix2 d (tokenOf (rowOf t i))) := by
  unfold tokenOf rowOf
  blk_ext [(idx t).2.2.2.2.2.2.2.1]

theorem block_4 (i : Fin 512) (j : Fin 128) : (iblk m c 4 t (ix2 i j) : EReal) = co (pos t i) (j.val % 32) :=
  (read_4 t _ i j).trans (entry_4 m c _ j)

theorem block_5 (i : Fin 512) (j : Fin 128) : (iblk m c 5 t (ix2 i j) : EReal)
    = if j.val % 64 < 32 then -si (pos t i) (j.val % 32) else si (pos t i) (j.val % 32) :=
  (read_5 t _ i j).trans (entry_5 m c _ j)

theorem block_6 (i : Fin 512) (d : ℕ) (hd : d < 32) : pairAt (iblk m c 6 t) i d = co (pos t i) d := by
  refine ((read_6 t _ _ i).trans (entry_6 m c _ _)).trans ?_
  show co _ (d % 32) = _
  rw [Nat.mod_eq_of_lt hd]

theorem block_7 (i : Fin 512) (d : ℕ) (hd : d < 32) : pairAt (iblk m c 7 t) i d = si (pos t i) d := by
  refine ((read_7 t _ _ i).trans (entry_7 m c _ _)).trans ?_
  show si _ (d % 32) = _
  rw [Nat.mod_eq_of_lt hd]

theorem block_nrm (i : Fin 512) (k : Fin 1024) : nrm (iblk m c 0 t) (iblk m c 1 t) i k
    = rmsNorm (fun e => (arg m c main_arg0 : Vec Ideal S4x4096x1024 .f32) (ix3 (batchOf (rowOf t i)) (tokenOf (rowOf t i)) e))
        (fun e => (arg m c main_arg1 : Vec Ideal S1x1024 .f32) (ix2 (0 : Fin 1) e)) k :=
  congrArg₂ (fun h g => rmsNorm h g k) (funext fun e => (read_0 t _ i e).trans (entry_0 m c _ e))
    (funext fun e => (read_1 t _ e).trans (entry_1 m c e))

/-- A column's dot is the lane it holds, -/
theorem block_tok (i : Fin 512) (j : ℕ) (hj : j < 3584) :
    tok (iblk m c 0 t) (iblk m c 1 t) (iblk m c 2 t) i j = lanes m c t i (tokChan j) := by
  unfold tok lanes lane
  refine Finset.sum_congr rfl fun k _ => ?_
  refine congrArg₂ (· * ·) (block_nrm m c t i k) ?_
  refine (read_2 t _ k _).trans ((entry_2 m c k _).trans ?_)
  refine congrArg (fun a : Fin 4936 => (arg m c main_arg2 : Vec Ideal S1x1024x4936 .f32) (ix3 (0 : Fin 1) k a)) (Fin.ext ?_)
  have e : j % 3584 = j := Nat.mod_eq_of_lt hj
  dsimp only
  rw [e]

/-- and a row's. -/
theorem block_feat (i : Fin 512) (j : ℕ) (hj : j < 328 ∨ 384 ≤ j) (hl : j < 1408) :
    feat (iblk m c 0 t) (iblk m c 1 t) (iblk m c 3 t) i j = lanes m c t i (featChan j) := by
  unfold feat lanes lane
  refine Finset.sum_congr rfl fun k _ => ?_
  refine congrArg₂ (· * ·) (block_nrm m c t i k) ?_
  refine (read_3 t _ _ k).trans ((entry_3 m c _ k (by dsimp only; omega)).trans ?_)
  refine congrArg (fun a : Fin 4936 => (arg m c main_arg2 : Vec Ideal S1x1024x4936 .f32) (ix3 (0 : Fin 1) k a)) (Fin.ext ?_)
  have e : j % 1408 = j := Nat.mod_eq_of_lt hl
  dsimp only
  rw [e]

/-- The token-major turn is the layer's. -/
theorem block_turn (i j : Fin 512) (o a : ℕ) (q : ℕ → EReal) (ha : a % 64 = j.val % 64)
    (h0 : tok (iblk m c 0 t) (iblk m c 1 t) (iblk m c 2 t) i (o + j.val) = q a)
    (h1 : tok (iblk m c 0 t) (iblk m c 1 t) (iblk m c 2 t) i (o + partner j.val) = q (if a % 64 < 32 then a + 32 else a - 32)) :
    turnTok (iblk m c 0 t) (iblk m c 1 t) (iblk m c 2 t) (iblk m c 4 t) (iblk m c 5 t) o i j = rope q (co (pos t i)) (si (pos t i)) a := by
  unfold turnTok rope
  rw [h0, h1, block_4, block_5]
  dsimp only
  rw [show j.val % 128 % 64 = a % 64 by omega, show j.val % 128 % 32 = a % 32 by omega]
  by_cases h : a % 64 < 32
  · rw [if_pos h, if_pos h, if_pos h, sub_eq_add_neg, mul_neg]
  · rw [if_neg h, if_neg h, if_neg h]

/-- The channel-major turn is the layer's. -/
theorem block_turnFeat (i : Fin 512) (o n a : ℕ) (q : ℕ → EReal) (hn : n % 64 = 0) (ha : a < n)
    (h : ∀ a < n, feat (iblk m c 0 t) (iblk m c 1 t) (iblk m c 3 t) i (o + a) = q a) :
    turnFeat (iblk m c 0 t) (iblk m c 1 t) (iblk m c 3 t) (iblk m c 6 t) (iblk m c 7 t) o i a = rope q (co (pos t i)) (si (pos t i)) a :=
  rope_congr hn h (fun d hd => block_6 m c t i d hd) (fun d hd => block_7 m c t i d hd) ha

theorem turn_keyA (i : Fin 512) (a : ℕ) (ha : a < 128) :
    turnFeat (iblk m c 0 t) (iblk m c 1 t) (iblk m c 3 t) (iblk m c 6 t) (iblk m c 7 t) 0 i a = keyA (lanes m c t i) (pos t i) a :=
  block_turnFeat m c t i 0 128 a _ rfl ha fun b hb => by
    rw [block_feat m c t i _ (by omega) (by omega)]
    congr 1
    unfold featChan
    split_ifs <;> omega

theorem turn_keyI (i : Fin 512) (a : ℕ) (ha : a < 64) :
    turnFeat (iblk m c 0 t) (iblk m c 1 t) (iblk m c 3 t) (iblk m c 6 t) (iblk m c 7 t) 256 i a = keyI (lanes m c t i) (pos t i) a :=
  block_turnFeat m c t i 256 64 a _ rfl ha fun b hb => by
    rw [block_feat m c t i _ (by omega) (by omega)]
    congr 1
    unfold featChan
    split_ifs <;> omega

/-! ### What the body leaves at a point -/

theorem block_out8 (i : Fin 512) (a : Fin 256) : out0_8 (iblk m c 0 t) (iblk m c 1 t) (iblk m c 2 t) (iblk m c 3 t) (iblk m c 4 t) (iblk m c 5 t) (iblk m c 6 t) (iblk m c 7 t) (ix3 (0 : Fin 1) a i) = keyValueA (lanes m c t i) (pos t i) a.val := by
  rw [out8_apply]
  unfold keyValueA
  by_cases h : a.val < 128
  · rw [if_pos h, if_pos h, turn_keyA m c t i a.val h]
  · rw [if_neg h, if_neg h, block_feat m c t i _ (by omega) (by omega)]
    congr 1
    unfold featChan
    split_ifs <;> omega

theorem block_out9 (i : Fin 512) (a : Fin 64) : out0_9 (iblk m c 0 t) (iblk m c 1 t) (iblk m c 2 t) (iblk m c 3 t) (iblk m c 4 t) (iblk m c 5 t) (iblk m c 6 t) (iblk m c 7 t) (ix3 (0 : Fin 1) a i) = keyI (lanes m c t i) (pos t i) a.val := by
  rw [out9_apply]
  exact turn_keyI m c t i a.val a.isLt

theorem block_out10 (i : Fin 512) (a : Fin 1024) : out0_10 (iblk m c 0 t) (iblk m c 1 t) (iblk m c 2 t) (iblk m c 3 t) (iblk m c 4 t) (iblk m c 5 t) (iblk m c 6 t) (iblk m c 7 t) (ix3 (0 : Fin 1) a i) = lanes m c t i (1864 + a.val) := by
  rw [out10_apply]
  rw [block_feat m c t i _ (by omega) (by omega)]
  congr 1
  unfold featChan
  split_ifs <;> omega

theorem block_out11 (i j : Fin 512) : out0_11 (iblk m c 0 t) (iblk m c 1 t) (iblk m c 2 t) (iblk m c 3 t) (iblk m c 4 t) (iblk m c 5 t) (iblk m c 6 t) (iblk m c 7 t) (ix2 i j) = queryA (lanes m c t i) (pos t i) j := by
  rw [out11_apply]
  unfold queryA
  refine congrArg (· * scaleA) (block_turn m c t i j 0 _ _ ?_ ?_ ?_)
  · unfold columnAt; dsimp only; omega
  · rw [block_tok m c t i _ (by omega)]
    congr 1
    unfold tokChan
    rw [Nat.zero_add, if_pos j.isLt]
    rfl
  · have hp := partner_lt j
    rw [block_tok m c t i _ (by omega)]
    congr 1
    unfold tokChan
    rw [Nat.zero_add, if_pos hp]
    unfold columnAt partner headAt
    dsimp only
    split_ifs <;> omega

theorem block_out12 (i j : Fin 512) : out0_12 (iblk m c 0 t) (iblk m c 1 t) (iblk m c 2 t) (iblk m c 3 t) (iblk m c 4 t) (iblk m c 5 t) (iblk m c 6 t) (iblk m c 7 t) (ix2 i j) = queryI (lanes m c t i) (pos t i) j.val := by
  rw [out12_apply]
  unfold queryI
  refine block_turn m c t i j 512 _ _ rfl ?_ ?_
  · rw [block_tok m c t i _ (by omega)]
    congr 1
    unfold tokChan
    split_ifs <;> omega
  · have hp := partner_lt j
    rw [block_tok m c t i _ (by omega)]
    congr 1
    unfold partner at hp ⊢
    unfold tokChan
    split_ifs at hp ⊢ <;> omega

theorem block_out13 (i : Fin 512) (a : Fin 8) : out0_13 (iblk m c 0 t) (iblk m c 1 t) (iblk m c 2 t) (iblk m c 3 t) (iblk m c 4 t) (iblk m c 5 t) (iblk m c 6 t) (iblk m c 7 t) (ix3 (0 : Fin 1) a i) = weightI (lanes m c t i) a.val := by
  rw [out13_apply]
  unfold weightI
  rw [block_feat m c t i _ (by omega) (by omega)]
  congr 3
  unfold featChan
  split_ifs <;> omega

theorem block_out14 (i j : Fin 512) : out0_14 (iblk m c 0 t) (iblk m c 1 t) (iblk m c 2 t) (iblk m c 3 t) (iblk m c 4 t) (iblk m c 5 t) (iblk m c 6 t) (iblk m c 7 t) (ix2 i j) = queryB (lanes m c t i) j.val := by
  rw [out14_apply]
  unfold queryB
  rw [block_tok m c t i _ (by omega)]
  congr 2
  unfold tokChan
  split_ifs <;> omega

theorem block_out15 (i : Fin 512) (j : Fin 2048) : out0_15 (iblk m c 0 t) (iblk m c 1 t) (iblk m c 2 t) (iblk m c 3 t) (iblk m c 4 t) (iblk m c 5 t) (iblk m c 6 t) (iblk m c 7 t) (ix2 i j) = gates (lanes m c t i) j.val := by
  rw [out15_apply]
  unfold gates
  rw [block_tok m c t i _ (by omega)]
  congr 2
  unfold tokChan
  split_ifs <;> omega

theorem block_out16 (i : Fin 512) (a : Fin 128) : out0_16 (iblk m c 0 t) (iblk m c 1 t) (iblk m c 2 t) (iblk m c 3 t) (iblk m c 4 t) (iblk m c 5 t) (iblk m c 6 t) (iblk m c 7 t) (ix2 i a) = keyA (lanes m c t i) (pos t i) a.val := by
  rw [out16_apply]
  exact turn_keyA m c t i a.val a.isLt

theorem block_out17 (i : Fin 512) (a : Fin 128) : out0_17 (iblk m c 0 t) (iblk m c 1 t) (iblk m c 2 t) (iblk m c 3 t) (iblk m c 4 t) (iblk m c 5 t) (iblk m c 6 t) (iblk m c 7 t) (ix2 i a) = keyI (lanes m c t i) (pos t i) (a.val % 64) := by
  rw [out17_apply]
  exact turn_keyI m c t i _ (Nat.mod_lt _ (by decide))

theorem block_out18 (i a : Fin 512) : out0_18 (iblk m c 0 t) (iblk m c 1 t) (iblk m c 2 t) (iblk m c 3 t) (iblk m c 4 t) (iblk m c 5 t) (iblk m c 6 t) (iblk m c 7 t) (ix2 i a) = lanes m c t i (1864 + a.val) := by
  rw [out18_apply]
  rw [block_feat m c t i _ (by omega) (by omega)]
  congr 1
  unfold featChan
  split_ifs <;> omega

theorem block_out19 (q : Fin 4) (a : Fin 128) (l : Fin 128) : out0_19 (iblk m c 0 t) (iblk m c 1 t) (iblk m c 2 t) (iblk m c 3 t) (iblk m c 4 t) (iblk m c 5 t) (iblk m c 6 t) (iblk m c 7 t) (ix4 (0 : Fin 1) q a l) = lanes m c t ⟨128 * q.val + l.val, by omega⟩ (640 + a.val) := by
  rw [out19_apply]
  rw [block_feat m c t _ _ (by omega) (by omega)]
  congr 1
  unfold featChan
  split_ifs <;> omega

theorem block_out20 (q : Fin 4) (a : Fin 512) (l : Fin 128) : out0_20 (iblk m c 0 t) (iblk m c 1 t) (iblk m c 2 t) (iblk m c 3 t) (iblk m c 4 t) (iblk m c 5 t) (iblk m c 6 t) (iblk m c 7 t) (ix4 (0 : Fin 1) q a l) = lanes m c t ⟨128 * q.val + l.val, by omega⟩ (2376 + a.val) := by
  rw [out20_apply]
  rw [block_feat m c t _ _ (by omega) (by omega)]
  congr 1
  unfold featChan
  split_ifs <;> omega

end Blocks

/-! ### The arrays -/

/-- The lanes of a token of the argument arrays. -/
abbrev lanesOf (b : Fin 4) (s : Fin 4096) : ℕ → EReal := lane (arg m c main_arg0) (arg m c main_arg1) (arg m c main_arg2) b s

theorem congr4 {α β γ δ ε : Type} (f : α → β → γ → δ → ε) {a a' : α} {b b' : β} {c c' : γ} {d d' : δ} (ha : a = a') (hb : b = b')
    (hc : c = c') (hd : d = d') : f a b c d = f a' b' c' d' := by rw [ha, hb, hc, hd]

theorem congr3 {α β γ δ : Type} (f : α → β → γ → δ) {a a' : α} {b b' : β} {c c' : γ} (ha : a = a') (hb : b = b') (hc : c = c') :
    f a b c = f a' b' c' := by rw [ha, hb, hc]

def want8 (b : Fin 4) (s : Fin 4096) (a : Fin 256) : EReal := keyValueA (lanesOf m c b s) s.val a.val

theorem out_array8 : (dats m 0 c).arrAt 8 cfg0.N = fun y : S4x256x4096.Idx => want8 m c (y 0) (y 2) (y 1) := by
  refine (dats m 0 c).arrAt_eq_of_covers 8 _ (by decide +kernel) fun t hfl y => ?_
  have ht := point_lt t
  blk_simp
  rw [after0_8]
  obtain ⟨z, a, i, rfl⟩ := ix3_of y
  obtain rfl : z = 0 := Fin.ext (by omega)
  refine (block_out8 m c t i a).trans ?_
  refine congr3 (want8 m c) (Fin.ext ?_) (Fin.ext ?_) (Fin.ext ?_)
  all_goals
    blk_simp [(idx t).2.2.2.2.2.2.2.2.1]
    try unfold batchOf rowOf
    try unfold tokenOf rowOf
    try dsimp only
    try omega

def want9 (b : Fin 4) (s : Fin 4096) (a : Fin 64) : EReal := keyI (lanesOf m c b s) s.val a.val

theorem out_array9 : (dats m 0 c).arrAt 9 cfg0.N = fun y : S4x64x4096.Idx => want9 m c (y 0) (y 2) (y 1) := by
  refine (dats m 0 c).arrAt_eq_of_covers 9 _ (by decide +kernel) fun t hfl y => ?_
  have ht := point_lt t
  blk_simp
  rw [after0_9]
  obtain ⟨z, a, i, rfl⟩ := ix3_of y
  obtain rfl : z = 0 := Fin.ext (by omega)
  refine (block_out9 m c t i a).trans ?_
  refine congr3 (want9 m c) (Fin.ext ?_) (Fin.ext ?_) (Fin.ext ?_)
  all_goals
    blk_simp [(idx t).2.2.2.2.2.2.2.2.2.1]
    try unfold batchOf rowOf
    try unfold tokenOf rowOf
    try dsimp only
    try omega

def want10 (b : Fin 4) (s : Fin 4096) (a : Fin 1024) : EReal := lanesOf m c b s (1864 + a.val)

theorem out_array10 : (dats m 0 c).arrAt 10 cfg0.N = fun y : S4x1024x4096.Idx => want10 m c (y 0) (y 2) (y 1) := by
  refine (dats m 0 c).arrAt_eq_of_covers 10 _ (by decide +kernel) fun t hfl y => ?_
  have ht := point_lt t
  blk_simp
  rw [after0_10]
  obtain ⟨z, a, i, rfl⟩ := ix3_of y
  obtain rfl : z = 0 := Fin.ext (by omega)
  refine (block_out10 m c t i a).trans ?_
  refine congr3 (want10 m c) (Fin.ext ?_) (Fin.ext ?_) (Fin.ext ?_)
  all_goals
    blk_simp [(idx t).2.2.2.2.2.2.2.2.2.2.1]
    try unfold batchOf rowOf
    try unfold tokenOf rowOf
    try dsimp only
    try omega

def want13 (b : Fin 4) (s : Fin 4096) (a : Fin 8) : EReal := weightI (lanesOf m c b s) a.val

theorem out_array13 : (dats m 0 c).arrAt 13 cfg0.N = fun y : S4x8x4096.Idx => want13 m c (y 0) (y 2) (y 1) := by
  refine (dats m 0 c).arrAt_eq_of_covers 13 _ (by decide +kernel) fun t hfl y => ?_
  have ht := point_lt t
  blk_simp
  rw [after0_13]
  obtain ⟨z, a, i, rfl⟩ := ix3_of y
  obtain rfl : z = 0 := Fin.ext (by omega)
  refine (block_out13 m c t i a).trans ?_
  refine congr3 (want13 m c) (Fin.ext ?_) (Fin.ext ?_) (Fin.ext ?_)
  all_goals
    blk_simp [(idx t).2.2.2.2.2.2.2.2.2.2.2.2.2.1]
    try unfold batchOf rowOf
    try unfold tokenOf rowOf
    try dsimp only
    try omega

def want11 (R : Fin 16384) (a : Fin 512) : EReal := queryA (lanesOf m c (batchOf R) (tokenOf R)) (tokenOf R).val a

theorem out_array11 : (dats m 0 c).arrAt 11 cfg0.N = fun y : S16384x512.Idx => want11 m c (y 0) (y 1) := by
  refine (dats m 0 c).arrAt_eq_of_covers 11 _ (by decide +kernel) fun t hfl y => ?_
  have ht := point_lt t
  blk_simp
  rw [after0_11]
  obtain ⟨i, a, rfl⟩ := ix2_of y
  refine (block_out11 m c t i a).trans ?_
  refine congrArg₂ (want11 m c) (Fin.ext ?_) (Fin.ext ?_)
  · blk_simp [(idx t).2.2.2.2.2.2.2.2.2.2.2.1]
    unfold rowOf
    dsimp only
    omega
  · blk_simp [(idx t).2.2.2.2.2.2.2.2.2.2.2.1]

def want12 (R : Fin 16384) (a : Fin 512) : EReal := queryI (lanesOf m c (batchOf R) (tokenOf R)) (tokenOf R).val a.val

theorem out_array12 : (dats m 0 c).arrAt 12 cfg0.N = fun y : S16384x512.Idx => want12 m c (y 0) (y 1) := by
  refine (dats m 0 c).arrAt_eq_of_covers 12 _ (by decide +kernel) fun t hfl y => ?_
  have ht := point_lt t
  blk_simp
  rw [after0_12]
  obtain ⟨i, a, rfl⟩ := ix2_of y
  refine (block_out12 m c t i a).trans ?_
  refine congrArg₂ (want12 m c) (Fin.ext ?_) (Fin.ext ?_)
  · blk_simp [(idx t).2.2.2.2.2.2.2.2.2.2.2.2.1]
    unfold rowOf
    dsimp only
    omega
  · blk_simp [(idx t).2.2.2.2.2.2.2.2.2.2.2.2.1]

def want14 (R : Fin 16384) (a : Fin 512) : EReal := queryB (lanesOf m c (batchOf R) (tokenOf R)) a.val

theorem out_array14 : (dats m 0 c).arrAt 14 cfg0.N = fun y : S16384x512.Idx => want14 m c (y 0) (y 1) := by
  refine (dats m 0 c).arrAt_eq_of_covers 14 _ (by decide +kernel) fun t hfl y => ?_
  have ht := point_lt t
  blk_simp
  rw [after0_14]
  obtain ⟨i, a, rfl⟩ := ix2_of y
  refine (block_out14 m c t i a).trans ?_
  refine congrArg₂ (want14 m c) (Fin.ext ?_) (Fin.ext ?_)
  · blk_simp [(idx t).2.2.2.2.2.2.2.2.2.2.2.2.2.2.1]
    unfold rowOf
    dsimp only
    omega
  · blk_simp [(idx t).2.2.2.2.2.2.2.2.2.2.2.2.2.2.1]

def want15 (R : Fin 16384) (a : Fin 2048) : EReal := gates (lanesOf m c (batchOf R) (tokenOf R)) a.val

theorem out_array15 : (dats m 0 c).arrAt 15 cfg0.N = fun y : S16384x2048.Idx => want15 m c (y 0) (y 1) := by
  refine (dats m 0 c).arrAt_eq_of_covers 15 _ (by decide +kernel) fun t hfl y => ?_
  have ht := point_lt t
  blk_simp
  rw [after0_15]
  obtain ⟨i, a, rfl⟩ := ix2_of y
  refine (block_out15 m c t i a).trans ?_
  refine congrArg₂ (want15 m c) (Fin.ext ?_) (Fin.ext ?_)
  · blk_simp [(idx t).2.2.2.2.2.2.2.2.2.2.2.2.2.2.2.1]
    unfold rowOf
    dsimp only
    omega
  · blk_simp [(idx t).2.2.2.2.2.2.2.2.2.2.2.2.2.2.2.1]

def want16 (R : Fin 16384) (a : Fin 128) : EReal := keyA (lanesOf m c (batchOf R) (tokenOf R)) (tokenOf R).val a.val

theorem out_array16 : (dats m 0 c).arrAt 16 cfg0.N = fun y : S16384x128.Idx => want16 m c (y 0) (y 1) := by
  refine (dats m 0 c).arrAt_eq_of_covers 16 _ (by decide +kernel) fun t hfl y => ?_
  have ht := point_lt t
  blk_simp
  rw [after0_16]
  obtain ⟨i, a, rfl⟩ := ix2_of y
  refine (block_out16 m c t i a).trans ?_
  refine congrArg₂ (want16 m c) (Fin.ext ?_) (Fin.ext ?_)
  · blk_simp [(idx t).2.2.2.2.2.2.2.2.2.2.2.2.2.2.2.2.1]
    unfold rowOf
    dsimp only
    omega
  · blk_simp [(idx t).2.2.2.2.2.2.2.2.2.2.2.2.2.2.2.2.1]

def want17 (R : Fin 16384) (a : Fin 128) : EReal := keyI (lanesOf m c (batchOf R) (tokenOf R)) (tokenOf R).val (a.val % 64)

theorem out_array17 : (dats m 0 c).arrAt 17 cfg0.N = fun y : S16384x128.Idx => want17 m c (y 0) (y 1) := by
  refine (dats m 0 c).arrAt_eq_of_covers 17 _ (by decide +kernel) fun t hfl y => ?_
  have ht := point_lt t
  blk_simp
  rw [after0_17]
  obtain ⟨i, a, rfl⟩ := ix2_of y
  refine (block_out17 m c t i a).trans ?_
  refine congrArg₂ (want17 m c) (Fin.ext ?_) (Fin.ext ?_)
  · blk_simp [(idx t).2.2.2.2.2.2.2.2.2.2.2.2.2.2.2.2.2.1]
    unfold rowOf
    dsimp only
    omega
  · blk_simp [(idx t).2.2.2.2.2.2.2.2.2.2.2.2.2.2.2.2.2.1]

def want18 (R : Fin 16384) (a : Fin 512) : EReal := lanesOf m c (batchOf R) (tokenOf R) (1864 + a.val)

theorem out_array18 : (dats m 0 c).arrAt 18 cfg0.N = fun y : S16384x512.Idx => want18 m c (y 0) (y 1) := by
  refine (dats m 0 c).arrAt_eq_of_covers 18 _ (by decide +kernel) fun t hfl y => ?_
  have ht := point_lt t
  blk_simp
  rw [after0_18]
  obtain ⟨i, a, rfl⟩ := ix2_of y
  refine (block_out18 m c t i a).trans ?_
  refine congrArg₂ (want18 m c) (Fin.ext ?_) (Fin.ext ?_)
  · blk_simp [(idx t).2.2.2.2.2.2.2.2.2.2.2.2.2.2.2.2.2.2.1]
    unfold rowOf
    dsimp only
    omega
  · blk_simp [(idx t).2.2.2.2.2.2.2.2.2.2.2.2.2.2.2.2.2.2.1]

def want19 (b : Fin 4) (q : Fin 32) (a : Fin 128) (l : Fin 128) : EReal := lanesOf m c b ⟨128 * q.val + l.val, by omega⟩ (640 + a.val)

theorem want19_at (t : Fin cfg0.N) (q : Fin 4) (a : Fin 128) (l : Fin 128) :
    lanes m c t ⟨128 * q.val + l.val, by omega⟩ (640 + a.val)
      = want19 m c ⟨t.val / 8, by have := point_lt t; omega⟩ ⟨t.val % 8 * 4 + q.val, by omega⟩ a l := by
  have ht := point_lt t
  unfold want19 lanes
  refine congrArg₂ (fun b s => lanesOf m c b s (640 + a.val)) (Fin.ext ?_) (Fin.ext ?_)
  · unfold batchOf rowOf
    dsimp only
    omega
  · unfold tokenOf rowOf
    dsimp only
    omega

theorem out_array19 : (dats m 0 c).arrAt 19 cfg0.N = fun y : S4x32x128x128.Idx => want19 m c (y 0) (y 1) (y 2) (y 3) := by
  refine (dats m 0 c).arrAt_eq_of_covers 19 _ (by decide +kernel) fun t hfl y => ?_
  have ht := point_lt t
  blk_simp
  rw [after0_19]
  obtain ⟨z, q, a, l, rfl⟩ := ix4_of y
  obtain rfl : z = 0 := Fin.ext (by omega)
  refine (block_out19 m c t q a l).trans ?_
  refine (want19_at m c t q a l).trans ?_
  refine congr4 (want19 m c) (Fin.ext ?_) (Fin.ext ?_) (Fin.ext ?_) (Fin.ext ?_)
  all_goals
    blk_simp [(idx t).2.2.2.2.2.2.2.2.2.2.2.2.2.2.2.2.2.2.2.1]
    try unfold batchOf rowOf
    try unfold tokenOf rowOf
    try dsimp only
    try omega

def want20 (b : Fin 4) (q : Fin 32) (a : Fin 512) (l : Fin 128) : EReal := lanesOf m c b ⟨128 * q.val + l.val, by omega⟩ (2376 + a.val)

theorem want20_at (t : Fin cfg0.N) (q : Fin 4) (a : Fin 512) (l : Fin 128) :
    lanes m c t ⟨128 * q.val + l.val, by omega⟩ (2376 + a.val)
      = want20 m c ⟨t.val / 8, by have := point_lt t; omega⟩ ⟨t.val % 8 * 4 + q.val, by omega⟩ a l := by
  have ht := point_lt t
  unfold want20 lanes
  refine congrArg₂ (fun b s => lanesOf m c b s (2376 + a.val)) (Fin.ext ?_) (Fin.ext ?_)
  · unfold batchOf rowOf
    dsimp only
    omega
  · unfold tokenOf rowOf
    dsimp only
    omega

theorem out_array20 : (dats m 0 c).arrAt 20 cfg0.N = fun y : S4x32x512x128.Idx => want20 m c (y 0) (y 1) (y 2) (y 3) := by
  refine (dats m 0 c).arrAt_eq_of_covers 20 _ (by decide +kernel) fun t hfl y => ?_
  have ht := point_lt t
  blk_simp
  rw [after0_20]
  obtain ⟨z, q, a, l, rfl⟩ := ix4_of y
  obtain rfl : z = 0 := Fin.ext (by omega)
  refine (block_out20 m c t q a l).trans ?_
  refine (want20_at m c t q a l).trans ?_
  refine congr4 (want20 m c) (Fin.ext ?_) (Fin.ext ?_) (Fin.ext ?_) (Fin.ext ?_)
  all_goals
    blk_simp [(idx t).2.2.2.2.2.2.2.2.2.2.2.2.2.2.2.2.2.2.2.2]
    try unfold batchOf rowOf
    try unfold tokenOf rowOf
    try dsimp only
    try omega

end Cert.Proof.PrjI

end
-- ==== Proof.Prj.Reference.lean ====
/-
  The reference's result arrays: at every index, the layer's projection of the argument arrays.
-/
module

public import proofs.«01_k».proof.Proof.Prj.Spec
public import proofs.«01_k».proof.Proof.Gen.Reference3Ideal.Read
public import Idealize.ShloMosaic.Lib.Pipeline.ValueKit

@[expose] public section

set_option maxRecDepth 16384

noncomputable section

namespace Cert.Proof.PrjR

open Cert.Reference3Ideal Cert.Reference3Ideal.Gen Cert.Reference3Ideal.Read Cert.Proof.Out Cert.Proof.Prj
open Idealize.ShloMosaic Idealize.ShloMosaic.TcCoe Idealize.ShloMosaic.Pointwise

variable (x0 : Vec Ideal S4x4096x1024 .f32) (x1 : Vec Ideal S1x1024 .f32) (x2 : Vec Ideal S1x1024x4936 .f32) (b : Fin 4) (s : Fin 4096)

/-! ### The lanes -/

theorem normed_apply (k : Fin 1024) : val_main_v14 (F := Ideal) x0 x1 (ix3 b s k)
    = rmsNorm (fun e => x0 (ix3 b s e)) (fun e => x1 (ix2 (0 : Fin 1) e)) k := by
  unfold rmsNorm
  pointwise [val_main_v14, val_main_v13, val_main_v12, val_main_v11, val_main_v10, val_main_v9, val_main_v8, val_main_v7, val_main_v6,
    val_main_v5, val_main_v4, val_main_v3, val_main_v2, val_main_v1, val_main_cst, val_main_cst_0, val_main_cst_1]

theorem lanes_apply (n : ℕ) (hn : n < 4936) : val_main_v16 (F := Ideal) x0 x1 x2 (ix3 b s ⟨n, hn⟩) = lane x0 x1 x2 b s n := by
  have hd : val_main_v16 (F := Ideal) x0 x1 x2 (ix3 b s ⟨n, hn⟩)
      = ∑ k : Fin 1024, val_main_v14 (F := Ideal) x0 x1 (ix3 b s k) * x2 (ix3 (0 : Fin 1) k ⟨n, hn⟩) := by
    unfold val_main_v16
    generalize val_main_v14 (F := Ideal) x0 x1 = y
    pointwise [val_main_v15]
  rw [hd]
  unfold lane
  refine Finset.sum_congr rfl fun k _ => ?_
  rw [normed_apply]
  refine congrArg (fun a : Fin 4936 => _ * x2 (ix3 (0 : Fin 1) k a)) (Fin.ext ?_)
  exact (Nat.mod_eq_of_lt hn).symm

/-! ### The angles -/

theorem angle_v37 (d : Fin 32) : val_main_v37 (F := Ideal) (ix2 s d) = angle s.val d.val := by
  unfold angle
  pointwise [val_main_v37, val_main_v36, val_main_v35, val_main_v34, val_main_v33, val_main_v32, val_main_v31, val_main_v30, val_main_v29, val_main_v28,
    val_main_v27, val_main_v26, val_main_v0, val_main_cst_2, val_main_cst_3]

/-- Eight heads of 64 lanes turned by cosines `u` and sines `v`. -/
def turned8 (y : FVec Ideal S4x4096x8x64 .f32) (u v : FVec Ideal S4096x1x32 .f32) : FVec Ideal S4x4096x8x64 .f32 :=
  concatenate S4x4096x8x64 3
    [⟨S4x4096x8x32, subf (mulf (extractStridedSlice S4x4096x8x32 ![0, 0, 0, 0] y slices_S4x4096x8x64_S4x4096x8x32_0_0_0_0) (broadcastInDim S4x4096x8x32 ![0, 1, 2, 3] bcast_S1x4096x1x32_S4x4096x8x32_0_1_2_3 (broadcastInDim S1x4096x1x32 ![1, 2, 3] bcast_S4096x1x32_S1x4096x1x32_1_2_3 u)))
        (mulf (extractStridedSlice S4x4096x8x32 ![0, 0, 0, 32] y slices_S4x4096x8x64_S4x4096x8x32_0_0_0_32) (broadcastInDim S4x4096x8x32 ![0, 1, 2, 3] bcast_S1x4096x1x32_S4x4096x8x32_0_1_2_3 (broadcastInDim S1x4096x1x32 ![1, 2, 3] bcast_S4096x1x32_S1x4096x1x32_1_2_3 v)))⟩,
     ⟨S4x4096x8x32, addf (mulf (extractStridedSlice S4x4096x8x32 ![0, 0, 0, 32] y slices_S4x4096x8x64_S4x4096x8x32_0_0_0_32) (broadcastInDim S4x4096x8x32 ![0, 1, 2, 3] bcast_S1x4096x1x32_S4x4096x8x32_0_1_2_3 (broadcastInDim S1x4096x1x32 ![1, 2, 3] bcast_S4096x1x32_S1x4096x1x32_1_2_3 u)))
        (mulf (extractStridedSlice S4x4096x8x32 ![0, 0, 0, 0] y slices_S4x4096x8x64_S4x4096x8x32_0_0_0_0) (broadcastInDim S4x4096x8x32 ![0, 1, 2, 3] bcast_S1x4096x1x32_S4x4096x8x32_0_1_2_3 (broadcastInDim S1x4096x1x32 ![1, 2, 3] bcast_S4096x1x32_S1x4096x1x32_1_2_3 v)))⟩]
    concatenates_S4x4096x8x32_S4x4096x8x32_S4x4096x8x64_d3

theorem turned8_apply (y : FVec Ideal S4x4096x8x64 .f32) (u v : FVec Ideal S4096x1x32 .f32) (h : Fin 8) (p : ℕ → EReal) (a : ℕ)
    (hu : ∀ d : Fin 32, u (ix3 s (0 : Fin 1) d) = co s.val d.val) (hv : ∀ d : Fin 32, v (ix3 s (0 : Fin 1) d) = si s.val d.val)
    (hy : ∀ d : Fin 64, y (ix4 b s h d) = p (64 * a + d.val)) (d : Fin 64) :
    turned8 y u v (ix4 b s h d) = rope p (co s.val) (si s.val) (64 * a + d.val) := by
  unfold turned8 rope
  obtain ⟨d, hd⟩ := d
  pointwise []
  by_cases hl : d < 32
  · rw [dif_pos hl, if_pos (show (64 * a + d) % 64 < 32 by omega), hu, hv, hy, hy]
    dsimp only
    rw [show (64 * a + d) % 32 = d by omega, show 64 * a + (32 + d) = 64 * a + d + 32 by omega]
  · rw [dif_neg hl, if_neg (show ¬(64 * a + d) % 64 < 32 by omega), hu, hv, hy, hy]
    dsimp only
    rw [show (64 * a + d) % 32 = d - 32 by omega, show 64 * a + (32 + (d - 32)) = 64 * a + d by omega,
      show 64 * a + (d - 32) = 64 * a + d - 32 by omega]

/-- Two heads of 64 lanes turned by cosines `u` and sines `v`. -/
def turned2 (y : FVec Ideal S4x4096x2x64 .f32) (u v : FVec Ideal S4096x1x32 .f32) : FVec Ideal S4x4096x2x64 .f32 :=
  concatenate S4x4096x2x64 3
    [⟨S4x4096x2x32, subf (mulf (extractStridedSlice S4x4096x2x32 ![0, 0, 0, 0] y slices_S4x4096x2x64_S4x4096x2x32_0_0_0_0) (broadcastInDim S4x4096x2x32 ![0, 1, 2, 3] bcast_S1x4096x1x32_S4x4096x2x32_0_1_2_3 (broadcastInDim S1x4096x1x32 ![1, 2, 3] bcast_S4096x1x32_S1x4096x1x32_1_2_3 u)))
        (mulf (extractStridedSlice S4x4096x2x32 ![0, 0, 0, 32] y slices_S4x4096x2x64_S4x4096x2x32_0_0_0_32) (broadcastInDim S4x4096x2x32 ![0, 1, 2, 3] bcast_S1x4096x1x32_S4x4096x2x32_0_1_2_3 (broadcastInDim S1x4096x1x32 ![1, 2, 3] bcast_S4096x1x32_S1x4096x1x32_1_2_3 v)))⟩,
     ⟨S4x4096x2x32, addf (mulf (extractStridedSlice S4x4096x2x32 ![0, 0, 0, 32] y slices_S4x4096x2x64_S4x4096x2x32_0_0_0_32) (broadcastInDim S4x4096x2x32 ![0, 1, 2, 3] bcast_S1x4096x1x32_S4x4096x2x32_0_1_2_3 (broadcastInDim S1x4096x1x32 ![1, 2, 3] bcast_S4096x1x32_S1x4096x1x32_1_2_3 u)))
        (mulf (extractStridedSlice S4x4096x2x32 ![0, 0, 0, 0] y slices_S4x4096x2x64_S4x4096x2x32_0_0_0_0) (broadcastInDim S4x4096x2x32 ![0, 1, 2, 3] bcast_S1x4096x1x32_S4x4096x2x32_0_1_2_3 (broadcastInDim S1x4096x1x32 ![1, 2, 3] bcast_S4096x1x32_S1x4096x1x32_1_2_3 v)))⟩]
    concatenates_S4x4096x2x32_S4x4096x2x32_S4x4096x2x64_d3

theorem turned2_apply (y : FVec Ideal S4x4096x2x64 .f32) (u v : FVec Ideal S4096x1x32 .f32) (h : Fin 2) (p : ℕ → EReal) (a : ℕ)
    (hu : ∀ d : Fin 32, u (ix3 s (0 : Fin 1) d) = co s.val d.val) (hv : ∀ d : Fin 32, v (ix3 s (0 : Fin 1) d) = si s.val d.val)
    (hy : ∀ d : Fin 64, y (ix4 b s h d) = p (64 * a + d.val)) (d : Fin 64) :
    turned2 y u v (ix4 b s h d) = rope p (co s.val) (si s.val) (64 * a + d.val) := by
  unfold turned2 rope
  obtain ⟨d, hd⟩ := d
  pointwise []
  by_cases hl : d < 32
  · rw [dif_pos hl, if_pos (show (64 * a + d) % 64 < 32 by omega), hu, hv, hy, hy]
    dsimp only
    rw [show (64 * a + d) % 32 = d by omega, show 64 * a + (32 + d) = 64 * a + d + 32 by omega]
  · rw [dif_neg hl, if_neg (show ¬(64 * a + d) % 64 < 32 by omega), hu, hv, hy, hy]
    dsimp only
    rw [show (64 * a + d) % 32 = d - 32 by omega, show 64 * a + (32 + (d - 32)) = 64 * a + d by omega,
      show 64 * a + (d - 32) = 64 * a + d - 32 by omega]

/-- One head of 64 lanes turned by cosines `u` and sines `v`. -/
def turned1 (y : FVec Ideal S4x4096x1x64 .f32) (u v : FVec Ideal S4096x1x32 .f32) : FVec Ideal S4x4096x1x64 .f32 :=
  concatenate S4x4096x1x64 3
    [⟨S4x4096x1x32, subf (mulf (extractStridedSlice S4x4096x1x32 ![0, 0, 0, 0] y slices_S4x4096x1x64_S4x4096x1x32_0_0_0_0) (broadcastInDim S4x4096x1x32 ![0, 1, 2, 3] bcast_S1x4096x1x32_S4x4096x1x32_0_1_2_3 (broadcastInDim S1x4096x1x32 ![1, 2, 3] bcast_S4096x1x32_S1x4096x1x32_1_2_3 u)))
        (mulf (extractStridedSlice S4x4096x1x32 ![0, 0, 0, 32] y slices_S4x4096x1x64_S4x4096x1x32_0_0_0_32) (broadcastInDim S4x4096x1x32 ![0, 1, 2, 3] bcast_S1x4096x1x32_S4x4096x1x32_0_1_2_3 (broadcastInDim S1x4096x1x32 ![1, 2, 3] bcast_S4096x1x32_S1x4096x1x32_1_2_3 v)))⟩,
     ⟨S4x4096x1x32, addf (mulf (extractStridedSlice S4x4096x1x32 ![0, 0, 0, 32] y slices_S4x4096x1x64_S4x4096x1x32_0_0_0_32) (broadcastInDim S4x4096x1x32 ![0, 1, 2, 3] bcast_S1x4096x1x32_S4x4096x1x32_0_1_2_3 (broadcastInDim S1x4096x1x32 ![1, 2, 3] bcast_S4096x1x32_S1x4096x1x32_1_2_3 u)))
        (mulf (extractStridedSlice S4x4096x1x32 ![0, 0, 0, 0] y slices_S4x4096x1x64_S4x4096x1x32_0_0_0_0) (broadcastInDim S4x4096x1x32 ![0, 1, 2, 3] bcast_S1x4096x1x32_S4x4096x1x32_0_1_2_3 (broadcastInDim S1x4096x1x32 ![1, 2, 3] bcast_S4096x1x32_S1x4096x1x32_1_2_3 v)))⟩]
    concatenates_S4x4096x1x32_S4x4096x1x32_S4x4096x1x64_d3

theorem turned1_apply (y : FVec Ideal S4x4096x1x64 .f32) (u v : FVec Ideal S4096x1x32 .f32) (p : ℕ → EReal) (a : ℕ)
    (hu : ∀ d : Fin 32, u (ix3 s (0 : Fin 1) d) = co s.val d.val) (hv : ∀ d : Fin 32, v (ix3 s (0 : Fin 1) d) = si s.val d.val)
    (hy : ∀ d : Fin 64, y (ix4 b s (0 : Fin 1) d) = p (64 * a + d.val)) (d : Fin 64) :
    turned1 y u v (ix4 b s (0 : Fin 1) d) = rope p (co s.val) (si s.val) (64 * a + d.val) := by
  unfold turned1 rope
  obtain ⟨d, hd⟩ := d
  pointwise []
  by_cases hl : d < 32
  · rw [dif_pos hl, if_pos (show (64 * a + d) % 64 < 32 by omega), hu, hv, hy, hy]
    dsimp only
    rw [show (64 * a + d) % 32 = d by omega, show 64 * a + (32 + d) = 64 * a + d + 32 by omega]
  · rw [dif_neg hl, if_neg (show ¬(64 * a + d) % 64 < 32 by omega), hu, hv, hy, hy]
    dsimp only
    rw [show (64 * a + d) % 32 = d - 32 by omega, show 64 * a + (32 + (d - 32)) = 64 * a + d by omega,
      show 64 * a + (d - 32) = 64 * a + d - 32 by omega]

theorem v58_eq : val_main_v58 (F := Ideal) x0 x1 x2 = turned8 (val_main_v25 (F := Ideal) x0 x1 x2) (val_main_v39 (F := Ideal)) (val_main_v41 (F := Ideal)) := rfl
theorem v94_eq : val_main_v94 (F := Ideal) x0 x1 x2 = turned2 (val_main_v61 (F := Ideal) x0 x1 x2) (val_main_v39 (F := Ideal)) (val_main_v41 (F := Ideal)) := rfl
theorem v130_eq : val_main_v130 (F := Ideal) x0 x1 x2 = turned8 (val_main_v97 (F := Ideal) x0 x1 x2) (val_main_v39 (F := Ideal)) (val_main_v41 (F := Ideal)) := rfl
theorem v164_eq : val_main_v164 (F := Ideal) x0 x1 x2 = turned1 (val_main_v131 (F := Ideal) x0 x1 x2) (val_main_v39 (F := Ideal)) (val_main_v41 (F := Ideal)) := rfl

theorem cosines (d : Fin 32) : val_main_v39 (F := Ideal) (ix3 s (0 : Fin 1) d) = co s.val d.val := by
  unfold val_main_v39 val_main_v38 co
  rw [← angle_v37]
  generalize val_main_v37 (F := Ideal) = y
  pointwise []

theorem sines (d : Fin 32) : val_main_v41 (F := Ideal) (ix3 s (0 : Fin 1) d) = si s.val d.val := by
  unfold val_main_v41 val_main_v40 si
  rw [← angle_v37]
  generalize val_main_v37 (F := Ideal) = y
  pointwise []

/-! ### The heads -/

theorem slice_apply {S : Shape} (y : S.Idx → EReal) (i : S.Idx) (j : S4x4096x4936.Idx) (n : ℕ) (hn : n < 4936)
    (hy : y i = val_main_v16 (F := Ideal) x0 x1 x2 j) (hj : j = ix3 b s ⟨n, hn⟩) : y i = lane x0 x1 x2 b s n := by
  rw [hy, hj, lanes_apply]

theorem v25_apply (h : Fin 8) (d : Fin 64) : val_main_v25 (F := Ideal) x0 x1 x2 (ix4 b s h d) = lane x0 x1 x2 b s (64 * h.val + d.val) := by
  refine slice_apply x0 x1 x2 b s _ _ _ _ (by omega) ((val_main_v25_apply ..).trans (val_main_v17_apply ..)) ?_
  unfold idx_main_v25 idx_main_v17
  blk_ext

theorem v61_apply (h : Fin 2) (d : Fin 64) : val_main_v61 (F := Ideal) x0 x1 x2 (ix4 b s h d) = lane x0 x1 x2 b s (512 + (64 * h.val + d.val)) := by
  refine slice_apply x0 x1 x2 b s _ _ _ _ (by omega)
    ((val_main_v61_apply ..).trans ((val_main_v60_apply ..).trans ((val_main_v59_apply ..).trans (val_main_v18_apply ..)))) ?_
  unfold idx_main_v61 idx_main_v60 idx_main_v59 idx_main_v18
  blk_ext

theorem v96_apply (h : Fin 2) (d : Fin 64) : val_main_v96 (F := Ideal) x0 x1 x2 (ix4 b s h d) = lane x0 x1 x2 b s (640 + (64 * h.val + d.val)) := by
  refine slice_apply x0 x1 x2 b s _ _ _ _ (by omega)
    ((val_main_v96_apply ..).trans ((val_main_v95_apply ..).trans ((val_main_v59_apply ..).trans (val_main_v18_apply ..)))) ?_
  unfold idx_main_v96 idx_main_v95 idx_main_v59 idx_main_v18
  blk_ext

theorem v97_apply (h : Fin 8) (d : Fin 64) : val_main_v97 (F := Ideal) x0 x1 x2 (ix4 b s h d) = lane x0 x1 x2 b s (768 + (64 * h.val + d.val)) := by
  refine slice_apply x0 x1 x2 b s _ _ _ _ (by omega) ((val_main_v97_apply ..).trans (val_main_v19_apply ..)) ?_
  unfold idx_main_v97 idx_main_v19
  blk_ext

theorem v131_apply (h : Fin 1) (d : Fin 64) : val_main_v131 (F := Ideal) x0 x1 x2 (ix4 b s h d) = lane x0 x1 x2 b s (1280 + (64 * h.val + d.val)) := by
  refine slice_apply x0 x1 x2 b s _ _ _ _ (by omega) ((val_main_v131_apply ..).trans (val_main_v20_apply ..)) ?_
  unfold idx_main_v131 idx_main_v20
  blk_ext

theorem v170_apply (k : Fin 512) : val_main_v170 (F := Ideal) x0 x1 x2 (ix3 b s k) = lane x0 x1 x2 b s (1864 + k.val) := by
  refine slice_apply x0 x1 x2 b s _ _ _ _ (by omega)
    ((val_main_v170_apply ..).trans ((val_main_v169_apply ..).trans ((val_main_v168_apply ..).trans (val_main_v23_apply ..)))) ?_
  unfold idx_main_v170 idx_main_v169 idx_main_v168 idx_main_v23
  blk_ext

theorem v172_apply (k : Fin 512) : val_main_v172 (F := Ideal) x0 x1 x2 (ix3 b s k) = lane x0 x1 x2 b s (2376 + k.val) := by
  refine slice_apply x0 x1 x2 b s _ _ _ _ (by omega)
    ((val_main_v172_apply ..).trans ((val_main_v171_apply ..).trans ((val_main_v168_apply ..).trans (val_main_v23_apply ..)))) ?_
  unfold idx_main_v172 idx_main_v171 idx_main_v168 idx_main_v23
  blk_ext

theorem v58_apply (h : Fin 8) (d : Fin 64) : val_main_v58 (F := Ideal) x0 x1 x2 (ix4 b s h d)
    = rope (lane x0 x1 x2 b s) (co s.val) (si s.val) (64 * h.val + d.val) := by
  rw [v58_eq]
  exact turned8_apply b s _ _ _ h _ h.val (cosines s) (sines s) (v25_apply x0 x1 x2 b s h) d

theorem v94_apply (h : Fin 2) (d : Fin 64) : val_main_v94 (F := Ideal) x0 x1 x2 (ix4 b s h d) = keyA (lane x0 x1 x2 b s) s.val (64 * h.val + d.val) := by
  rw [v94_eq]
  exact turned2_apply b s _ _ _ h _ h.val (cosines s) (sines s) (v61_apply x0 x1 x2 b s h) d

theorem v130_apply (h : Fin 8) (d : Fin 64) : val_main_v130 (F := Ideal) x0 x1 x2 (ix4 b s h d) = queryI (lane x0 x1 x2 b s) s.val (64 * h.val + d.val) := by
  rw [v130_eq]
  exact turned8_apply b s _ _ _ h _ h.val (cosines s) (sines s) (v97_apply x0 x1 x2 b s h) d

theorem v165_apply (d : Fin 64) : val_main_v165 (F := Ideal) x0 x1 x2 (ix3 b s d) = keyI (lane x0 x1 x2 b s) s.val d.val := by
  have hi : idx_main_v165 (ix3 b s d) = ix4 b s (0 : Fin 1) d := by
    unfold idx_main_v165
    blk_ext
  rw [val_main_v165_apply, hi, v164_eq]
  refine (turned1_apply b s _ _ _ (fun a => lane x0 x1 x2 b s (1280 + a)) 0 (cosines s) (sines s) (v131_apply x0 x1 x2 b s 0) d).trans ?_
  rw [Nat.mul_zero, Nat.zero_add]
  rfl

/-! ### The results -/

/-- A row's lanes. -/
abbrev row (R : Fin 16384) : ℕ → EReal := lane x0 x1 x2 (batchOf R) (tokenOf R)

theorem v183_apply (a : Fin 256) : val_main_v183 (F := Ideal) x0 x1 x2 (ix3 b a s) = keyValueA (lane x0 x1 x2 b s) s.val a.val := by
  have hi : idx_main_v182 (idx_main_v183 (ix3 b a s)) = ix5 b s (⟨a.val / 128, by omega⟩ : Fin 2) (⟨a.val / 64 % 2, by omega⟩ : Fin 2) (⟨a.val % 64, by omega⟩ : Fin 64) := by
    unfold idx_main_v182 idx_main_v183
    blk_ext
  rw [val_main_v183_apply, val_main_v182_apply, hi]
  have hc : val_main_v181 (F := Ideal) x0 x1 x2 (ix5 b s (⟨a.val / 128, by omega⟩ : Fin 2) (⟨a.val / 64 % 2, by omega⟩ : Fin 2) (⟨a.val % 64, by omega⟩ : Fin 64))
      = if a.val / 128 < 1 then val_main_v94 (F := Ideal) x0 x1 x2 (ix4 b s (⟨a.val / 64 % 2, by omega⟩ : Fin 2) (⟨a.val % 64, by omega⟩ : Fin 64))
        else val_main_v96 (F := Ideal) x0 x1 x2 (ix4 b s (⟨a.val / 64 % 2, by omega⟩ : Fin 2) (⟨a.val % 64, by omega⟩ : Fin 64)) := by
    unfold val_main_v181 val_main_v180 val_main_v179
    generalize val_main_v94 (F := Ideal) x0 x1 x2 = y
    generalize val_main_v96 (F := Ideal) x0 x1 x2 = z
    pointwise []
    by_cases h : a.val / 128 < 1
    · rw [dif_pos h, if_pos h]
    · rw [dif_neg h, if_neg h]
  rw [hc, v94_apply, v96_apply]
  unfold keyValueA
  dsimp only
  by_cases h : a.val < 128
  · rw [if_pos (by omega), if_pos h]
    congr 1
    omega
  · rw [if_neg (by omega), if_neg h]
    congr 1
    omega

theorem v184_apply (a : Fin 64) : val_main_v184 (F := Ideal) x0 x1 x2 (ix3 b a s) = keyI (lane x0 x1 x2 b s) s.val a.val := by
  have hi : idx_main_v184 (ix3 b a s) = ix3 b s a := by
    unfold idx_main_v184
    blk_ext
  rw [val_main_v184_apply, hi, v165_apply]

theorem v185_apply (a : Fin 1024) : val_main_v185 (F := Ideal) x0 x1 x2 (ix3 b a s) = lane x0 x1 x2 b s (1864 + a.val) := by
  refine slice_apply x0 x1 x2 b s _ _ _ _ (by omega) ((val_main_v185_apply ..).trans (val_main_v23_apply ..)) ?_
  unfold idx_main_v185 idx_main_v23
  blk_ext

theorem heads_index (p : Fin 2) (q : Fin 4) (d : Fin 64) : idx_main_v186 (ix5 b s p q d) = ix4 b s (⟨4 * p.val + q.val, by omega⟩ : Fin 8) d := by
  unfold idx_main_v186
  blk_ext

theorem v191_apply (R : Fin 16384) (j : Fin 512) : val_main_v191 (F := Ideal) x0 x1 x2 (ix2 R j) = queryA (row x0 x1 x2 R) (tokenOf R).val j := by
  have hi : idx_main_v186 (idx_main_v187 (idx_main_v190 (ix2 R j)))
      = ix4 (batchOf R) (tokenOf R) (⟨headAt (j.val / 64), by unfold headAt; omega⟩ : Fin 8) (⟨j.val % 64, by omega⟩ : Fin 64) := by
    have h1 : idx_main_v190 (ix2 R j)
        = ix5 (batchOf R) (tokenOf R) (⟨j.val / 128, by omega⟩ : Fin 4) (⟨j.val / 64 % 2, by omega⟩ : Fin 2) (⟨j.val % 64, by omega⟩ : Fin 64) := by
      unfold idx_main_v190 batchOf tokenOf
      blk_ext
    have h2 : idx_main_v187 (ix5 (batchOf R) (tokenOf R) (⟨j.val / 128, by omega⟩ : Fin 4) (⟨j.val / 64 % 2, by omega⟩ : Fin 2) (⟨j.val % 64, by omega⟩ : Fin 64))
        = ix5 (batchOf R) (tokenOf R) (⟨j.val / 64 % 2, by omega⟩ : Fin 2) (⟨j.val / 128, by omega⟩ : Fin 4) (⟨j.val % 64, by omega⟩ : Fin 64) := by
      unfold idx_main_v187
      blk_ext
    rw [h1, h2, heads_index]
    refine congrArg (fun h : Fin 8 => ix4 (batchOf R) (tokenOf R) h (⟨j.val % 64, by omega⟩ : Fin 64)) (Fin.ext ?_)
    unfold headAt
    dsimp only
    omega
  have hs : val_main_v191 (F := Ideal) x0 x1 x2 (ix2 R j)
      = val_main_v58 (F := Ideal) x0 x1 x2 (idx_main_v186 (idx_main_v187 (idx_main_v190 (ix2 R j)))) * scaleA := by
    rw [val_main_v191_apply, val_main_v190_apply, val_main_v189_apply, val_main_v187_apply, val_main_v186_apply, val_main_v188_apply]
    rfl
  rw [hs, hi, v58_apply]
  rfl

theorem v193_apply (R : Fin 16384) (j : Fin 512) : val_main_v193 (F := Ideal) x0 x1 x2 (ix2 R j) = queryI (row x0 x1 x2 R) (tokenOf R).val j.val := by
  have hi : idx_main_v192 (ix2 R j) = ix4 (batchOf R) (tokenOf R) (⟨j.val / 64, by omega⟩ : Fin 8) (⟨j.val % 64, by omega⟩ : Fin 64) := by
    unfold idx_main_v192 batchOf tokenOf
    blk_ext
  have hs : val_main_v193 (F := Ideal) x0 x1 x2 (ix2 R j) = val_main_v130 (F := Ideal) x0 x1 x2 (idx_main_v192 (ix2 R j)) := by
    rw [val_main_v193_apply, val_main_v192_apply]
    rfl
  rw [hs, hi, v130_apply]
  dsimp only
  rw [Nat.div_add_mod]

theorem v196_apply (a : Fin 8) : val_main_v196 (F := Ideal) x0 x1 x2 (ix3 b a s) = weightI (lane x0 x1 x2 b s) a.val := by
  have hs : val_main_v196 (F := Ideal) x0 x1 x2 (ix3 b a s)
      = val_main_v16 (F := Ideal) x0 x1 x2 (idx_main_v21 (idx_main_v196 (ix3 b a s))) * scaleW * scaleB := by
    rw [val_main_v196_apply, val_main_v195_apply, val_main_v167_apply, val_main_v21_apply, val_main_v166_apply, val_main_v194_apply]
    rfl
  have hi : idx_main_v21 (idx_main_v196 (ix3 b a s)) = ix3 b s (⟨1344 + a.val, by omega⟩ : Fin 4936) := by
    unfold idx_main_v21 idx_main_v196
    blk_ext
  rw [hs, hi, lanes_apply]
  rfl

theorem v200_apply (R : Fin 16384) (j : Fin 512) : val_main_v200 (F := Ideal) x0 x1 x2 (ix2 R j) = queryB (row x0 x1 x2 R) j.val := by
  have hs : val_main_v200 (F := Ideal) x0 x1 x2 (ix2 R j)
      = val_main_v16 (F := Ideal) x0 x1 x2 (idx_main_v22 (idx_main_v199 (ix2 R j))) * scaleB := by
    rw [val_main_v200_apply, val_main_v199_apply, val_main_v198_apply, val_main_v22_apply, val_main_v197_apply]
    rfl
  have hi : idx_main_v22 (idx_main_v199 (ix2 R j)) = ix3 (batchOf R) (tokenOf R) (⟨1352 + j.val, by omega⟩ : Fin 4936) := by
    unfold idx_main_v22 idx_main_v199 batchOf tokenOf
    blk_ext
  rw [hs, hi, lanes_apply]
  rfl

theorem v202_apply (R : Fin 16384) (j : Fin 2048) : val_main_v202 (F := Ideal) x0 x1 x2 (ix2 R j) = gates (row x0 x1 x2 R) j.val := by
  have h0 : ∀ x : EReal, 0 - x = -x := fun x => by rw [sub_eq_add_neg, zero_add]
  have hs : val_main_v202 (F := Ideal) x0 x1 x2 (ix2 R j) = val_main_v178 (F := Ideal) x0 x1 x2 (idx_main_v201 (ix2 R j)) := by
    rw [val_main_v202_apply, val_main_v201_apply]
    rfl
  have hi : idx_main_v201 (ix2 R j) = ix3 (batchOf R) (tokenOf R) j := by
    unfold idx_main_v201 batchOf tokenOf
    blk_ext
  have hg : val_main_v178 (F := Ideal) x0 x1 x2 (ix3 (batchOf R) (tokenOf R) j) = gate (val_main_v24 (F := Ideal) x0 x1 x2 (ix3 (batchOf R) (tokenOf R) j)) := by
    unfold val_main_v178 val_main_v176 val_main_v174 val_main_v173 gate
    simp only [h0]
    generalize val_main_v24 (F := Ideal) x0 x1 x2 = y
    pointwise [val_main_v177, val_main_v175, val_main_cst_11, val_main_cst_12]
  rw [hs, hi, hg]
  unfold gates
  refine congrArg gate (slice_apply x0 x1 x2 _ _ _ _ _ _ (by omega) (val_main_v24_apply ..) ?_)
  unfold idx_main_v24
  blk_ext

theorem v204_apply (R : Fin 16384) (a : Fin 128) : val_main_v204 (F := Ideal) x0 x1 x2 (ix2 R a) = keyA (row x0 x1 x2 R) (tokenOf R).val a.val := by
  have hi : idx_main_v203 (ix2 R a) = ix4 (batchOf R) (tokenOf R) (⟨a.val / 64, by omega⟩ : Fin 2) (⟨a.val % 64, by omega⟩ : Fin 64) := by
    unfold idx_main_v203 batchOf tokenOf
    blk_ext
  have hs : val_main_v204 (F := Ideal) x0 x1 x2 (ix2 R a) = val_main_v94 (F := Ideal) x0 x1 x2 (idx_main_v203 (ix2 R a)) := by
    rw [val_main_v204_apply, val_main_v203_apply]
    rfl
  rw [hs, hi, v94_apply]
  dsimp only
  rw [Nat.div_add_mod]

theorem v207_apply (R : Fin 16384) (a : Fin 128) : val_main_v207 (F := Ideal) x0 x1 x2 (ix2 R a) = keyI (row x0 x1 x2 R) (tokenOf R).val (a.val % 64) := by
  have hi : idx_main_v206 (ix2 R a) = ix3 (batchOf R) (tokenOf R) a := by
    unfold idx_main_v206 batchOf tokenOf
    blk_ext
  have hs : val_main_v207 (F := Ideal) x0 x1 x2 (ix2 R a) = val_main_v205 (F := Ideal) x0 x1 x2 (idx_main_v206 (ix2 R a)) := by
    rw [val_main_v207_apply, val_main_v206_apply]
    rfl
  have hc : val_main_v205 (F := Ideal) x0 x1 x2 (ix3 (batchOf R) (tokenOf R) a)
      = val_main_v165 (F := Ideal) x0 x1 x2 (ix3 (batchOf R) (tokenOf R) (⟨a.val % 64, by omega⟩ : Fin 64)) := by
    obtain ⟨a, ha⟩ := a
    unfold val_main_v205
    generalize val_main_v165 (F := Ideal) x0 x1 x2 = y
    pointwise []
    by_cases h : a < 64
    · rw [dif_pos h]
      refine congrArg (fun e : Fin 64 => y (ix3 (batchOf R) (tokenOf R) e)) (Fin.ext ?_)
      dsimp only
      omega
    · rw [dif_neg h]
      refine congrArg (fun e : Fin 64 => y (ix3 (batchOf R) (tokenOf R) e)) (Fin.ext ?_)
      dsimp only
      omega
  rw [hs, hi, hc, v165_apply]

theorem v209_apply (R : Fin 16384) (a : Fin 512) : val_main_v209 (F := Ideal) x0 x1 x2 (ix2 R a) = row x0 x1 x2 R (1864 + a.val) := by
  have hi : idx_main_v208 (ix2 R a) = ix3 (batchOf R) (tokenOf R) a := by
    unfold idx_main_v208 batchOf tokenOf
    blk_ext
  have hs : val_main_v209 (F := Ideal) x0 x1 x2 (ix2 R a) = val_main_v170 (F := Ideal) x0 x1 x2 (idx_main_v208 (ix2 R a)) := by
    rw [val_main_v209_apply, val_main_v208_apply]
    rfl
  rw [hs, hi, v170_apply]

theorem v212_apply (q : Fin 32) (a l : Fin 128) : val_main_v212 (F := Ideal) x0 x1 x2 (ix4 b q a l)
    = lane x0 x1 x2 b ⟨128 * q.val + l.val, by omega⟩ (640 + a.val) := by
  have hi : idx_main_v210 (idx_main_v211 (ix4 b q a l))
      = ix4 b (⟨128 * q.val + l.val, by omega⟩ : Fin 4096) (⟨a.val / 64, by omega⟩ : Fin 2) (⟨a.val % 64, by omega⟩ : Fin 64) := by
    unfold idx_main_v210 idx_main_v211
    blk_ext
  have hs : val_main_v212 (F := Ideal) x0 x1 x2 (ix4 b q a l) = val_main_v96 (F := Ideal) x0 x1 x2 (idx_main_v210 (idx_main_v211 (ix4 b q a l))) := by
    rw [val_main_v212_apply, val_main_v211_apply, val_main_v210_apply]
    rfl
  rw [hs, hi, v96_apply]
  dsimp only
  rw [Nat.div_add_mod]

theorem v215_apply (q : Fin 32) (a : Fin 512) (l : Fin 128) : val_main_v215 (F := Ideal) x0 x1 x2 (ix4 b q a l)
    = lane x0 x1 x2 b ⟨128 * q.val + l.val, by omega⟩ (2376 + a.val) := by
  have hi : idx_main_v213 (idx_main_v214 (ix4 b q a l)) = ix3 b (⟨128 * q.val + l.val, by omega⟩ : Fin 4096) a := by
    unfold idx_main_v213 idx_main_v214
    blk_ext
  have hs : val_main_v215 (F := Ideal) x0 x1 x2 (ix4 b q a l) = val_main_v172 (F := Ideal) x0 x1 x2 (idx_main_v213 (idx_main_v214 (ix4 b q a l))) := by
    rw [val_main_v215_apply, val_main_v214_apply, val_main_v213_apply]
    rfl
  rw [hs, hi, v172_apply]

end Cert.Proof.PrjR

end
-- ==== Proof.Prj.Value.lean ====
/-
  The layer's projection: the frames of its three programs, and the kernel and the reference ending with
  the same thirteen arrays, from any argument arrays.
-/
module

public import proofs.«01_k».proof.Defs
public import proofs.«01_k».proof.Proof.Prj.Kernel
public import proofs.«01_k».proof.Proof.Prj.Reference
public import proofs.«01_k».proof.Proof.Gen.Kernel3.Frame
public import proofs.«01_k».proof.Proof.Gen.Reference3Ideal.Run

@[expose] public section

noncomputable section

namespace Cert.Proof.Prj

open Idealize.ShloMosaic Idealize.ShloMosaic.TcCoe Idealize.SL.Sem Idealize.ShloMosaic.Pointwise

/-- The kernel ends, its arguments unchanged and every counter at zero. -/
theorem frame_kernel : Cert.quiescent_Kernel3 := fun m g _ => Cert.Kernel3.Gen.frame m g

/-- So does its ideal text, -/
theorem frame_kernelIdeal : Cert.quiescent_Kernel3Ideal := fun m g _ => Cert.Kernel3Ideal.Gen.frame m g

/-- and the reference. -/
theorem frame_referenceIdeal : Cert.quiescent_Reference3Ideal := fun m g _ =>
  (θ_run Cert.Reference3Ideal.defs _ _).mono
    (fun r h => ⟨fun c => (h c).2.2.2.2.2.2.2.2.2.2.2.2.2, sem_eq_zero_of_no_sems (by decide) r.2⟩) (Cert.Reference3Ideal.Value.run m g)

/-- No constant is named: the ideal text is the text. -/
theorem preserves : Cert.preserves_Kernel3_Kernel3Ideal := trivial

section Results

variable (m : (ℓ : Loc Cert.Kernel3Ideal.nD Cert.Kernel3Ideal.τ Cert.Kernel3Ideal.sig) → Buf (Elt Ideal) ℓ) (c : Dev Cert.Kernel3Ideal.nD)

/-- The three arguments of the kernel. -/
abbrev argX := m ((c.tc : Thread Cert.Kernel3Ideal.nD Cert.Kernel3Ideal.τ).loc Cert.Kernel3Ideal.main_arg0)
abbrev argG := m ((c.tc : Thread Cert.Kernel3Ideal.nD Cert.Kernel3Ideal.τ).loc Cert.Kernel3Ideal.main_arg1)
abbrev argW := m ((c.tc : Thread Cert.Kernel3Ideal.nD Cert.Kernel3Ideal.τ).loc Cert.Kernel3Ideal.main_arg2)

theorem result_8 : Cert.Reference3Ideal.Read.val_main_v183 (F := Ideal) (argX m c) (argG m c) (argW m c)
    = fun y : Cert.Kernel3Ideal.S4x256x4096.Idx => PrjI.want8 m c (y 0) (y 2) (y 1) := by
  funext y
  obtain ⟨b, a, s, rfl⟩ := PrjI.ix3_of y
  exact PrjR.v183_apply _ _ _ b s a

theorem result_9 : Cert.Reference3Ideal.Read.val_main_v184 (F := Ideal) (argX m c) (argG m c) (argW m c)
    = fun y : Cert.Kernel3Ideal.S4x64x4096.Idx => PrjI.want9 m c (y 0) (y 2) (y 1) := by
  funext y
  obtain ⟨b, a, s, rfl⟩ := PrjI.ix3_of y
  exact PrjR.v184_apply _ _ _ b s a

theorem result_10 : Cert.Reference3Ideal.Read.val_main_v185 (F := Ideal) (argX m c) (argG m c) (argW m c)
    = fun y : Cert.Kernel3Ideal.S4x1024x4096.Idx => PrjI.want10 m c (y 0) (y 2) (y 1) := by
  funext y
  obtain ⟨b, a, s, rfl⟩ := PrjI.ix3_of y
  exact PrjR.v185_apply _ _ _ b s a

theorem result_11 : Cert.Reference3Ideal.Read.val_main_v191 (F := Ideal) (argX m c) (argG m c) (argW m c)
    = fun y : Cert.Kernel3Ideal.S16384x512.Idx => PrjI.want11 m c (y 0) (y 1) := by
  funext y
  obtain ⟨R, a, rfl⟩ := PrjI.ix2_of y
  exact PrjR.v191_apply _ _ _ R a

theorem result_12 : Cert.Reference3Ideal.Read.val_main_v193 (F := Ideal) (argX m c) (argG m c) (argW m c)
    = fun y : Cert.Kernel3Ideal.S16384x512.Idx => PrjI.want12 m c (y 0) (y 1) := by
  funext y
  obtain ⟨R, a, rfl⟩ := PrjI.ix2_of y
  exact PrjR.v193_apply _ _ _ R a

theorem result_13 : Cert.Reference3Ideal.Read.val_main_v196 (F := Ideal) (argX m c) (argG m c) (argW m c)
    = fun y : Cert.Kernel3Ideal.S4x8x4096.Idx => PrjI.want13 m c (y 0) (y 2) (y 1) := by
  funext y
  obtain ⟨b, a, s, rfl⟩ := PrjI.ix3_of y
  exact PrjR.v196_apply _ _ _ b s a

theorem result_14 : Cert.Reference3Ideal.Read.val_main_v200 (F := Ideal) (argX m c) (argG m c) (argW m c)
    = fun y : Cert.Kernel3Ideal.S16384x512.Idx => PrjI.want14 m c (y 0) (y 1) := by
  funext y
  obtain ⟨R, a, rfl⟩ := PrjI.ix2_of y
  exact PrjR.v200_apply _ _ _ R a

theorem result_15 : Cert.Reference3Ideal.Read.val_main_v202 (F := Ideal) (argX m c) (argG m c) (argW m c)
    = fun y : Cert.Kernel3Ideal.S16384x2048.Idx => PrjI.want15 m c (y 0) (y 1) := by
  funext y
  obtain ⟨R, a, rfl⟩ := PrjI.ix2_of y
  exact PrjR.v202_apply _ _ _ R a

theorem result_16 : Cert.Reference3Ideal.Read.val_main_v204 (F := Ideal) (argX m c) (argG m c) (argW m c)
    = fun y : Cert.Kernel3Ideal.S16384x128.Idx => PrjI.want16 m c (y 0) (y 1) := by
  funext y
  obtain ⟨R, a, rfl⟩ := PrjI.ix2_of y
  exact PrjR.v204_apply _ _ _ R a

theorem result_17 : Cert.Reference3Ideal.Read.val_main_v207 (F := Ideal) (argX m c) (argG m c) (argW m c)
    = fun y : Cert.Kernel3Ideal.S16384x128.Idx => PrjI.want17 m c (y 0) (y 1) := by
  funext y
  obtain ⟨R, a, rfl⟩ := PrjI.ix2_of y
  exact PrjR.v207_apply _ _ _ R a

theorem result_18 : Cert.Reference3Ideal.Read.val_main_v209 (F := Ideal) (argX m c) (argG m c) (argW m c)
    = fun y : Cert.Kernel3Ideal.S16384x512.Idx => PrjI.want18 m c (y 0) (y 1) := by
  funext y
  obtain ⟨R, a, rfl⟩ := PrjI.ix2_of y
  exact PrjR.v209_apply _ _ _ R a

theorem result_19 : Cert.Reference3Ideal.Read.val_main_v212 (F := Ideal) (argX m c) (argG m c) (argW m c)
    = fun y : Cert.Kernel3Ideal.S4x32x128x128.Idx => PrjI.want19 m c (y 0) (y 1) (y 2) (y 3) := by
  funext y
  obtain ⟨b, q, a, l, rfl⟩ := PrjI.ix4_of y
  exact PrjR.v212_apply _ _ _ b q a l

theorem result_20 : Cert.Reference3Ideal.Read.val_main_v215 (F := Ideal) (argX m c) (argG m c) (argW m c)
    = fun y : Cert.Kernel3Ideal.S4x32x512x128.Idx => PrjI.want20 m c (y 0) (y 1) (y 2) (y 3) := by
  funext y
  obtain ⟨b, q, a, l, rfl⟩ := PrjI.ix4_of y
  exact PrjR.v215_apply _ _ _ b q a l

end Results

set_option maxHeartbeats 2000000 in
/-- From equal arguments both programs end with the layer's projection. -/
theorem algebraic : @Cert.algebraic_Kernel3Ideal_Reference3Ideal Cert.Kernel3Ideal.Gen.facts Cert.Reference3Ideal.Gen.facts := by
  intro m g m' g' _ hagree
  refine ⟨fun c => fun y : Cert.Kernel3Ideal.S4x256x4096.Idx => PrjI.want8 m c (y 0) (y 2) (y 1),
    fun c => fun y : Cert.Kernel3Ideal.S4x64x4096.Idx => PrjI.want9 m c (y 0) (y 2) (y 1),
    fun c => fun y : Cert.Kernel3Ideal.S4x1024x4096.Idx => PrjI.want10 m c (y 0) (y 2) (y 1),
    fun c => fun y : Cert.Kernel3Ideal.S16384x512.Idx => PrjI.want11 m c (y 0) (y 1),
    fun c => fun y : Cert.Kernel3Ideal.S16384x512.Idx => PrjI.want12 m c (y 0) (y 1),
    fun c => fun y : Cert.Kernel3Ideal.S4x8x4096.Idx => PrjI.want13 m c (y 0) (y 2) (y 1),
    fun c => fun y : Cert.Kernel3Ideal.S16384x512.Idx => PrjI.want14 m c (y 0) (y 1),
    fun c => fun y : Cert.Kernel3Ideal.S16384x2048.Idx => PrjI.want15 m c (y 0) (y 1),
    fun c => fun y : Cert.Kernel3Ideal.S16384x128.Idx => PrjI.want16 m c (y 0) (y 1),
    fun c => fun y : Cert.Kernel3Ideal.S16384x128.Idx => PrjI.want17 m c (y 0) (y 1),
    fun c => fun y : Cert.Kernel3Ideal.S16384x512.Idx => PrjI.want18 m c (y 0) (y 1),
    fun c => fun y : Cert.Kernel3Ideal.S4x32x128x128.Idx => PrjI.want19 m c (y 0) (y 1) (y 2) (y 3),
    fun c => fun y : Cert.Kernel3Ideal.S4x32x512x128.Idx => PrjI.want20 m c (y 0) (y 1) (y 2) (y 3), ?_, ?_⟩
  · refine (θ_run Cert.Kernel3Ideal.defs _ _).mono (fun _ h c => ?_) (Cert.Kernel3Ideal.Value.run_blocks m g)
    obtain ⟨h8, h9, h10, h11, h12, h13, h14, h15, h16, h17, h18, h19, h20, hk⟩ := h c
    exact ⟨h8.trans (PrjI.out_array8 m c), h9.trans (PrjI.out_array9 m c), h10.trans (PrjI.out_array10 m c), h11.trans (PrjI.out_array11 m c), h12.trans (PrjI.out_array12 m c), h13.trans (PrjI.out_array13 m c), h14.trans (PrjI.out_array14 m c), h15.trans (PrjI.out_array15 m c), h16.trans (PrjI.out_array16 m c), h17.trans (PrjI.out_array17 m c), h18.trans (PrjI.out_array18 m c), h19.trans (PrjI.out_array19 m c), h20.trans (PrjI.out_array20 m c), hk⟩
  · refine (θ_run Cert.Reference3Ideal.defs _ _).mono (fun _ h c => ?_) (Cert.Reference3Ideal.Value.run m' g')
    obtain ⟨a0, a1, a2⟩ := hagree c
    obtain ⟨h8, h9, h10, h11, h12, h13, h14, h15, h16, h17, h18, h19, h20, hk⟩ := h c
    have e : ∀ {β : Type} (f : _ → _ → _ → β), f (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) = f (argX m c) (argG m c) (argW m c) :=
      fun f => by rw [a0, a1, a2]
    exact ⟨h8.trans ((Cert.Reference3Ideal.Read.val_main_v183_eq _).trans ((e Cert.Reference3Ideal.Read.val_main_v183).trans (result_8 m c))),
      h9.trans ((Cert.Reference3Ideal.Read.val_main_v184_eq _).trans ((e Cert.Reference3Ideal.Read.val_main_v184).trans (result_9 m c))),
      h10.trans ((Cert.Reference3Ideal.Read.val_main_v185_eq _).trans ((e Cert.Reference3Ideal.Read.val_main_v185).trans (result_10 m c))),
      h11.trans ((Cert.Reference3Ideal.Read.val_main_v191_eq _).trans ((e Cert.Reference3Ideal.Read.val_main_v191).trans (result_11 m c))),
      h12.trans ((Cert.Reference3Ideal.Read.val_main_v193_eq _).trans ((e Cert.Reference3Ideal.Read.val_main_v193).trans (result_12 m c))),
      h13.trans ((Cert.Reference3Ideal.Read.val_main_v196_eq _).trans ((e Cert.Reference3Ideal.Read.val_main_v196).trans (result_13 m c))),
      h14.trans ((Cert.Reference3Ideal.Read.val_main_v200_eq _).trans ((e Cert.Reference3Ideal.Read.val_main_v200).trans (result_14 m c))),
      h15.trans ((Cert.Reference3Ideal.Read.val_main_v202_eq _).trans ((e Cert.Reference3Ideal.Read.val_main_v202).trans (result_15 m c))),
      h16.trans ((Cert.Reference3Ideal.Read.val_main_v204_eq _).trans ((e Cert.Reference3Ideal.Read.val_main_v204).trans (result_16 m c))),
      h17.trans ((Cert.Reference3Ideal.Read.val_main_v207_eq _).trans ((e Cert.Reference3Ideal.Read.val_main_v207).trans (result_17 m c))),
      h18.trans ((Cert.Reference3Ideal.Read.val_main_v209_eq _).trans ((e Cert.Reference3Ideal.Read.val_main_v209).trans (result_18 m c))),
      h19.trans ((Cert.Reference3Ideal.Read.val_main_v212_eq _).trans ((e Cert.Reference3Ideal.Read.val_main_v212).trans (result_19 m c))),
      h20.trans ((Cert.Reference3Ideal.Read.val_main_v215_eq _).trans ((e Cert.Reference3Ideal.Read.val_main_v215).trans (result_20 m c))), hk⟩

end Cert.Proof.Prj

end
-- ==== Proof.OutS.Spec.lean ====
/-
  The layer's tail of the sample's tokens, 32 sequences of 4 tokens laid out one after another.
-/
module

public import proofs.«01_k».proof.Proof.Out.Spec

@[expose] public section

noncomputable section

namespace Cert.Proof.OutS

open Idealize.ShloMosaic Cert.Proof.Out

/-- The sequence of a row of the 32 × 4 tokens laid out one after another, -/
def seqOf (R : Fin 128) : Fin 32 := ⟨R.val / 4, by omega⟩
/-- and its token in the sequence. -/
def stepOf (R : Fin 128) : Fin 4 := ⟨R.val % 4, by omega⟩

/-- THE LAYER'S TAIL of the sample's argument arrays, at a token and a lane. -/
def result (oa ob : (⟨3, ![32, 4, 512]⟩ : Shape).Idx → EReal) (g : (⟨4, ![32, 4, 2, 1024]⟩ : Shape).Idx → EReal)
    (x : (⟨3, ![32, 4, 1024]⟩ : Shape).Idx → EReal) (wa wb : (⟨3, ![1, 512, 1024]⟩ : Shape).Idx → EReal)
    (wo : (⟨3, ![1, 1024, 1024]⟩ : Shape).Idx → EReal) (nf : (⟨2, ![1, 1024]⟩ : Shape).Idx → EReal)
    (wg wu : (⟨3, ![1, 1024, 2816]⟩ : Shape).Idx → EReal) (wd : (⟨3, ![1, 2816, 1024]⟩ : Shape).Idx → EReal)
    (nl : (⟨1, ![1024]⟩ : Shape).Idx → EReal) (R : Fin 128) (e : Fin 1024) : EReal :=
  tail
    (mixed (fun k => oa (ix3 (seqOf R) (stepOf R) k)) (fun k => ob (ix3 (seqOf R) (stepOf R) k))
      (fun k => g (ix4 (seqOf R) (stepOf R) (0 : Fin 2) k)) (fun k => g (ix4 (seqOf R) (stepOf R) (1 : Fin 2) k))
      (fun k => x (ix3 (seqOf R) (stepOf R) k))
      (fun k y => wa (ix3 (0 : Fin 1) k y)) (fun k y => wb (ix3 (0 : Fin 1) k y)) (fun k y => wo (ix3 (0 : Fin 1) k y)))
    (fun k => nf (ix2 (0 : Fin 1) k)) (fun k y => wg (ix3 (0 : Fin 1) k y)) (fun k y => wu (ix3 (0 : Fin 1) k y))
    (fun k y => wd (ix3 (0 : Fin 1) k y)) (fun k => nl (ix1 k)) e

end Cert.Proof.OutS

end
-- ==== Proof.PrjS.Spec.lean ====
/-
  The layer's projection of the sample's tokens, 32 sequences of 4 tokens after 8192 earlier ones.
-/
module

public import proofs.«01_k».proof.Proof.Prj.Spec
public import proofs.«01_k».proof.Proof.OutS.Spec

@[expose] public section

noncomputable section

namespace Cert.Proof.PrjS

open Cert.Proof.Out Cert.Proof.OutS Idealize.ShloMosaic

/-- A token's lane `c` of the 4936 projected ones. -/
def lane (x : (⟨3, ![32, 4, 1024]⟩ : Shape).Idx → EReal) (g : (⟨2, ![1, 1024]⟩ : Shape).Idx → EReal)
    (w : (⟨3, ![1, 1024, 4936]⟩ : Shape).Idx → EReal) (b : Fin 32) (s : Fin 4) (c : ℕ) : EReal :=
  ∑ k, rmsNorm (fun e => x (ix3 b s e)) (fun e => g (ix2 (0 : Fin 1) e)) k
    * w (ix3 (0 : Fin 1) k (⟨c % 4936, Nat.mod_lt _ (by decide)⟩ : Fin 4936))

/-- A token's position among its sequence's, -/
def posOf (s : Fin 4) : ℕ := 8192 + s.val

/-- as a word. -/
theorem posOf_word (s : Fin 4) : 8192#32 + BitVec.ofNat 32 s.val = BitVec.ofNat 32 (posOf s) := by
  revert s; decide

end Cert.Proof.PrjS

end
-- ==== Proof.PrjS.Block.lean ====
/-
  The sample's 128 tokens, which one grid point projects: the token-major results are dots of the block's
  normalised rows with columns of one weight, the channel-major ones of rows of another.
-/
module

public import proofs.«01_k».proof.Proof.Gen.Kernel4Ideal.Frame
public import proofs.«01_k».proof.Proof.Prj.Block
public import proofs.«01_k».proof.Proof.PrjS.Spec
public import Idealize.ShloMosaic.Lib.Pipeline.ValueKit

@[expose] public section

set_option maxRecDepth 16384

noncomputable section

namespace Cert.Proof.PrjSI

open Cert.Kernel4Ideal Cert.Kernel4Ideal.Gen Cert.Proof.Out Cert.Proof.Prj
open Cert.Proof.PrjI (partner partner_lt mask_apply ix2_of ix3_of)
open Idealize.ShloMosaic Idealize.ShloMosaic.TcCoe

/-- The lanes of a row turned by the tables: each lane times the first table plus its partner times the second. -/
def turned (y : FVec Ideal S128x512 .f32) (cs sn : Vec Ideal S128x128 .f32) (i : Fin 128) (j : Fin 512) : EReal :=
  y (ix2 i j) * cs (ix2 i (⟨j.val % 128, by omega⟩ : Fin 128))
    + y (ix2 i (⟨partner j.val, partner_lt j⟩ : Fin 512)) * sn (ix2 i (⟨j.val % 128, by omega⟩ : Fin 128))

/-- A rotation of 128 lanes, one way for the first half of each pair and the other for the second, fetches the partner. -/
theorem turn_core (y : FVec Ideal S128x512 .f32) (cs sn : FVec Ideal S128x128 .f32) (i : Fin 128) (j : Fin 128) (o : ℕ) (ho : o = 128 * (o / 128))
    (h : o + 128 ≤ 512) (ha hb hc) :
    y (ix2 i (⟨o + j.val, ha⟩ : Fin 512)) * cs (ix2 i j)
      + Scalar.select (IntOp.cmpi CmpIPredicate.eq (IntOp.andi (BitVec.ofNat 32 j.val) 32#32) 0#32)
          (y (ix2 i (⟨o + (j.val + 128 - 96) % 128, hb⟩ : Fin 512))) (y (ix2 i (⟨o + (j.val + 128 - 32) % 128, hc⟩ : Fin 512))) * sn (ix2 i j)
      = turned y cs sn i ⟨o + j.val, ha⟩ := by
  have hm : (⟨(o + j.val) % 128, by omega⟩ : Fin 128) = j := Fin.ext (by dsimp only; omega)
  unfold turned
  dsimp only
  rw [hm, mask_apply]
  refine congrArg (y (ix2 i (⟨o + j.val, ha⟩ : Fin 512)) * cs (ix2 i j) + · * sn (ix2 i j)) ?_
  by_cases hj : j.val % 64 < 32
  · rw [if_pos hj]
    refine congrArg (fun k : Fin 512 => y (ix2 i k)) (Fin.ext ?_)
    dsimp only
    unfold partner
    rw [if_pos (by omega)]
    omega
  · rw [if_neg hj]
    refine congrArg (fun k : Fin 512 => y (ix2 i k)) (Fin.ext ?_)
    dsimp only
    unfold partner
    rw [if_neg (by omega)]
    omega

variable (y : FVec Ideal S128x512 .f32) (cs sn : FVec Ideal S128x128 .f32) (i : Fin 128) (j : Fin 128)

/-! ### The turned columns, in four pieces of 128 -/

theorem pay9_apply : k0_pay9 cs sn k0_pay6 y (ix2 i j) = turned y cs sn i ⟨128 + j.val, by omega⟩ * scaleA := by
  rw [← turn_core y cs sn i j 128 (by decide) (by decide) (by omega) (by omega) (by omega)]
  pointwise [k0_pay9, k0_pay6]

theorem pay10_apply : k0_pay10 cs sn k0_pay6 y (ix2 i j) = turned y cs sn i ⟨256 + j.val, by omega⟩ * scaleA := by
  rw [← turn_core y cs sn i j 256 (by decide) (by decide) (by omega) (by omega) (by omega)]
  pointwise [k0_pay10, k0_pay6]

theorem pay11_apply : k0_pay11 cs sn k0_pay6 y (ix2 i j) = turned y cs sn i ⟨384 + j.val, by omega⟩ * scaleA := by
  rw [← turn_core y cs sn i j 384 (by decide) (by decide) (by omega) (by omega) (by omega)]
  pointwise [k0_pay11, k0_pay6]

theorem pay8_apply (x : Vec Ideal S128x1024 .f32) (g : Vec Ideal S1x1024 .f32) (w : Vec Ideal S1024x512 .bf16) :
    k0_pay8 x g cs sn w (ix2 i j) = turned (k0_pay7 x g w) cs sn i ⟨0 + j.val, by omega⟩ * scaleA := by
  rw [← turn_core _ cs sn i j 0 (by decide) (by decide) (by omega) (by omega) (by omega)]
  unfold k0_pay8
  generalize k0_pay7 x g w = y
  pointwise [k0_pay4, k0_pay5, k0_pay6]

theorem pay13_apply : k0_pay13 cs sn k0_pay6 y (ix2 i j) = turned y cs sn i ⟨0 + j.val, by omega⟩ := by
  rw [← turn_core y cs sn i j 0 (by decide) (by decide) (by omega) (by omega) (by omega)]
  pointwise [k0_pay13, k0_pay6]

theorem pay14_apply : k0_pay14 cs sn k0_pay6 y (ix2 i j) = turned y cs sn i ⟨128 + j.val, by omega⟩ := by
  rw [← turn_core y cs sn i j 128 (by decide) (by decide) (by omega) (by omega) (by omega)]
  pointwise [k0_pay14, k0_pay6]

theorem pay15_apply : k0_pay15 cs sn k0_pay6 y (ix2 i j) = turned y cs sn i ⟨256 + j.val, by omega⟩ := by
  rw [← turn_core y cs sn i j 256 (by decide) (by decide) (by omega) (by omega) (by omega)]
  pointwise [k0_pay15, k0_pay6]

theorem pay16_apply : k0_pay16 cs sn k0_pay6 y (ix2 i j) = turned y cs sn i ⟨384 + j.val, by omega⟩ := by
  rw [← turn_core y cs sn i j 384 (by decide) (by decide) (by omega) (by omega) (by omega)]
  pointwise [k0_pay16, k0_pay6]

/-! ### The channel-major dots -/

/-- A feature's dot with the rows. -/
def dotRow {n : ℕ} (X : FVec Ideal S128x1024 .bf16) (w : FVec Ideal ⟨2, ![n, 1024]⟩ .bf16) (j : Fin 128) (h : 0 < n) (c : ℕ) : EReal :=
  ∑ k, X (ix2 j k) * w (ix2 (⟨c % n, Nat.mod_lt _ h⟩ : Fin n) k)

theorem dotRow_at {n : ℕ} (X : FVec Ideal S128x1024 .bf16) (w : FVec Ideal ⟨2, ![n, 1024]⟩ .bf16) (j : Fin 128) (h : 0 < n) (c : ℕ) (hc : c < n) :
    ∑ k, w (ix2 (⟨c, hc⟩ : Fin n) k) * X (ix2 j k) = dotRow X w j h c := by
  unfold dotRow
  refine Finset.sum_congr rfl fun k _ => ?_
  rw [show (⟨c % n, Nat.mod_lt _ h⟩ : Fin n) = ⟨c, hc⟩ from Fin.ext (Nat.mod_eq_of_lt hc)]
  exact mul_comm _ _

/-- A table's entry. -/
def pairAt (t : FVec Ideal S32x128 .f32) (j : Fin 128) (d : ℕ) : EReal := t (ix2 (⟨d % 32, Nat.mod_lt _ (by decide)⟩ : Fin 32) j)

theorem pairAt_at (t : FVec Ideal S32x128 .f32) (j : Fin 128) (d : ℕ) (hd : d < 32) : t (ix2 (⟨d, hd⟩ : Fin 32) j) = pairAt t j d := by
  unfold pairAt
  rw [show (⟨d % 32, Nat.mod_lt _ (by decide)⟩ : Fin 32) = ⟨d, hd⟩ from Fin.ext (Nat.mod_eq_of_lt hd)]

variable (X : FVec Ideal S128x1024 .bf16) (lo hi : FVec Ideal S32x128 .f32)

/-- The first branch's keys turn in two heads. -/
theorem pay31_apply (w : FVec Ideal S128x1024 .bf16) (c : Fin 128) (t : Fin 128) :
    k0_pay31 (k0_pay25 lo) (k0_pay26 hi) (k0_pay28 X lo hi w) (k0_pay29 X w) (k0_pay30 X w) (ix2 c t)
      = rope (dotRow X w t (by decide)) (pairAt lo t) (pairAt hi t) c.val := by
  obtain ⟨c, hc⟩ := c
  pointwise [k0_pay31, k0_pay30, k0_pay29, k0_pay28, k0_pay27, k0_pay26, k0_pay25]
  simp only [dotRow_at X w t (by decide), pairAt_at]
  generalize dotRow X w t (by decide) = p
  generalize pairAt lo t = u
  generalize pairAt hi t = v
  unfold rope
  split_ifs <;> first | omega | (congr 3 <;> omega)

/-- The indexer's keys turn in one. -/
theorem pay36_apply (w : FVec Ideal S64x1024 .bf16) (c : Fin 64) (t : Fin 128) :
    k0_pay36 X lo hi w (ix2 c t) = rope (dotRow X w t (by decide)) (pairAt lo t) (pairAt hi t) c.val := by
  obtain ⟨c, hc⟩ := c
  pointwise [k0_pay36]
  simp only [dotRow_at X w t (by decide), pairAt_at]
  generalize dotRow X w t (by decide) = p
  generalize pairAt lo t = u
  generalize pairAt hi t = v
  unfold rope
  split_ifs <;> first | omega | (congr 3 <;> omega)

/-! ### The block's lanes -/

section Block

variable (x0 : Vec Ideal S128x1024 .f32) (x1 : Vec Ideal S1x1024 .f32) (x2 : Vec Ideal S1024x3584 .bf16) (x3 : Vec Ideal S1408x1024 .bf16)
  (x4 x5 : Vec Ideal S128x128 .f32) (x6 x7 : Vec Ideal S32x128 .f32)

/-- A row of the block, normalised. -/
def nrm (i : Fin 128) (k : Fin 1024) : EReal := rmsNorm (fun e => x0 (ix2 i e)) (fun e => x1 (ix2 (0 : Fin 1) e)) k

/-- Its dot with a column of the token-major weight, -/
def tok (i : Fin 128) (c : ℕ) : EReal := ∑ k, nrm x0 x1 i k * x2 (ix2 k (⟨c % 3584, Nat.mod_lt _ (by decide)⟩ : Fin 3584))
/-- and with a row of the channel-major one. -/
def feat (i : Fin 128) (c : ℕ) : EReal := ∑ k, nrm x0 x1 i k * x3 (ix2 (⟨c % 1408, Nat.mod_lt _ (by decide)⟩ : Fin 1408) k)

theorem pay46_apply (i : Fin 128) (k : Fin 1024) : k0_pay46 x0 x1 x2 x3 x4 x5 x6 x7 (ix2 i k) = nrm x0 x1 i k := by
  have z : (![0, 0] : Fin 2 → ℕ) = fun _ => 0 := by funext a; fin_cases a <;> rfl
  unfold k0_pay46
  rw [View.ld_unit_zero (S := S128x1024) z, View.ld_unit_zero (S := S1x1024) z]
  unfold nrm rmsNorm
  pointwise [k0_pay3]

/-- Columns from `o` on. -/
theorem cols_ld (X : FVec Ideal S128x1024 .bf16) (i : Fin 128) (hX : ∀ k, X (ix2 i k) = nrm x0 x1 i k) (o : ℕ) (ho : o ≤ 3072) (inb) (j : Fin 512) :
    ∑ k, X (ix2 i k) * View.ld (Val := Elt Ideal) x2 (Rect.unit (s := S1024x3584) ![0, o] S1024x512.size inb) (ix2 k j) = tok x0 x1 x2 i (o + j.val) := by
  unfold tok
  refine Finset.sum_congr rfl fun k _ => ?_
  rw [hX]
  refine congrArg (nrm x0 x1 i k * ·) (View.ld_unit_apply_of x2 _ _ inb _ _ fun a => ?_)
  match a with
  | ⟨0, _⟩ => show k.val = 0 + k.val; omega
  | ⟨1, _⟩ => show (o + j.val) % 3584 = o + j.val; omega

/-- Rows from `o` on. -/
theorem rows_ld {n : ℕ} (hn : 0 < n) (X : FVec Ideal S128x1024 .bf16) (i : Fin 128) (hX : ∀ k, X (ix2 i k) = nrm x0 x1 i k) (o : ℕ) (ho : o + n ≤ 1408) (inb)
    (c : ℕ) (hc : c < n) :
    dotRow X (View.ld (Val := Elt Ideal) x3 (Rect.unit (s := S1408x1024) ![o, 0] (⟨2, ![n, 1024]⟩ : Shape).size inb)) i hn c = feat x0 x1 x3 i (o + c) := by
  unfold dotRow feat
  refine Finset.sum_congr rfl fun k _ => ?_
  rw [hX]
  refine congrArg (nrm x0 x1 i k * ·) (View.ld_unit_apply_of x3 _ _ inb _ _ fun a => ?_)
  match a with
  | ⟨0, _⟩ => show (o + c) % 1408 = o + c % n; rw [Nat.mod_eq_of_lt hc]; omega
  | ⟨1, _⟩ => show k.val = 0 + k.val; omega

theorem pay50_apply (i : Fin 128) (j : Fin 512) : k0_pay50 x0 x1 x2 x3 x4 x5 x6 x7 (ix2 i j) = tok x0 x1 x2 i (0 + j.val) := by
  have e : k0_pay50 x0 x1 x2 x3 x4 x5 x6 x7 = k0_pay12 (k0_pay46 x0 x1 x2 x3 x4 x5 x6 x7) (View.ld x2 r0_3) := rfl
  rw [e, ← cols_ld x0 x1 x2 (k0_pay46 x0 x1 x2 x3 x4 x5 x6 x7) i (pay46_apply x0 x1 x2 x3 x4 x5 x6 x7 i) 0 (by decide) inb_S1024x3584_S1024x512_0_0 j]
  generalize k0_pay46 x0 x1 x2 x3 x4 x5 x6 x7 = X
  pointwise [k0_pay12]

theorem pay51_apply (i : Fin 128) (j : Fin 512) : k0_pay51 x0 x1 x2 x3 x4 x5 x6 x7 (ix2 i j) = tok x0 x1 x2 i (512 + j.val) := by
  unfold k0_pay51
  rw [← cols_ld x0 x1 x2 (k0_pay46 x0 x1 x2 x3 x4 x5 x6 x7) i (pay46_apply x0 x1 x2 x3 x4 x5 x6 x7 i) 512 (by decide) inb_S1024x3584_S1024x512_0_512 j]
  generalize k0_pay46 x0 x1 x2 x3 x4 x5 x6 x7 = X
  pointwise [k0_pay12]

theorem pay47_eq : k0_pay47 x0 x1 x2 x3 x4 x5 x6 x7 = x4 := by
  have z : (![0, 0] : Fin 2 → ℕ) = fun _ => 0 := by funext a; fin_cases a <;> rfl
  unfold k0_pay47
  rw [View.ld_unit_zero (S := S128x128) z]
  funext y
  obtain ⟨a, b, rfl⟩ : ∃ (a : Fin 128) (b : Fin 128), y = ix2 a b := ⟨y 0, y 1, by funext a; fin_cases a <;> rfl⟩
  pointwise [k0_pay4]

theorem pay48_eq : k0_pay48 x0 x1 x2 x3 x4 x5 x6 x7 = x5 := by
  have z : (![0, 0] : Fin 2 → ℕ) = fun _ => 0 := by funext a; fin_cases a <;> rfl
  unfold k0_pay48
  rw [View.ld_unit_zero (S := S128x128) z]
  funext y
  obtain ⟨a, b, rfl⟩ : ∃ (a : Fin 128) (b : Fin 128), y = ix2 a b := ⟨y 0, y 1, by funext a; fin_cases a <;> rfl⟩
  pointwise [k0_pay5]

/-- Lane `j` of the lanes from `o` on, turned by the block's tables. -/
def turnTok (o : ℕ) (i : Fin 128) (j : Fin 512) : EReal :=
  tok x0 x1 x2 i (o + j.val) * x4 (ix2 i (⟨j.val % 128, by omega⟩ : Fin 128))
    + tok x0 x1 x2 i (o + partner j.val) * x5 (ix2 i (⟨j.val % 128, by omega⟩ : Fin 128))

theorem turned50 (i : Fin 128) (j : Fin 512) : turned (k0_pay50 x0 x1 x2 x3 x4 x5 x6 x7) (k0_pay47 x0 x1 x2 x3 x4 x5 x6 x7) (k0_pay48 x0 x1 x2 x3 x4 x5 x6 x7) i j
    = turnTok x0 x1 x2 x4 x5 0 i j := by
  unfold turned
  rw [pay47_eq, pay48_eq, pay50_apply, pay50_apply]
  rfl

theorem turned51 (i : Fin 128) (j : Fin 512) : turned (k0_pay51 x0 x1 x2 x3 x4 x5 x6 x7) (k0_pay47 x0 x1 x2 x3 x4 x5 x6 x7) (k0_pay48 x0 x1 x2 x3 x4 x5 x6 x7) i j
    = turnTok x0 x1 x2 x4 x5 512 i j := by
  unfold turned
  rw [pay47_eq, pay48_eq, pay51_apply, pay51_apply]
  rfl

include x3 x6 x7 in
theorem turned50' (i : Fin 128) (j : Fin 512) : turned (k0_pay7 (View.ld x0 r0_0) (View.ld x1 r0_1) (View.ld x2 r0_3)) (View.ld x4 r0_2) (View.ld x5 r0_2) i j
    = turnTok x0 x1 x2 x4 x5 0 i j := by
  have z : (![0, 0] : Fin 2 → ℕ) = fun _ => 0 := by funext a; fin_cases a <;> rfl
  rw [View.ld_unit_zero (S := S128x128) z, View.ld_unit_zero (S := S128x128) z]
  have e := turned50 x0 x1 x2 x3 x4 x5 x6 x7 i j
  rw [pay47_eq, pay48_eq] at e
  exact e

/-- The first branch's queries. -/
theorem out11_apply (i : Fin 128) (j : Fin 512) : out0_11 x0 x1 x2 x3 x4 x5 x6 x7 (ix2 i j) = turnTok x0 x1 x2 x4 x5 0 i j * scaleA := by
  unfold out0_11
  canon_tiles x h
  · obtain ⟨a, b, rfl⟩ := ix2_of x
    obtain rfl : i = a := Fin.ext h0
    obtain rfl : j = ⟨384 + b.val, by clear h0 h1; omega⟩ := Fin.ext h1
    exact (pay11_apply _ _ _ i b).trans (congrArg (· * scaleA) (turned50 x0 x1 x2 x3 x4 x5 x6 x7 i _))
  · obtain ⟨a, b, rfl⟩ := ix2_of x
    obtain rfl : i = a := Fin.ext h0
    obtain rfl : j = ⟨256 + b.val, by clear h0 h1; omega⟩ := Fin.ext h1
    exact (pay10_apply _ _ _ i b).trans (congrArg (· * scaleA) (turned50 x0 x1 x2 x3 x4 x5 x6 x7 i _))
  · obtain ⟨a, b, rfl⟩ := ix2_of x
    obtain rfl : i = a := Fin.ext h0
    obtain rfl : j = ⟨128 + b.val, by clear h0 h1; omega⟩ := Fin.ext h1
    exact (pay9_apply _ _ _ i b).trans (congrArg (· * scaleA) (turned50 x0 x1 x2 x3 x4 x5 x6 x7 i _))
  · obtain ⟨a, b, rfl⟩ := ix2_of x
    obtain rfl : i = a := Fin.ext h0
    obtain rfl : j = ⟨0 + b.val, by clear h0 h1; omega⟩ := Fin.ext (by show j.val = 0 + b.val; rw [Nat.zero_add]; exact h1)
    exact (pay8_apply _ _ i b _ _ _).trans (congrArg (· * scaleA) (turned50' x0 x1 x2 x3 x4 x5 x6 x7 i _))

/-- The indexer's queries. -/
theorem out12_apply (i : Fin 128) (j : Fin 512) : out0_12 x0 x1 x2 x3 x4 x5 x6 x7 (ix2 i j) = turnTok x0 x1 x2 x4 x5 512 i j := by
  unfold out0_12
  canon_tiles x h
  · obtain ⟨a, b, rfl⟩ := ix2_of x
    obtain rfl : i = a := Fin.ext h0
    obtain rfl : j = ⟨384 + b.val, by clear h0 h1; omega⟩ := Fin.ext h1
    exact (pay16_apply _ _ _ i b).trans (turned51 x0 x1 x2 x3 x4 x5 x6 x7 i _)
  · obtain ⟨a, b, rfl⟩ := ix2_of x
    obtain rfl : i = a := Fin.ext h0
    obtain rfl : j = ⟨256 + b.val, by clear h0 h1; omega⟩ := Fin.ext h1
    exact (pay15_apply _ _ _ i b).trans (turned51 x0 x1 x2 x3 x4 x5 x6 x7 i _)
  · obtain ⟨a, b, rfl⟩ := ix2_of x
    obtain rfl : i = a := Fin.ext h0
    obtain rfl : j = ⟨128 + b.val, by clear h0 h1; omega⟩ := Fin.ext h1
    exact (pay14_apply _ _ _ i b).trans (turned51 x0 x1 x2 x3 x4 x5 x6 x7 i _)
  · obtain ⟨a, b, rfl⟩ := ix2_of x
    obtain rfl : i = a := Fin.ext h0
    obtain rfl : j = ⟨0 + b.val, by clear h0 h1; omega⟩ := Fin.ext (by show j.val = 0 + b.val; rw [Nat.zero_add]; exact h1)
    exact (pay13_apply _ _ _ i b).trans (turned51 x0 x1 x2 x3 x4 x5 x6 x7 i _)

/-- The second branch's queries. -/
theorem out14_apply (i : Fin 128) (j : Fin 512) : out0_14 x0 x1 x2 x3 x4 x5 x6 x7 (ix2 i j) = tok x0 x1 x2 i (1024 + j.val) * scaleB := by
  have z : (![0, 0] : Fin 2 → ℕ) = fun _ => 0 := by funext a; fin_cases a <;> rfl
  unfold out0_14
  rw [View.canon_unit_zero (S := S128x512) z,
    ← cols_ld x0 x1 x2 (k0_pay46 x0 x1 x2 x3 x4 x5 x6 x7) i (pay46_apply x0 x1 x2 x3 x4 x5 x6 x7 i) 1024 (by decide) inb_S1024x3584_S1024x512_0_1024 j]
  generalize (k0_pay46 x0 x1 x2 x3 x4 x5 x6 x7) = X
  pointwise [k0_pay18, k0_pay17]

/-- The gates. -/
theorem out15_apply (i : Fin 128) (j : Fin 2048) : out0_15 x0 x1 x2 x3 x4 x5 x6 x7 (ix2 i j) = gate (tok x0 x1 x2 i (1536 + j.val)) := by
  unfold out0_15
  canon_tiles x h
  · obtain ⟨a, b, rfl⟩ := ix2_of x
    obtain rfl : i = a := Fin.ext h0
    obtain rfl : j = ⟨1536 + b.val, by clear h0 h1; omega⟩ := Fin.ext h1
    have e := cols_ld x0 x1 x2 (k0_pay46 x0 x1 x2 x3 x4 x5 x6 x7) i (pay46_apply x0 x1 x2 x3 x4 x5 x6 x7 i) 3072 (by decide) inb_S1024x3584_S1024x512_0_3072 b
    rw [show 1536 + (⟨1536 + b.val, by omega⟩ : Fin 2048).val = 3072 + b.val from by dsimp only; omega, ← e]
    generalize (k0_pay46 x0 x1 x2 x3 x4 x5 x6 x7) = X
    unfold gate
    pointwise [k0_pay24]
  · obtain ⟨a, b, rfl⟩ := ix2_of x
    obtain rfl : i = a := Fin.ext h0
    obtain rfl : j = ⟨1024 + b.val, by clear h0 h1; omega⟩ := Fin.ext h1
    have e := cols_ld x0 x1 x2 (k0_pay46 x0 x1 x2 x3 x4 x5 x6 x7) i (pay46_apply x0 x1 x2 x3 x4 x5 x6 x7 i) 2560 (by decide) inb_S1024x3584_S1024x512_0_2560 b
    rw [show 1536 + (⟨1024 + b.val, by omega⟩ : Fin 2048).val = 2560 + b.val from by dsimp only; omega, ← e]
    generalize (k0_pay46 x0 x1 x2 x3 x4 x5 x6 x7) = X
    unfold gate
    pointwise [k0_pay23, k0_pay21, k0_pay22]
  · obtain ⟨a, b, rfl⟩ := ix2_of x
    obtain rfl : i = a := Fin.ext h0
    obtain rfl : j = ⟨512 + b.val, by clear h0 h1; omega⟩ := Fin.ext h1
    have e := cols_ld x0 x1 x2 (k0_pay46 x0 x1 x2 x3 x4 x5 x6 x7) i (pay46_apply x0 x1 x2 x3 x4 x5 x6 x7 i) 2048 (by decide) inb_S1024x3584_S1024x512_0_2048 b
    rw [show 1536 + (⟨512 + b.val, by omega⟩ : Fin 2048).val = 2048 + b.val from by dsimp only; omega, ← e]
    generalize (k0_pay46 x0 x1 x2 x3 x4 x5 x6 x7) = X
    unfold gate
    pointwise [k0_pay20]
  · obtain ⟨a, b, rfl⟩ := ix2_of x
    obtain rfl : i = a := Fin.ext h0
    obtain rfl : j = ⟨0 + b.val, by clear h0 h1; omega⟩ := Fin.ext (by show j.val = 0 + b.val; rw [Nat.zero_add]; exact h1)
    have e := cols_ld x0 x1 x2 (k0_pay46 x0 x1 x2 x3 x4 x5 x6 x7) i (pay46_apply x0 x1 x2 x3 x4 x5 x6 x7 i) 1536 (by decide) inb_S1024x3584_S1024x512_0_1536 b
    rw [show 1536 + (⟨0 + b.val, by omega⟩ : Fin 2048).val = 1536 + b.val from by dsimp only; omega, ← e]
    generalize (k0_pay46 x0 x1 x2 x3 x4 x5 x6 x7) = X
    unfold gate
    pointwise [k0_pay19]

/-! ### The channel-major results -/

/-- Feature `c` of those from `o` on, turned by the block's tables. -/
def turnFeat (o : ℕ) (t : Fin 128) (c : ℕ) : EReal := rope (fun a => feat x0 x1 x3 t (o + a)) (pairAt x6 t) (pairAt x7 t) c

theorem pay52_eq : k0_pay52 x0 x1 x2 x3 x4 x5 x6 x7 = x6 := by
  have z : (![0, 0] : Fin 2 → ℕ) = fun _ => 0 := by funext a; fin_cases a <;> rfl
  unfold k0_pay52
  rw [View.ld_unit_zero (S := S32x128) z]
  funext y
  obtain ⟨a, b, rfl⟩ := ix2_of y
  pointwise [k0_pay25]

theorem pay53_eq : k0_pay53 x0 x1 x2 x3 x4 x5 x6 x7 = x7 := by
  have z : (![0, 0] : Fin 2 → ℕ) = fun _ => 0 := by funext a; fin_cases a <;> rfl
  unfold k0_pay53
  rw [View.ld_unit_zero (S := S32x128) z]
  funext y
  obtain ⟨a, b, rfl⟩ := ix2_of y
  pointwise [k0_pay26]

theorem keyA_block (c : Fin 128) (t : Fin 128) :
    k0_pay31 (k0_pay52 x0 x1 x2 x3 x4 x5 x6 x7) (k0_pay53 x0 x1 x2 x3 x4 x5 x6 x7) (k0_pay54 x0 x1 x2 x3 x4 x5 x6 x7) (k0_pay55 x0 x1 x2 x3 x4 x5 x6 x7) (k0_pay56 x0 x1 x2 x3 x4 x5 x6 x7) (ix2 c t) = turnFeat x0 x1 x3 x6 x7 0 t c.val := by
  have z : (![0, 0] : Fin 2 → ℕ) = fun _ => 0 := by funext a; fin_cases a <;> rfl
  unfold k0_pay52 k0_pay53 k0_pay54 k0_pay55 k0_pay56
  rw [View.ld_unit_zero (S := S32x128) z, View.ld_unit_zero (S := S32x128) z]
  refine (pay31_apply (k0_pay46 x0 x1 x2 x3 x4 x5 x6 x7) x6 x7 (View.ld x3 r0_20) c t).trans ?_
  exact rope_congr (n := 128) rfl (fun a ha => rows_ld x0 x1 x3 (by decide) (k0_pay46 x0 x1 x2 x3 x4 x5 x6 x7) t (pay46_apply x0 x1 x2 x3 x4 x5 x6 x7 t) 0 (by decide) inb_S1408x1024_S128x1024_0_0 a ha)
    (fun _ _ => rfl) (fun _ _ => rfl) c.isLt

theorem keyI_block (c : Fin 64) (t : Fin 128) :
    k0_pay36 (k0_pay46 x0 x1 x2 x3 x4 x5 x6 x7) (k0_pay52 x0 x1 x2 x3 x4 x5 x6 x7) (k0_pay53 x0 x1 x2 x3 x4 x5 x6 x7) (View.ld x3 r0_24) (ix2 c t) = turnFeat x0 x1 x3 x6 x7 256 t c.val := by
  rw [pay52_eq, pay53_eq]
  refine (pay36_apply (k0_pay46 x0 x1 x2 x3 x4 x5 x6 x7) x6 x7 (View.ld x3 r0_24) c t).trans ?_
  exact rope_congr (n := 64) rfl (fun a ha => rows_ld x0 x1 x3 (by decide) (k0_pay46 x0 x1 x2 x3 x4 x5 x6 x7) t (pay46_apply x0 x1 x2 x3 x4 x5 x6 x7 t) 256 (by decide) inb_S1408x1024_S64x1024_256_0 a ha)
    (fun _ _ => rfl) (fun _ _ => rfl) c.isLt

theorem pay34_block (c : Fin 128) (t : Fin 128) : k0_pay34 (k0_pay46 x0 x1 x2 x3 x4 x5 x6 x7) (View.ld x3 r0_22) (ix2 c t) = feat x0 x1 x3 t (128 + c.val) := by
  rw [← rows_ld x0 x1 x3 (n := 128) (by decide) (k0_pay46 x0 x1 x2 x3 x4 x5 x6 x7) t (pay46_apply x0 x1 x2 x3 x4 x5 x6 x7 t) 128 (by decide) inb_S1408x1024_S128x1024_128_0 c.val c.isLt,
    ← dotRow_at (k0_pay46 x0 x1 x2 x3 x4 x5 x6 x7) _ t (by decide) c.val c.isLt]
  generalize (k0_pay46 x0 x1 x2 x3 x4 x5 x6 x7) = X
  pointwise [k0_pay34]

theorem pay40_block (c : Fin 512) (t : Fin 128) : k0_pay40 (k0_pay46 x0 x1 x2 x3 x4 x5 x6 x7) (View.ld x3 r0_28) (ix2 c t) = feat x0 x1 x3 t (384 + c.val) := by
  rw [← rows_ld x0 x1 x3 (n := 512) (by decide) (k0_pay46 x0 x1 x2 x3 x4 x5 x6 x7) t (pay46_apply x0 x1 x2 x3 x4 x5 x6 x7 t) 384 (by decide) inb_S1408x1024_S512x1024_384_0 c.val c.isLt,
    ← dotRow_at (k0_pay46 x0 x1 x2 x3 x4 x5 x6 x7) _ t (by decide) c.val c.isLt]
  generalize (k0_pay46 x0 x1 x2 x3 x4 x5 x6 x7) = X
  pointwise [k0_pay40]

theorem pay43_block (c : Fin 512) (t : Fin 128) : k0_pay43 (k0_pay46 x0 x1 x2 x3 x4 x5 x6 x7) (View.ld x3 r0_30) (ix2 c t) = feat x0 x1 x3 t (896 + c.val) := by
  rw [← rows_ld x0 x1 x3 (n := 512) (by decide) (k0_pay46 x0 x1 x2 x3 x4 x5 x6 x7) t (pay46_apply x0 x1 x2 x3 x4 x5 x6 x7 t) 896 (by decide) inb_S1408x1024_S512x1024_896_0 c.val c.isLt,
    ← dotRow_at (k0_pay46 x0 x1 x2 x3 x4 x5 x6 x7) _ t (by decide) c.val c.isLt]
  generalize (k0_pay46 x0 x1 x2 x3 x4 x5 x6 x7) = X
  pointwise [k0_pay43]

/-- The first branch's keys above its values, -/
theorem out8_apply (c : Fin 256) (t : Fin 128) :
    out0_8 x0 x1 x2 x3 x4 x5 x6 x7 (ix3 (0 : Fin 1) c t) = if c.val < 128 then turnFeat x0 x1 x3 x6 x7 0 t c.val else feat x0 x1 x3 t c.val := by
  unfold out0_8
  canon_tiles x h
  · obtain ⟨a, b, d, rfl⟩ := ix3_of x
    obtain rfl : t = d := Fin.ext h2
    obtain rfl : a = 0 := Fin.ext (by omega)
    obtain rfl : c = ⟨128 + b.val, by clear h0 h1 h2; omega⟩ := Fin.ext h1
    rw [if_neg (by dsimp only; omega), ← pay34_block x0 x1 x2 x3 x4 x5 x6 x7 b t]
    unfold k0_pay35
    generalize k0_pay34 (k0_pay46 x0 x1 x2 x3 x4 x5 x6 x7) (View.ld x3 r0_22) = Y
    pointwise []
  · obtain ⟨a, b, d, rfl⟩ := ix3_of x
    obtain rfl : t = d := Fin.ext h2
    obtain rfl : a = 0 := Fin.ext (by omega)
    obtain rfl : c = ⟨b.val, by clear h0 h1 h2; omega⟩ := Fin.ext h1
    rw [if_pos (by dsimp only; omega), ← keyA_block x0 x1 x2 x3 x4 x5 x6 x7 b t]
    unfold k0_pay32
    generalize k0_pay31 (k0_pay52 x0 x1 x2 x3 x4 x5 x6 x7) (k0_pay53 x0 x1 x2 x3 x4 x5 x6 x7) (k0_pay54 x0 x1 x2 x3 x4 x5 x6 x7) (k0_pay55 x0 x1 x2 x3 x4 x5 x6 x7) (k0_pay56 x0 x1 x2 x3 x4 x5 x6 x7) = Y
    pointwise []

/-- the indexer's keys, -/
theorem out9_apply (c : Fin 64) (t : Fin 128) : out0_9 x0 x1 x2 x3 x4 x5 x6 x7 (ix3 (0 : Fin 1) c t) = turnFeat x0 x1 x3 x6 x7 256 t c.val := by
  have z : (![0, 0, 0] : Fin 3 → ℕ) = fun _ => 0 := by funext a; fin_cases a <;> rfl
  unfold out0_9
  rw [View.canon_unit_zero (S := S1x64x128) z, ← keyI_block x0 x1 x2 x3 x4 x5 x6 x7 c t]
  unfold k0_pay37
  generalize k0_pay36 (k0_pay46 x0 x1 x2 x3 x4 x5 x6 x7) (k0_pay52 x0 x1 x2 x3 x4 x5 x6 x7) (k0_pay53 x0 x1 x2 x3 x4 x5 x6 x7) (View.ld x3 r0_24) = Y
  pointwise []

/-- the second branch's keys above its values, -/
theorem out10_apply (c : Fin 1024) (t : Fin 128) : out0_10 x0 x1 x2 x3 x4 x5 x6 x7 (ix3 (0 : Fin 1) c t) = feat x0 x1 x3 t (384 + c.val) := by
  unfold out0_10
  canon_tiles x h
  · obtain ⟨a, b, d, rfl⟩ := ix3_of x
    obtain rfl : t = d := Fin.ext h2
    obtain rfl : a = 0 := Fin.ext (by omega)
    obtain rfl : c = ⟨512 + b.val, by clear h0 h1 h2; omega⟩ := Fin.ext h1
    rw [show 384 + (⟨512 + b.val, by omega⟩ : Fin 1024).val = 896 + b.val from by dsimp only; omega, ← pay43_block x0 x1 x2 x3 x4 x5 x6 x7 b t]
    unfold k0_pay44
    generalize k0_pay43 (k0_pay46 x0 x1 x2 x3 x4 x5 x6 x7) (View.ld x3 r0_30) = Y
    pointwise []
  · obtain ⟨a, b, d, rfl⟩ := ix3_of x
    obtain rfl : t = d := Fin.ext h2
    obtain rfl : a = 0 := Fin.ext (by omega)
    obtain rfl : c = ⟨b.val, by clear h0 h1 h2; omega⟩ := Fin.ext h1
    rw [← pay40_block x0 x1 x2 x3 x4 x5 x6 x7 b t]
    unfold k0_pay41
    generalize k0_pay40 (k0_pay46 x0 x1 x2 x3 x4 x5 x6 x7) (View.ld x3 r0_28) = Y
    pointwise []

/-- the indexer's head weights, -/
theorem out13_apply (c : Fin 8) (t : Fin 128) : out0_13 x0 x1 x2 x3 x4 x5 x6 x7 (ix3 (0 : Fin 1) c t) = feat x0 x1 x3 t (320 + c.val) * scaleW * scaleB := by
  have z : (![0, 0, 0] : Fin 3 → ℕ) = fun _ => 0 := by funext a; fin_cases a <;> rfl
  unfold out0_13
  rw [View.canon_unit_zero (S := S1x8x128) z,
    ← rows_ld x0 x1 x3 (n := 64) (by decide) (k0_pay46 x0 x1 x2 x3 x4 x5 x6 x7) t (pay46_apply x0 x1 x2 x3 x4 x5 x6 x7 t) 320 (by decide) inb_S1408x1024_S64x1024_320_0 c.val (by omega),
    ← dotRow_at (k0_pay46 x0 x1 x2 x3 x4 x5 x6 x7) _ t (by decide) c.val (by omega)]
  generalize (k0_pay46 x0 x1 x2 x3 x4 x5 x6 x7) = X
  pointwise [k0_pay39]

/-- the keys by token, -/
theorem out16_apply (t : Fin 128) (c : Fin 128) : out0_16 x0 x1 x2 x3 x4 x5 x6 x7 (ix2 t c) = turnFeat x0 x1 x3 x6 x7 0 t c.val := by
  have z : (![0, 0] : Fin 2 → ℕ) = fun _ => 0 := by funext a; fin_cases a <;> rfl
  unfold out0_16
  rw [View.canon_unit_zero (S := S128x128) z, ← keyA_block x0 x1 x2 x3 x4 x5 x6 x7 c t]
  unfold k0_pay33
  generalize k0_pay31 (k0_pay52 x0 x1 x2 x3 x4 x5 x6 x7) (k0_pay53 x0 x1 x2 x3 x4 x5 x6 x7) (k0_pay54 x0 x1 x2 x3 x4 x5 x6 x7) (k0_pay55 x0 x1 x2 x3 x4 x5 x6 x7) (k0_pay56 x0 x1 x2 x3 x4 x5 x6 x7) = Y
  pointwise []

/-- the indexer's twice, -/
theorem out17_apply (t : Fin 128) (c : Fin 128) : out0_17 x0 x1 x2 x3 x4 x5 x6 x7 (ix2 t c) = turnFeat x0 x1 x3 x6 x7 256 t (c.val % 64) := by
  have z : (![0, 0] : Fin 2 → ℕ) = fun _ => 0 := by funext a; fin_cases a <;> rfl
  unfold out0_17
  rw [View.canon_unit_zero (S := S128x128) z, show c.val % 64 = (⟨c.val % 64, Nat.mod_lt _ (by decide)⟩ : Fin 64).val from rfl, ← keyI_block x0 x1 x2 x3 x4 x5 x6 x7 _ t]
  unfold k0_pay38
  generalize k0_pay36 (k0_pay46 x0 x1 x2 x3 x4 x5 x6 x7) (k0_pay52 x0 x1 x2 x3 x4 x5 x6 x7) (k0_pay53 x0 x1 x2 x3 x4 x5 x6 x7) (View.ld x3 r0_24) = Y
  pointwise []
  split <;> exact congrArg (fun a : Fin 64 => Y (ix2 a t)) (Fin.ext (by dsimp only; omega))

/-- the second branch's, -/
theorem out18_apply (t : Fin 128) (c : Fin 512) : out0_18 x0 x1 x2 x3 x4 x5 x6 x7 (ix2 t c) = feat x0 x1 x3 t (384 + c.val) := by
  have z : (![0, 0] : Fin 2 → ℕ) = fun _ => 0 := by funext a; fin_cases a <;> rfl
  unfold out0_18
  rw [View.canon_unit_zero (S := S128x512) z, ← pay40_block x0 x1 x2 x3 x4 x5 x6 x7 c t]
  unfold k0_pay42
  generalize k0_pay40 (k0_pay46 x0 x1 x2 x3 x4 x5 x6 x7) (View.ld x3 r0_28) = Y
  pointwise []

/-- the first branch's values -/
theorem out19_apply (c : Fin 128) (t : Fin 128) : out0_19 x0 x1 x2 x3 x4 x5 x6 x7 (ix4 (0 : Fin 1) (0 : Fin 1) c t) = feat x0 x1 x3 t (128 + c.val) := by
  have z : (![0, 0, 0, 0] : Fin 4 → ℕ) = fun _ => 0 := by funext a; fin_cases a <;> rfl
  unfold out0_19
  rw [View.canon_unit_zero (S := S1x1x128x128) z, ← pay34_block x0 x1 x2 x3 x4 x5 x6 x7 c t]
  generalize k0_pay34 (k0_pay46 x0 x1 x2 x3 x4 x5 x6 x7) (View.ld x3 r0_22) = Y
  pointwise [k0_pay1, k0_pay45]

/-- and the second's. -/
theorem out20_apply (c : Fin 512) (t : Fin 128) : out0_20 x0 x1 x2 x3 x4 x5 x6 x7 (ix4 (0 : Fin 1) (0 : Fin 1) c t) = feat x0 x1 x3 t (896 + c.val) := by
  have z : (![0, 0, 0, 0] : Fin 4 → ℕ) = fun _ => 0 := by funext a; fin_cases a <;> rfl
  unfold out0_20
  rw [View.canon_unit_zero (S := S1x1x512x128) z, ← pay43_block x0 x1 x2 x3 x4 x5 x6 x7 c t]
  generalize k0_pay43 (k0_pay46 x0 x1 x2 x3 x4 x5 x6 x7) (View.ld x3 r0_30) = Y
  pointwise [k0_pay2]

end Block

end Cert.Proof.PrjSI

end
-- ==== Proof.PrjS.Entry.lean ====
/-
  The arrays the host prepares for the sample's projection, read at an index: the weight's columns regrouped by
  layout, the first branch's query heads reordered, and the tables of the rotary angles, one row for each of the sample's tokens.
-/
module

public import proofs.«01_k».proof.Proof.PrjS.Block
public import proofs.«01_k».proof.Proof.Prj.Entry
public import Idealize.ShloMosaic.Lib.Claim
public import Idealize.ShloMosaic.Lib.StableHlo.ReadAt

@[expose] public section

set_option maxRecDepth 16384

noncomputable section

namespace Cert.Proof.PrjSI

open Cert.Kernel4Ideal Cert.Kernel4Ideal.Gen Cert.Proof.Out Cert.Proof.OutS Cert.Proof.Prj Cert.Proof.PrjS
open Cert.Proof.PrjI (tokChan featChan)
open Idealize.ShloMosaic Idealize.ShloMosaic.TcCoe Idealize.ShloMosaic.Pointwise Idealize.ShloMosaic.StableHlo

variable (m : (ℓ : Loc nD τ sig) → Buf (Elt Ideal) ℓ) (c : Dev nD)

/-- An argument array. -/
abbrev arg (b : Ref sig .tc) := m ((c : Thread nD τ).loc b)

/-! ### The order of the heads -/

/-- The table of the heads' order, as the host hands it to a gather. -/
def heads (tab : Fin 8 → BitVec 32) : IVec S8x1 32 :=
  broadcastInDim S8x1 ![0] bcast_S8_S8x1_0 (select (constantI S8 1 0#1)
    (addi (fun i => tab (S8.rowMajor i)) (broadcastInDim S8 ![] bcast_S_S8 (constantI S_ 32 8#32))) (fun i => tab (S8.rowMajor i)))

theorem heads_apply (p : Fin 8) : heads lit0 (ix2 p (0 : Fin 1)) = BitVec.ofNat 32 (headAt p.val) := by
  revert p; decide +kernel

theorem heads_start (p : Fin 8) : (heads lit0 (ix2 p (0 : Fin 1))).toInt.toNat = headAt p.val := by
  rw [heads_apply]; revert p; decide +kernel

/-- The gather of the weight's query heads: place `p` reads the head the table names. -/
theorem gather_rows {α : Type} (x : S1024x8x64.Idx → α) (R : Fin 1024) (p : Fin 8) (d : Fin 64) :
    Host.gather gather_S1024x8x64_S8x1_S1024x8x64_02_1_n_n_1_1_1024164 x (heads lit0) (ix3 R p d)
      = x (ix3 R (⟨headAt p.val, by unfold headAt; omega⟩ : Fin 8) d) := by
  unfold Host.gather
  refine congrArg x (funext fun a => Fin.ext ?_)
  show GatherDims.start _ _ _ a + GatherDims.batchCoord _ _ a + GatherDims.offCoord _ _ a = _
  rw [GatherDims.batchCoord_eq_zero _ _ _ (fun h => by simp [gather_S1024x8x64_S8x1_S1024x8x64_02_1_n_n_1_1_1024164] at h)]
  match a with
  | ⟨0, _⟩ => show 0 + 0 + R.val = R.val; omega
  | ⟨1, _⟩ =>
    have hs : gather_S1024x8x64_S8x1_S1024x8x64_02_1_n_n_1_1_1024164.siIdx (ix3 R p d)
        ⟨List.idxOf (1 : Fin 3) [1], List.idxOf_lt_length_iff.2 (List.mem_singleton.mpr rfl)⟩ = ix2 p (0 : Fin 1) := by
      funext b
      match b with
      | ⟨0, _⟩ => rfl
      | ⟨1, _⟩ => rfl
    show min (heads lit0 (gather_S1024x8x64_S8x1_S1024x8x64_02_1_n_n_1_1_1024164.siIdx (ix3 R p d)
        ⟨List.idxOf (1 : Fin 3) [1], List.idxOf_lt_length_iff.2 (List.mem_singleton.mpr rfl)⟩)).toInt.toNat (8 - 1) + 0 + 0 = headAt p.val
    rw [hs, heads_start]
    unfold headAt
    omega
  | ⟨2, _⟩ => show 0 + 0 + d.val = d.val; omega

/-- The weight's first 512 columns with the heads reordered. -/
theorem first_columns (w : Vec Ideal S1x1024x4936 .f32) (k : Fin 1024) (j : Fin 512) :
    shapeCast S1024x512 (Host.gather gather_S1024x8x64_S8x1_S1024x8x64_02_1_n_n_1_1_1024164
      (shapeCast S1024x8x64 (extractStridedSlice S1024x512 ![0, 0] (shapeCast S1024x4936 w shapeCasts_S1x1024x4936_S1024x4936) slices_S1024x4936_S1024x512_0_0)
        shapeCasts_S1024x512_S1024x8x64) (heads lit0)) shapeCasts_S1024x8x64_S1024x512 (ix2 k j)
      = w (ix3 (0 : Fin 1) k (⟨(columnAt j).val, by omega⟩ : Fin 4936)) := by
  have h1 : shapeCast S1024x512 (Host.gather gather_S1024x8x64_S8x1_S1024x8x64_02_1_n_n_1_1_1024164
      (shapeCast S1024x8x64 (extractStridedSlice S1024x512 ![0, 0] (shapeCast S1024x4936 w shapeCasts_S1x1024x4936_S1024x4936) slices_S1024x4936_S1024x512_0_0)
        shapeCasts_S1024x512_S1024x8x64) (heads lit0)) shapeCasts_S1024x8x64_S1024x512 (ix2 k j)
      = Host.gather gather_S1024x8x64_S8x1_S1024x8x64_02_1_n_n_1_1_1024164
      (shapeCast S1024x8x64 (extractStridedSlice S1024x512 ![0, 0] (shapeCast S1024x4936 w shapeCasts_S1x1024x4936_S1024x4936) slices_S1024x4936_S1024x512_0_0)
        shapeCasts_S1024x512_S1024x8x64) (heads lit0) (ix3 k (⟨j.val / 64, by omega⟩ : Fin 8) (⟨j.val % 64, by omega⟩ : Fin 64)) := by
    generalize Host.gather _ _ _ = X
    pointwise []
  rw [h1, gather_rows]
  pointwise []
  refine congrArg w ?_
  unfold columnAt headAt
  blk_ext

/-! ### The weights' columns -/

/-- The host's buffers when the call begins. -/
theorem V_eq : V m c = fun b : Ref sig .tc =>
    StableHlo.after (hostOps0 ++ (hostOps0_1 ++ (hostOps0_2 ++ []))) (fun b => m (c, b)) (Proc.devRef .tc b) := rfl

theorem entry_2 (k : Fin 1024) (j : Fin 3584) : (V m c main_v19 (ix2 k j) : EReal)
    = (arg m c main_arg2 : Vec Ideal S1x1024x4936 .f32) (ix3 (0 : Fin 1) k (⟨tokChan j.val % 4936, Nat.mod_lt _ (by decide)⟩ : Fin 4936)) := by
  rw [V_eq]
  after_reads_at
  by_cases h1 : j.val < 512
  · rw [dif_pos h1]
    after_reads_simp
    refine (first_columns (arg m c main_arg2) k ⟨j.val, h1⟩).trans ?_
    refine congrArg (fun a : Fin 4936 => (arg m c main_arg2 : Vec Ideal S1x1024x4936 .f32) (ix3 (0 : Fin 1) k a)) (Fin.ext ?_)
    show (columnAt ⟨j.val, h1⟩).val = tokChan j.val % 4936
    unfold tokChan
    rw [if_pos h1, Nat.mod_eq_of_lt (by unfold headAt; omega)]
    rfl
  rw [dif_neg h1]
  by_cases h2 : j.val - 512 < 512
  · rw [dif_pos h2]
    after_reads_at
    refine congrArg (fun a : Fin 4936 => (arg m c main_arg2 : Vec Ideal S1x1024x4936 .f32) (ix3 (0 : Fin 1) k a)) (Fin.ext ?_)
    dsimp only
    unfold tokChan
    split_ifs <;> omega
  rw [dif_neg h2]
  by_cases h3 : j.val - 512 - 512 < 512
  · rw [dif_pos h3]
    after_reads_at
    refine congrArg (fun a : Fin 4936 => (arg m c main_arg2 : Vec Ideal S1x1024x4936 .f32) (ix3 (0 : Fin 1) k a)) (Fin.ext ?_)
    dsimp only
    unfold tokChan
    split_ifs <;> omega
  rw [dif_neg h3]
  after_reads_at
  refine congrArg (fun a : Fin 4936 => (arg m c main_arg2 : Vec Ideal S1x1024x4936 .f32) (ix3 (0 : Fin 1) k a)) (Fin.ext ?_)
  dsimp only
  unfold tokChan
  split_ifs <;> omega

theorem entry_3 (j : Fin 1408) (k : Fin 1024) (hj : j.val < 328 ∨ 384 ≤ j.val) : (V m c main_v23 (ix2 j k) : EReal)
    = (arg m c main_arg2 : Vec Ideal S1x1024x4936 .f32) (ix3 (0 : Fin 1) k (⟨featChan j.val % 4936, Nat.mod_lt _ (by decide)⟩ : Fin 4936)) := by
  rw [V_eq]
  after_reads_at
  by_cases h1 : j.val < 128
  · rw [dif_pos h1]
    after_reads_at
    refine congrArg (fun a : Fin 4936 => (arg m c main_arg2 : Vec Ideal S1x1024x4936 .f32) (ix3 (0 : Fin 1) k a)) (Fin.ext ?_)
    dsimp only
    unfold featChan
    split_ifs <;> omega
  rw [dif_neg h1]
  by_cases h2 : j.val - 128 < 128
  · rw [dif_pos h2]
    after_reads_at
    refine congrArg (fun a : Fin 4936 => (arg m c main_arg2 : Vec Ideal S1x1024x4936 .f32) (ix3 (0 : Fin 1) k a)) (Fin.ext ?_)
    dsimp only
    unfold featChan
    split_ifs <;> omega
  rw [dif_neg h2]
  by_cases h3 : j.val - 128 - 128 < 64
  · rw [dif_pos h3]
    after_reads_at
    refine congrArg (fun a : Fin 4936 => (arg m c main_arg2 : Vec Ideal S1x1024x4936 .f32) (ix3 (0 : Fin 1) k a)) (Fin.ext ?_)
    dsimp only
    unfold featChan
    split_ifs <;> omega
  rw [dif_neg h3]
  by_cases h4 : j.val - 128 - 128 - 64 < 64
  · rw [dif_pos h4]
    after_reads_at
    rw [dif_pos (by omega)]
    refine congrArg (fun a : Fin 4936 => (arg m c main_arg2 : Vec Ideal S1x1024x4936 .f32) (ix3 (0 : Fin 1) k a)) (Fin.ext ?_)
    dsimp only
    unfold featChan
    split_ifs <;> omega
  rw [dif_neg h4]
  by_cases h5 : j.val - 128 - 128 - 64 - 64 < 512
  · rw [dif_pos h5]
    after_reads_at
    refine congrArg (fun a : Fin 4936 => (arg m c main_arg2 : Vec Ideal S1x1024x4936 .f32) (ix3 (0 : Fin 1) k a)) (Fin.ext ?_)
    dsimp only
    unfold featChan
    split_ifs <;> omega
  rw [dif_neg h5]
  after_reads_at
  refine congrArg (fun a : Fin 4936 => (arg m c main_arg2 : Vec Ideal S1x1024x4936 .f32) (ix3 (0 : Fin 1) k a)) (Fin.ext ?_)
  dsimp only
  unfold featChan
  split_ifs <;> omega

theorem entry_4 (R : Fin 128) (j : Fin 128) : (V m c main_v52 (ix2 R j) : EReal) = co (posOf (stepOf R)) (j.val % 32) := by
  rw [V_eq]
  after_reads_at
  by_cases h1 : j.val < 32
  · rw [dif_pos h1]
    after_reads_at
    rw [show j.val % 32 = j.val by omega]
    unfold co angle
    rw [← posOf_word]
    rfl
  rw [dif_neg h1]
  by_cases h2 : j.val - 32 < 32
  · rw [dif_pos h2]
    after_reads_at
    rw [show j.val % 32 = j.val - 32 by omega]
    unfold co angle
    rw [← posOf_word]
    rfl
  rw [dif_neg h2]
  by_cases h3 : j.val - 32 - 32 < 32
  · rw [dif_pos h3]
    after_reads_at
    rw [show j.val % 32 = j.val - 32 - 32 by omega]
    unfold co angle
    rw [← posOf_word]
    rfl
  rw [dif_neg h3]
  after_reads_at
  rw [show j.val % 32 = j.val - 32 - 32 - 32 by omega]
  unfold co angle
  rw [← posOf_word]
  rfl

theorem entry_5 (R : Fin 128) (j : Fin 128) : (V m c main_v55 (ix2 R j) : EReal)
    = if j.val % 64 < 32 then -si (posOf (stepOf R)) (j.val % 32) else si (posOf (stepOf R)) (j.val % 32) := by
  rw [V_eq]
  after_reads_at
  by_cases h1 : j.val < 32
  · rw [dif_pos h1]
    after_reads_at
    rw [if_pos (by omega), show j.val % 32 = j.val by omega]
    unfold si angle
    rw [← posOf_word]
    rfl
  rw [dif_neg h1]
  by_cases h2 : j.val - 32 < 32
  · rw [dif_pos h2]
    after_reads_at
    rw [if_neg (by omega), show j.val % 32 = j.val - 32 by omega]
    unfold si angle
    rw [← posOf_word]
    rfl
  rw [dif_neg h2]
  by_cases h3 : j.val - 32 - 32 < 32
  · rw [dif_pos h3]
    after_reads_at
    rw [if_pos (by omega), show j.val % 32 = j.val - 32 - 32 by omega]
    unfold si angle
    rw [← posOf_word]
    rfl
  rw [dif_neg h3]
  after_reads_at
  rw [if_neg (by omega), show j.val % 32 = j.val - 32 - 32 - 32 by omega]
  unfold si angle
  rw [← posOf_word]
  rfl

theorem entry_6 (d : Fin 32) (R : Fin 128) : (V m c main_v58 (ix2 d R) : EReal) = co (posOf (stepOf R)) d.val := by
  rw [V_eq]
  after_reads_at
  unfold co angle
  rw [← posOf_word]
  rfl

theorem entry_7 (d : Fin 32) (R : Fin 128) : (V m c main_v61 (ix2 d R) : EReal) = si (posOf (stepOf R)) d.val := by
  rw [V_eq]
  after_reads_at
  unfold si angle
  rw [← posOf_word]
  rfl

theorem entry_1 (e : Fin 1024) : (V m c main_v25 (ix2 (0 : Fin 1) e) : EReal) = (arg m c main_arg1 : Vec Ideal S1x1024 .f32) (ix2 (0 : Fin 1) e) := by
  rw [V_eq]
  after_reads_at

theorem entry_0 (R : Fin 128) (e : Fin 1024) : (V m c main_v26 (ix2 R e) : EReal)
    = (arg m c main_arg0 : Vec Ideal S32x4x1024 .f32) (ix3 (seqOf R) (stepOf R) e) := by
  rw [V_eq]
  after_reads_at
  rfl

end Cert.Proof.PrjSI

end
-- ==== Proof.PrjS.Kernel.lean ====
/-
  The kernel's result arrays: at every index, the layer's projection of the sample's argument arrays.
-/
module

public import proofs.«01_k».proof.Proof.PrjS.Entry
public import proofs.«01_k».proof.Proof.Gen.Kernel4Ideal.Value

@[expose] public section

set_option maxRecDepth 16384

noncomputable section

namespace Cert.Proof.PrjSI

open Cert.Kernel4Ideal Cert.Kernel4Ideal.Gen Cert.Proof.Out Cert.Proof.OutS Cert.Proof.PrjS
open Cert.Proof.Prj hiding lane
open Cert.Proof.PrjI (tokChan featChan partner partner_lt ix2_of ix3_of ix4_of)
open Idealize.ShloMosaic Idealize.ShloMosaic.TcCoe Idealize.ShloMosaic.Pointwise Idealize.ShloMosaic.StableHlo

variable (m : (ℓ : Loc nD τ sig) → Buf (Elt Ideal) ℓ) (c : Dev nD)

/-! ### The blocks -/

/-- The one point's blocks are the whole arrays. -/
theorem idx : ∀ t : Fin cfg0.N,
    win0_0.index t = ![0, 0]
      ∧ win0_1.index t = ![0, 0]
      ∧ win0_2.index t = ![0, 0]
      ∧ win0_3.index t = ![0, 0]
      ∧ win0_4.index t = ![0, 0]
      ∧ win0_5.index t = ![0, 0]
      ∧ win0_6.index t = ![0, 0]
      ∧ win0_7.index t = ![0, 0]
      ∧ win0_8.index t = ![0, 0, 0]
      ∧ win0_9.index t = ![0, 0, 0]
      ∧ win0_10.index t = ![0, 0, 0]
      ∧ win0_11.index t = ![0, 0]
      ∧ win0_12.index t = ![0, 0]
      ∧ win0_13.index t = ![0, 0, 0]
      ∧ win0_14.index t = ![0, 0]
      ∧ win0_15.index t = ![0, 0]
      ∧ win0_16.index t = ![0, 0]
      ∧ win0_17.index t = ![0, 0]
      ∧ win0_18.index t = ![0, 0]
      ∧ win0_19.index t = ![0, 0, 0, 0]
      ∧ win0_20.index t = ![0, 0, 0, 0] :=
  (by decide +kernel : ∀ t : Fin grid0.N, _)

section Blocks

variable (t : Fin cfg0.N)

/-- A token's lanes, -/
abbrev lanes (i : Fin 128) : ℕ → EReal :=
  lane (arg m c main_arg0) (arg m c main_arg1) (arg m c main_arg2) (seqOf i) (stepOf i)
/-- and its position in its sequence. -/
abbrev pos (i : Fin 128) : ℕ := posOf (stepOf i)

theorem read_0 (X : Vec Ideal S128x1024 .f32) (i : Fin 128) (k : Fin 1024) :
    ((cfg0.win 0).blk t).view.read (Elt Ideal) X (ix2 i k) = X (ix2 i k) := by
  blk_ext [(idx t).1]

theorem read_1 (X : Vec Ideal S1x1024 .f32) (k : Fin 1024) :
    ((cfg0.win 1).blk t).view.read (Elt Ideal) X (ix2 (0 : Fin 1) k) = X (ix2 (0 : Fin 1) k) := by
  blk_ext [(idx t).2.1]

theorem read_2 (X : Vec Ideal S1024x3584 .bf16) (k : Fin 1024) (j : Fin 3584) :
    ((cfg0.win 2).blk t).view.read (Elt Ideal) X (ix2 k j) = X (ix2 k j) := by
  blk_ext [(idx t).2.2.1]

theorem read_3 (X : Vec Ideal S1408x1024 .bf16) (j : Fin 1408) (k : Fin 1024) :
    ((cfg0.win 3).blk t).view.read (Elt Ideal) X (ix2 j k) = X (ix2 j k) := by
  blk_ext [(idx t).2.2.2.1]

theorem read_4 (X : Vec Ideal S128x128 .f32) (i : Fin 128) (j : Fin 128) :
    ((cfg0.win 4).blk t).view.read (Elt Ideal) X (ix2 i j) = X (ix2 i j) := by
  blk_ext [(idx t).2.2.2.2.1]

theorem read_5 (X : Vec Ideal S128x128 .f32) (i : Fin 128) (j : Fin 128) :
    ((cfg0.win 5).blk t).view.read (Elt Ideal) X (ix2 i j) = X (ix2 i j) := by
  blk_ext [(idx t).2.2.2.2.2.1]

theorem read_6 (X : Vec Ideal S32x128 .f32) (d : Fin 32) (i : Fin 128) :
    ((cfg0.win 6).blk t).view.read (Elt Ideal) X (ix2 d i) = X (ix2 d i) := by
  blk_ext [(idx t).2.2.2.2.2.2.1]

theorem read_7 (X : Vec Ideal S32x128 .f32) (d : Fin 32) (i : Fin 128) :
    ((cfg0.win 7).blk t).view.read (Elt Ideal) X (ix2 d i) = X (ix2 d i) := by
  blk_ext [(idx t).2.2.2.2.2.2.2.1]

theorem block_4 (i : Fin 128) (j : Fin 128) : (iblk m c 4 t (ix2 i j) : EReal) = co (pos i) (j.val % 32) :=
  (read_4 t _ i j).trans (entry_4 m c _ j)

theorem block_5 (i : Fin 128) (j : Fin 128) : (iblk m c 5 t (ix2 i j) : EReal)
    = if j.val % 64 < 32 then -si (pos i) (j.val % 32) else si (pos i) (j.val % 32) :=
  (read_5 t _ i j).trans (entry_5 m c _ j)

theorem block_6 (i : Fin 128) (d : ℕ) (hd : d < 32) : pairAt (iblk m c 6 t) i d = co (pos i) d := by
  refine ((read_6 t _ _ i).trans (entry_6 m c _ _)).trans ?_
  show co _ (d % 32) = _
  rw [Nat.mod_eq_of_lt hd]

theorem block_7 (i : Fin 128) (d : ℕ) (hd : d < 32) : pairAt (iblk m c 7 t) i d = si (pos i) d := by
  refine ((read_7 t _ _ i).trans (entry_7 m c _ _)).trans ?_
  show si _ (d % 32) = _
  rw [Nat.mod_eq_of_lt hd]

theorem block_nrm (i : Fin 128) (k : Fin 1024) : nrm (iblk m c 0 t) (iblk m c 1 t) i k
    = rmsNorm (fun e => (arg m c main_arg0 : Vec Ideal S32x4x1024 .f32) (ix3 (seqOf i) (stepOf i) e))
        (fun e => (arg m c main_arg1 : Vec Ideal S1x1024 .f32) (ix2 (0 : Fin 1) e)) k :=
  congrArg₂ (fun h g => rmsNorm h g k) (funext fun e => (read_0 t _ i e).trans (entry_0 m c _ e))
    (funext fun e => (read_1 t _ e).trans (entry_1 m c e))

/-- A column's dot is the lane it holds, -/
theorem block_tok (i : Fin 128) (j : ℕ) (hj : j < 3584) :
    tok (iblk m c 0 t) (iblk m c 1 t) (iblk m c 2 t) i j = lanes m c i (tokChan j) := by
  unfold tok lanes lane
  refine Finset.sum_congr rfl fun k _ => ?_
  refine congrArg₂ (· * ·) (block_nrm m c t i k) ?_
  refine (read_2 t _ k _).trans ((entry_2 m c k _).trans ?_)
  refine congrArg (fun a : Fin 4936 => (arg m c main_arg2 : Vec Ideal S1x1024x4936 .f32) (ix3 (0 : Fin 1) k a)) (Fin.ext ?_)
  have e : j % 3584 = j := Nat.mod_eq_of_lt hj
  dsimp only
  rw [e]

/-- and a row's. -/
theorem block_feat (i : Fin 128) (j : ℕ) (hj : j < 328 ∨ 384 ≤ j) (hl : j < 1408) :
    feat (iblk m c 0 t) (iblk m c 1 t) (iblk m c 3 t) i j = lanes m c i (featChan j) := by
  unfold feat lanes lane
  refine Finset.sum_congr rfl fun k _ => ?_
  refine congrArg₂ (· * ·) (block_nrm m c t i k) ?_
  refine (read_3 t _ _ k).trans ((entry_3 m c _ k (by dsimp only; omega)).trans ?_)
  refine congrArg (fun a : Fin 4936 => (arg m c main_arg2 : Vec Ideal S1x1024x4936 .f32) (ix3 (0 : Fin 1) k a)) (Fin.ext ?_)
  have e : j % 1408 = j := Nat.mod_eq_of_lt hl
  dsimp only
  rw [e]

/-- The token-major turn is the layer's. -/
theorem block_turn (i : Fin 128) (j : Fin 512) (o a : ℕ) (q : ℕ → EReal) (ha : a % 64 = j.val % 64)
    (h0 : tok (iblk m c 0 t) (iblk m c 1 t) (iblk m c 2 t) i (o + j.val) = q a)
    (h1 : tok (iblk m c 0 t) (iblk m c 1 t) (iblk m c 2 t) i (o + partner j.val) = q (if a % 64 < 32 then a + 32 else a - 32)) :
    turnTok (iblk m c 0 t) (iblk m c 1 t) (iblk m c 2 t) (iblk m c 4 t) (iblk m c 5 t) o i j = rope q (co (pos i)) (si (pos i)) a := by
  unfold turnTok rope
  rw [h0, h1, block_4, block_5]
  dsimp only
  rw [show j.val % 128 % 64 = a % 64 by omega, show j.val % 128 % 32 = a % 32 by omega]
  by_cases h : a % 64 < 32
  · rw [if_pos h, if_pos h, if_pos h, sub_eq_add_neg, mul_neg]
  · rw [if_neg h, if_neg h, if_neg h]

/-- The channel-major turn is the layer's. -/
theorem block_turnFeat (i : Fin 128) (o n a : ℕ) (q : ℕ → EReal) (hn : n % 64 = 0) (ha : a < n)
    (h : ∀ a < n, feat (iblk m c 0 t) (iblk m c 1 t) (iblk m c 3 t) i (o + a) = q a) :
    turnFeat (iblk m c 0 t) (iblk m c 1 t) (iblk m c 3 t) (iblk m c 6 t) (iblk m c 7 t) o i a = rope q (co (pos i)) (si (pos i)) a :=
  rope_congr hn h (fun d hd => block_6 m c t i d hd) (fun d hd => block_7 m c t i d hd) ha

theorem turn_keyA (i : Fin 128) (a : ℕ) (ha : a < 128) :
    turnFeat (iblk m c 0 t) (iblk m c 1 t) (iblk m c 3 t) (iblk m c 6 t) (iblk m c 7 t) 0 i a = keyA (lanes m c i) (pos i) a :=
  block_turnFeat m c t i 0 128 a _ rfl ha fun b hb => by
    rw [block_feat m c t i _ (by omega) (by omega)]
    congr 1
    unfold featChan
    split_ifs <;> omega

theorem turn_keyI (i : Fin 128) (a : ℕ) (ha : a < 64) :
    turnFeat (iblk m c 0 t) (iblk m c 1 t) (iblk m c 3 t) (iblk m c 6 t) (iblk m c 7 t) 256 i a = keyI (lanes m c i) (pos i) a :=
  block_turnFeat m c t i 256 64 a _ rfl ha fun b hb => by
    rw [block_feat m c t i _ (by omega) (by omega)]
    congr 1
    unfold featChan
    split_ifs <;> omega

/-! ### What the body leaves at a point -/

theorem block_out8 (i : Fin 128) (a : Fin 256) : out0_8 (iblk m c 0 t) (iblk m c 1 t) (iblk m c 2 t) (iblk m c 3 t) (iblk m c 4 t) (iblk m c 5 t) (iblk m c 6 t) (iblk m c 7 t) (ix3 (0 : Fin 1) a i) = keyValueA (lanes m c i) (pos i) a.val := by
  rw [out8_apply]
  unfold keyValueA
  by_cases h : a.val < 128
  · rw [if_pos h, if_pos h, turn_keyA m c t i a.val h]
  · rw [if_neg h, if_neg h, block_feat m c t i _ (by omega) (by omega)]
    congr 1
    unfold featChan
    split_ifs <;> omega

theorem block_out9 (i : Fin 128) (a : Fin 64) : out0_9 (iblk m c 0 t) (iblk m c 1 t) (iblk m c 2 t) (iblk m c 3 t) (iblk m c 4 t) (iblk m c 5 t) (iblk m c 6 t) (iblk m c 7 t) (ix3 (0 : Fin 1) a i) = keyI (lanes m c i) (pos i) a.val := by
  rw [out9_apply]
  exact turn_keyI m c t i a.val a.isLt

theorem block_out10 (i : Fin 128) (a : Fin 1024) : out0_10 (iblk m c 0 t) (iblk m c 1 t) (iblk m c 2 t) (iblk m c 3 t) (iblk m c 4 t) (iblk m c 5 t) (iblk m c 6 t) (iblk m c 7 t) (ix3 (0 : Fin 1) a i) = lanes m c i (1864 + a.val) := by
  rw [out10_apply]
  rw [block_feat m c t i _ (by omega) (by omega)]
  congr 1
  unfold featChan
  split_ifs <;> omega

theorem block_out11 (i : Fin 128) (j : Fin 512) : out0_11 (iblk m c 0 t) (iblk m c 1 t) (iblk m c 2 t) (iblk m c 3 t) (iblk m c 4 t) (iblk m c 5 t) (iblk m c 6 t) (iblk m c 7 t) (ix2 i j) = queryA (lanes m c i) (pos i) j := by
  rw [out11_apply]
  unfold queryA
  refine congrArg (· * scaleA) (block_turn m c t i j 0 _ _ ?_ ?_ ?_)
  · unfold columnAt; dsimp only; omega
  · rw [block_tok m c t i _ (by omega)]
    congr 1
    unfold tokChan
    rw [Nat.zero_add, if_pos j.isLt]
    rfl
  · have hp := partner_lt j
    rw [block_tok m c t i _ (by omega)]
    congr 1
    unfold tokChan
    rw [Nat.zero_add, if_pos hp]
    unfold columnAt partner headAt
    dsimp only
    split_ifs <;> omega

theorem block_out12 (i : Fin 128) (j : Fin 512) : out0_12 (iblk m c 0 t) (iblk m c 1 t) (iblk m c 2 t) (iblk m c 3 t) (iblk m c 4 t) (iblk m c 5 t) (iblk m c 6 t) (iblk m c 7 t) (ix2 i j) = queryI (lanes m c i) (pos i) j.val := by
  rw [out12_apply]
  unfold queryI
  refine block_turn m c t i j 512 _ _ rfl ?_ ?_
  · rw [block_tok m c t i _ (by omega)]
    congr 1
    unfold tokChan
    split_ifs <;> omega
  · have hp := partner_lt j
    rw [block_tok m c t i _ (by omega)]
    congr 1
    unfold partner at hp ⊢
    unfold tokChan
    split_ifs at hp ⊢ <;> omega

theorem block_out13 (i : Fin 128) (a : Fin 8) : out0_13 (iblk m c 0 t) (iblk m c 1 t) (iblk m c 2 t) (iblk m c 3 t) (iblk m c 4 t) (iblk m c 5 t) (iblk m c 6 t) (iblk m c 7 t) (ix3 (0 : Fin 1) a i) = weightI (lanes m c i) a.val := by
  rw [out13_apply]
  unfold weightI
  rw [block_feat m c t i _ (by omega) (by omega)]
  congr 3
  unfold featChan
  split_ifs <;> omega

theorem block_out14 (i : Fin 128) (j : Fin 512) : out0_14 (iblk m c 0 t) (iblk m c 1 t) (iblk m c 2 t) (iblk m c 3 t) (iblk m c 4 t) (iblk m c 5 t) (iblk m c 6 t) (iblk m c 7 t) (ix2 i j) = queryB (lanes m c i) j.val := by
  rw [out14_apply]
  unfold queryB
  rw [block_tok m c t i _ (by omega)]
  congr 2
  unfold tokChan
  split_ifs <;> omega

theorem block_out15 (i : Fin 128) (j : Fin 2048) : out0_15 (iblk m c 0 t) (iblk m c 1 t) (iblk m c 2 t) (iblk m c 3 t) (iblk m c 4 t) (iblk m c 5 t) (iblk m c 6 t) (iblk m c 7 t) (ix2 i j) = gates (lanes m c i) j.val := by
  rw [out15_apply]
  unfold gates
  rw [block_tok m c t i _ (by omega)]
  congr 2
  unfold tokChan
  split_ifs <;> omega

theorem block_out16 (i : Fin 128) (a : Fin 128) : out0_16 (iblk m c 0 t) (iblk m c 1 t) (iblk m c 2 t) (iblk m c 3 t) (iblk m c 4 t) (iblk m c 5 t) (iblk m c 6 t) (iblk m c 7 t) (ix2 i a) = keyA (lanes m c i) (pos i) a.val := by
  rw [out16_apply]
  exact turn_keyA m c t i a.val a.isLt

theorem block_out17 (i : Fin 128) (a : Fin 128) : out0_17 (iblk m c 0 t) (iblk m c 1 t) (iblk m c 2 t) (iblk m c 3 t) (iblk m c 4 t) (iblk m c 5 t) (iblk m c 6 t) (iblk m c 7 t) (ix2 i a) = keyI (lanes m c i) (pos i) (a.val % 64) := by
  rw [out17_apply]
  exact turn_keyI m c t i _ (Nat.mod_lt _ (by decide))

theorem block_out18 (i : Fin 128) (a : Fin 512) : out0_18 (iblk m c 0 t) (iblk m c 1 t) (iblk m c 2 t) (iblk m c 3 t) (iblk m c 4 t) (iblk m c 5 t) (iblk m c 6 t) (iblk m c 7 t) (ix2 i a) = lanes m c i (1864 + a.val) := by
  rw [out18_apply]
  rw [block_feat m c t i _ (by omega) (by omega)]
  congr 1
  unfold featChan
  split_ifs <;> omega

theorem block_out19 (a : Fin 128) (i : Fin 128) : out0_19 (iblk m c 0 t) (iblk m c 1 t) (iblk m c 2 t) (iblk m c 3 t) (iblk m c 4 t) (iblk m c 5 t) (iblk m c 6 t) (iblk m c 7 t) (ix4 (0 : Fin 1) (0 : Fin 1) a i) = lanes m c i (640 + a.val) := by
  rw [out19_apply]
  rw [block_feat m c t i _ (by omega) (by omega)]
  congr 1
  unfold featChan
  split_ifs <;> omega

theorem block_out20 (a : Fin 512) (i : Fin 128) : out0_20 (iblk m c 0 t) (iblk m c 1 t) (iblk m c 2 t) (iblk m c 3 t) (iblk m c 4 t) (iblk m c 5 t) (iblk m c 6 t) (iblk m c 7 t) (ix4 (0 : Fin 1) (0 : Fin 1) a i) = lanes m c i (2376 + a.val) := by
  rw [out20_apply]
  rw [block_feat m c t i _ (by omega) (by omega)]
  congr 1
  unfold featChan
  split_ifs <;> omega

end Blocks

/-! ### The arrays -/

def want8 (R : Fin 128) (a : Fin 256) : EReal := keyValueA (lanes m c R) (pos R) a.val

theorem out_array8 : (dats m 0 c).arrAt 8 cfg0.N = fun y : S1x256x128.Idx => want8 m c (y 2) (y 1) := by
  refine (dats m 0 c).arrAt_eq_of_covers 8 _ (by decide +kernel) fun t hfl y => ?_
  blk_simp
  rw [after0_8]
  obtain ⟨z, a, i, rfl⟩ := ix3_of y
  obtain rfl : z = 0 := Fin.ext (by omega)
  refine (block_out8 m c t i a).trans ?_
  refine congrArg₂ (want8 m c) (Fin.ext ?_) (Fin.ext ?_) <;> blk_simp [(idx t).2.2.2.2.2.2.2.2.1]

def want9 (R : Fin 128) (a : Fin 64) : EReal := keyI (lanes m c R) (pos R) a.val

theorem out_array9 : (dats m 0 c).arrAt 9 cfg0.N = fun y : S1x64x128.Idx => want9 m c (y 2) (y 1) := by
  refine (dats m 0 c).arrAt_eq_of_covers 9 _ (by decide +kernel) fun t hfl y => ?_
  blk_simp
  rw [after0_9]
  obtain ⟨z, a, i, rfl⟩ := ix3_of y
  obtain rfl : z = 0 := Fin.ext (by omega)
  refine (block_out9 m c t i a).trans ?_
  refine congrArg₂ (want9 m c) (Fin.ext ?_) (Fin.ext ?_) <;> blk_simp [(idx t).2.2.2.2.2.2.2.2.2.1]

def want10 (R : Fin 128) (a : Fin 1024) : EReal := lanes m c R (1864 + a.val)

theorem out_array10 : (dats m 0 c).arrAt 10 cfg0.N = fun y : S1x1024x128.Idx => want10 m c (y 2) (y 1) := by
  refine (dats m 0 c).arrAt_eq_of_covers 10 _ (by decide +kernel) fun t hfl y => ?_
  blk_simp
  rw [after0_10]
  obtain ⟨z, a, i, rfl⟩ := ix3_of y
  obtain rfl : z = 0 := Fin.ext (by omega)
  refine (block_out10 m c t i a).trans ?_
  refine congrArg₂ (want10 m c) (Fin.ext ?_) (Fin.ext ?_) <;> blk_simp [(idx t).2.2.2.2.2.2.2.2.2.2.1]

def want11 (R : Fin 128) (a : Fin 512) : EReal := queryA (lanes m c R) (pos R) a

theorem out_array11 : (dats m 0 c).arrAt 11 cfg0.N = fun y : S128x512.Idx => want11 m c (y 0) (y 1) := by
  refine (dats m 0 c).arrAt_eq_of_covers 11 _ (by decide +kernel) fun t hfl y => ?_
  blk_simp
  rw [after0_11]
  obtain ⟨i, a, rfl⟩ := ix2_of y
  refine (block_out11 m c t i a).trans ?_
  refine congrArg₂ (want11 m c) (Fin.ext ?_) (Fin.ext ?_) <;> blk_simp [(idx t).2.2.2.2.2.2.2.2.2.2.2.1]

def want12 (R : Fin 128) (a : Fin 512) : EReal := queryI (lanes m c R) (pos R) a.val

theorem out_array12 : (dats m 0 c).arrAt 12 cfg0.N = fun y : S128x512.Idx => want12 m c (y 0) (y 1) := by
  refine (dats m 0 c).arrAt_eq_of_covers 12 _ (by decide +kernel) fun t hfl y => ?_
  blk_simp
  rw [after0_12]
  obtain ⟨i, a, rfl⟩ := ix2_of y
  refine (block_out12 m c t i a).trans ?_
  refine congrArg₂ (want12 m c) (Fin.ext ?_) (Fin.ext ?_) <;> blk_simp [(idx t).2.2.2.2.2.2.2.2.2.2.2.2.1]

def want13 (R : Fin 128) (a : Fin 8) : EReal := weightI (lanes m c R) a.val

theorem out_array13 : (dats m 0 c).arrAt 13 cfg0.N = fun y : S1x8x128.Idx => want13 m c (y 2) (y 1) := by
  refine (dats m 0 c).arrAt_eq_of_covers 13 _ (by decide +kernel) fun t hfl y => ?_
  blk_simp
  rw [after0_13]
  obtain ⟨z, a, i, rfl⟩ := ix3_of y
  obtain rfl : z = 0 := Fin.ext (by omega)
  refine (block_out13 m c t i a).trans ?_
  refine congrArg₂ (want13 m c) (Fin.ext ?_) (Fin.ext ?_) <;> blk_simp [(idx t).2.2.2.2.2.2.2.2.2.2.2.2.2.1]

def want14 (R : Fin 128) (a : Fin 512) : EReal := queryB (lanes m c R) a.val

theorem out_array14 : (dats m 0 c).arrAt 14 cfg0.N = fun y : S128x512.Idx => want14 m c (y 0) (y 1) := by
  refine (dats m 0 c).arrAt_eq_of_covers 14 _ (by decide +kernel) fun t hfl y => ?_
  blk_simp
  rw [after0_14]
  obtain ⟨i, a, rfl⟩ := ix2_of y
  refine (block_out14 m c t i a).trans ?_
  refine congrArg₂ (want14 m c) (Fin.ext ?_) (Fin.ext ?_) <;> blk_simp [(idx t).2.2.2.2.2.2.2.2.2.2.2.2.2.2.1]

def want15 (R : Fin 128) (a : Fin 2048) : EReal := gates (lanes m c R) a.val

theorem out_array15 : (dats m 0 c).arrAt 15 cfg0.N = fun y : S128x2048.Idx => want15 m c (y 0) (y 1) := by
  refine (dats m 0 c).arrAt_eq_of_covers 15 _ (by decide +kernel) fun t hfl y => ?_
  blk_simp
  rw [after0_15]
  obtain ⟨i, a, rfl⟩ := ix2_of y
  refine (block_out15 m c t i a).trans ?_
  refine congrArg₂ (want15 m c) (Fin.ext ?_) (Fin.ext ?_) <;> blk_simp [(idx t).2.2.2.2.2.2.2.2.2.2.2.2.2.2.2.1]

def want16 (R : Fin 128) (a : Fin 128) : EReal := keyA (lanes m c R) (pos R) a.val

theorem out_array16 : (dats m 0 c).arrAt 16 cfg0.N = fun y : S128x128.Idx => want16 m c (y 0) (y 1) := by
  refine (dats m 0 c).arrAt_eq_of_covers 16 _ (by decide +kernel) fun t hfl y => ?_
  blk_simp
  rw [after0_16]
  obtain ⟨i, a, rfl⟩ := ix2_of y
  refine (block_out16 m c t i a).trans ?_
  refine congrArg₂ (want16 m c) (Fin.ext ?_) (Fin.ext ?_) <;> blk_simp [(idx t).2.2.2.2.2.2.2.2.2.2.2.2.2.2.2.2.1]

def want17 (R : Fin 128) (a : Fin 128) : EReal := keyI (lanes m c R) (pos R) (a.val % 64)

theorem out_array17 : (dats m 0 c).arrAt 17 cfg0.N = fun y : S128x128.Idx => want17 m c (y 0) (y 1) := by
  refine (dats m 0 c).arrAt_eq_of_covers 17 _ (by decide +kernel) fun t hfl y => ?_
  blk_simp
  rw [after0_17]
  obtain ⟨i, a, rfl⟩ := ix2_of y
  refine (block_out17 m c t i a).trans ?_
  refine congrArg₂ (want17 m c) (Fin.ext ?_) (Fin.ext ?_) <;> blk_simp [(idx t).2.2.2.2.2.2.2.2.2.2.2.2.2.2.2.2.2.1]

def want18 (R : Fin 128) (a : Fin 512) : EReal := lanes m c R (1864 + a.val)

theorem out_array18 : (dats m 0 c).arrAt 18 cfg0.N = fun y : S128x512.Idx => want18 m c (y 0) (y 1) := by
  refine (dats m 0 c).arrAt_eq_of_covers 18 _ (by decide +kernel) fun t hfl y => ?_
  blk_simp
  rw [after0_18]
  obtain ⟨i, a, rfl⟩ := ix2_of y
  refine (block_out18 m c t i a).trans ?_
  refine congrArg₂ (want18 m c) (Fin.ext ?_) (Fin.ext ?_) <;> blk_simp [(idx t).2.2.2.2.2.2.2.2.2.2.2.2.2.2.2.2.2.2.1]

def want19 (R : Fin 128) (a : Fin 128) : EReal := lanes m c R (640 + a.val)

theorem out_array19 : (dats m 0 c).arrAt 19 cfg0.N = fun y : S1x1x128x128.Idx => want19 m c (y 3) (y 2) := by
  refine (dats m 0 c).arrAt_eq_of_covers 19 _ (by decide +kernel) fun t hfl y => ?_
  blk_simp
  rw [after0_19]
  obtain ⟨z, q, a, i, rfl⟩ := ix4_of y
  obtain rfl : z = 0 := Fin.ext (by omega)
  obtain rfl : q = 0 := Fin.ext (by omega)
  refine (block_out19 m c t a i).trans ?_
  refine congrArg₂ (want19 m c) (Fin.ext ?_) (Fin.ext ?_) <;> blk_simp [(idx t).2.2.2.2.2.2.2.2.2.2.2.2.2.2.2.2.2.2.2.1]

def want20 (R : Fin 128) (a : Fin 512) : EReal := lanes m c R (2376 + a.val)

theorem out_array20 : (dats m 0 c).arrAt 20 cfg0.N = fun y : S1x1x512x128.Idx => want20 m c (y 3) (y 2) := by
  refine (dats m 0 c).arrAt_eq_of_covers 20 _ (by decide +kernel) fun t hfl y => ?_
  blk_simp
  rw [after0_20]
  obtain ⟨z, q, a, i, rfl⟩ := ix4_of y
  obtain rfl : z = 0 := Fin.ext (by omega)
  obtain rfl : q = 0 := Fin.ext (by omega)
  refine (block_out20 m c t a i).trans ?_
  refine congrArg₂ (want20 m c) (Fin.ext ?_) (Fin.ext ?_) <;> blk_simp [(idx t).2.2.2.2.2.2.2.2.2.2.2.2.2.2.2.2.2.2.2.2]

end Cert.Proof.PrjSI

end
-- ==== Proof.PrjS.Reference.lean ====
/-
  The reference's result arrays: at every index, the layer's projection of the sample's argument arrays.
-/
module

public import proofs.«01_k».proof.Proof.PrjS.Spec
public import proofs.«01_k».proof.Proof.Gen.Reference4Ideal.Read
public import Idealize.ShloMosaic.Lib.Pipeline.ValueKit

@[expose] public section

set_option maxRecDepth 16384

noncomputable section

namespace Cert.Proof.PrjSR

open Cert.Reference4Ideal Cert.Reference4Ideal.Gen Cert.Reference4Ideal.Read Cert.Proof.Out Cert.Proof.OutS Cert.Proof.PrjS
open Cert.Proof.Prj hiding lane
open Idealize.ShloMosaic Idealize.ShloMosaic.TcCoe Idealize.ShloMosaic.Pointwise

variable (x0 : Vec Ideal S32x4x1024 .f32) (x1 : Vec Ideal S1x1024 .f32) (x2 : Vec Ideal S1x1024x4936 .f32) (b : Fin 32) (s : Fin 4)

/-! ### The lanes -/

theorem normed_apply (k : Fin 1024) : val_main_v16 (F := Ideal) x0 x1 (ix3 b s k)
    = rmsNorm (fun e => x0 (ix3 b s e)) (fun e => x1 (ix2 (0 : Fin 1) e)) k := by
  unfold rmsNorm
  pointwise [val_main_v16, val_main_v15, val_main_v14, val_main_v13, val_main_v12, val_main_v11, val_main_v10, val_main_v9, val_main_v8,
    val_main_v7, val_main_v6, val_main_v5, val_main_v4, val_main_v3, val_main_cst, val_main_cst_0, val_main_cst_1]

theorem lanes_apply (n : ℕ) (hn : n < 4936) : val_main_v18 (F := Ideal) x0 x1 x2 (ix3 b s ⟨n, hn⟩) = lane x0 x1 x2 b s n := by
  have hd : val_main_v18 (F := Ideal) x0 x1 x2 (ix3 b s ⟨n, hn⟩)
      = ∑ k : Fin 1024, val_main_v16 (F := Ideal) x0 x1 (ix3 b s k) * x2 (ix3 (0 : Fin 1) k ⟨n, hn⟩) := by
    unfold val_main_v18
    generalize val_main_v16 (F := Ideal) x0 x1 = y
    pointwise [val_main_v17]
  rw [hd]
  unfold lane
  refine Finset.sum_congr rfl fun k _ => ?_
  rw [normed_apply]
  refine congrArg (fun a : Fin 4936 => _ * x2 (ix3 (0 : Fin 1) k a)) (Fin.ext ?_)
  exact (Nat.mod_eq_of_lt hn).symm

/-! ### The angles -/

theorem angle_v39 (d : Fin 32) : val_main_v39 (F := Ideal) (ix2 s d) = angle (posOf s) d.val := by
  unfold angle
  rw [← posOf_word]
  pointwise [val_main_v39, val_main_v38, val_main_v37, val_main_v36, val_main_v35, val_main_v34, val_main_v33, val_main_v32, val_main_v31, val_main_v30,
    val_main_v29, val_main_v28, val_main_v2, val_main_v1, val_main_v0, val_main_c, val_main_cst_2, val_main_cst_3]
  rfl

/-- Eight heads of 64 lanes turned by cosines `u` and sines `v`. -/
def turned8 (y : FVec Ideal S32x4x8x64 .f32) (u v : FVec Ideal S4x1x32 .f32) : FVec Ideal S32x4x8x64 .f32 :=
  concatenate S32x4x8x64 3
    [⟨S32x4x8x32, subf (mulf (extractStridedSlice S32x4x8x32 ![0, 0, 0, 0] y slices_S32x4x8x64_S32x4x8x32_0_0_0_0) (broadcastInDim S32x4x8x32 ![0, 1, 2, 3] bcast_S1x4x1x32_S32x4x8x32_0_1_2_3 (broadcastInDim S1x4x1x32 ![1, 2, 3] bcast_S4x1x32_S1x4x1x32_1_2_3 u)))
        (mulf (extractStridedSlice S32x4x8x32 ![0, 0, 0, 32] y slices_S32x4x8x64_S32x4x8x32_0_0_0_32) (broadcastInDim S32x4x8x32 ![0, 1, 2, 3] bcast_S1x4x1x32_S32x4x8x32_0_1_2_3 (broadcastInDim S1x4x1x32 ![1, 2, 3] bcast_S4x1x32_S1x4x1x32_1_2_3 v)))⟩,
     ⟨S32x4x8x32, addf (mulf (extractStridedSlice S32x4x8x32 ![0, 0, 0, 32] y slices_S32x4x8x64_S32x4x8x32_0_0_0_32) (broadcastInDim S32x4x8x32 ![0, 1, 2, 3] bcast_S1x4x1x32_S32x4x8x32_0_1_2_3 (broadcastInDim S1x4x1x32 ![1, 2, 3] bcast_S4x1x32_S1x4x1x32_1_2_3 u)))
        (mulf (extractStridedSlice S32x4x8x32 ![0, 0, 0, 0] y slices_S32x4x8x64_S32x4x8x32_0_0_0_0) (broadcastInDim S32x4x8x32 ![0, 1, 2, 3] bcast_S1x4x1x32_S32x4x8x32_0_1_2_3 (broadcastInDim S1x4x1x32 ![1, 2, 3] bcast_S4x1x32_S1x4x1x32_1_2_3 v)))⟩]
    concatenates_S32x4x8x32_S32x4x8x32_S32x4x8x64_d3

theorem turned8_apply (y : FVec Ideal S32x4x8x64 .f32) (u v : FVec Ideal S4x1x32 .f32) (h : Fin 8) (p : ℕ → EReal) (a : ℕ)
    (hu : ∀ d : Fin 32, u (ix3 s (0 : Fin 1) d) = co (posOf s) d.val) (hv : ∀ d : Fin 32, v (ix3 s (0 : Fin 1) d) = si (posOf s) d.val)
    (hy : ∀ d : Fin 64, y (ix4 b s h d) = p (64 * a + d.val)) (d : Fin 64) :
    turned8 y u v (ix4 b s h d) = rope p (co (posOf s)) (si (posOf s)) (64 * a + d.val) := by
  unfold turned8 rope
  obtain ⟨d, hd⟩ := d
  pointwise []
  by_cases hl : d < 32
  · rw [dif_pos hl, if_pos (show (64 * a + d) % 64 < 32 by omega), hu, hv, hy, hy]
    dsimp only
    rw [show (64 * a + d) % 32 = d by omega, show 64 * a + (32 + d) = 64 * a + d + 32 by omega]
  · rw [dif_neg hl, if_neg (show ¬(64 * a + d) % 64 < 32 by omega), hu, hv, hy, hy]
    dsimp only
    rw [show (64 * a + d) % 32 = d - 32 by omega, show 64 * a + (32 + (d - 32)) = 64 * a + d by omega,
      show 64 * a + (d - 32) = 64 * a + d - 32 by omega]

/-- Two heads of 64 lanes turned by cosines `u` and sines `v`. -/
def turned2 (y : FVec Ideal S32x4x2x64 .f32) (u v : FVec Ideal S4x1x32 .f32) : FVec Ideal S32x4x2x64 .f32 :=
  concatenate S32x4x2x64 3
    [⟨S32x4x2x32, subf (mulf (extractStridedSlice S32x4x2x32 ![0, 0, 0, 0] y slices_S32x4x2x64_S32x4x2x32_0_0_0_0) (broadcastInDim S32x4x2x32 ![0, 1, 2, 3] bcast_S1x4x1x32_S32x4x2x32_0_1_2_3 (broadcastInDim S1x4x1x32 ![1, 2, 3] bcast_S4x1x32_S1x4x1x32_1_2_3 u)))
        (mulf (extractStridedSlice S32x4x2x32 ![0, 0, 0, 32] y slices_S32x4x2x64_S32x4x2x32_0_0_0_32) (broadcastInDim S32x4x2x32 ![0, 1, 2, 3] bcast_S1x4x1x32_S32x4x2x32_0_1_2_3 (broadcastInDim S1x4x1x32 ![1, 2, 3] bcast_S4x1x32_S1x4x1x32_1_2_3 v)))⟩,
     ⟨S32x4x2x32, addf (mulf (extractStridedSlice S32x4x2x32 ![0, 0, 0, 32] y slices_S32x4x2x64_S32x4x2x32_0_0_0_32) (broadcastInDim S32x4x2x32 ![0, 1, 2, 3] bcast_S1x4x1x32_S32x4x2x32_0_1_2_3 (broadcastInDim S1x4x1x32 ![1, 2, 3] bcast_S4x1x32_S1x4x1x32_1_2_3 u)))
        (mulf (extractStridedSlice S32x4x2x32 ![0, 0, 0, 0] y slices_S32x4x2x64_S32x4x2x32_0_0_0_0) (broadcastInDim S32x4x2x32 ![0, 1, 2, 3] bcast_S1x4x1x32_S32x4x2x32_0_1_2_3 (broadcastInDim S1x4x1x32 ![1, 2, 3] bcast_S4x1x32_S1x4x1x32_1_2_3 v)))⟩]
    concatenates_S32x4x2x32_S32x4x2x32_S32x4x2x64_d3

theorem turned2_apply (y : FVec Ideal S32x4x2x64 .f32) (u v : FVec Ideal S4x1x32 .f32) (h : Fin 2) (p : ℕ → EReal) (a : ℕ)
    (hu : ∀ d : Fin 32, u (ix3 s (0 : Fin 1) d) = co (posOf s) d.val) (hv : ∀ d : Fin 32, v (ix3 s (0 : Fin 1) d) = si (posOf s) d.val)
    (hy : ∀ d : Fin 64, y (ix4 b s h d) = p (64 * a + d.val)) (d : Fin 64) :
    turned2 y u v (ix4 b s h d) = rope p (co (posOf s)) (si (posOf s)) (64 * a + d.val) := by
  unfold turned2 rope
  obtain ⟨d, hd⟩ := d
  pointwise []
  by_cases hl : d < 32
  · rw [dif_pos hl, if_pos (show (64 * a + d) % 64 < 32 by omega), hu, hv, hy, hy]
    dsimp only
    rw [show (64 * a + d) % 32 = d by omega, show 64 * a + (32 + d) = 64 * a + d + 32 by omega]
  · rw [dif_neg hl, if_neg (show ¬(64 * a + d) % 64 < 32 by omega), hu, hv, hy, hy]
    dsimp only
    rw [show (64 * a + d) % 32 = d - 32 by omega, show 64 * a + (32 + (d - 32)) = 64 * a + d by omega,
      show 64 * a + (d - 32) = 64 * a + d - 32 by omega]

/-- One head of 64 lanes turned by cosines `u` and sines `v`. -/
def turned1 (y : FVec Ideal S32x4x1x64 .f32) (u v : FVec Ideal S4x1x32 .f32) : FVec Ideal S32x4x1x64 .f32 :=
  concatenate S32x4x1x64 3
    [⟨S32x4x1x32, subf (mulf (extractStridedSlice S32x4x1x32 ![0, 0, 0, 0] y slices_S32x4x1x64_S32x4x1x32_0_0_0_0) (broadcastInDim S32x4x1x32 ![0, 1, 2, 3] bcast_S1x4x1x32_S32x4x1x32_0_1_2_3 (broadcastInDim S1x4x1x32 ![1, 2, 3] bcast_S4x1x32_S1x4x1x32_1_2_3 u)))
        (mulf (extractStridedSlice S32x4x1x32 ![0, 0, 0, 32] y slices_S32x4x1x64_S32x4x1x32_0_0_0_32) (broadcastInDim S32x4x1x32 ![0, 1, 2, 3] bcast_S1x4x1x32_S32x4x1x32_0_1_2_3 (broadcastInDim S1x4x1x32 ![1, 2, 3] bcast_S4x1x32_S1x4x1x32_1_2_3 v)))⟩,
     ⟨S32x4x1x32, addf (mulf (extractStridedSlice S32x4x1x32 ![0, 0, 0, 32] y slices_S32x4x1x64_S32x4x1x32_0_0_0_32) (broadcastInDim S32x4x1x32 ![0, 1, 2, 3] bcast_S1x4x1x32_S32x4x1x32_0_1_2_3 (broadcastInDim S1x4x1x32 ![1, 2, 3] bcast_S4x1x32_S1x4x1x32_1_2_3 u)))
        (mulf (extractStridedSlice S32x4x1x32 ![0, 0, 0, 0] y slices_S32x4x1x64_S32x4x1x32_0_0_0_0) (broadcastInDim S32x4x1x32 ![0, 1, 2, 3] bcast_S1x4x1x32_S32x4x1x32_0_1_2_3 (broadcastInDim S1x4x1x32 ![1, 2, 3] bcast_S4x1x32_S1x4x1x32_1_2_3 v)))⟩]
    concatenates_S32x4x1x32_S32x4x1x32_S32x4x1x64_d3

theorem turned1_apply (y : FVec Ideal S32x4x1x64 .f32) (u v : FVec Ideal S4x1x32 .f32) (p : ℕ → EReal) (a : ℕ)
    (hu : ∀ d : Fin 32, u (ix3 s (0 : Fin 1) d) = co (posOf s) d.val) (hv : ∀ d : Fin 32, v (ix3 s (0 : Fin 1) d) = si (posOf s) d.val)
    (hy : ∀ d : Fin 64, y (ix4 b s (0 : Fin 1) d) = p (64 * a + d.val)) (d : Fin 64) :
    turned1 y u v (ix4 b s (0 : Fin 1) d) = rope p (co (posOf s)) (si (posOf s)) (64 * a + d.val) := by
  unfold turned1 rope
  obtain ⟨d, hd⟩ := d
  pointwise []
  by_cases hl : d < 32
  · rw [dif_pos hl, if_pos (show (64 * a + d) % 64 < 32 by omega), hu, hv, hy, hy]
    dsimp only
    rw [show (64 * a + d) % 32 = d by omega, show 64 * a + (32 + d) = 64 * a + d + 32 by omega]
  · rw [dif_neg hl, if_neg (show ¬(64 * a + d) % 64 < 32 by omega), hu, hv, hy, hy]
    dsimp only
    rw [show (64 * a + d) % 32 = d - 32 by omega, show 64 * a + (32 + (d - 32)) = 64 * a + d by omega,
      show 64 * a + (d - 32) = 64 * a + d - 32 by omega]

theorem v60_eq : val_main_v60 (F := Ideal) x0 x1 x2 = turned8 (val_main_v27 (F := Ideal) x0 x1 x2) (val_main_v41 (F := Ideal)) (val_main_v43 (F := Ideal)) := rfl
theorem v96_eq : val_main_v96 (F := Ideal) x0 x1 x2 = turned2 (val_main_v63 (F := Ideal) x0 x1 x2) (val_main_v41 (F := Ideal)) (val_main_v43 (F := Ideal)) := rfl
theorem v132_eq : val_main_v132 (F := Ideal) x0 x1 x2 = turned8 (val_main_v99 (F := Ideal) x0 x1 x2) (val_main_v41 (F := Ideal)) (val_main_v43 (F := Ideal)) := rfl
theorem v166_eq : val_main_v166 (F := Ideal) x0 x1 x2 = turned1 (val_main_v133 (F := Ideal) x0 x1 x2) (val_main_v41 (F := Ideal)) (val_main_v43 (F := Ideal)) := rfl

theorem cosines (d : Fin 32) : val_main_v41 (F := Ideal) (ix3 s (0 : Fin 1) d) = co (posOf s) d.val := by
  unfold val_main_v41 val_main_v40 co
  rw [← angle_v39]
  generalize val_main_v39 (F := Ideal) = y
  pointwise []

theorem sines (d : Fin 32) : val_main_v43 (F := Ideal) (ix3 s (0 : Fin 1) d) = si (posOf s) d.val := by
  unfold val_main_v43 val_main_v42 si
  rw [← angle_v39]
  generalize val_main_v39 (F := Ideal) = y
  pointwise []

/-! ### The heads -/

theorem slice_apply {S : Shape} (y : S.Idx → EReal) (i : S.Idx) (j : S32x4x4936.Idx) (n : ℕ) (hn : n < 4936)
    (hy : y i = val_main_v18 (F := Ideal) x0 x1 x2 j) (hj : j = ix3 b s ⟨n, hn⟩) : y i = lane x0 x1 x2 b s n := by
  rw [hy, hj, lanes_apply]

theorem v27_apply (h : Fin 8) (d : Fin 64) : val_main_v27 (F := Ideal) x0 x1 x2 (ix4 b s h d) = lane x0 x1 x2 b s (64 * h.val + d.val) := by
  refine slice_apply x0 x1 x2 b s _ _ _ _ (by omega) ((val_main_v27_apply ..).trans (val_main_v19_apply ..)) ?_
  unfold idx_main_v27 idx_main_v19
  blk_ext

theorem v63_apply (h : Fin 2) (d : Fin 64) : val_main_v63 (F := Ideal) x0 x1 x2 (ix4 b s h d) = lane x0 x1 x2 b s (512 + (64 * h.val + d.val)) := by
  refine slice_apply x0 x1 x2 b s _ _ _ _ (by omega)
    ((val_main_v63_apply ..).trans ((val_main_v62_apply ..).trans ((val_main_v61_apply ..).trans (val_main_v20_apply ..)))) ?_
  unfold idx_main_v63 idx_main_v62 idx_main_v61 idx_main_v20
  blk_ext

theorem v98_apply (h : Fin 2) (d : Fin 64) : val_main_v98 (F := Ideal) x0 x1 x2 (ix4 b s h d) = lane x0 x1 x2 b s (640 + (64 * h.val + d.val)) := by
  refine slice_apply x0 x1 x2 b s _ _ _ _ (by omega)
    ((val_main_v98_apply ..).trans ((val_main_v97_apply ..).trans ((val_main_v61_apply ..).trans (val_main_v20_apply ..)))) ?_
  unfold idx_main_v98 idx_main_v97 idx_main_v61 idx_main_v20
  blk_ext

theorem v99_apply (h : Fin 8) (d : Fin 64) : val_main_v99 (F := Ideal) x0 x1 x2 (ix4 b s h d) = lane x0 x1 x2 b s (768 + (64 * h.val + d.val)) := by
  refine slice_apply x0 x1 x2 b s _ _ _ _ (by omega) ((val_main_v99_apply ..).trans (val_main_v21_apply ..)) ?_
  unfold idx_main_v99 idx_main_v21
  blk_ext

theorem v133_apply (h : Fin 1) (d : Fin 64) : val_main_v133 (F := Ideal) x0 x1 x2 (ix4 b s h d) = lane x0 x1 x2 b s (1280 + (64 * h.val + d.val)) := by
  refine slice_apply x0 x1 x2 b s _ _ _ _ (by omega) ((val_main_v133_apply ..).trans (val_main_v22_apply ..)) ?_
  unfold idx_main_v133 idx_main_v22
  blk_ext

theorem v60_apply (h : Fin 8) (d : Fin 64) : val_main_v60 (F := Ideal) x0 x1 x2 (ix4 b s h d)
    = rope (lane x0 x1 x2 b s) (co (posOf s)) (si (posOf s)) (64 * h.val + d.val) := by
  rw [v60_eq]
  exact turned8_apply b s _ _ _ h _ h.val (cosines s) (sines s) (v27_apply x0 x1 x2 b s h) d

theorem v96_apply (h : Fin 2) (d : Fin 64) : val_main_v96 (F := Ideal) x0 x1 x2 (ix4 b s h d) = keyA (lane x0 x1 x2 b s) (posOf s) (64 * h.val + d.val) := by
  rw [v96_eq]
  exact turned2_apply b s _ _ _ h _ h.val (cosines s) (sines s) (v63_apply x0 x1 x2 b s h) d

theorem v132_apply (h : Fin 8) (d : Fin 64) : val_main_v132 (F := Ideal) x0 x1 x2 (ix4 b s h d) = queryI (lane x0 x1 x2 b s) (posOf s) (64 * h.val + d.val) := by
  rw [v132_eq]
  exact turned8_apply b s _ _ _ h _ h.val (cosines s) (sines s) (v99_apply x0 x1 x2 b s h) d

theorem v167_apply (d : Fin 64) : val_main_v167 (F := Ideal) x0 x1 x2 (ix3 b s d) = keyI (lane x0 x1 x2 b s) (posOf s) d.val := by
  have hi : idx_main_v167 (ix3 b s d) = ix4 b s (0 : Fin 1) d := by
    unfold idx_main_v167
    blk_ext
  rw [val_main_v167_apply, hi, v166_eq]
  refine (turned1_apply b s _ _ _ (fun a => lane x0 x1 x2 b s (1280 + a)) 0 (cosines s) (sines s) (v133_apply x0 x1 x2 b s 0) d).trans ?_
  rw [Nat.mul_zero, Nat.zero_add]
  rfl

/-! ### The results -/

/-- A row's lanes. -/
abbrev row (R : Fin 128) : ℕ → EReal := lane x0 x1 x2 (seqOf R) (stepOf R)

theorem v184_apply (a : Fin 256) (R : Fin 128) : val_main_v184 (F := Ideal) x0 x1 x2 (ix3 (0 : Fin 1) a R) = keyValueA (row x0 x1 x2 R) (posOf (stepOf R)) a.val := by
  have h1 : idx_main_v184 (ix3 (0 : Fin 1) a R) = ix3 (0 : Fin 1) R a := by
    unfold idx_main_v184
    blk_ext
  have h2 : idx_main_v183 (ix3 (0 : Fin 1) R a)
      = ix5 (seqOf R) (stepOf R) (⟨a.val / 128, by omega⟩ : Fin 2) (⟨a.val / 64 % 2, by omega⟩ : Fin 2) (⟨a.val % 64, by omega⟩ : Fin 64) := by
    unfold idx_main_v183 seqOf stepOf
    blk_ext
  rw [val_main_v184_apply, val_main_v183_apply, h1, h2]
  have hc : val_main_v182 (F := Ideal) x0 x1 x2 (ix5 (seqOf R) (stepOf R) (⟨a.val / 128, by omega⟩ : Fin 2) (⟨a.val / 64 % 2, by omega⟩ : Fin 2) (⟨a.val % 64, by omega⟩ : Fin 64))
      = if a.val / 128 < 1 then val_main_v96 (F := Ideal) x0 x1 x2 (ix4 (seqOf R) (stepOf R) (⟨a.val / 64 % 2, by omega⟩ : Fin 2) (⟨a.val % 64, by omega⟩ : Fin 64))
        else val_main_v98 (F := Ideal) x0 x1 x2 (ix4 (seqOf R) (stepOf R) (⟨a.val / 64 % 2, by omega⟩ : Fin 2) (⟨a.val % 64, by omega⟩ : Fin 64)) := by
    unfold val_main_v182 val_main_v181 val_main_v180
    generalize val_main_v96 (F := Ideal) x0 x1 x2 = y
    generalize val_main_v98 (F := Ideal) x0 x1 x2 = z
    pointwise []
    by_cases h : a.val / 128 < 1
    · rw [dif_pos h, if_pos h]
    · rw [dif_neg h, if_neg h]
  rw [hc, v96_apply, v98_apply]
  unfold keyValueA
  dsimp only
  by_cases h : a.val < 128
  · rw [if_pos (by omega), if_pos h]
    congr 1
    omega
  · rw [if_neg (by omega), if_neg h]
    congr 1
    omega

theorem v186_apply (a : Fin 64) (R : Fin 128) : val_main_v186 (F := Ideal) x0 x1 x2 (ix3 (0 : Fin 1) a R) = keyI (row x0 x1 x2 R) (posOf (stepOf R)) a.val := by
  have hi : idx_main_v185 (idx_main_v186 (ix3 (0 : Fin 1) a R)) = ix3 (seqOf R) (stepOf R) a := by
    unfold idx_main_v185 idx_main_v186 seqOf stepOf
    blk_ext
  rw [val_main_v186_apply, val_main_v185_apply, hi, v167_apply]

theorem v188_apply (a : Fin 1024) (R : Fin 128) : val_main_v188 (F := Ideal) x0 x1 x2 (ix3 (0 : Fin 1) a R) = row x0 x1 x2 R (1864 + a.val) := by
  refine slice_apply x0 x1 x2 _ _ _ _ _ _ (by omega)
    ((val_main_v188_apply ..).trans ((val_main_v187_apply ..).trans (val_main_v25_apply ..))) ?_
  unfold idx_main_v188 idx_main_v187 idx_main_v25 seqOf stepOf
  blk_ext

theorem heads_index (p : Fin 2) (q : Fin 4) (d : Fin 64) : idx_main_v176 (ix5 b s p q d) = ix4 b s (⟨4 * p.val + q.val, by omega⟩ : Fin 8) d := by
  unfold idx_main_v176
  blk_ext

theorem v190_apply (R : Fin 128) (j : Fin 512) : val_main_v190 (F := Ideal) x0 x1 x2 (ix2 R j) = queryA (row x0 x1 x2 R) (posOf (stepOf R)) j := by
  have hi : idx_main_v176 (idx_main_v177 (idx_main_v189 (ix2 R j)))
      = ix4 (seqOf R) (stepOf R) (⟨headAt (j.val / 64), by unfold headAt; omega⟩ : Fin 8) (⟨j.val % 64, by omega⟩ : Fin 64) := by
    have h1 : idx_main_v189 (ix2 R j)
        = ix5 (seqOf R) (stepOf R) (⟨j.val / 128, by omega⟩ : Fin 4) (⟨j.val / 64 % 2, by omega⟩ : Fin 2) (⟨j.val % 64, by omega⟩ : Fin 64) := by
      unfold idx_main_v189 seqOf stepOf
      blk_ext
    have h2 : idx_main_v177 (ix5 (seqOf R) (stepOf R) (⟨j.val / 128, by omega⟩ : Fin 4) (⟨j.val / 64 % 2, by omega⟩ : Fin 2) (⟨j.val % 64, by omega⟩ : Fin 64))
        = ix5 (seqOf R) (stepOf R) (⟨j.val / 64 % 2, by omega⟩ : Fin 2) (⟨j.val / 128, by omega⟩ : Fin 4) (⟨j.val % 64, by omega⟩ : Fin 64) := by
      unfold idx_main_v177
      blk_ext
    rw [h1, h2, heads_index]
    refine congrArg (fun h : Fin 8 => ix4 (seqOf R) (stepOf R) h (⟨j.val % 64, by omega⟩ : Fin 64)) (Fin.ext ?_)
    unfold headAt
    dsimp only
    omega
  have hs : val_main_v190 (F := Ideal) x0 x1 x2 (ix2 R j)
      = val_main_v60 (F := Ideal) x0 x1 x2 (idx_main_v176 (idx_main_v177 (idx_main_v189 (ix2 R j)))) * scaleA := by
    rw [val_main_v190_apply, val_main_v189_apply, val_main_v179_apply, val_main_v177_apply, val_main_v176_apply, val_main_v178_apply]
    rfl
  rw [hs, hi, v60_apply]
  rfl

theorem v192_apply (R : Fin 128) (j : Fin 512) : val_main_v192 (F := Ideal) x0 x1 x2 (ix2 R j) = queryI (row x0 x1 x2 R) (posOf (stepOf R)) j.val := by
  have hi : idx_main_v191 (ix2 R j) = ix4 (seqOf R) (stepOf R) (⟨j.val / 64, by omega⟩ : Fin 8) (⟨j.val % 64, by omega⟩ : Fin 64) := by
    unfold idx_main_v191 seqOf stepOf
    blk_ext
  have hs : val_main_v192 (F := Ideal) x0 x1 x2 (ix2 R j) = val_main_v132 (F := Ideal) x0 x1 x2 (idx_main_v191 (ix2 R j)) := by
    rw [val_main_v192_apply, val_main_v191_apply]
    rfl
  rw [hs, hi, v132_apply]
  dsimp only
  rw [Nat.div_add_mod]

theorem v196_apply (a : Fin 8) (R : Fin 128) : val_main_v196 (F := Ideal) x0 x1 x2 (ix3 (0 : Fin 1) a R) = weightI (row x0 x1 x2 R) a.val := by
  have hs : val_main_v196 (F := Ideal) x0 x1 x2 (ix3 (0 : Fin 1) a R)
      = val_main_v18 (F := Ideal) x0 x1 x2 (idx_main_v23 (idx_main_v195 (idx_main_v196 (ix3 (0 : Fin 1) a R)))) * scaleW * scaleB := by
    rw [val_main_v196_apply, val_main_v195_apply, val_main_v194_apply, val_main_v169_apply, val_main_v23_apply, val_main_v168_apply, val_main_v193_apply]
    rfl
  have hi : idx_main_v23 (idx_main_v195 (idx_main_v196 (ix3 (0 : Fin 1) a R))) = ix3 (seqOf R) (stepOf R) (⟨1344 + a.val, by omega⟩ : Fin 4936) := by
    unfold idx_main_v23 idx_main_v195 idx_main_v196 seqOf stepOf
    blk_ext
  rw [hs, hi, lanes_apply]
  rfl

theorem v200_apply (R : Fin 128) (j : Fin 512) : val_main_v200 (F := Ideal) x0 x1 x2 (ix2 R j) = queryB (row x0 x1 x2 R) j.val := by
  have hs : val_main_v200 (F := Ideal) x0 x1 x2 (ix2 R j)
      = val_main_v18 (F := Ideal) x0 x1 x2 (idx_main_v24 (idx_main_v199 (ix2 R j))) * scaleB := by
    rw [val_main_v200_apply, val_main_v199_apply, val_main_v198_apply, val_main_v24_apply, val_main_v197_apply]
    rfl
  have hi : idx_main_v24 (idx_main_v199 (ix2 R j)) = ix3 (seqOf R) (stepOf R) (⟨1352 + j.val, by omega⟩ : Fin 4936) := by
    unfold idx_main_v24 idx_main_v199 seqOf stepOf
    blk_ext
  rw [hs, hi, lanes_apply]
  rfl

theorem v202_apply (R : Fin 128) (j : Fin 2048) : val_main_v202 (F := Ideal) x0 x1 x2 (ix2 R j) = gates (row x0 x1 x2 R) j.val := by
  have h0 : ∀ x : EReal, 0 - x = -x := fun x => by rw [sub_eq_add_neg, zero_add]
  have hs : val_main_v202 (F := Ideal) x0 x1 x2 (ix2 R j) = val_main_v175 (F := Ideal) x0 x1 x2 (idx_main_v201 (ix2 R j)) := by
    rw [val_main_v202_apply, val_main_v201_apply]
    rfl
  have hi : idx_main_v201 (ix2 R j) = ix3 (seqOf R) (stepOf R) j := by
    unfold idx_main_v201 seqOf stepOf
    blk_ext
  have hg : val_main_v175 (F := Ideal) x0 x1 x2 (ix3 (seqOf R) (stepOf R) j) = gate (val_main_v26 (F := Ideal) x0 x1 x2 (ix3 (seqOf R) (stepOf R) j)) := by
    unfold val_main_v175 val_main_v173 val_main_v171 val_main_v170 gate
    simp only [h0]
    generalize val_main_v26 (F := Ideal) x0 x1 x2 = y
    pointwise [val_main_v174, val_main_v172, val_main_cst_11, val_main_cst_12]
  rw [hs, hi, hg]
  unfold gates
  refine congrArg gate (slice_apply x0 x1 x2 _ _ _ _ _ _ (by omega) (val_main_v26_apply ..) ?_)
  unfold idx_main_v26
  blk_ext

theorem v205_apply (k : Fin 512) : val_main_v205 (F := Ideal) x0 x1 x2 (ix3 b s k) = lane x0 x1 x2 b s (1864 + k.val) := by
  refine slice_apply x0 x1 x2 b s _ _ _ _ (by omega)
    ((val_main_v205_apply ..).trans ((val_main_v204_apply ..).trans ((val_main_v203_apply ..).trans (val_main_v25_apply ..)))) ?_
  unfold idx_main_v205 idx_main_v204 idx_main_v203 idx_main_v25
  blk_ext

theorem v207_apply (k : Fin 512) : val_main_v207 (F := Ideal) x0 x1 x2 (ix3 b s k) = lane x0 x1 x2 b s (2376 + k.val) := by
  refine slice_apply x0 x1 x2 b s _ _ _ _ (by omega)
    ((val_main_v207_apply ..).trans ((val_main_v206_apply ..).trans ((val_main_v203_apply ..).trans (val_main_v25_apply ..)))) ?_
  unfold idx_main_v207 idx_main_v206 idx_main_v203 idx_main_v25
  blk_ext

theorem v209_apply (R : Fin 128) (a : Fin 128) : val_main_v209 (F := Ideal) x0 x1 x2 (ix2 R a) = keyA (row x0 x1 x2 R) (posOf (stepOf R)) a.val := by
  have hi : idx_main_v208 (ix2 R a) = ix4 (seqOf R) (stepOf R) (⟨a.val / 64, by omega⟩ : Fin 2) (⟨a.val % 64, by omega⟩ : Fin 64) := by
    unfold idx_main_v208 seqOf stepOf
    blk_ext
  have hs : val_main_v209 (F := Ideal) x0 x1 x2 (ix2 R a) = val_main_v96 (F := Ideal) x0 x1 x2 (idx_main_v208 (ix2 R a)) := by
    rw [val_main_v209_apply, val_main_v208_apply]
    rfl
  rw [hs, hi, v96_apply]
  dsimp only
  rw [Nat.div_add_mod]

theorem v212_apply (R : Fin 128) (a : Fin 128) : val_main_v212 (F := Ideal) x0 x1 x2 (ix2 R a) = keyI (row x0 x1 x2 R) (posOf (stepOf R)) (a.val % 64) := by
  have hi : idx_main_v211 (ix2 R a) = ix3 (seqOf R) (stepOf R) a := by
    unfold idx_main_v211 seqOf stepOf
    blk_ext
  have hs : val_main_v212 (F := Ideal) x0 x1 x2 (ix2 R a) = val_main_v210 (F := Ideal) x0 x1 x2 (idx_main_v211 (ix2 R a)) := by
    rw [val_main_v212_apply, val_main_v211_apply]
    rfl
  have hc : val_main_v210 (F := Ideal) x0 x1 x2 (ix3 (seqOf R) (stepOf R) a)
      = val_main_v167 (F := Ideal) x0 x1 x2 (ix3 (seqOf R) (stepOf R) (⟨a.val % 64, by omega⟩ : Fin 64)) := by
    obtain ⟨a, ha⟩ := a
    unfold val_main_v210
    generalize val_main_v167 (F := Ideal) x0 x1 x2 = y
    pointwise []
    by_cases h : a < 64
    · rw [dif_pos h]
      refine congrArg (fun e : Fin 64 => y (ix3 (seqOf R) (stepOf R) e)) (Fin.ext ?_)
      dsimp only
      omega
    · rw [dif_neg h]
      refine congrArg (fun e : Fin 64 => y (ix3 (seqOf R) (stepOf R) e)) (Fin.ext ?_)
      dsimp only
      omega
  rw [hs, hi, hc, v167_apply]

theorem v214_apply (R : Fin 128) (a : Fin 512) : val_main_v214 (F := Ideal) x0 x1 x2 (ix2 R a) = row x0 x1 x2 R (1864 + a.val) := by
  have hi : idx_main_v213 (ix2 R a) = ix3 (seqOf R) (stepOf R) a := by
    unfold idx_main_v213 seqOf stepOf
    blk_ext
  have hs : val_main_v214 (F := Ideal) x0 x1 x2 (ix2 R a) = val_main_v205 (F := Ideal) x0 x1 x2 (idx_main_v213 (ix2 R a)) := by
    rw [val_main_v214_apply, val_main_v213_apply]
    rfl
  rw [hs, hi, v205_apply]

theorem v217_apply (a R : Fin 128) : val_main_v217 (F := Ideal) x0 x1 x2 (ix4 (0 : Fin 1) (0 : Fin 1) a R) = row x0 x1 x2 R (640 + a.val) := by
  have h1 : idx_main_v216 (ix4 (0 : Fin 1) (0 : Fin 1) a R) = ix4 (0 : Fin 1) (0 : Fin 1) R a := by
    unfold idx_main_v216
    blk_ext
  have h2 : idx_main_v215 (ix4 (0 : Fin 1) (0 : Fin 1) R a)
      = ix4 (seqOf R) (stepOf R) (⟨a.val / 64, by omega⟩ : Fin 2) (⟨a.val % 64, by omega⟩ : Fin 64) := by
    unfold idx_main_v215 seqOf stepOf
    blk_ext
  have hs : val_main_v217 (F := Ideal) x0 x1 x2 (ix4 (0 : Fin 1) (0 : Fin 1) a R)
      = val_main_v98 (F := Ideal) x0 x1 x2 (idx_main_v215 (idx_main_v216 (ix4 (0 : Fin 1) (0 : Fin 1) a R))) := by
    rw [val_main_v217_apply, val_main_v216_apply, val_main_v215_apply]
    rfl
  rw [hs, h1, h2, v98_apply]
  dsimp only
  rw [Nat.div_add_mod]

theorem v220_apply (a : Fin 512) (R : Fin 128) : val_main_v220 (F := Ideal) x0 x1 x2 (ix4 (0 : Fin 1) (0 : Fin 1) a R) = row x0 x1 x2 R (2376 + a.val) := by
  have h1 : idx_main_v219 (ix4 (0 : Fin 1) (0 : Fin 1) a R) = ix4 (0 : Fin 1) (0 : Fin 1) R a := by
    unfold idx_main_v219
    blk_ext
  have h2 : idx_main_v218 (ix4 (0 : Fin 1) (0 : Fin 1) R a) = ix3 (seqOf R) (stepOf R) a := by
    unfold idx_main_v218 seqOf stepOf
    blk_ext
  have hs : val_main_v220 (F := Ideal) x0 x1 x2 (ix4 (0 : Fin 1) (0 : Fin 1) a R)
      = val_main_v207 (F := Ideal) x0 x1 x2 (idx_main_v218 (idx_main_v219 (ix4 (0 : Fin 1) (0 : Fin 1) a R))) := by
    rw [val_main_v220_apply, val_main_v219_apply, val_main_v218_apply]
    rfl
  rw [hs, h1, h2, v207_apply]

end Cert.Proof.PrjSR

end
-- ==== Proof.PrjS.Value.lean ====
/-
  The layer's projection of the sample: the frames of its three programs, and the kernel and the reference ending with
  the same thirteen arrays, from any argument arrays.
-/
module

public import proofs.«01_k».proof.Defs
public import proofs.«01_k».proof.Proof.PrjS.Kernel
public import proofs.«01_k».proof.Proof.PrjS.Reference
public import proofs.«01_k».proof.Proof.Gen.Kernel4.Frame
public import proofs.«01_k».proof.Proof.Gen.Reference4Ideal.Run

@[expose] public section

noncomputable section

namespace Cert.Proof.PrjS

open Idealize.ShloMosaic Idealize.ShloMosaic.TcCoe Idealize.SL.Sem Idealize.ShloMosaic.Pointwise

/-- The kernel ends, its arguments unchanged and every counter at zero. -/
theorem frame_kernel : Cert.quiescent_Kernel4 := fun m g _ => Cert.Kernel4.Gen.frame m g

/-- So does its ideal text, -/
theorem frame_kernelIdeal : Cert.quiescent_Kernel4Ideal := fun m g _ => Cert.Kernel4Ideal.Gen.frame m g

/-- and the reference. -/
theorem frame_referenceIdeal : Cert.quiescent_Reference4Ideal := fun m g _ =>
  (θ_run Cert.Reference4Ideal.defs _ _).mono
    (fun r h => ⟨fun c => (h c).2.2.2.2.2.2.2.2.2.2.2.2.2, sem_eq_zero_of_no_sems (by decide) r.2⟩) (Cert.Reference4Ideal.Value.run m g)

/-- No constant is named: the ideal text is the text. -/
theorem preserves : Cert.preserves_Kernel4_Kernel4Ideal := trivial

section Results

variable (m : (ℓ : Loc Cert.Kernel4Ideal.nD Cert.Kernel4Ideal.τ Cert.Kernel4Ideal.sig) → Buf (Elt Ideal) ℓ) (c : Dev Cert.Kernel4Ideal.nD)

/-- The three arguments of the kernel. -/
abbrev argX := m ((c.tc : Thread Cert.Kernel4Ideal.nD Cert.Kernel4Ideal.τ).loc Cert.Kernel4Ideal.main_arg0)
abbrev argG := m ((c.tc : Thread Cert.Kernel4Ideal.nD Cert.Kernel4Ideal.τ).loc Cert.Kernel4Ideal.main_arg1)
abbrev argW := m ((c.tc : Thread Cert.Kernel4Ideal.nD Cert.Kernel4Ideal.τ).loc Cert.Kernel4Ideal.main_arg2)

theorem result_8 : Cert.Reference4Ideal.Read.val_main_v184 (F := Ideal) (argX m c) (argG m c) (argW m c)
    = fun y : Cert.Kernel4Ideal.S1x256x128.Idx => PrjSI.want8 m c (y 2) (y 1) := by
  funext y
  obtain ⟨z, a, R, rfl⟩ := PrjI.ix3_of y
  obtain rfl : z = 0 := Fin.ext (by omega)
  exact PrjSR.v184_apply _ _ _ a R

theorem result_9 : Cert.Reference4Ideal.Read.val_main_v186 (F := Ideal) (argX m c) (argG m c) (argW m c)
    = fun y : Cert.Kernel4Ideal.S1x64x128.Idx => PrjSI.want9 m c (y 2) (y 1) := by
  funext y
  obtain ⟨z, a, R, rfl⟩ := PrjI.ix3_of y
  obtain rfl : z = 0 := Fin.ext (by omega)
  exact PrjSR.v186_apply _ _ _ a R

theorem result_10 : Cert.Reference4Ideal.Read.val_main_v188 (F := Ideal) (argX m c) (argG m c) (argW m c)
    = fun y : Cert.Kernel4Ideal.S1x1024x128.Idx => PrjSI.want10 m c (y 2) (y 1) := by
  funext y
  obtain ⟨z, a, R, rfl⟩ := PrjI.ix3_of y
  obtain rfl : z = 0 := Fin.ext (by omega)
  exact PrjSR.v188_apply _ _ _ a R

theorem result_11 : Cert.Reference4Ideal.Read.val_main_v190 (F := Ideal) (argX m c) (argG m c) (argW m c)
    = fun y : Cert.Kernel4Ideal.S128x512.Idx => PrjSI.want11 m c (y 0) (y 1) := by
  funext y
  obtain ⟨R, a, rfl⟩ := PrjI.ix2_of y
  exact PrjSR.v190_apply _ _ _ R a

theorem result_12 : Cert.Reference4Ideal.Read.val_main_v192 (F := Ideal) (argX m c) (argG m c) (argW m c)
    = fun y : Cert.Kernel4Ideal.S128x512.Idx => PrjSI.want12 m c (y 0) (y 1) := by
  funext y
  obtain ⟨R, a, rfl⟩ := PrjI.ix2_of y
  exact PrjSR.v192_apply _ _ _ R a

theorem result_13 : Cert.Reference4Ideal.Read.val_main_v196 (F := Ideal) (argX m c) (argG m c) (argW m c)
    = fun y : Cert.Kernel4Ideal.S1x8x128.Idx => PrjSI.want13 m c (y 2) (y 1) := by
  funext y
  obtain ⟨z, a, R, rfl⟩ := PrjI.ix3_of y
  obtain rfl : z = 0 := Fin.ext (by omega)
  exact PrjSR.v196_apply _ _ _ a R

theorem result_14 : Cert.Reference4Ideal.Read.val_main_v200 (F := Ideal) (argX m c) (argG m c) (argW m c)
    = fun y : Cert.Kernel4Ideal.S128x512.Idx => PrjSI.want14 m c (y 0) (y 1) := by
  funext y
  obtain ⟨R, a, rfl⟩ := PrjI.ix2_of y
  exact PrjSR.v200_apply _ _ _ R a

theorem result_15 : Cert.Reference4Ideal.Read.val_main_v202 (F := Ideal) (argX m c) (argG m c) (argW m c)
    = fun y : Cert.Kernel4Ideal.S128x2048.Idx => PrjSI.want15 m c (y 0) (y 1) := by
  funext y
  obtain ⟨R, a, rfl⟩ := PrjI.ix2_of y
  exact PrjSR.v202_apply _ _ _ R a

theorem result_16 : Cert.Reference4Ideal.Read.val_main_v209 (F := Ideal) (argX m c) (argG m c) (argW m c)
    = fun y : Cert.Kernel4Ideal.S128x128.Idx => PrjSI.want16 m c (y 0) (y 1) := by
  funext y
  obtain ⟨R, a, rfl⟩ := PrjI.ix2_of y
  exact PrjSR.v209_apply _ _ _ R a

theorem result_17 : Cert.Reference4Ideal.Read.val_main_v212 (F := Ideal) (argX m c) (argG m c) (argW m c)
    = fun y : Cert.Kernel4Ideal.S128x128.Idx => PrjSI.want17 m c (y 0) (y 1) := by
  funext y
  obtain ⟨R, a, rfl⟩ := PrjI.ix2_of y
  exact PrjSR.v212_apply _ _ _ R a

theorem result_18 : Cert.Reference4Ideal.Read.val_main_v214 (F := Ideal) (argX m c) (argG m c) (argW m c)
    = fun y : Cert.Kernel4Ideal.S128x512.Idx => PrjSI.want18 m c (y 0) (y 1) := by
  funext y
  obtain ⟨R, a, rfl⟩ := PrjI.ix2_of y
  exact PrjSR.v214_apply _ _ _ R a

theorem result_19 : Cert.Reference4Ideal.Read.val_main_v217 (F := Ideal) (argX m c) (argG m c) (argW m c)
    = fun y : Cert.Kernel4Ideal.S1x1x128x128.Idx => PrjSI.want19 m c (y 3) (y 2) := by
  funext y
  obtain ⟨z, q, a, R, rfl⟩ := PrjI.ix4_of y
  obtain rfl : z = 0 := Fin.ext (by omega)
  obtain rfl : q = 0 := Fin.ext (by omega)
  exact PrjSR.v217_apply _ _ _ a R

theorem result_20 : Cert.Reference4Ideal.Read.val_main_v220 (F := Ideal) (argX m c) (argG m c) (argW m c)
    = fun y : Cert.Kernel4Ideal.S1x1x512x128.Idx => PrjSI.want20 m c (y 3) (y 2) := by
  funext y
  obtain ⟨z, q, a, R, rfl⟩ := PrjI.ix4_of y
  obtain rfl : z = 0 := Fin.ext (by omega)
  obtain rfl : q = 0 := Fin.ext (by omega)
  exact PrjSR.v220_apply _ _ _ a R

end Results

set_option maxHeartbeats 2000000 in
/-- From equal arguments both programs end with the layer's projection of the sample. -/
theorem algebraic : @Cert.algebraic_Kernel4Ideal_Reference4Ideal Cert.Kernel4Ideal.Gen.facts Cert.Reference4Ideal.Gen.facts := by
  intro m g m' g' _ hagree
  refine ⟨fun c => fun y : Cert.Kernel4Ideal.S1x256x128.Idx => PrjSI.want8 m c (y 2) (y 1),
    fun c => fun y : Cert.Kernel4Ideal.S1x64x128.Idx => PrjSI.want9 m c (y 2) (y 1),
    fun c => fun y : Cert.Kernel4Ideal.S1x1024x128.Idx => PrjSI.want10 m c (y 2) (y 1),
    fun c => fun y : Cert.Kernel4Ideal.S128x512.Idx => PrjSI.want11 m c (y 0) (y 1),
    fun c => fun y : Cert.Kernel4Ideal.S128x512.Idx => PrjSI.want12 m c (y 0) (y 1),
    fun c => fun y : Cert.Kernel4Ideal.S1x8x128.Idx => PrjSI.want13 m c (y 2) (y 1),
    fun c => fun y : Cert.Kernel4Ideal.S128x512.Idx => PrjSI.want14 m c (y 0) (y 1),
    fun c => fun y : Cert.Kernel4Ideal.S128x2048.Idx => PrjSI.want15 m c (y 0) (y 1),
    fun c => fun y : Cert.Kernel4Ideal.S128x128.Idx => PrjSI.want16 m c (y 0) (y 1),
    fun c => fun y : Cert.Kernel4Ideal.S128x128.Idx => PrjSI.want17 m c (y 0) (y 1),
    fun c => fun y : Cert.Kernel4Ideal.S128x512.Idx => PrjSI.want18 m c (y 0) (y 1),
    fun c => fun y : Cert.Kernel4Ideal.S1x1x128x128.Idx => PrjSI.want19 m c (y 3) (y 2),
    fun c => fun y : Cert.Kernel4Ideal.S1x1x512x128.Idx => PrjSI.want20 m c (y 3) (y 2), ?_, ?_⟩
  · refine (θ_run Cert.Kernel4Ideal.defs _ _).mono (fun _ h c => ?_) (Cert.Kernel4Ideal.Value.run_blocks m g)
    obtain ⟨h8, h9, h10, h11, h12, h13, h14, h15, h16, h17, h18, h19, h20, hk⟩ := h c
    exact ⟨h8.trans (PrjSI.out_array8 m c),
      h9.trans (PrjSI.out_array9 m c),
      h10.trans (PrjSI.out_array10 m c),
      h11.trans (PrjSI.out_array11 m c),
      h12.trans (PrjSI.out_array12 m c),
      h13.trans (PrjSI.out_array13 m c),
      h14.trans (PrjSI.out_array14 m c),
      h15.trans (PrjSI.out_array15 m c),
      h16.trans (PrjSI.out_array16 m c),
      h17.trans (PrjSI.out_array17 m c),
      h18.trans (PrjSI.out_array18 m c),
      h19.trans (PrjSI.out_array19 m c),
      h20.trans (PrjSI.out_array20 m c), hk⟩
  · refine (θ_run Cert.Reference4Ideal.defs _ _).mono (fun _ h c => ?_) (Cert.Reference4Ideal.Value.run m' g')
    obtain ⟨a0, a1, a2⟩ := hagree c
    obtain ⟨h8, h9, h10, h11, h12, h13, h14, h15, h16, h17, h18, h19, h20, hk⟩ := h c
    have e : ∀ {β : Type} (f : _ → _ → _ → β), f (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2)) = f (argX m c) (argG m c) (argW m c) :=
      fun f => by rw [a0, a1, a2]
    exact ⟨h8.trans ((Cert.Reference4Ideal.Read.val_main_v184_eq _).trans ((e Cert.Reference4Ideal.Read.val_main_v184).trans (result_8 m c))),
      h9.trans ((Cert.Reference4Ideal.Read.val_main_v186_eq _).trans ((e Cert.Reference4Ideal.Read.val_main_v186).trans (result_9 m c))),
      h10.trans ((Cert.Reference4Ideal.Read.val_main_v188_eq _).trans ((e Cert.Reference4Ideal.Read.val_main_v188).trans (result_10 m c))),
      h11.trans ((Cert.Reference4Ideal.Read.val_main_v190_eq _).trans ((e Cert.Reference4Ideal.Read.val_main_v190).trans (result_11 m c))),
      h12.trans ((Cert.Reference4Ideal.Read.val_main_v192_eq _).trans ((e Cert.Reference4Ideal.Read.val_main_v192).trans (result_12 m c))),
      h13.trans ((Cert.Reference4Ideal.Read.val_main_v196_eq _).trans ((e Cert.Reference4Ideal.Read.val_main_v196).trans (result_13 m c))),
      h14.trans ((Cert.Reference4Ideal.Read.val_main_v200_eq _).trans ((e Cert.Reference4Ideal.Read.val_main_v200).trans (result_14 m c))),
      h15.trans ((Cert.Reference4Ideal.Read.val_main_v202_eq _).trans ((e Cert.Reference4Ideal.Read.val_main_v202).trans (result_15 m c))),
      h16.trans ((Cert.Reference4Ideal.Read.val_main_v209_eq _).trans ((e Cert.Reference4Ideal.Read.val_main_v209).trans (result_16 m c))),
      h17.trans ((Cert.Reference4Ideal.Read.val_main_v212_eq _).trans ((e Cert.Reference4Ideal.Read.val_main_v212).trans (result_17 m c))),
      h18.trans ((Cert.Reference4Ideal.Read.val_main_v214_eq _).trans ((e Cert.Reference4Ideal.Read.val_main_v214).trans (result_18 m c))),
      h19.trans ((Cert.Reference4Ideal.Read.val_main_v217_eq _).trans ((e Cert.Reference4Ideal.Read.val_main_v217).trans (result_19 m c))),
      h20.trans ((Cert.Reference4Ideal.Read.val_main_v220_eq _).trans ((e Cert.Reference4Ideal.Read.val_main_v220).trans (result_20 m c))), hk⟩

end Cert.Proof.PrjS

end
-- ==== Proof.OutS.Block.lean ====
/-
  The 128 tokens that the one grid point computes: every row of it is the layer's tail of that row.
-/
module

public import proofs.«01_k».proof.Proof.Gen.Kernel5Ideal.Frame
public import proofs.«01_k».proof.Proof.Out.Block
public import proofs.«01_k».proof.Proof.OutS.Spec
public import Idealize.ShloMosaic.Lib.Pipeline.ValueKit

@[expose] public section

set_option maxRecDepth 16384

noncomputable section

namespace Cert.Proof.OutSI

open Cert.Kernel5Ideal Cert.Kernel5Ideal.Gen Cert.Proof.Out
open Cert.Proof.OutI (row mat sum_chunks)
open Idealize.ShloMosaic Idealize.ShloMosaic.TcCoe

/-- What 256 hidden columns add to the network's result. -/
def chunk (hn : FVec Ideal S128x1024 .bf16) (wg wu : Vec Ideal S1024x256 .bf16) (wd : Vec Ideal S256x1024 .bf16) : FVec Ideal S128x1024 .f32 :=
  let zero : FVec Ideal S128x256 .f32 := constant S128x256 .f32 0x00000000#32
  let one : FVec Ideal S128x256 .f32 := broadcast S128x256 (Scalar.ofBits (F := Ideal) .f32 0x3F800000#32)
  let g : FVec Ideal S128x256 .f32 := matmul dot_S128x1024_S1024x256_S128x256_1_0_0_1_n_n none hn (shapeCast S1024x256 wg shapeCasts_S1024x256_S1024x256 : FVec Ideal S1024x256 .bf16) zero
  let u : FVec Ideal S128x256 .f32 := matmul dot_S128x1024_S1024x256_S128x256_1_0_0_1_n_n none hn (shapeCast S1024x256 wu shapeCasts_S1024x256_S1024x256 : FVec Ideal S1024x256 .bf16) zero
  let e : FVec Ideal S128x256 .f32 := exp (subf (broadcast S128x256 (Scalar.ofBits (F := Ideal) .f32 0x00000000#32)) g)
  let act : FVec Ideal S128x256 .f32 := mulf (mulf g (divf one (addf one e))) u
  matmul dot_S128x256_S256x1024_S128x1024_1_0_0_1_n_n none (truncf .bf16 act bitsLt_bf16_f32 : FVec Ideal S128x256 .bf16)
    (shapeCast S256x1024 wd shapeCasts_S256x1024_S256x1024 : FVec Ideal S256x1024 .bf16) (constant S128x1024 .f32 0x00000000#32 : FVec Ideal S128x1024 .f32)

theorem chunk_apply (hn : FVec Ideal S128x1024 .bf16) (wg wu : Vec Ideal S1024x256 .bf16) (wd : Vec Ideal S256x1024 .bf16)
    (i : Fin 128) (j : Fin 1024) : chunk hn wg wu wd (ix2 i j)
      = ∑ f, swish (through (row hn i) (mat (φ := .bf16) wg) f) (through (row hn i) (mat (φ := .bf16) wu) f) * (wd (ix2 f j) : EReal) := by
  pointwise [chunk]
  rfl

/-! ### The payloads as sums of chunks -/

variable (hn : FVec Ideal S128x1024 .bf16) (acc : FVec Ideal S128x1024 .f32) (a b a' b' : Vec Ideal S1024x256 .bf16) (d d' : Vec Ideal S256x1024 .bf16)

theorem pay5_eq (h n : FVec Ideal S128x1024 .f32) (g : Vec Ideal S1x1024 .f32) :
    k0_pay5 h n g a b d = addf (broadcast S128x1024 (Scalar.ofBits (F := Ideal) .f32 0x00000000#32)) (chunk (k0_pay4 h n g) a b d) := rfl
theorem pay10_eq (h n : FVec Ideal S128x1024 .f32) (g : Vec Ideal S1x1024 .f32) :
    k0_pay10 (k0_pay4 h n g) acc (k0_pay6 h n g a) (k0_pay7 h n g b) (k0_pay8 h n g a) (k0_pay9 (F := Ideal)) d a' b' d'
      = addf (addf acc (chunk (k0_pay4 h n g) a b d)) (chunk (k0_pay4 h n g) a' b' d') := rfl
theorem pay14_eq : k0_pay14 hn acc (k0_pay11 hn a) (k0_pay12 hn b) (k0_pay13 (F := Ideal)) d a' b' d'
      = addf (addf acc (chunk hn a b d)) (chunk hn a' b' d') := rfl
theorem pay17_eq : k0_pay17 hn acc (k0_pay15 hn a) (k0_pay16 b) d a' b' d'
      = addf (addf acc (chunk hn a b d)) (chunk hn a' b' d') := rfl
theorem pay19_eq : k0_pay19 hn acc (k0_pay18 hn a) b d a' b' d' = addf (addf acc (chunk hn a b d)) (chunk hn a' b' d') := rfl
theorem pay20_eq : k0_pay20 hn acc a b d = addf acc (chunk hn a b d) := rfl

/-- The last chunk is added inside the final norm. -/
theorem pay1_apply (h : FVec Ideal S128x1024 .f32) (g : Vec Ideal S1x1024 .f32) (i : Fin 128) (j : Fin 1024) :
    k0_pay1 h acc (k0_pay21 hn a b) (k0_pay22 d) (constant S128x1024 .f32 0x00000000#32) g (ix2 i j)
      = rmsNorm (fun x => (h (ix2 i x) : EReal) + addf acc (chunk hn a b d) (ix2 i x)) (row (φ := .f32) g 0) j := by
  unfold rmsNorm
  pointwise [k0_pay1, k0_pay21, k0_pay22, chunk, row]

/-- The row after the mixers, -/
theorem pay2_apply (x0 : Vec Ideal S128x512 .f32) (x4 : Vec Ideal S512x1024 .bf16) (x1 : Vec Ideal S128x512 .f32) (x5 : Vec Ideal S512x1024 .bf16)
    (ga gb : Vec Ideal S128x1024 .bf16) (x3 : Vec Ideal S128x1024 .f32) (x6 : Vec Ideal S1024x1024 .bf16) (i : Fin 128) (j : Fin 1024) :
    k0_pay2 x0 x4 x1 x5 ga gb x3 x6 (ix2 i j) = mixed (row (φ := .f32) x0 i) (row (φ := .f32) x1 i) (row (φ := .bf16) ga i) (row (φ := .bf16) gb i)
      (row (φ := .f32) x3 i) (mat (φ := .bf16) x4) (mat (φ := .bf16) x5) (mat (φ := .bf16) x6) j := by
  pointwise [k0_pay2]
  rfl

/-- and its norm. -/
theorem pay4_apply (x0 : Vec Ideal S128x512 .f32) (x4 : Vec Ideal S512x1024 .bf16) (x1 : Vec Ideal S128x512 .f32) (x5 : Vec Ideal S512x1024 .bf16)
    (ga gb : Vec Ideal S128x1024 .bf16) (x3 : Vec Ideal S128x1024 .f32) (x6 : Vec Ideal S1024x1024 .bf16) (g : Vec Ideal S1x1024 .f32) (i : Fin 128) (j : Fin 1024) :
    k0_pay4 (k0_pay2 x0 x4 x1 x5 ga gb x3 x6) (k0_pay3 x0 x4 x1 x5 ga gb x3 x6) g (ix2 i j)
      = rmsNorm (row (k0_pay2 x0 x4 x1 x5 ga gb x3 x6) i) (row (φ := .f32) g 0) j := by
  unfold k0_pay3
  generalize k0_pay2 x0 x4 x1 x5 ga gb x3 x6 = h
  pointwise [k0_pay4]
  rfl

/-! ### The eleven chunks -/

variable (x8 x9 : Vec Ideal S1024x2816 .bf16) (x10 : Vec Ideal S2816x1024 .bf16)

/-- One hidden column's share of the network's result. -/
def share (h : Fin 1024 → EReal) (j : Fin 1024) (f : Fin 2816) : EReal :=
  swish (through h (mat (φ := .bf16) x8) f) (through h (mat (φ := .bf16) x9) f) * mat (φ := .bf16) x10 f j

/-- A chunk over the columns from `256·n` on. -/
theorem chunk_ld (n o : ℕ) (ho : o = 256 * n) (inb inb') (i : Fin 128) (j : Fin 1024) (hn11 : n < 11) :
    chunk hn (View.ld (Val := Elt Ideal) x8 (Rect.unit (s := S1024x2816) ![0, o] S1024x256.size inb))
        (View.ld (Val := Elt Ideal) x9 (Rect.unit (s := S1024x2816) ![0, o] S1024x256.size inb))
        (View.ld (Val := Elt Ideal) x10 (Rect.unit (s := S2816x1024) ![o, 0] S256x1024.size inb')) (ix2 i j)
      = ∑ f : Fin 256, share x8 x9 x10 (row hn i) j ⟨(256 * n + f.val) % 2816, Nat.mod_lt _ (by decide)⟩ := by
  subst ho
  rw [chunk_apply]
  have hcol : ∀ (X : Vec Ideal S1024x2816 .bf16) (f : Fin 256) (x : Fin 1024),
      (View.ld (Val := Elt Ideal) X (Rect.unit (s := S1024x2816) ![0, 256 * n] S1024x256.size inb) (ix2 x f) : EReal)
        = X (ix2 x (⟨(256 * n + f.val) % 2816, Nat.mod_lt _ (by decide)⟩ : Fin 2816)) := fun X f x =>
    View.ld_unit_apply_of X _ _ inb _ _ fun a => by
      match a with
      | ⟨0, _⟩ => show x.val = 0 + x.val; omega
      | ⟨1, _⟩ => show (256 * n + f.val) % 2816 = 256 * n + f.val; omega
  have hrow : ∀ (f : Fin 256), (View.ld (Val := Elt Ideal) x10 (Rect.unit (s := S2816x1024) ![256 * n, 0] S256x1024.size inb') (ix2 f j) : EReal)
        = x10 (ix2 (⟨(256 * n + f.val) % 2816, Nat.mod_lt _ (by decide)⟩ : Fin 2816) j) := fun f =>
    View.ld_unit_apply_of x10 _ _ inb' _ _ fun a => by
      match a with
      | ⟨0, _⟩ => show (256 * n + f.val) % 2816 = 256 * n + f.val; omega
      | ⟨1, _⟩ => show j.val = 0 + j.val; omega
  refine Finset.sum_congr rfl fun f _ => ?_
  unfold share
  rw [hrow f]
  have hw : ∀ (X : Vec Ideal S1024x2816 .bf16), through (row hn i) (mat (φ := .bf16)
      (View.ld (Val := Elt Ideal) X (Rect.unit (s := S1024x2816) ![0, 256 * n] S1024x256.size inb))) f
      = through (row hn i) (mat (φ := .bf16) X) (⟨(256 * n + f.val) % 2816, Nat.mod_lt _ (by decide)⟩ : Fin 2816) := fun X =>
    Finset.sum_congr rfl fun x _ => congrArg (row hn i x * ·) (hcol X f x)
  rw [hw x8, hw x9]
  rfl

/-! ### The block -/

variable (x0 x1 : Vec Ideal S128x512 .f32) (x2 : Vec Ideal S128x2048 .bf16) (x3 : Vec Ideal S128x1024 .f32) (x4 x5 : Vec Ideal S512x1024 .bf16)
  (x6 : Vec Ideal S1024x1024 .bf16) (x7 x11 : Vec Ideal S1x1024 .f32)

/-- The left half of a token's gates, -/
def gateA (i : Fin 128) : Fin 1024 → EReal := fun x => (x2 (ix2 i (⟨x.val, by omega⟩ : Fin 2048)) : EReal)
/-- and the right half. -/
def gateB (i : Fin 128) : Fin 1024 → EReal := fun x => (x2 (ix2 i (⟨1024 + x.val, by omega⟩ : Fin 2048)) : EReal)

/-- A token's row after the mixers. -/
def mixedRow (i : Fin 128) : Fin 1024 → EReal :=
  mixed (row (φ := .f32) x0 i) (row (φ := .f32) x1 i) (gateA x2 i) (gateB x2 i) (row (φ := .f32) x3 i) (mat (φ := .bf16) x4) (mat (φ := .bf16) x5) (mat (φ := .bf16) x6)

theorem pay23_apply (i : Fin 128) (j : Fin 1024) :
    k0_pay23 x0 x1 x2 x3 x4 x5 x6 x7 x8 x9 x10 x11 (ix2 i j) = mixedRow x0 x1 x2 x3 x4 x5 x6 i j := by
  unfold k0_pay23
  rw [pay2_apply]
  have z : (![0, 0] : Fin 2 → ℕ) = fun _ => 0 := by funext a; fin_cases a <;> rfl
  rw [View.ld_unit_zero (S := S128x512) z, View.ld_unit_zero (S := S512x1024) z, View.ld_unit_zero (S := S128x512) z, View.ld_unit_zero (S := S512x1024) z,
    View.ld_unit_zero (S := S128x1024) z, View.ld_unit_zero (S := S1024x1024) z]
  have ha : row (φ := .bf16) (View.ld (Val := Elt Ideal) x2 r0_2) i = gateA x2 i := funext fun x =>
    View.ld_unit_apply_of x2 _ _ _ _ _ fun a => by
      match a with
      | ⟨0, _⟩ => show i.val = 0 + i.val; omega
      | ⟨1, _⟩ => show x.val = 0 + x.val; omega
  have hb : row (φ := .bf16) (View.ld (Val := Elt Ideal) x2 r0_3) i = gateB x2 i := funext fun x =>
    View.ld_unit_apply_of x2 _ _ _ _ _ fun a => by
      match a with
      | ⟨0, _⟩ => show i.val = 0 + i.val; omega
      | ⟨1, _⟩ => rfl
  rw [ha, hb]
  rfl

theorem pay25_row (i : Fin 128) :
    row (k0_pay25 x0 x1 x2 x3 x4 x5 x6 x7 x8 x9 x10 x11) i = rmsNorm (mixedRow x0 x1 x2 x3 x4 x5 x6 i) (row (φ := .f32) x7 0) := by
  funext x
  have z : (![0, 0] : Fin 2 → ℕ) = fun _ => 0 := by funext a; fin_cases a <;> rfl
  show k0_pay4 (k0_pay23 x0 x1 x2 x3 x4 x5 x6 x7 x8 x9 x10 x11) (k0_pay24 x0 x1 x2 x3 x4 x5 x6 x7 x8 x9 x10 x11) (View.ld x7 r0_6) (ix2 i x) = _
  unfold k0_pay23 k0_pay24
  rw [pay4_apply, View.ld_unit_zero (S := S1x1024) z]
  refine congrArg (fun h => rmsNorm h (row (φ := .f32) x7 0) x) (funext fun y => ?_)
  exact pay23_apply x8 x9 x10 x0 x1 x2 x3 x4 x5 x6 x7 x11 i y

/-- Row `i` of the block is the layer's tail of the token's row. -/
theorem out_apply (i : Fin 128) (j : Fin 1024) :
    out0_12 x0 x1 x2 x3 x4 x5 x6 x7 x8 x9 x10 x11 (ix2 i j)
      = Out.tail (mixedRow x0 x1 x2 x3 x4 x5 x6 i) (row (φ := .f32) x7 0) (mat (φ := .bf16) x8) (mat (φ := .bf16) x9) (mat (φ := .bf16) x10)
          (row (φ := .f32) x11 0) j := by
  have z : (![0, 0] : Fin 2 → ℕ) = fun _ => 0 := by funext a; fin_cases a <;> rfl
  unfold out0_12
  rw [View.canon_unit_zero (S := S128x1024) z, pay1_apply, View.ld_unit_zero (S := S1x1024) z _ x11, View.ld_unit_zero (S := S1x1024) z _ x7, pay20_eq, pay19_eq, pay17_eq, pay14_eq]
  unfold Out.tail
  refine congrArg (fun h => rmsNorm h (row (φ := .f32) x11 0) j) (funext fun y => ?_)
  rw [pay23_apply]
  refine congrArg (mixedRow x0 x1 x2 x3 x4 x5 x6 i y + ·) ?_
  have e4 : k0_pay4 (k0_pay23 x0 x1 x2 x3 x4 x5 x6 x7 x8 x9 x10 x11) (k0_pay24 x0 x1 x2 x3 x4 x5 x6 x7 x8 x9 x10 x11) x7
      = k0_pay25 x0 x1 x2 x3 x4 x5 x6 x7 x8 x9 x10 x11 := by
    unfold k0_pay25
    rw [View.ld_unit_zero (S := S1x1024) z _ x7]
  have e10 := fun acc a b a' b' d d' => pay10_eq acc a b a' b' d d' (k0_pay23 x0 x1 x2 x3 x4 x5 x6 x7 x8 x9 x10 x11)
    (k0_pay24 x0 x1 x2 x3 x4 x5 x6 x7 x8 x9 x10 x11) x7
  rw [e4] at e10
  rw [e10, pay5_eq, e4]
  generalize hh : k0_pay25 x0 x1 x2 x3 x4 x5 x6 x7 x8 x9 x10 x11 = hn
  have hr : row hn i = rmsNorm (mixedRow x0 x1 x2 x3 x4 x5 x6 i) (row (φ := .f32) x7 0) := by
    rw [← hh]; exact pay25_row x8 x9 x10 x0 x1 x2 x3 x4 x5 x6 x7 x11 i
  rw [← hr]
  unfold ffn
  rw [show (∑ f, swish (through (row hn i) (mat (φ := .bf16) x8) f) (through (row hn i) (mat (φ := .bf16) x9) f) * mat (φ := .bf16) x10 f y)
      = ∑ f, share x8 x9 x10 (row hn i) y f from rfl, sum_chunks]
  simp only [Finset.sum_range_succ, Finset.sum_range_zero]
  rw [← chunk_ld hn x8 x9 x10 0 0 rfl inb_S1024x2816_S1024x256_0_0 inb_S2816x1024_S256x1024_0_0 i y (by decide),
    ← chunk_ld hn x8 x9 x10 1 256 rfl inb_S1024x2816_S1024x256_0_256 inb_S2816x1024_S256x1024_256_0 i y (by decide),
    ← chunk_ld hn x8 x9 x10 2 512 rfl inb_S1024x2816_S1024x256_0_512 inb_S2816x1024_S256x1024_512_0 i y (by decide),
    ← chunk_ld hn x8 x9 x10 3 768 rfl inb_S1024x2816_S1024x256_0_768 inb_S2816x1024_S256x1024_768_0 i y (by decide),
    ← chunk_ld hn x8 x9 x10 4 1024 rfl inb_S1024x2816_S1024x256_0_1024 inb_S2816x1024_S256x1024_1024_0 i y (by decide),
    ← chunk_ld hn x8 x9 x10 5 1280 rfl inb_S1024x2816_S1024x256_0_1280 inb_S2816x1024_S256x1024_1280_0 i y (by decide),
    ← chunk_ld hn x8 x9 x10 6 1536 rfl inb_S1024x2816_S1024x256_0_1536 inb_S2816x1024_S256x1024_1536_0 i y (by decide),
    ← chunk_ld hn x8 x9 x10 7 1792 rfl inb_S1024x2816_S1024x256_0_1792 inb_S2816x1024_S256x1024_1792_0 i y (by decide),
    ← chunk_ld hn x8 x9 x10 8 2048 rfl inb_S1024x2816_S1024x256_0_2048 inb_S2816x1024_S256x1024_2048_0 i y (by decide),
    ← chunk_ld hn x8 x9 x10 9 2304 rfl inb_S1024x2816_S1024x256_0_2304 inb_S2816x1024_S256x1024_2304_0 i y (by decide),
    ← chunk_ld hn x8 x9 x10 10 2560 rfl inb_S1024x2816_S1024x256_0_2560 inb_S2816x1024_S256x1024_2560_0 i y (by decide)]
  have e0 : ((broadcast S128x1024 (Scalar.ofBits (F := Ideal) .f32 0x00000000#32) : FVec Ideal S128x1024 .f32) (ix2 i y) : EReal) = 0 := by
    pointwise []
  rw [← e0]
  rfl

end Cert.Proof.OutSI

end
-- ==== Proof.OutS.Kernel.lean ====
/-
  The sample's result array: at every token and lane, the layer's tail of the argument arrays.
-/
module

public import proofs.«01_k».proof.Proof.OutS.Block
public import proofs.«01_k».proof.Proof.Gen.Kernel5Ideal.Value
public import Idealize.ShloMosaic.Lib.Claim

@[expose] public section

set_option maxRecDepth 16384

noncomputable section

namespace Cert.Proof.OutSI

open Cert.Kernel5Ideal Cert.Kernel5Ideal.Gen Cert.Proof.Out Cert.Proof.OutS
open Cert.Proof.OutI (row mat)
open Idealize.ShloMosaic Idealize.ShloMosaic.TcCoe Idealize.ShloMosaic.Pointwise Idealize.ShloMosaic.StableHlo

variable (m : (ℓ : Loc nD τ sig) → Buf (Elt Ideal) ℓ) (c : Dev nD)

/-- An argument array. -/
abbrev arg (b : Ref sig .tc) := m ((c : Thread nD τ).loc b)

/-! ### What the host operations prepare -/

theorem entry_0 : V m c main_v0 = shapeCast S128x512 (arg m c main_arg0 : Vec Ideal S32x4x512 .f32) shapeCasts_S32x4x512_S128x512 := by
  show StableHlo.after hostOps0 _ _ = _
  after_results
  rfl

theorem entry_1 : V m c main_v1 = shapeCast S128x512 (arg m c main_arg1 : Vec Ideal S32x4x512 .f32) shapeCasts_S32x4x512_S128x512 := by
  show StableHlo.after hostOps0 _ _ = _
  after_results
  rfl

theorem entry_2 : V m c main_v3 = truncf (F := Ideal) .bf16 (shapeCast S128x2048 (arg m c main_arg2 : Vec Ideal S32x4x2x1024 .f32)
    shapeCasts_S32x4x2x1024_S128x2048) bitsLt_bf16_f32 := by
  show StableHlo.after hostOps0 _ _ = _
  after_results
  rfl

theorem entry_3 : V m c main_v19 = shapeCast S128x1024 (arg m c main_arg3 : Vec Ideal S32x4x1024 .f32) shapeCasts_S32x4x1024_S128x1024 := by
  show StableHlo.after hostOps0 _ _ = _
  after_results
  rfl

theorem entry_4 : V m c main_v5 = truncf (F := Ideal) .bf16 (shapeCast S512x1024 (arg m c main_arg4 : Vec Ideal S1x512x1024 .f32) shapeCasts_S1x512x1024_S512x1024) bitsLt_bf16_f32 := by
  show StableHlo.after hostOps0 _ _ = _
  after_results
  rfl

theorem entry_5 : V m c main_v7 = truncf (F := Ideal) .bf16 (shapeCast S512x1024 (arg m c main_arg5 : Vec Ideal S1x512x1024 .f32) shapeCasts_S1x512x1024_S512x1024) bitsLt_bf16_f32 := by
  show StableHlo.after hostOps0 _ _ = _
  after_results
  rfl

theorem entry_6 : V m c main_v9 = truncf (F := Ideal) .bf16 (shapeCast S1024x1024 (arg m c main_arg6 : Vec Ideal S1x1024x1024 .f32) shapeCasts_S1x1024x1024_S1024x1024) bitsLt_bf16_f32 := by
  show StableHlo.after hostOps0 _ _ = _
  after_results
  rfl

theorem entry_7 : V m c main_v11 = shapeCast S1x1024 (shapeCast S1024 (arg m c main_arg7 : Vec Ideal S1x1024 .f32) shapeCasts_S1x1024_S1024) shapeCasts_S1024_S1x1024 := by
  show StableHlo.after hostOps0 _ _ = _
  after_results
  rfl

theorem entry_8 : V m c main_v13 = truncf (F := Ideal) .bf16 (shapeCast S1024x2816 (arg m c main_arg8 : Vec Ideal S1x1024x2816 .f32) shapeCasts_S1x1024x2816_S1024x2816) bitsLt_bf16_f32 := by
  show StableHlo.after hostOps0 _ _ = _
  after_results
  rfl

theorem entry_9 : V m c main_v15 = truncf (F := Ideal) .bf16 (shapeCast S1024x2816 (arg m c main_arg9 : Vec Ideal S1x1024x2816 .f32) shapeCasts_S1x1024x2816_S1024x2816) bitsLt_bf16_f32 := by
  show StableHlo.after hostOps0 _ _ = _
  after_results
  rfl

theorem entry_10 : V m c main_v17 = truncf (F := Ideal) .bf16 (shapeCast S2816x1024 (arg m c main_arg10 : Vec Ideal S1x2816x1024 .f32) shapeCasts_S1x2816x1024_S2816x1024) bitsLt_bf16_f32 := by
  show StableHlo.after hostOps0 _ _ = _
  after_results
  rfl

theorem entry_11 : V m c main_v18 = shapeCast S1x1024 (arg m c main_arg11 : Vec Ideal S1024 .f32) shapeCasts_S1024_S1x1024 := by
  show StableHlo.after hostOps0 _ _ = _
  after_results
  rfl

/-! ### Read at an index -/

theorem rows_512 (x : Vec Ideal S32x4x512 .f32) (R : Fin 128) (k : Fin 512) :
    shapeCast S128x512 x shapeCasts_S32x4x512_S128x512 (ix2 R k) = x (ix3 (seqOf R) (stepOf R) k) := by
  pointwise []
  refine congrArg x ?_
  unfold seqOf stepOf
  blk_ext

theorem rows_1024 (x : Vec Ideal S32x4x1024 .f32) (R : Fin 128) (k : Fin 1024) :
    shapeCast S128x1024 x shapeCasts_S32x4x1024_S128x1024 (ix2 R k) = x (ix3 (seqOf R) (stepOf R) k) := by
  pointwise []
  refine congrArg x ?_
  unfold seqOf stepOf
  blk_ext

theorem rows_gates (x : Vec Ideal S32x4x2x1024 .f32) (R : Fin 128) (g : Fin 2) (k : Fin 1024) :
    truncf (F := Ideal) .bf16 (shapeCast S128x2048 x shapeCasts_S32x4x2x1024_S128x2048) bitsLt_bf16_f32
      (ix2 R (⟨1024 * g.val + k.val, by omega⟩ : Fin 2048)) = x (ix4 (seqOf R) (stepOf R) g k) := by
  pointwise []
  refine congrArg x ?_
  unfold seqOf stepOf
  blk_ext

theorem weight_512 (x : Vec Ideal S1x512x1024 .f32) (k : Fin 512) (e : Fin 1024) :
    truncf (F := Ideal) .bf16 (shapeCast S512x1024 x shapeCasts_S1x512x1024_S512x1024) bitsLt_bf16_f32 (ix2 k e) = x (ix3 (0 : Fin 1) k e) := by
  pointwise []

theorem weight_1024 (x : Vec Ideal S1x1024x1024 .f32) (k : Fin 1024) (e : Fin 1024) :
    truncf (F := Ideal) .bf16 (shapeCast S1024x1024 x shapeCasts_S1x1024x1024_S1024x1024) bitsLt_bf16_f32 (ix2 k e) = x (ix3 (0 : Fin 1) k e) := by
  pointwise []

theorem weight_in (x : Vec Ideal S1x1024x2816 .f32) (k : Fin 1024) (e : Fin 2816) :
    truncf (F := Ideal) .bf16 (shapeCast S1024x2816 x shapeCasts_S1x1024x2816_S1024x2816) bitsLt_bf16_f32 (ix2 k e) = x (ix3 (0 : Fin 1) k e) := by
  pointwise []

theorem weight_out (x : Vec Ideal S1x2816x1024 .f32) (k : Fin 2816) (e : Fin 1024) :
    truncf (F := Ideal) .bf16 (shapeCast S2816x1024 x shapeCasts_S1x2816x1024_S2816x1024) bitsLt_bf16_f32 (ix2 k e) = x (ix3 (0 : Fin 1) k e) := by
  pointwise []

theorem gain_ffn (x : Vec Ideal S1x1024 .f32) (e : Fin 1024) :
    shapeCast S1x1024 (shapeCast S1024 x shapeCasts_S1x1024_S1024) shapeCasts_S1024_S1x1024 (ix2 (0 : Fin 1) e) = x (ix2 (0 : Fin 1) e) := by
  pointwise []

theorem gain_final (x : Vec Ideal S1024 .f32) (e : Fin 1024) :
    shapeCast S1x1024 x shapeCasts_S1024_S1x1024 (ix2 (0 : Fin 1) e) = x (ix1 e) := by
  pointwise []

/-! ### The blocks -/

/-- The blocks of a point: its tokens' rows, and the weights whole. -/
theorem idx : ∀ t : Fin cfg0.N,
    win0_0.index t = ![t.val, 0] ∧ win0_1.index t = ![t.val, 0] ∧ win0_2.index t = ![t.val, 0] ∧ win0_3.index t = ![t.val, 0]
      ∧ win0_4.index t = ![0, 0] ∧ win0_5.index t = ![0, 0] ∧ win0_6.index t = ![0, 0] ∧ win0_7.index t = ![0, 0] ∧ win0_8.index t = ![0, 0]
      ∧ win0_9.index t = ![0, 0] ∧ win0_10.index t = ![0, 0] ∧ win0_11.index t = ![0, 0] ∧ win0_12.index t = ![t.val, 0] :=
  (by decide +kernel : ∀ t : Fin grid0.N, _)

theorem point_lt (t : Fin cfg0.N) : t.val < 1 := t.isLt

section Blocks

variable (t : Fin cfg0.N)

/-- A point's token among all. -/
def rowOf (i : Fin 128) : Fin 128 := ⟨128 * t.val + i.val, by have := point_lt t; omega⟩

theorem read_0 (X : Vec Ideal S128x512 .f32) (i : Fin 128) (k : Fin 512) :
    ((cfg0.win 0).blk t).view.read (Elt Ideal) X (ix2 i k) = X (ix2 (rowOf t i) k) := by
  unfold rowOf
  blk_ext [(idx t).1]

theorem read_1 (X : Vec Ideal S128x512 .f32) (i : Fin 128) (k : Fin 512) :
    ((cfg0.win 1).blk t).view.read (Elt Ideal) X (ix2 i k) = X (ix2 (rowOf t i) k) := by
  unfold rowOf
  blk_ext [(idx t).2.1]

theorem read_2 (X : Vec Ideal S128x2048 .bf16) (i : Fin 128) (k : Fin 2048) :
    ((cfg0.win 2).blk t).view.read (Elt Ideal) X (ix2 i k) = X (ix2 (rowOf t i) k) := by
  unfold rowOf
  blk_ext [(idx t).2.2.1]

theorem read_3 (X : Vec Ideal S128x1024 .f32) (i : Fin 128) (k : Fin 1024) :
    ((cfg0.win 3).blk t).view.read (Elt Ideal) X (ix2 i k) = X (ix2 (rowOf t i) k) := by
  unfold rowOf
  blk_ext [(idx t).2.2.2.1]

theorem read_4 (X : Vec Ideal S512x1024 .bf16) (i : Fin 512) (k : Fin 1024) :
    ((cfg0.win 4).blk t).view.read (Elt Ideal) X (ix2 i k) = X (ix2 i k) := by
  blk_ext [(idx t).2.2.2.2.1]

theorem read_5 (X : Vec Ideal S512x1024 .bf16) (i : Fin 512) (k : Fin 1024) :
    ((cfg0.win 5).blk t).view.read (Elt Ideal) X (ix2 i k) = X (ix2 i k) := by
  blk_ext [(idx t).2.2.2.2.2.1]

theorem read_6 (X : Vec Ideal S1024x1024 .bf16) (i : Fin 1024) (k : Fin 1024) :
    ((cfg0.win 6).blk t).view.read (Elt Ideal) X (ix2 i k) = X (ix2 i k) := by
  blk_ext [(idx t).2.2.2.2.2.2.1]

theorem read_7 (X : Vec Ideal S1x1024 .f32) (k : Fin 1024) :
    ((cfg0.win 7).blk t).view.read (Elt Ideal) X (ix2 (0 : Fin 1) k) = X (ix2 (0 : Fin 1) k) := by
  blk_ext [(idx t).2.2.2.2.2.2.2.1]

theorem read_8 (X : Vec Ideal S1024x2816 .bf16) (i : Fin 1024) (k : Fin 2816) :
    ((cfg0.win 8).blk t).view.read (Elt Ideal) X (ix2 i k) = X (ix2 i k) := by
  blk_ext [(idx t).2.2.2.2.2.2.2.2.1]

theorem read_9 (X : Vec Ideal S1024x2816 .bf16) (i : Fin 1024) (k : Fin 2816) :
    ((cfg0.win 9).blk t).view.read (Elt Ideal) X (ix2 i k) = X (ix2 i k) := by
  blk_ext [(idx t).2.2.2.2.2.2.2.2.2.1]

theorem read_10 (X : Vec Ideal S2816x1024 .bf16) (i : Fin 2816) (k : Fin 1024) :
    ((cfg0.win 10).blk t).view.read (Elt Ideal) X (ix2 i k) = X (ix2 i k) := by
  blk_ext [(idx t).2.2.2.2.2.2.2.2.2.2.1]

theorem read_11 (X : Vec Ideal S1x1024 .f32) (k : Fin 1024) :
    ((cfg0.win 11).blk t).view.read (Elt Ideal) X (ix2 (0 : Fin 1) k) = X (ix2 (0 : Fin 1) k) := by
  blk_ext [(idx t).2.2.2.2.2.2.2.2.2.2.2.1]

/-- The layer's tail of the argument arrays. -/
abbrev want (R : Fin 128) (e : Fin 1024) : EReal :=
  OutS.result (arg m c main_arg0) (arg m c main_arg1) (arg m c main_arg2) (arg m c main_arg3) (arg m c main_arg4) (arg m c main_arg5)
    (arg m c main_arg6) (arg m c main_arg7) (arg m c main_arg8) (arg m c main_arg9) (arg m c main_arg10) (arg m c main_arg11) R e

theorem gates_left (i : Fin 128) : gateA (iblk m c 2 t) i
    = fun k => (arg m c main_arg2 : Vec Ideal S32x4x2x1024 .f32) (ix4 (seqOf (rowOf t i)) (stepOf (rowOf t i)) (0 : Fin 2) k) := by
  funext k
  unfold gateA
  refine (read_2 t _ i _).trans ?_
  refine (congrFun (entry_2 m c) _).trans ?_
  refine Eq.trans (congrArg _ ?_) (rows_gates (arg m c main_arg2) (rowOf t i) 0 k)
  refine congrArg (ix2 (rowOf t i)) (Fin.ext ?_)
  show k.val = 1024 * 0 + k.val
  omega

theorem gates_right (i : Fin 128) : gateB (iblk m c 2 t) i
    = fun k => (arg m c main_arg2 : Vec Ideal S32x4x2x1024 .f32) (ix4 (seqOf (rowOf t i)) (stepOf (rowOf t i)) (1 : Fin 2) k) := by
  funext k
  unfold gateB
  refine (read_2 t _ i _).trans ?_
  refine (congrFun (entry_2 m c) _).trans ?_
  exact rows_gates (arg m c main_arg2) (rowOf t i) 1 k

theorem block_0 (i : Fin 128) : row (φ := .f32) (iblk m c 0 t) i
    = fun k => (arg m c main_arg0 : Vec Ideal S32x4x512 .f32) (ix3 (seqOf (rowOf t i)) (stepOf (rowOf t i)) k) :=
  funext fun k => (read_0 t _ i k).trans ((congrFun (entry_0 m c) _).trans (rows_512 _ _ _))

theorem block_1 (i : Fin 128) : row (φ := .f32) (iblk m c 1 t) i
    = fun k => (arg m c main_arg1 : Vec Ideal S32x4x512 .f32) (ix3 (seqOf (rowOf t i)) (stepOf (rowOf t i)) k) :=
  funext fun k => (read_1 t _ i k).trans ((congrFun (entry_1 m c) _).trans (rows_512 _ _ _))

theorem block_3 (i : Fin 128) : row (φ := .f32) (iblk m c 3 t) i
    = fun k => (arg m c main_arg3 : Vec Ideal S32x4x1024 .f32) (ix3 (seqOf (rowOf t i)) (stepOf (rowOf t i)) k) :=
  funext fun k => (read_3 t _ i k).trans ((congrFun (entry_3 m c) _).trans (rows_1024 _ _ _))

theorem block_4 : mat (φ := .bf16) (iblk m c 4 t)
    = fun k y => (arg m c main_arg4 : Vec Ideal S1x512x1024 .f32) (ix3 (0 : Fin 1) k y) :=
  funext fun k => funext fun y => (read_4 t _ k y).trans ((congrFun (entry_4 m c) _).trans (weight_512 _ _ _))

theorem block_5 : mat (φ := .bf16) (iblk m c 5 t)
    = fun k y => (arg m c main_arg5 : Vec Ideal S1x512x1024 .f32) (ix3 (0 : Fin 1) k y) :=
  funext fun k => funext fun y => (read_5 t _ k y).trans ((congrFun (entry_5 m c) _).trans (weight_512 _ _ _))

theorem block_6 : mat (φ := .bf16) (iblk m c 6 t)
    = fun k y => (arg m c main_arg6 : Vec Ideal S1x1024x1024 .f32) (ix3 (0 : Fin 1) k y) :=
  funext fun k => funext fun y => (read_6 t _ k y).trans ((congrFun (entry_6 m c) _).trans (weight_1024 _ _ _))

theorem block_8 : mat (φ := .bf16) (iblk m c 8 t)
    = fun k y => (arg m c main_arg8 : Vec Ideal S1x1024x2816 .f32) (ix3 (0 : Fin 1) k y) :=
  funext fun k => funext fun y => (read_8 t _ k y).trans ((congrFun (entry_8 m c) _).trans (weight_in _ _ _))

theorem block_9 : mat (φ := .bf16) (iblk m c 9 t)
    = fun k y => (arg m c main_arg9 : Vec Ideal S1x1024x2816 .f32) (ix3 (0 : Fin 1) k y) :=
  funext fun k => funext fun y => (read_9 t _ k y).trans ((congrFun (entry_9 m c) _).trans (weight_in _ _ _))

theorem block_10 : mat (φ := .bf16) (iblk m c 10 t)
    = fun k y => (arg m c main_arg10 : Vec Ideal S1x2816x1024 .f32) (ix3 (0 : Fin 1) k y) :=
  funext fun k => funext fun y => (read_10 t _ k y).trans ((congrFun (entry_10 m c) _).trans (weight_out _ _ _))

theorem block_7 : row (φ := .f32) (iblk m c 7 t) 0 = fun k => (arg m c main_arg7 : Vec Ideal S1x1024 .f32) (ix2 (0 : Fin 1) k) :=
  funext fun k => (read_7 t _ k).trans ((congrFun (entry_7 m c) _).trans (gain_ffn _ _))

theorem block_11 : row (φ := .f32) (iblk m c 11 t) 0 = fun k => (arg m c main_arg11 : Vec Ideal S1024 .f32) (ix1 k) :=
  funext fun k => (read_11 t _ k).trans ((congrFun (entry_11 m c) _).trans (gain_final _ _))

/-- What the body leaves at a point: its tokens' results. -/
theorem out_block (i : Fin 128) (e : Fin 1024) :
    out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 i e) = want m c (rowOf t i) e := by
  rw [out_apply]
  unfold want OutS.result mixedRow
  rw [gates_left, gates_right, block_0, block_1, block_3, block_4, block_5, block_6, block_7, block_8, block_9, block_10, block_11]

end Blocks

/-! ### The array -/

/-- THE RESULT ARRAY OF THE SAMPLE: the layer's tail at every token and lane. -/
theorem out_array : (dats m 0 c).arrAt 12 cfg0.N = fun y : S128x1024.Idx => want m c (y 0) (y 1) := by
  refine (dats m 0 c).arrAt_eq_of_covers 12 _ (by decide +kernel) fun t hfl y => ?_
  have ht := point_lt t
  blk_simp
  rw [after0_12]
  obtain ⟨i, e, rfl⟩ : ∃ (i : Fin 128) (e : Fin 1024), y = ix2 i e := ⟨y 0, y 1, by funext a; fin_cases a <;> rfl⟩
  refine (out_block m c t i e).trans ?_
  refine congrArg₂ (want m c) (Fin.ext ?_) (Fin.ext ?_)
  · blk_simp [(idx t).2.2.2.2.2.2.2.2.2.2.2.2]
    unfold rowOf
    dsimp only
    omega
  · blk_simp [(idx t).2.2.2.2.2.2.2.2.2.2.2.2]

end Cert.Proof.OutSI

end
-- ==== Proof.OutS.Reference.lean ====
/-
  The reference's result array for the sample: at every token and lane, the layer's tail of the argument arrays.
-/
module

public import proofs.«01_k».proof.Proof.OutS.Spec
public import proofs.«01_k».proof.Proof.Gen.Reference5Ideal.Read
public import Idealize.ShloMosaic.Lib.Pipeline.ValueKit

@[expose] public section

set_option maxRecDepth 16384

noncomputable section

namespace Cert.Proof.OutSR

open Cert.Reference5Ideal Cert.Reference5Ideal.Gen Cert.Reference5Ideal.Read Cert.Proof.Out Cert.Proof.OutS
open Idealize.ShloMosaic Idealize.ShloMosaic.TcCoe Idealize.ShloMosaic.Pointwise

/-! ### The stages over any arrays -/

variable (b : Fin 32) (s : Fin 4)

/-- The norm of every token. -/
def normed (h : FVec Ideal S32x4x1024 .f32) (g : FVec Ideal S1024 .f32) : FVec Ideal S32x4x1024 .f32 :=
  mulf (mulf h (broadcastInDim S32x4x1024 ![0, 1, 2] bcast_S32x4x1_S32x4x1024_0_1_2 (Host.rsqrt (addf
    (Host.divf (broadcastInDim S32x4x1 ![0, 1] bcast_S32x4_S32x4x1_0_1
      (Host.reduceAdd (mulf h h) (constant S_ .f32 0x00000000#32) reducesTo_S32x4x1024_S32x4_d2 h_S_))
      (broadcastInDim S32x4x1 ![] bcast_S_S32x4x1 (constant S_ .f32 0x44800000#32)))
    (broadcastInDim S32x4x1 ![] bcast_S_S32x4x1 (constant S_ .f32 0x358637BD#32))))))
    (broadcastInDim S32x4x1024 ![0, 1, 2] bcast_S1x1x1024_S32x4x1024_0_1_2 (broadcastInDim S1x1x1024 ![2] bcast_S1024_S1x1x1024_2 g))

theorem normed_apply (h : FVec Ideal S32x4x1024 .f32) (g : FVec Ideal S1024 .f32) (e : Fin 1024) :
    normed h g (ix3 b s e) = rmsNorm (fun x => h (ix3 b s x)) (fun x => g (ix1 x)) e := by
  unfold normed rmsNorm
  pointwise []

/-- The network of every token. -/
def network (n : FVec Ideal S32x4x1024 .f32) (wg wu : FVec Ideal S1024x2816 .f32) (wd : FVec Ideal S2816x1024 .f32) : FVec Ideal S32x4x1024 .f32 :=
  let g := Host.dotGeneral dot_S32x4x1024_S1024x2816_S32x4x2816_2_0_01_1_n_n none n wg
  Host.dotGeneral dot_S32x4x2816_S2816x1024_S32x4x1024_2_0_01_1_n_n none
    (mulf (mulf g (Host.divf (broadcastInDim S32x4x2816 ![] bcast_S_S32x4x2816 (constant S_ .f32 0x3F800000#32))
      (addf (broadcastInDim S32x4x2816 ![] bcast_S_S32x4x2816 (constant S_ .f32 0x3F800000#32)) (Host.exp (Host.negf g)))))
      (Host.dotGeneral dot_S32x4x1024_S1024x2816_S32x4x2816_2_0_01_1_n_n none n wu)) wd

theorem network_apply (n : FVec Ideal S32x4x1024 .f32) (wg wu : FVec Ideal S1024x2816 .f32) (wd : FVec Ideal S2816x1024 .f32) (e : Fin 1024) :
    network n wg wu wd (ix3 b s e)
      = ffn (fun x => n (ix3 b s x)) (fun k y => wg (ix2 k y)) (fun k y => wu (ix2 k y)) (fun k y => wd (ix2 k y)) e := by
  have h0 : ∀ x : EReal, 0 - x = -x := fun x => by rw [sub_eq_add_neg, zero_add]
  unfold network ffn swish through
  simp only [h0]
  pointwise []

/-- Every token after the mixers. -/
theorem mixed_apply (x0 x1 : Vec Ideal S32x4x512 .f32) (x2 : Vec Ideal S32x4x2x1024 .f32) (x3 : Vec Ideal S32x4x1024 .f32)
    (x4 x5 : Vec Ideal S1x512x1024 .f32) (x6 : Vec Ideal S1x1024x1024 .f32) (e : Fin 1024) :
    val_main_v13 (F := Ideal) x0 x1 x2 x3 x4 x5 x6 (ix3 b s e)
      = mixed (fun k => x0 (ix3 b s k)) (fun k => x1 (ix3 b s k)) (fun k => x2 (ix4 b s (0 : Fin 2) k)) (fun k => x2 (ix4 b s (1 : Fin 2) k))
        (fun k => x3 (ix3 b s k)) (fun k y => x4 (ix3 (0 : Fin 1) k y)) (fun k y => x5 (ix3 (0 : Fin 1) k y)) (fun k y => x6 (ix3 (0 : Fin 1) k y)) e := by
  unfold mixed gated through
  pointwise [val_main_v13, val_main_v12, val_main_v11, val_main_v10, val_main_v9, val_main_v8, val_main_v7, val_main_v6, val_main_v5,
    val_main_v4, val_main_v3, val_main_v2, val_main_v1, val_main_v0]

/-! ### The result -/

theorem result_apply (x0 x1 : Vec Ideal S32x4x512 .f32) (x2 : Vec Ideal S32x4x2x1024 .f32) (x3 : Vec Ideal S32x4x1024 .f32)
    (x4 x5 : Vec Ideal S1x512x1024 .f32) (x6 : Vec Ideal S1x1024x1024 .f32) (x7 : Vec Ideal S1x1024 .f32) (x8 x9 : Vec Ideal S1x1024x2816 .f32)
    (x10 : Vec Ideal S1x2816x1024 .f32) (x11 : Vec Ideal S1024 .f32) (R : Fin 128) (e : Fin 1024) :
    val_main_v50 (F := Ideal) x0 x1 x2 x3 x4 x5 x6 x7 x8 x9 x10 x11 (ix2 R e) = OutS.result x0 x1 x2 x3 x4 x5 x6 x7 x8 x9 x10 x11 R e := by
  have hidx : idx_main_v50 (ix2 R e) = ix3 (seqOf R) (stepOf R) e := by
    unfold idx_main_v50 seqOf stepOf
    blk_ext
  rw [val_main_v50_apply, hidx]
  have h49 : val_main_v49 (F := Ideal) x0 x1 x2 x3 x4 x5 x6 x7 x8 x9 x10 x11
      = normed (addf (val_main_v13 (F := Ideal) x0 x1 x2 x3 x4 x5 x6)
          (network (normed (val_main_v13 (F := Ideal) x0 x1 x2 x3 x4 x5 x6) (val_main_v14 (F := Ideal) x7))
            (val_main_v28 (F := Ideal) x8) (val_main_v31 (F := Ideal) x9) (val_main_v34 (F := Ideal) x10))) x11 := rfl
  rw [h49, normed_apply]
  unfold OutS.result tail
  have hm : (fun x => val_main_v13 (F := Ideal) x0 x1 x2 x3 x4 x5 x6 (ix3 (seqOf R) (stepOf R) x)) = _ :=
    funext fun x => mixed_apply (seqOf R) (stepOf R) x0 x1 x2 x3 x4 x5 x6 x
  rw [← hm]
  refine congrArg (fun h => rmsNorm h (fun x => x11 (ix1 x)) e) (funext fun y => ?_)
  show val_main_v13 (F := Ideal) x0 x1 x2 x3 x4 x5 x6 (ix3 (seqOf R) (stepOf R) y)
      + network (normed (val_main_v13 (F := Ideal) x0 x1 x2 x3 x4 x5 x6) (val_main_v14 (F := Ideal) x7))
            (val_main_v28 (F := Ideal) x8) (val_main_v31 (F := Ideal) x9) (val_main_v34 (F := Ideal) x10) (ix3 (seqOf R) (stepOf R) y) = _
  rw [network_apply]
  refine congrArg (val_main_v13 (F := Ideal) x0 x1 x2 x3 x4 x5 x6 (ix3 (seqOf R) (stepOf R) y) + ·) ?_
  have hn : (fun x => normed (val_main_v13 (F := Ideal) x0 x1 x2 x3 x4 x5 x6) (val_main_v14 (F := Ideal) x7) (ix3 (seqOf R) (stepOf R) x))
      = rmsNorm (fun x => val_main_v13 (F := Ideal) x0 x1 x2 x3 x4 x5 x6 (ix3 (seqOf R) (stepOf R) x)) (fun k => x7 (ix2 (0 : Fin 1) k)) :=
    funext fun x => (normed_apply (seqOf R) (stepOf R) _ _ x).trans (by
      refine congrArg (fun g => rmsNorm _ g x) (funext fun k => ?_)
      pointwise [val_main_v14])
  have h8 : (fun k y => val_main_v28 (F := Ideal) x8 (ix2 k y)) = fun (k : Fin 1024) (y : Fin 2816) => x8 (ix3 (0 : Fin 1) k y) :=
    funext fun k => funext fun y => by pointwise [val_main_v28]
  have h9 : (fun k y => val_main_v31 (F := Ideal) x9 (ix2 k y)) = fun (k : Fin 1024) (y : Fin 2816) => x9 (ix3 (0 : Fin 1) k y) :=
    funext fun k => funext fun y => by pointwise [val_main_v31]
  have h10 : (fun k y => val_main_v34 (F := Ideal) x10 (ix2 k y)) = fun (k : Fin 2816) (y : Fin 1024) => x10 (ix3 (0 : Fin 1) k y) :=
    funext fun k => funext fun y => by pointwise [val_main_v34]
  rw [hn, h8, h9, h10]

end Cert.Proof.OutSR

end
-- ==== Proof.OutS.Value.lean ====
/-
  The layer's tail of the sample: the frames of its three programs, and the kernel and the reference ending with the
  same array, from any argument arrays.
-/
module

public import proofs.«01_k».proof.Defs
public import proofs.«01_k».proof.Proof.OutS.Kernel
public import proofs.«01_k».proof.Proof.OutS.Reference
public import proofs.«01_k».proof.Proof.Gen.Kernel5.Frame
public import proofs.«01_k».proof.Proof.Gen.Reference5Ideal.Run

@[expose] public section

noncomputable section

namespace Cert.Proof.OutS

open Idealize.ShloMosaic Idealize.ShloMosaic.TcCoe Idealize.SL.Sem Idealize.ShloMosaic.Pointwise

/-- The kernel ends, its arguments unchanged and every counter at zero. -/
theorem frame_kernel : Cert.quiescent_Kernel5 := fun m g _ => Cert.Kernel5.Gen.frame m g

/-- So does its ideal text, -/
theorem frame_kernelIdeal : Cert.quiescent_Kernel5Ideal := fun m g _ => Cert.Kernel5Ideal.Gen.frame m g

/-- and the reference. -/
theorem frame_referenceIdeal : Cert.quiescent_Reference5Ideal := fun m g _ =>
  (θ_run Cert.Reference5Ideal.defs _ _).mono
    (fun r h => ⟨fun c => (h c).2, sem_eq_zero_of_no_sems (by decide) r.2⟩) (Cert.Reference5Ideal.Value.run m g)

/-- No constant is named: the ideal text is the text. -/
theorem preserves : Cert.preserves_Kernel5_Kernel5Ideal := trivial

/-- From equal arguments both programs end with the layer's tail of the sample. -/
theorem algebraic : @Cert.algebraic_Kernel5Ideal_Reference5Ideal Cert.Kernel5Ideal.Gen.facts Cert.Reference5Ideal.Gen.facts := by
  intro m g m' g' _ hagree
  refine ⟨fun c => fun y : Cert.Kernel5Ideal.S128x1024.Idx => OutSI.want m c (y 0) (y 1), ?_, ?_⟩
  · exact (θ_run Cert.Kernel5Ideal.defs _ _).mono
      (fun _ h c => ⟨(h c).1.trans (OutSI.out_array m c), (h c).2⟩) (Cert.Kernel5Ideal.Value.run_blocks m g)
  · refine (θ_run Cert.Reference5Ideal.defs _ _).mono (fun _ h c => ⟨(h c).1.trans ?_, (h c).2⟩) (Cert.Reference5Ideal.Value.run m' g')
    obtain ⟨a0, a1, a2, a3, a4, a5, a6, a7, a8, a9, a10, a11⟩ := hagree c
    rw [Cert.Reference5Ideal.Read.val_main_v50_eq, a0, a1, a2, a3, a4, a5, a6, a7, a8, a9, a10, a11]
    funext y
    obtain ⟨R, e, rfl⟩ : ∃ (R : Fin 128) (e : Fin 1024), y = ix2 R e := ⟨y 0, y 1, by funext a; fin_cases a <;> rfl⟩
    exact OutSR.result_apply _ _ _ _ _ _ _ _ _ _ _ _ R e

end Cert.Proof.OutS

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Sb.Frames
public import proofs.«01_k».proof.Proof.Sb.Value
public import proofs.«01_k».proof.Proof.Out.Value
public import proofs.«01_k».proof.Proof.Prj.Value
public import proofs.«01_k».proof.Proof.PrjS.Value
public import proofs.«01_k».proof.Proof.OutS.Value

@[expose] public section

noncomputable section

namespace Cert.Proof

/-- The claims, for the attention, for the layer's tail and its projection of the prompt, and for the projection and the tail of
the sample: both texts of the kernel and the reference run to the end and keep their arguments, the ideal text's rewrites are
the bit text's, and the ideal text computes the reference's results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts,
  Sb.frame_kernel, Sb.frame_kernelIdeal, fun m g _ => Sb.frame_kernelIdeal m g trivial,
  Sb.frame_referenceIdeal, fun m g _ => Sb.frame_referenceIdeal m g trivial,
  Out.frame_kernel, Out.frame_kernelIdeal, Out.frame_referenceIdeal,
  Prj.frame_kernel, Prj.frame_kernelIdeal, Prj.frame_referenceIdeal,
  PrjS.frame_kernel, PrjS.frame_kernelIdeal, PrjS.frame_referenceIdeal,
  OutS.frame_kernel, OutS.frame_kernelIdeal, OutS.frame_referenceIdeal,
  Sb.preserves, Sb.algebraic, Out.preserves, Out.algebraic, Prj.preserves, Prj.algebraic,
  PrjS.preserves, PrjS.algebraic, OutS.preserves, OutS.algebraic⟩

end Cert.Proof

end
